-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_real [hPre_inputs_real : Cert.Pre_inputs_real.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_real [hPre_inputs_real : Cert.Pre_inputs_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_real [hKernelIdeal : Cert.KernelIdeal.Facts] [hPre_inputs_real : Cert.Pre_inputs_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_real [hReferenceIdeal : Cert.ReferenceIdeal.Facts] [hPre_inputs_real : Cert.Pre_inputs_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal_pre_inputs_real [hKernelIdeal : Cert.KernelIdeal.Facts] [hReferenceIdeal : Cert.ReferenceIdeal.Facts] [hPre_inputs_real : Cert.Pre_inputs_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v12_7) = v1 c
          ∧ r.2.mem ((c.tc : Thread Cert.ReferenceIdeal.nD Cert.ReferenceIdeal.τ).loc Cert.ReferenceIdeal.main_v12_8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v51) = v0 c
          ∧ r.2.mem ((c.tc : Thread Cert.Reference12Ideal.nD Cert.Reference12Ideal.τ).loc Cert.Reference12Ideal.main_v53) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v53) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_v20) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_v14) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v9) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v9) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_inputs_real : Cert.Pre_inputs_real.Facts),
    quiescent_Kernel (hKernel := hKernel)
    ∧ quiescent_KernelIdeal (hKernelIdeal := hKernelIdeal)
    ∧ quiescent_KernelIdeal_pre_inputs_real (hKernelIdeal := hKernelIdeal) (hPre_inputs_real := hPre_inputs_real)
    ∧ quiescent_ReferenceIdeal (hReferenceIdeal := hReferenceIdeal)
    ∧ quiescent_ReferenceIdeal_pre_inputs_real (hReferenceIdeal := hReferenceIdeal) (hPre_inputs_real := hPre_inputs_real)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_inputs_real (hKernelIdeal := hKernelIdeal) (hReferenceIdeal := hReferenceIdeal) (hPre_inputs_real := hPre_inputs_real)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_inputs_real.lean ====
abbrev S16384x4096 : Shape := ⟨2, ![16384, 4096]⟩
abbrev S256x1024x128 : Shape := ⟨3, ![256, 1024, 128]⟩
abbrev S16384x1024 : Shape := ⟨2, ![16384, 1024]⟩
abbrev S1x1024 : Shape := ⟨2, ![1, 1024]⟩
abbrev S1x128 : Shape := ⟨2, ![1, 128]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S256x1024x128 : S_.BroadcastsInDim S256x1024x128 (![] : Fin 0 → Fin S256x1024x128.rank)
  reducesTo_S256x1024x128_S_d0_1_2 : S256x1024x128.ReducesTo [0, 1, 2] S_
  bcast_S_S16384x1024 : S_.BroadcastsInDim S16384x1024 (![] : Fin 0 → Fin S16384x1024.rank)
  reducesTo_S16384x1024_S_d0_1 : S16384x1024.ReducesTo [0, 1] S_
  bcast_S_S1x128 : S_.BroadcastsInDim S1x128 (![] : Fin 0 → Fin S1x128.rank)
  reducesTo_S1x128_S_d0_1 : S1x128.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S1x1024 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_cst_6 : FVec F S_ .f32 := constant S_ .f32 0x00000000#32
  let main_v19 : FVec F S1x1024 .f32 := broadcastInDim S1x1024 ![] bcast_S_S1x1024 main_cst_6
  let main_v20 : IVec S1x1024 1 := cmpf .oge main_arg3 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v18 main_v21
  let main_v23 : FVec F S1x1024 .f32 := Host.absf main_arg3
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : IVec S_ 1 := andi main_v22 main_v26
  main_v27

def fn {F : FTy → Type} [FloatOps F] (main_arg0 : FVec F S16384x4096 .f32) (main_arg1 : FVec F S256x1024x128 .f32) (main_arg2 : FVec F S16384x1024 .bf16) (main_arg3 : FVec F S1x1024 .f32) (main_arg4 : FVec F S1x128 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S256x1024x128 .f32 := Host.absf main_arg1
  let main_cst_0 : FVec F S_ .f32 := constant S_ .f32 0x7F800000#32
  let main_v5 : FVec F S256x1024x128 .f32 := broadcastInDim S256x1024x128 ![] bcast_S_S256x1024x128 main_cst_0
  let main_v6 : IVec S256x1024x128 1 := cmpf .olt main_v4 main_v5
  let main_c_1 : IVec S_ 1 := constantI S_ 1 1#1
  let main_v7 : IVec S_ 1 := (fun x v => Host.reduce IntOp.andi x v reducesTo_S256x1024x128_S_d0_1_2 h_S_) main_v6 main_c_1
  let main_v8 : IVec S_ 1 := andi main_v3 main_v7
  let main_v9 : FVec F S16384x1024 .bf16 := Host.absf main_arg2
  let main_cst_2 : FVec F S_ .bf16 := constant S_ .bf16 0x7F80#16
  let main_v10 : FVec F S16384x1024 .bf16 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg3 main_v13 main_v16
-- ==== Kernel.lean ====
abbrev S16384x4096 : Shape := ⟨2, ![16384, 4096]⟩
abbrev S256x1024x128 : Shape := ⟨3, ![256, 1024, 128]⟩
abbrev S16384x1024 : Shape := ⟨2, ![16384, 1024]⟩
abbrev S1x1024 : Shape := ⟨2, ![1, 1024]⟩
abbrev S1x128 : Shape := ⟨2, ![1, 128]⟩
abbrev S64x4096 : Shape := ⟨2, ![64, 4096]⟩
abbrev S1x1024x128 : Shape := ⟨3, ![1, 1024, 128]⟩
abbrev S64x1024 : Shape := ⟨2, ![64, 1024]⟩
abbrev S1024x128 : Shape := ⟨2, ![1024, 128]⟩
abbrev S1024 : Shape := ⟨1, ![1024]⟩
abbrev S64x1 : Shape := ⟨2, ![64, 1]⟩
abbrev S128x1024 : Shape := ⟨2, ![128, 1024]⟩
abbrev S64x128 : Shape := ⟨2, ![64, 128]⟩
abbrev S128x128 : Shape := ⟨2, ![128, 128]⟩
abbrev S64 : Shape := ⟨1, ![64]⟩
abbrev S128 : Shape := ⟨1, ![128]⟩
abbrev S128x64 : Shape := ⟨2, ![128, 64]⟩

abbrev nBuf : Space → Nat
  | .hbm => 8
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S256x1024x128, .f32⟩
  | .hbm, ⟨2, _⟩ => ⟨S16384x1024, .bf16⟩
  | .hbm, ⟨3, _⟩ => ⟨S1x1024, .f32⟩
  | .hbm, ⟨4, _⟩ => ⟨S1x128, .f32⟩
  | .hbm, ⟨5, _⟩ => ⟨S16384x4096, .bf16⟩
  | .hbm, ⟨6, _⟩ => ⟨S1x1024, .f32⟩
  | .hbm, ⟨7, _⟩ => ⟨S1x128, .f32⟩
  | .local _ .vmem, ⟨0, _⟩ => ⟨S64x4096, .f32⟩
  | .local _ .vmem, ⟨1, _⟩ => ⟨S64x4096, .f32⟩
  | .local _ .vmem, ⟨2, _⟩ => ⟨S1x1024x128, .f32⟩
  | .local _ .vmem, ⟨3, _⟩ => ⟨S1x1024x128, .f32⟩
  | .local _ .vmem, ⟨4, _⟩ => ⟨S64x1024, .bf16⟩
  | .local _ .vmem, ⟨5, _⟩ => ⟨S64x1024, .bf16⟩
  | .local _ .vmem, ⟨6, _⟩ => ⟨S1x1024, .f32⟩
  | .local _ .vmem, ⟨7, _⟩ => ⟨S1x128, .f32⟩
  | .local _ .vmem, ⟨8, _⟩ => ⟨S64x4096, .bf16⟩
  | .local _ .vmem, ⟨9, _⟩ => ⟨S64x4096, .bf16⟩
  | .local _ .vmem, ⟨10, _⟩ => ⟨S1x1024, .f32⟩
  | .local _ .vmem, ⟨11, _⟩ => ⟨S1x128, .f32⟩
  | .local _ .vmem, ⟨12, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x4096 : Shape := ⟨2, ![16384, 4096]⟩
abbrev S256x1024x128 : Shape := ⟨3, ![256, 1024, 128]⟩
abbrev S16384x1024 : Shape := ⟨2, ![16384, 1024]⟩
abbrev S1x1024 : Shape := ⟨2, ![1, 1024]⟩
abbrev S1x128 : Shape := ⟨2, ![1, 128]⟩
abbrev S256x8x128x128 : Shape := ⟨4, ![256, 8, 128, 128]⟩
abbrev S_ : Shape := ⟨0, ![]⟩
abbrev S8x128x128 : Shape := ⟨3, ![8, 128, 128]⟩
abbrev S256x64x4096 : Shape := ⟨3, ![256, 64, 4096]⟩
abbrev S256x64x1024 : Shape := ⟨3, ![256, 64, 1024]⟩
abbrev S1x8x128x128 : Shape := ⟨4, ![1, 8, 128, 128]⟩
abbrev S1x64x4096 : Shape := ⟨3, ![1, 64, 4096]⟩
abbrev S64x4096 : Shape := ⟨2, ![64, 4096]⟩
abbrev S1x64x1024 : Shape := ⟨3, ![1, 64, 1024]⟩
abbrev S64x1024 : Shape := ⟨2, ![64, 1024]⟩
abbrev S64x8x128 : Shape := ⟨3, ![64, 8, 128]⟩
abbrev S8x64x128 : Shape := ⟨3, ![8, 64, 128]⟩
abbrev S64x64 : Shape := ⟨2, ![64, 64]⟩
abbrev S8x64x1x128 : Shape := ⟨4, ![8, 64, 1, 128]⟩
abbrev S8x1x64x128 : Shape := ⟨4, ![8, 1, 64, 128]⟩
abbrev S8x64x64x128 : Shape := ⟨4, ![8, 64, 64, 128]⟩
abbrev S64x64x1 : Shape := ⟨3, ![64, 64, 1]⟩
abbrev S8x64x64 : Shape := ⟨3, ![8, 64, 64]⟩
abbrev S8x1x128 : Shape := ⟨3, ![8, 1, 128]⟩
abbrev S8x128 : Shape := ⟨2, ![8, 128]⟩
abbrev S8x128x1 : Shape := ⟨3, ![8, 128, 1]⟩
abbrev S64x8 : Shape := ⟨2, ![64, 8]⟩
abbrev S64x8x1 : Shape := ⟨3, ![64, 8, 1]⟩
abbrev S1x1x128 : Shape := ⟨3, ![1, 1, 128]⟩
abbrev S128 : Shape := ⟨1, ![128]⟩
abbrev S8x128x64 : Shape := ⟨3, ![8, 128, 64]⟩
abbrev S1024 : Shape := ⟨1, ![1024]⟩

abbrev nBuf : Space → Nat
  | .hbm => 378
  | .vmem => 0
  | .smem => 0
  | _ => 0

abbrev hbmTy0_0 (i : Nat) : BufTy := match i % 128 with
  | 0 => ⟨S16384x4096, .f32⟩
  | 1 => ⟨S256x1024x128, .f32⟩
  | 2 => ⟨S16384x1024, .bf16⟩
  | 3 => ⟨S1x1024, .f32⟩
  | 4 => ⟨S1x128, .f32⟩
  | 5 => ⟨S256x8x128x128, .f32⟩
  | 6 => ⟨S256x8x128x128, .f32⟩
  | 7 => ⟨S_, .f32⟩
  | 8 => ⟨S8x128x128, .f32⟩
  | 9 => ⟨S_, .f32⟩
  | 10 => ⟨S1x1024, .f32⟩
  | 11 => ⟨S_, .f32⟩
  | 12 => ⟨S1x128, .f32⟩
  | 13 => ⟨S256x64x4096, .f32⟩
  | 14 => ⟨S16384x1024, .f32⟩
  | 15 => ⟨S256x64x1024, .f32⟩
  | 16 => ⟨S_, .f32⟩
  | 17 => ⟨S256x64x1024, .f32⟩
  | 18 => ⟨S_, .f32⟩
  | 19 => ⟨S256x64x1024, .f32⟩
  | 20 => ⟨S_, .f32⟩
  | 21 => ⟨S256x64x1024, .f32⟩
  | 22 => ⟨S_, .f32⟩
  | 23 => ⟨S256x64x1024, .f32⟩
  | 24 => ⟨S_, .i32⟩
  | 25 => ⟨S256x8x128x128, .f32⟩
  | 26 => ⟨S256x64x4096, .f32⟩
  | 27 => ⟨S256x64x1024, .f32⟩
  | 28 => ⟨S1x1024, .f32⟩
  | 29 => ⟨S1x128, .f32⟩
  | 30 => ⟨S_, .i32⟩
  | 31 => ⟨S8x128x128, .f32⟩
  | 32 => ⟨S1x1024, .f32⟩
  | 33 => ⟨S1x128, .f32⟩
  | 34 => ⟨S256x64x1024, .f32⟩
  | 35 => ⟨S256x64x1024, .f32⟩
  | 36 => ⟨S256x64x1024, .f32⟩
  | 37 => ⟨S256x64x1024, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S1x8x128x128, .f32⟩
  | 48 => ⟨S8x128x128, .f32⟩
  | 49 => ⟨S_, .i32⟩
  | 50 => ⟨S_, .i32⟩
  | 51 => ⟨S1x64x4096, .f32⟩
  | 52 => ⟨S64x4096, .f32⟩
  | 53 => ⟨S_, .i32⟩
  | 54 => ⟨S_, .i32⟩
  | 55 => ⟨S1x64x1024, .f32⟩
  | 56 => ⟨S64x1024, .f32⟩
  | 57 => ⟨S64x1024, .f32⟩
  | 58 => ⟨S64x1024, .f32⟩
  | 59 => ⟨S64x1024, .f32⟩
  | 60 => ⟨S64x1024, .f32⟩
  | 61 => ⟨S_, .f32⟩
  | 62 => ⟨S1x1024, .f32⟩
  | 63 => ⟨S1x1024, .f32⟩
  | 64 => ⟨S64x1024, .f32⟩
  | 65 => ⟨S64x1024, .f32⟩
  | 66 => ⟨S_, .f32⟩
  | 67 => ⟨S64x1024, .f32⟩
  | 68 => ⟨S64x1024, .f32⟩
  | 69 => ⟨S_, .f32⟩
  | 70 => ⟨S64x1024, .f32⟩
  | 71 => ⟨S64x1024, .f32⟩
  | 72 => ⟨S_, .f32⟩
  | 73 => ⟨S64x1024, .f32⟩
  | 74 => ⟨S64x1024, .f32⟩
  | 75 => ⟨S64x1024, .f32⟩
  | 76 => ⟨S64x1024, .f32⟩
  | 77 => ⟨S64x1024, .f32⟩
  | 78 => ⟨S64x1024, .f32⟩
  | 79 => ⟨S64x1024, .f32⟩
  | 80 => ⟨S64x1024, .f32⟩
  | 81 => ⟨S_, .f32⟩
  | 82 => ⟨S1x1024, .f32⟩
  | 83 => ⟨S1x1024, .f32⟩
  | 84 => ⟨S64x1024, .f32⟩
  | 85 => ⟨S64x1024, .f32⟩
  | 86 => ⟨S64x1024, .f32⟩
  | 87 => ⟨S_, .f32⟩
  | 88 => ⟨S64x1024, .f32⟩
  | 89 => ⟨S64x1024, .f32⟩
  | 90 => ⟨S_, .f32⟩
  | 91 => ⟨S64x1024, .f32⟩
  | 92 => ⟨S64x1024, .f32⟩
  | 93 => ⟨S_, .f32⟩
  | 94 => ⟨S64x1024, .f32⟩
  | 95 => ⟨S64x1024, .f32⟩
  | 96 => ⟨S64x1024, .f32⟩
  | 97 => ⟨S64x1024, .f32⟩
  | 98 => ⟨S64x1024, .f32⟩
  | 99 => ⟨S64x1024, .f32⟩
  | 100 => ⟨S64x1024, .f32⟩
  | 101 => ⟨S_, .f32⟩
  | 102 => ⟨S64x1024, .f32⟩
  | 103 => ⟨S64x1024, .f32⟩
  | 104 => ⟨S_, .f32⟩
  | 105 => ⟨S64x1024, .f32⟩
  | 106 => ⟨S64x1024, .f32⟩
  | 107 => ⟨S_, .f32⟩
  | 108 => ⟨S64x1024, .f32⟩
  | 109 => ⟨S64x1024, .f32⟩
  | 110 => ⟨S64x1024, .f32⟩
  | 111 => ⟨S64x1024, .f32⟩
  | 112 => ⟨S64x8x128, .f32⟩
  | 113 => ⟨S8x64x128, .f32⟩
  | 114 => ⟨S64x8x128, .f32⟩
  | 115 => ⟨S8x64x128, .f32⟩
  | 116 => ⟨S64x8x128, .f32⟩
  | 117 => ⟨S8x64x128, .f32⟩
  | 118 => ⟨S64x8x128, .f32⟩
  | 119 => ⟨S8x64x128, .f32⟩
  | 120 => ⟨S_, .i1⟩
  | 121 => ⟨S64x64, .i1⟩
  | 122 => ⟨S64x64, .i32⟩
  | 123 => ⟨S_, .i32⟩
  | 124 => ⟨S64x64, .i32⟩
  | 125 => ⟨S64x64, .i32⟩
  | 126 => ⟨S64x64, .i32⟩
  | 127 => ⟨S64x64, .i1⟩
  | _ => ⟨S16384x4096, .f32⟩

abbrev hbmTy0_1 (i : Nat) : BufTy := match i % 128 with
  | 0 => ⟨S_, .i1⟩
  | 1 => ⟨S64x64, .i1⟩
  | 2 => ⟨S64x64, .i1⟩
  | 3 => ⟨S_, .f32⟩
  | 4 => ⟨S_, .f32⟩
  | 5 => ⟨S8x64x128, .f32⟩
  | 6 => ⟨S8x64x1x128, .f32⟩
  | 7 => ⟨S8x1x64x128, .f32⟩
  | 8 => ⟨S8x64x64x128, .f32⟩
  | 9 => ⟨S8x64x64x128, .f32⟩
  | 10 => ⟨S8x64x64x128, .f32⟩
  | 11 => ⟨S64x64x1, .i1⟩
  | 12 => ⟨S_, .f32⟩
  | 13 => ⟨S_, .f32⟩
  | 14 => ⟨S8x64x64x128, .i1⟩
  | 15 => ⟨S8x64x64x128, .f32⟩
  | 16 => ⟨S8x64x64x128, .f32⟩
  | 17 => ⟨S_, .f32⟩
  | 18 => ⟨S8x64x64x128, .f32⟩
  | 19 => ⟨S8x64x64x128, .f32⟩
  | 20 => ⟨S8x64x1x128, .f32⟩
  | 21 => ⟨S8x1x64x128, .f32⟩
  | 22 => ⟨S8x64x64x128, .f32⟩
  | 23 => ⟨S8x64x64x128, .f32⟩
  | 24 => ⟨S8x64x64x128, .f32⟩
  | 25 => ⟨S8x64x64x128, .f32⟩
  | 26 => ⟨S_, .f32⟩
  | 27 => ⟨S8x64x64, .f32⟩
  | 28 => ⟨S8x64x128, .f32⟩
  | 29 => ⟨S8x64x128, .f32⟩
  | 30 => ⟨S8x64x128, .f32⟩
  | 31 => ⟨S8x64x128, .f32⟩
  | 32 => ⟨S8x64x128, .f32⟩
  | 33 => ⟨S8x1x128, .f32⟩
  | 34 => ⟨S8x1x128, .f32⟩
  | 35 => ⟨S8x128, .f32⟩
  | 36 => ⟨S8x128x1, .f32⟩
  | 37 => ⟨S8x128x128, .f32⟩
  | 38 => ⟨S8x128x128, .f32⟩
  | 39 => ⟨S8x64x128, .f32⟩
  | 40 => ⟨S8x64x128, .f32⟩
  | 41 => ⟨S8x64x128, .f32⟩
  | 42 => ⟨S8x64x128, .f32⟩
  | 43 => ⟨S8x128x128, .f32⟩
  | 44 => ⟨S8x128x128, .f32⟩
  | 45 => ⟨S64x8x128, .f32⟩
  | 46 => ⟨S64x8x128, .f32⟩
  | 47 => ⟨S_, .f32⟩
  | 48 => ⟨S64x8, .f32⟩
  | 49 => ⟨S64x8x1, .f32⟩
  | 50 => ⟨S_, .f32⟩
  | 51 => ⟨S64x8x1, .f32⟩
  | 52 => ⟨S64x8x1, .f32⟩
  | 53 => ⟨S_, .f32⟩
  | 54 => ⟨S64x8x1, .f32⟩
  | 55 => ⟨S64x8x1, .f32⟩
  | 56 => ⟨S64x8x1, .f32⟩
  | 57 => ⟨S64x8x1, .f32⟩
  | 58 => ⟨S_, .f32⟩
  | 59 => ⟨S64x8x1, .f32⟩
  | 60 => ⟨S64x8x1, .f32⟩
  | 61 => ⟨S64x8x128, .f32⟩
  | 62 => ⟨S64x8x128, .f32⟩
  | 63 => ⟨S1x1x128, .f32⟩
  | 64 => ⟨S64x8x128, .f32⟩
  | 65 => ⟨S64x8x128, .f32⟩
  | 66 => ⟨S64x1024, .f32⟩
  | 67 => ⟨S64x1024, .f32⟩
  | 68 => ⟨S64x1024, .f32⟩
  | 69 => ⟨S_, .f32⟩
  | 70 => ⟨S64x1024, .f32⟩
  | 71 => ⟨S64x1024, .f32⟩
  | 72 => ⟨S_, .f32⟩
  | 73 => ⟨S64x1024, .f32⟩
  | 74 => ⟨S64x1024, .f32⟩
  | 75 => ⟨S_, .f32⟩
  | 76 => ⟨S64x1024, .f32⟩
  | 77 => ⟨S64x1024, .f32⟩
  | 78 => ⟨S64x1024, .f32⟩
  | 79 => ⟨S64x1024, .f32⟩
  | 80 => ⟨S64x1024, .f32⟩
  | 81 => ⟨S64x1024, .f32⟩
  | 82 => ⟨S64x1024, .f32⟩
  | 83 => ⟨S64x1024, .f32⟩
  | 84 => ⟨S64x1024, .f32⟩
  | 85 => ⟨S64x1024, .f32⟩
  | 86 => ⟨S64x1024, .f32⟩
  | 87 => ⟨S64x8x128, .f32⟩
  | 88 => ⟨S64x8x128, .f32⟩
  | 89 => ⟨S_, .f32⟩
  | 90 => ⟨S128, .f32⟩
  | 91 => ⟨S1x1x128, .f32⟩
  | 92 => ⟨S64x8x128, .f32⟩
  | 93 => ⟨S64x8x128, .f32⟩
  | 94 => ⟨S_, .f32⟩
  | 95 => ⟨S128, .f32⟩
  | 96 => ⟨S1x128, .f32⟩
  | 97 => ⟨S64x8x128, .f32⟩
  | 98 => ⟨S_, .f32⟩
  | 99 => ⟨S64x8, .f32⟩
  | 100 => ⟨S64x8x1, .f32⟩
  | 101 => ⟨S64x8x128, .f32⟩
  | 102 => ⟨S64x8x128, .f32⟩
  | 103 => ⟨S64x8x1, .f32⟩
  | 104 => ⟨S_, .f32⟩
  | 105 => ⟨S64x8x1, .f32⟩
  | 106 => ⟨S64x8x1, .f32⟩
  | 107 => ⟨S_, .f32⟩
  | 108 => ⟨S64x8, .f32⟩
  | 109 => ⟨S64x8x128, .f32⟩
  | 110 => ⟨S64x8x128, .f32⟩
  | 111 => ⟨S64x8x128, .f32⟩
  | 112 => ⟨S64x8x128, .f32⟩
  | 113 => ⟨S64x8x128, .f32⟩
  | 114 => ⟨S8x64x128, .f32⟩
  | 115 => ⟨S8x128x64, .f32⟩
  | 116 => ⟨S8x64x128, .f32⟩
  | 117 => ⟨S8x128x64, .f32⟩
  | 118 => ⟨S8x64x128, .f32⟩
  | 119 => ⟨S8x64x128, .f32⟩
  | 120 => ⟨S8x64x128, .f32⟩
  | 121 => ⟨S8x64x128, .f32⟩
  | 122 => ⟨S_, .f32⟩
  | 123 => ⟨S8x128, .f32⟩
  | 124 => ⟨S8x1x128, .f32⟩
  | 125 => ⟨S8x64x128, .f32⟩
  | 126 => ⟨S8x128x128, .f32⟩
  | 127 => ⟨S8x128x128, .f32⟩
  | _ => ⟨S16384x4096, .f32⟩

abbrev hbmTy0_2 (i : Nat) : BufTy := match i % 128 with
  | 0 => ⟨S8x128x128, .f32⟩
  | 1 => ⟨S_, .f32⟩
  | 2 => ⟨S8x128, .f32⟩
  | 3 => ⟨S8x128x1, .f32⟩
  | 4 => ⟨S_, .f32⟩
  | 5 => ⟨S8x128, .f32⟩
  | 6 => ⟨S8x1x128, .f32⟩
  | 7 => ⟨S8x1x128, .f32⟩
  | 8 => ⟨S8x1x128, .f32⟩
  | 9 => ⟨S_, .f32⟩
  | 10 => ⟨S8x64x128, .f32⟩
  | 11 => ⟨S8x64x128, .f32⟩
  | 12 => ⟨S8x128x128, .f32⟩
  | 13 => ⟨S8x128x128, .f32⟩
  | 14 => ⟨S8x128x128, .f32⟩
  | 15 => ⟨S8x64x128, .f32⟩
  | 16 => ⟨S8x64x128, .f32⟩
  | 17 => ⟨S8x64x128, .f32⟩
  | 18 => ⟨S8x64x128, .f32⟩
  | 19 => ⟨S8x64x128, .f32⟩
  | 20 => ⟨S8x128x64, .f32⟩
  | 21 => ⟨S8x64x128, .f32⟩
  | 22 => ⟨S8x64x128, .f32⟩
  | 23 => ⟨S8x64x64, .f32⟩
  | 24 => ⟨S8x64x64x128, .f32⟩
  | 25 => ⟨S8x64x64x128, .f32⟩
  | 26 => ⟨S8x64x64x128, .f32⟩
  | 27 => ⟨S8x64x64x128, .f32⟩
  | 28 => ⟨S8x64x64x128, .f32⟩
  | 29 => ⟨S_, .f32⟩
  | 30 => ⟨S8x64x128, .f32⟩
  | 31 => ⟨S8x1x64x128, .f32⟩
  | 32 => ⟨S8x64x64x128, .f32⟩
  | 33 => ⟨S8x64x64x128, .f32⟩
  | 34 => ⟨S_, .f32⟩
  | 35 => ⟨S8x64x128, .f32⟩
  | 36 => ⟨S8x64x1x128, .f32⟩
  | 37 => ⟨S_, .f32⟩
  | 38 => ⟨S8x64x128, .f32⟩
  | 39 => ⟨S8x64x128, .f32⟩
  | 40 => ⟨S_, .f32⟩
  | 41 => ⟨S8x64x128, .f32⟩
  | 42 => ⟨S8x64x128, .f32⟩
  | 43 => ⟨S8x64x64x128, .f32⟩
  | 44 => ⟨S_, .f32⟩
  | 45 => ⟨S8x64x64x128, .f32⟩
  | 46 => ⟨S8x64x64x128, .f32⟩
  | 47 => ⟨S_, .f32⟩
  | 48 => ⟨S8x64x128, .f32⟩
  | 49 => ⟨S8x64x1x128, .f32⟩
  | 50 => ⟨S8x64x64x128, .f32⟩
  | 51 => ⟨S_, .f32⟩
  | 52 => ⟨S8x64x128, .f32⟩
  | 53 => ⟨S8x1x64x128, .f32⟩
  | 54 => ⟨S_, .f32⟩
  | 55 => ⟨S8x64x128, .f32⟩
  | 56 => ⟨S8x64x128, .f32⟩
  | 57 => ⟨S_, .f32⟩
  | 58 => ⟨S8x64x128, .f32⟩
  | 59 => ⟨S8x64x128, .f32⟩
  | 60 => ⟨S_, .f32⟩
  | 61 => ⟨S_, .f32⟩
  | 62 => ⟨S8x64x128, .f32⟩
  | 63 => ⟨S64x8x128, .f32⟩
  | 64 => ⟨S64x1024, .f32⟩
  | 65 => ⟨S64x8x128, .f32⟩
  | 66 => ⟨S64x1024, .f32⟩
  | 67 => ⟨S64x8x128, .f32⟩
  | 68 => ⟨S64x1024, .f32⟩
  | 69 => ⟨S64x8x128, .f32⟩
  | 70 => ⟨S64x1024, .f32⟩
  | 71 => ⟨S64x1024, .f32⟩
  | 72 => ⟨S64x1024, .f32⟩
  | 73 => ⟨S64x1024, .f32⟩
  | 74 => ⟨S64x1024, .f32⟩
  | 75 => ⟨S64x1024, .f32⟩
  | 76 => ⟨S64x1024, .f32⟩
  | 77 => ⟨S64x1024, .f32⟩
  | 78 => ⟨S_, .f32⟩
  | 79 => ⟨S1024, .f32⟩
  | 80 => ⟨S1x1024, .f32⟩
  | 81 => ⟨S64x1024, .f32⟩
  | 82 => ⟨S64x1024, .f32⟩
  | 83 => ⟨S1x1024, .f32⟩
  | 84 => ⟨S64x1024, .f32⟩
  | 85 => ⟨S_, .f32⟩
  | 86 => ⟨S1024, .f32⟩
  | 87 => ⟨S1x1024, .f32⟩
  | 88 => ⟨S1x1024, .f32⟩
  | 89 => ⟨S64x1024, .f32⟩
  | 90 => ⟨S64x1024, .f32⟩
  | 91 => ⟨S64x1024, .f32⟩
  | 92 => ⟨S_, .f32⟩
  | 93 => ⟨S1024, .f32⟩
  | 94 => ⟨S1x1024, .f32⟩
  | 95 => ⟨S64x1024, .f32⟩
  | 96 => ⟨S64x1024, .f32⟩
  | 97 => ⟨S1x1024, .f32⟩
  | 98 => ⟨S1x1024, .f32⟩
  | 99 => ⟨S1x1024, .f32⟩
  | 100 => ⟨S1x128, .f32⟩
  | 101 => ⟨S1x64x1024, .f32⟩
  | 102 => ⟨S_, .i32⟩
  | 103 => ⟨S_, .i32⟩
  | 104 => ⟨S256x64x1024, .f32⟩
  | 105 => ⟨S1x64x1024, .f32⟩
  | 106 => ⟨S_, .i32⟩
  | 107 => ⟨S_, .i32⟩
  | 108 => ⟨S256x64x1024, .f32⟩
  | 109 => ⟨S1x64x1024, .f32⟩
  | 110 => ⟨S_, .i32⟩
  | 111 => ⟨S_, .i32⟩
  | 112 => ⟨S256x64x1024, .f32⟩
  | 113 => ⟨S1x64x1024, .f32⟩
  | 114 => ⟨S_, .i32⟩
  | 115 => ⟨S_, .i32⟩
  | 116 => ⟨S256x64x1024, .f32⟩
  | 117 => ⟨S_, .i32⟩
  | 118 => ⟨S_, .i32⟩
  | 119 => ⟨S256x64x4096, .f32⟩
  | 120 => ⟨S16384x4096, .f32⟩
  | 121 => ⟨S16384x4096, .bf16⟩
  | _ => ⟨S16384x4096, .f32⟩

abbrev hbmTy (i : Nat) : BufTy := match i / 128 with
  | 0 => hbmTy0_0 i
  | 1 => hbmTy0_1 i
  | 2 => hbmTy0_2 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_c : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev main_v12_7 : Ref sig .tc := ⟨.hbm, 32, rfl⟩
abbrev main_v12_8 : Ref sig .tc := ⟨.hbm, 33, rfl⟩
abbrev main_v12_9 : Ref sig .tc := ⟨.hbm, 34, rfl⟩
abbrev main_v12_10 : Ref sig .tc := ⟨.hbm, 35, rfl⟩
abbrev main_v12_11 : Ref sig .tc := ⟨.hbm, 36, rfl⟩
abbrev main_v12_12 : Ref sig .tc := ⟨.hbm, 37, rfl⟩
abbrev main_while0c_c_18 : Ref sig .tc := ⟨.hbm, 38, rfl⟩
abbrev main_while0c_v16 : Ref sig .tc := ⟨.hbm, 39, rfl⟩
abbrev main_while0b_c_18 : Ref sig .tc := ⟨.hbm, 40, rfl⟩
abbrev main_while0b_v16 : Ref sig .tc := ⟨.hbm, 41, rfl⟩
abbrev main_while0b_c_19 : Ref sig .tc := ⟨.hbm, 42, rfl⟩
abbrev main_while0b_v17 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v18 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_v0 : Ref sig .tc := ⟨.hbm, 51, rfl⟩
abbrev main_while0b_v19 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_v0 : Ref sig .tc := ⟨.hbm, 55, rfl⟩
abbrev main_while0b_v20 : Ref sig .tc := ⟨.hbm, 56, rfl⟩
abbrev main_while0b_v21 : Ref sig .tc := ⟨.hbm, 57, rfl⟩
abbrev main_while0b_v22 : Ref sig .tc := ⟨.hbm, 58, rfl⟩
abbrev main_while0b_v23 : Ref sig .tc := ⟨.hbm, 59, rfl⟩
abbrev main_while0b_v24 : Ref sig .tc := ⟨.hbm, 60, rfl⟩
abbrev main_while0b_cst_20 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_cst_21 : Ref sig .tc := ⟨.hbm, 66, rfl⟩
abbrev main_while0b_v29 : Ref sig .tc := ⟨.hbm, 67, rfl⟩
abbrev main_while0b_v30 : Ref sig .tc := ⟨.hbm, 68, rfl⟩
abbrev main_while0b_cst_22 : Ref sig .tc := ⟨.hbm, 69, rfl⟩
abbrev main_while0b_v31 : Ref sig .tc := ⟨.hbm, 70, rfl⟩
abbrev main_while0b_v32 : Ref sig .tc := ⟨.hbm, 71, rfl⟩
abbrev main_while0b_cst_23 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_v40 : Ref sig .tc := ⟨.hbm, 80, rfl⟩
abbrev main_while0b_cst_24 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_cst_25 : Ref sig .tc := ⟨.hbm, 87, rfl⟩
abbrev main_while0b_v46 : Ref sig .tc := ⟨.hbm, 88, rfl⟩
abbrev main_while0b_v47 : Ref sig .tc := ⟨.hbm, 89, rfl⟩
abbrev main_while0b_cst_26 : Ref sig .tc := ⟨.hbm, 90, rfl⟩
abbrev main_while0b_v48 : Ref sig .tc := ⟨.hbm, 91, rfl⟩
abbrev main_while0b_v49 : Ref sig .tc := ⟨.hbm, 92, rfl⟩
abbrev main_while0b_cst_27 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_call3_v0 : Ref sig .tc := ⟨.hbm, 99, rfl⟩
abbrev main_while0b_call3_v1 : Ref sig .tc := ⟨.hbm, 100, rfl⟩
abbrev main_while0b_call3_cst : Ref sig .tc := ⟨.hbm, 101, rfl⟩
abbrev main_while0b_call3_v2 : Ref sig .tc := ⟨.hbm, 102, rfl⟩
abbrev main_while0b_call3_v3 : Ref sig .tc := ⟨.hbm, 103, rfl⟩
abbrev main_while0b_call3_cst_0 : Ref sig .tc := ⟨.hbm, 104, rfl⟩
abbrev main_while0b_call3_v4 : Ref sig .tc := ⟨.hbm, 105, rfl⟩
abbrev main_while0b_v55_2 : Ref sig .tc := ⟨.hbm, 106, rfl⟩
abbrev main_while0b_call3_cst_1 : Ref sig .tc := ⟨.hbm, 107, rfl⟩
abbrev main_while0b_call3_v6 : Ref sig .tc := ⟨.hbm, 108, rfl⟩
abbrev main_while0b_call3_v7 : Ref sig .tc := ⟨.hbm, 109, rfl⟩
abbrev main_while0b_v55_1 : Ref sig .tc := ⟨.hbm, 110, rfl⟩
abbrev main_while0b_v55_0 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_c_28 : Ref sig .tc := ⟨.hbm, 120, rfl⟩
abbrev main_while0b_v64 : Ref sig .tc := ⟨.hbm, 121, rfl⟩
abbrev main_while0b_call4_v0 : Ref sig .tc := ⟨.hbm, 122, rfl⟩
abbrev main_while0b_call4_c : Ref sig .tc := ⟨.hbm, 123, rfl⟩
abbrev main_while0b_call4_v1 : Ref sig .tc := ⟨.hbm, 124, rfl⟩
abbrev main_while0b_call4_v2 : Ref sig .tc := ⟨.hbm, 125, rfl⟩
abbrev main_while0b_call4_v3 : Ref sig .tc := ⟨.hbm, 126, rfl⟩
abbrev main_while0b_call4_v4 : Ref sig .tc := ⟨.hbm, 127, rfl⟩
abbrev main_while0b_call4_c_0 : Ref sig .tc := ⟨.hbm, 128, rfl⟩
abbrev main_while0b_call4_v5 : Ref sig .tc := ⟨.hbm, 129, rfl⟩
abbrev main_while0b_v65 : Ref sig .tc := ⟨.hbm, 130, rfl⟩
abbrev main_while0b_call5_call0_cst : Ref sig .tc := ⟨.hbm, 131, rfl⟩
abbrev main_while0b_call5_call0_v0 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_cst_29 : Ref sig .tc := ⟨.hbm, 140, rfl⟩
abbrev main_while0b_call6_v0 : Ref sig .tc := ⟨.hbm, 141, rfl⟩
abbrev main_while0b_v73_1 : Ref sig .tc := ⟨.hbm, 142, rfl⟩
abbrev main_while0b_call6_v2 : Ref sig .tc := ⟨.hbm, 143, rfl⟩
abbrev main_while0b_v73_0 : Ref sig .tc := ⟨.hbm, 144, rfl⟩
abbrev main_while0b_call6_cst : Ref sig .tc := ⟨.hbm, 145, rfl⟩
abbrev main_while0b_v73_2 : Ref sig .tc := ⟨.hbm, 146, rfl⟩
abbrev main_while0b_v74 : Ref sig .tc := ⟨.hbm, 147, rfl⟩
abbrev main_while0b_v75 : Ref sig .tc := ⟨.hbm, 148, rfl⟩
abbrev main_while0b_v76 : Ref sig .tc := ⟨.hbm, 149, rfl⟩
abbrev main_while0b_v77 : Ref sig .tc := ⟨.hbm, 150, rfl⟩
abbrev main_while0b_v78 : Ref sig .tc := ⟨.hbm, 151, rfl⟩
abbrev main_while0b_v79 : Ref sig .tc := ⟨.hbm, 152, rfl⟩
abbrev main_while0b_v80 : Ref sig .tc := ⟨.hbm, 153, rfl⟩
abbrev main_while0b_cst_30 : Ref sig .tc := ⟨.hbm, 154, rfl⟩
abbrev main_while0b_v81 : Ref sig .tc := ⟨.hbm, 155, rfl⟩
abbrev main_while0b_v82 : Ref sig .tc := ⟨.hbm, 156, rfl⟩
abbrev main_while0b_v83 : Ref sig .tc := ⟨.hbm, 157, rfl⟩
abbrev main_while0b_v84 : Ref sig .tc := ⟨.hbm, 158, rfl⟩
abbrev main_while0b_v85 : Ref sig .tc := ⟨.hbm, 159, rfl⟩
abbrev main_while0b_v86 : Ref sig .tc := ⟨.hbm, 160, rfl⟩
abbrev main_while0b_v87 : Ref sig .tc := ⟨.hbm, 161, rfl⟩
abbrev main_while0b_v88 : Ref sig .tc := ⟨.hbm, 162, rfl⟩
abbrev main_while0b_v89 : Ref sig .tc := ⟨.hbm, 163, rfl⟩
abbrev main_while0b_v90 : Ref sig .tc := ⟨.hbm, 164, rfl⟩
abbrev main_while0b_v91 : Ref sig .tc := ⟨.hbm, 165, rfl⟩
abbrev main_while0b_v92 : Ref sig .tc := ⟨.hbm, 166, rfl⟩
abbrev main_while0b_v93 : Ref sig .tc := ⟨.hbm, 167, rfl⟩
abbrev main_while0b_v94 : Ref sig .tc := ⟨.hbm, 168, rfl⟩
abbrev main_while0b_v95 : Ref sig .tc := ⟨.hbm, 169, rfl⟩
abbrev main_while0b_v96 : Ref sig .tc := ⟨.hbm, 170, rfl⟩
abbrev main_while0b_v97 : Ref sig .tc := ⟨.hbm, 171, rfl⟩
abbrev main_while0b_v98 : Ref sig .tc := ⟨.hbm, 172, rfl⟩
abbrev main_while0b_v99 : Ref sig .tc := ⟨.hbm, 173, rfl⟩
abbrev main_while0b_v100 : Ref sig .tc := ⟨.hbm, 174, rfl⟩
abbrev main_while0b_cst_31 : Ref sig .tc := ⟨.hbm, 175, rfl⟩
abbrev main_while0b_v101 : Ref sig .tc := ⟨.hbm, 176, rfl⟩
abbrev main_while0b_v102 : Ref sig .tc := ⟨.hbm, 177, rfl⟩
abbrev main_while0b_cst_32 : Ref sig .tc := ⟨.hbm, 178, rfl⟩
abbrev main_while0b_v103 : Ref sig .tc := ⟨.hbm, 179, rfl⟩
abbrev main_while0b_v104 : Ref sig .tc := ⟨.hbm, 180, rfl⟩
abbrev main_while0b_cst_33 : Ref sig .tc := ⟨.hbm, 181, rfl⟩
abbrev main_while0b_v105 : Ref sig .tc := ⟨.hbm, 182, rfl⟩
abbrev main_while0b_v106 : Ref sig .tc := ⟨.hbm, 183, rfl⟩
abbrev main_while0b_v107 : Ref sig .tc := ⟨.hbm, 184, rfl⟩
abbrev main_while0b_v108 : Ref sig .tc := ⟨.hbm, 185, rfl⟩
abbrev main_while0b_cst_34 : Ref sig .tc := ⟨.hbm, 186, rfl⟩
abbrev main_while0b_v109 : Ref sig .tc := ⟨.hbm, 187, rfl⟩
abbrev main_while0b_v110 : Ref sig .tc := ⟨.hbm, 188, rfl⟩
abbrev main_while0b_v111 : Ref sig .tc := ⟨.hbm, 189, rfl⟩
abbrev main_while0b_v112 : Ref sig .tc := ⟨.hbm, 190, rfl⟩
abbrev main_while0b_v113 : Ref sig .tc := ⟨.hbm, 191, rfl⟩
abbrev main_while0b_v114 : Ref sig .tc := ⟨.hbm, 192, rfl⟩
abbrev main_while0b_v115 : Ref sig .tc := ⟨.hbm, 193, rfl⟩
abbrev main_while0b_v116 : Ref sig .tc := ⟨.hbm, 194, rfl⟩
abbrev main_while0b_call7_v0 : Ref sig .tc := ⟨.hbm, 195, rfl⟩
abbrev main_while0b_call7_v1 : Ref sig .tc := ⟨.hbm, 196, rfl⟩
abbrev main_while0b_call7_cst : Ref sig .tc := ⟨.hbm, 197, rfl⟩
abbrev main_while0b_call7_v2 : Ref sig .tc := ⟨.hbm, 198, rfl⟩
abbrev main_while0b_call7_v3 : Ref sig .tc := ⟨.hbm, 199, rfl⟩
abbrev main_while0b_call7_cst_0 : Ref sig .tc := ⟨.hbm, 200, rfl⟩
abbrev main_while0b_call7_v4 : Ref sig .tc := ⟨.hbm, 201, rfl⟩
abbrev main_while0b_v117_2 : Ref sig .tc := ⟨.hbm, 202, rfl⟩
abbrev main_while0b_call7_cst_1 : Ref sig .tc := ⟨.hbm, 203, rfl⟩
abbrev main_while0b_call7_v6 : Ref sig .tc := ⟨.hbm, 204, rfl⟩
abbrev main_while0b_call7_v7 : Ref sig .tc := ⟨.hbm, 205, rfl⟩
abbrev main_while0b_v117_1 : Ref sig .tc := ⟨.hbm, 206, rfl⟩
abbrev main_while0b_v117_0 : Ref sig .tc := ⟨.hbm, 207, rfl⟩
abbrev main_while0b_v118 : Ref sig .tc := ⟨.hbm, 208, rfl⟩
abbrev main_while0b_v119 : Ref sig .tc := ⟨.hbm, 209, rfl⟩
abbrev main_while0b_v120 : Ref sig .tc := ⟨.hbm, 210, rfl⟩
abbrev main_while0b_call8_v0 : Ref sig .tc := ⟨.hbm, 211, rfl⟩
abbrev main_while0b_call8_v1 : Ref sig .tc := ⟨.hbm, 212, rfl⟩
abbrev main_while0b_call8_v2 : Ref sig .tc := ⟨.hbm, 213, rfl⟩
abbrev main_while0b_v121 : Ref sig .tc := ⟨.hbm, 214, rfl⟩
abbrev main_while0b_v122 : Ref sig .tc := ⟨.hbm, 215, rfl⟩
abbrev main_while0b_v123 : Ref sig .tc := ⟨.hbm, 216, rfl⟩
abbrev main_while0b_cst_35 : Ref sig .tc := ⟨.hbm, 217, rfl⟩
abbrev main_while0b_v124 : Ref sig .tc := ⟨.hbm, 218, rfl⟩
abbrev main_while0b_v125 : Ref sig .tc := ⟨.hbm, 219, rfl⟩
abbrev main_while0b_v126 : Ref sig .tc := ⟨.hbm, 220, rfl⟩
abbrev main_while0b_v127 : Ref sig .tc := ⟨.hbm, 221, rfl⟩
abbrev main_while0b_cst_36 : Ref sig .tc := ⟨.hbm, 222, rfl⟩
abbrev main_while0b_v128 : Ref sig .tc := ⟨.hbm, 223, rfl⟩
abbrev main_while0b_v129 : Ref sig .tc := ⟨.hbm, 224, rfl⟩
abbrev main_while0b_v130 : Ref sig .tc := ⟨.hbm, 225, rfl⟩
abbrev main_while0b_cst_37 : Ref sig .tc := ⟨.hbm, 226, rfl⟩
abbrev main_while0b_v131 : Ref sig .tc := ⟨.hbm, 227, rfl⟩
abbrev main_while0b_v132 : Ref sig .tc := ⟨.hbm, 228, rfl⟩
abbrev main_while0b_v133 : Ref sig .tc := ⟨.hbm, 229, rfl⟩
abbrev main_while0b_v134 : Ref sig .tc := ⟨.hbm, 230, rfl⟩
abbrev main_while0b_v135 : Ref sig .tc := ⟨.hbm, 231, rfl⟩
abbrev main_while0b_cst_38 : Ref sig .tc := ⟨.hbm, 232, rfl⟩
abbrev main_while0b_v136 : Ref sig .tc := ⟨.hbm, 233, rfl⟩
abbrev main_while0b_v137 : Ref sig .tc := ⟨.hbm, 234, rfl⟩
abbrev main_while0b_cst_39 : Ref sig .tc := ⟨.hbm, 235, rfl⟩
abbrev main_while0b_v138 : Ref sig .tc := ⟨.hbm, 236, rfl⟩
abbrev main_while0b_v139 : Ref sig .tc := ⟨.hbm, 237, rfl⟩
abbrev main_while0b_v140 : Ref sig .tc := ⟨.hbm, 238, rfl⟩
abbrev main_while0b_v141 : Ref sig .tc := ⟨.hbm, 239, rfl⟩
abbrev main_while0b_v142 : Ref sig .tc := ⟨.hbm, 240, rfl⟩
abbrev main_while0b_v143 : Ref sig .tc := ⟨.hbm, 241, rfl⟩
abbrev main_while0b_v144 : Ref sig .tc := ⟨.hbm, 242, rfl⟩
abbrev main_while0b_v145 : Ref sig .tc := ⟨.hbm, 243, rfl⟩
abbrev main_while0b_v146 : Ref sig .tc := ⟨.hbm, 244, rfl⟩
abbrev main_while0b_v147 : Ref sig .tc := ⟨.hbm, 245, rfl⟩
abbrev main_while0b_v148 : Ref sig .tc := ⟨.hbm, 246, rfl⟩
abbrev main_while0b_v149 : Ref sig .tc := ⟨.hbm, 247, rfl⟩
abbrev main_while0b_v150 : Ref sig .tc := ⟨.hbm, 248, rfl⟩
abbrev main_while0b_v151 : Ref sig .tc := ⟨.hbm, 249, rfl⟩
abbrev main_while0b_cst_40 : Ref sig .tc := ⟨.hbm, 250, rfl⟩
abbrev main_while0b_v152 : Ref sig .tc := ⟨.hbm, 251, rfl⟩
abbrev main_while0b_v153 : Ref sig .tc := ⟨.hbm, 252, rfl⟩
abbrev main_while0b_v154 : Ref sig .tc := ⟨.hbm, 253, rfl⟩
abbrev main_while0b_v155 : Ref sig .tc := ⟨.hbm, 254, rfl⟩
abbrev main_while0b_v156 : Ref sig .tc := ⟨.hbm, 255, rfl⟩
abbrev main_while0b_v157 : Ref sig .tc := ⟨.hbm, 256, rfl⟩
abbrev main_while0b_cst_41 : Ref sig .tc := ⟨.hbm, 257, rfl⟩
abbrev main_while0b_v158 : Ref sig .tc := ⟨.hbm, 258, rfl⟩
abbrev main_while0b_v159 : Ref sig .tc := ⟨.hbm, 259, rfl⟩
abbrev main_while0b_cst_42 : Ref sig .tc := ⟨.hbm, 260, rfl⟩
abbrev main_while0b_v160 : Ref sig .tc := ⟨.hbm, 261, rfl⟩
abbrev main_while0b_v161 : Ref sig .tc := ⟨.hbm, 262, rfl⟩
abbrev main_while0b_v162 : Ref sig .tc := ⟨.hbm, 263, rfl⟩
abbrev main_while0b_v163 : Ref sig .tc := ⟨.hbm, 264, rfl⟩
abbrev main_while0b_cst_43 : Ref sig .tc := ⟨.hbm, 265, rfl⟩
abbrev main_while0b_v164 : Ref sig .tc := ⟨.hbm, 266, rfl⟩
abbrev main_while0b_v165 : Ref sig .tc := ⟨.hbm, 267, rfl⟩
abbrev main_while0b_v166 : Ref sig .tc := ⟨.hbm, 268, rfl⟩
abbrev main_while0b_v167 : Ref sig .tc := ⟨.hbm, 269, rfl⟩
abbrev main_while0b_v168 : Ref sig .tc := ⟨.hbm, 270, rfl⟩
abbrev main_while0b_v169 : Ref sig .tc := ⟨.hbm, 271, rfl⟩
abbrev main_while0b_v170 : Ref sig .tc := ⟨.hbm, 272, rfl⟩
abbrev main_while0b_v171 : Ref sig .tc := ⟨.hbm, 273, rfl⟩
abbrev main_while0b_v172 : Ref sig .tc := ⟨.hbm, 274, rfl⟩
abbrev main_while0b_v173 : Ref sig .tc := ⟨.hbm, 275, rfl⟩
abbrev main_while0b_v174 : Ref sig .tc := ⟨.hbm, 276, rfl⟩
abbrev main_while0b_v175 : Ref sig .tc := ⟨.hbm, 277, rfl⟩
abbrev main_while0b_v176 : Ref sig .tc := ⟨.hbm, 278, rfl⟩
abbrev main_while0b_v177 : Ref sig .tc := ⟨.hbm, 279, rfl⟩
abbrev main_while0b_v178 : Ref sig .tc := ⟨.hbm, 280, rfl⟩
abbrev main_while0b_v179 : Ref sig .tc := ⟨.hbm, 281, rfl⟩
abbrev main_while0b_v180 : Ref sig .tc := ⟨.hbm, 282, rfl⟩
abbrev main_while0b_v181 : Ref sig .tc := ⟨.hbm, 283, rfl⟩
abbrev main_while0b_v182 : Ref sig .tc := ⟨.hbm, 284, rfl⟩
abbrev main_while0b_cst_44 : Ref sig .tc := ⟨.hbm, 285, rfl⟩
abbrev main_while0b_v183 : Ref sig .tc := ⟨.hbm, 286, rfl⟩
abbrev main_while0b_v184 : Ref sig .tc := ⟨.hbm, 287, rfl⟩
abbrev main_while0b_v185 : Ref sig .tc := ⟨.hbm, 288, rfl⟩
abbrev main_while0b_v186 : Ref sig .tc := ⟨.hbm, 289, rfl⟩
abbrev main_while0b_cst_45 : Ref sig .tc := ⟨.hbm, 290, rfl⟩
abbrev main_while0b_v187 : Ref sig .tc := ⟨.hbm, 291, rfl⟩
abbrev main_while0b_v188 : Ref sig .tc := ⟨.hbm, 292, rfl⟩
abbrev main_while0b_cst_46 : Ref sig .tc := ⟨.hbm, 293, rfl⟩
abbrev main_while0b_v189 : Ref sig .tc := ⟨.hbm, 294, rfl⟩
abbrev main_while0b_v190 : Ref sig .tc := ⟨.hbm, 295, rfl⟩
abbrev main_while0b_cst_47 : Ref sig .tc := ⟨.hbm, 296, rfl⟩
abbrev main_while0b_v191 : Ref sig .tc := ⟨.hbm, 297, rfl⟩
abbrev main_while0b_v192 : Ref sig .tc := ⟨.hbm, 298, rfl⟩
abbrev main_while0b_v193 : Ref sig .tc := ⟨.hbm, 299, rfl⟩
abbrev main_while0b_call9_cst : Ref sig .tc := ⟨.hbm, 300, rfl⟩
abbrev main_while0b_call9_v0 : Ref sig .tc := ⟨.hbm, 301, rfl⟩
abbrev main_while0b_v194 : Ref sig .tc := ⟨.hbm, 302, rfl⟩
abbrev main_while0b_cst_48 : Ref sig .tc := ⟨.hbm, 303, rfl⟩
abbrev main_while0b_v195 : Ref sig .tc := ⟨.hbm, 304, rfl⟩
abbrev main_while0b_v196 : Ref sig .tc := ⟨.hbm, 305, rfl⟩
abbrev main_while0b_v197 : Ref sig .tc := ⟨.hbm, 306, rfl⟩
abbrev main_while0b_cst_49 : Ref sig .tc := ⟨.hbm, 307, rfl⟩
abbrev main_while0b_v198 : Ref sig .tc := ⟨.hbm, 308, rfl⟩
abbrev main_while0b_v199 : Ref sig .tc := ⟨.hbm, 309, rfl⟩
abbrev main_while0b_cst_50 : Ref sig .tc := ⟨.hbm, 310, rfl⟩
abbrev main_while0b_v200 : Ref sig .tc := ⟨.hbm, 311, rfl⟩
abbrev main_while0b_v201 : Ref sig .tc := ⟨.hbm, 312, rfl⟩
abbrev main_while0b_cst_51 : Ref sig .tc := ⟨.hbm, 313, rfl⟩
abbrev main_while0b_v202 : Ref sig .tc := ⟨.hbm, 314, rfl⟩
abbrev main_while0b_v203 : Ref sig .tc := ⟨.hbm, 315, rfl⟩
abbrev main_while0b_call10_call0_cst : Ref sig .tc := ⟨.hbm, 316, rfl⟩
abbrev main_while0b_call10_call0_v0 : Ref sig .tc := ⟨.hbm, 317, rfl⟩
abbrev main_while0b_v204 : Ref sig .tc := ⟨.hbm, 318, rfl⟩
abbrev main_while0b_v205 : Ref sig .tc := ⟨.hbm, 319, rfl⟩
abbrev main_while0b_v206 : Ref sig .tc := ⟨.hbm, 320, rfl⟩
abbrev main_while0b_v207 : Ref sig .tc := ⟨.hbm, 321, rfl⟩
abbrev main_while0b_v208 : Ref sig .tc := ⟨.hbm, 322, rfl⟩
abbrev main_while0b_v209 : Ref sig .tc := ⟨.hbm, 323, rfl⟩
abbrev main_while0b_v210 : Ref sig .tc := ⟨.hbm, 324, rfl⟩
abbrev main_while0b_v211 : Ref sig .tc := ⟨.hbm, 325, rfl⟩
abbrev main_while0b_v212 : Ref sig .tc := ⟨.hbm, 326, rfl⟩
abbrev main_while0b_call11_v0 : Ref sig .tc := ⟨.hbm, 327, rfl⟩
abbrev main_while0b_call11_v1 : Ref sig .tc := ⟨.hbm, 328, rfl⟩
abbrev main_while0b_call11_v2 : Ref sig .tc := ⟨.hbm, 329, rfl⟩
abbrev main_while0b_v213 : Ref sig .tc := ⟨.hbm, 330, rfl⟩
abbrev main_while0b_v214 : Ref sig .tc := ⟨.hbm, 331, rfl⟩
abbrev main_while0b_v215 : Ref sig .tc := ⟨.hbm, 332, rfl⟩
abbrev main_while0b_v216 : Ref sig .tc := ⟨.hbm, 333, rfl⟩
abbrev main_while0b_cst_52 : Ref sig .tc := ⟨.hbm, 334, rfl⟩
abbrev main_while0b_v217 : Ref sig .tc := ⟨.hbm, 335, rfl⟩
abbrev main_while0b_v218 : Ref sig .tc := ⟨.hbm, 336, rfl⟩
abbrev main_while0b_v219 : Ref sig .tc := ⟨.hbm, 337, rfl⟩
abbrev main_while0b_v220 : Ref sig .tc := ⟨.hbm, 338, rfl⟩
abbrev main_while0b_v221 : Ref sig .tc := ⟨.hbm, 339, rfl⟩
abbrev main_while0b_v222 : Ref sig .tc := ⟨.hbm, 340, rfl⟩
abbrev main_while0b_cst_53 : Ref sig .tc := ⟨.hbm, 341, rfl⟩
abbrev main_while0b_v223 : Ref sig .tc := ⟨.hbm, 342, rfl⟩
abbrev main_while0b_v224 : Ref sig .tc := ⟨.hbm, 343, rfl⟩
abbrev main_while0b_v225 : Ref sig .tc := ⟨.hbm, 344, rfl⟩
abbrev main_while0b_v226 : Ref sig .tc := ⟨.hbm, 345, rfl⟩
abbrev main_while0b_v227 : Ref sig .tc := ⟨.hbm, 346, rfl⟩
abbrev main_while0b_v228 : Ref sig .tc := ⟨.hbm, 347, rfl⟩
abbrev main_while0b_cst_54 : Ref sig .tc := ⟨.hbm, 348, rfl⟩
abbrev main_while0b_v229 : Ref sig .tc := ⟨.hbm, 349, rfl⟩
abbrev main_while0b_v230 : Ref sig .tc := ⟨.hbm, 350, rfl⟩
abbrev main_while0b_v231 : Ref sig .tc := ⟨.hbm, 351, rfl⟩
abbrev main_while0b_v232 : Ref sig .tc := ⟨.hbm, 352, rfl⟩
abbrev main_while0b_v233 : Ref sig .tc := ⟨.hbm, 353, rfl⟩
abbrev main_while0b_v234 : Ref sig .tc := ⟨.hbm, 354, rfl⟩
abbrev main_while0b_v235 : Ref sig .tc := ⟨.hbm, 355, rfl⟩
abbrev main_while0b_v236 : Ref sig .tc := ⟨.hbm, 356, rfl⟩
abbrev main_while0b_call12_v0 : Ref sig .tc := ⟨.hbm, 357, rfl⟩
abbrev main_while0b_call12_c : Ref sig .tc := ⟨.hbm, 358, rfl⟩
abbrev main_while0b_call12_c_0 : Ref sig .tc := ⟨.hbm, 359, rfl⟩
abbrev main_while0b_v237 : Ref sig .tc := ⟨.hbm, 360, rfl⟩
abbrev main_while0b_call13_v0 : Ref sig .tc := ⟨.hbm, 361, rfl⟩
abbrev main_while0b_call13_c : Ref sig .tc := ⟨.hbm, 362, rfl⟩
abbrev main_while0b_call13_c_0 : Ref sig .tc := ⟨.hbm, 363, rfl⟩
abbrev main_while0b_v238 : Ref sig .tc := ⟨.hbm, 364, rfl⟩
abbrev main_while0b_call14_v0 : Ref sig .tc := ⟨.hbm, 365, rfl⟩
abbrev main_while0b_call14_c : Ref sig .tc := ⟨.hbm, 366, rfl⟩
abbrev main_while0b_call14_c_0 : Ref sig .tc := ⟨.hbm, 367, rfl⟩
abbrev main_while0b_v239 : Ref sig .tc := ⟨.hbm, 368, rfl⟩
abbrev main_while0b_call15_v0 : Ref sig .tc := ⟨.hbm, 369, rfl⟩
abbrev main_while0b_call15_c : Ref sig .tc := ⟨.hbm, 370, rfl⟩
abbrev main_while0b_call15_c_0 : Ref sig .tc := ⟨.hbm, 371, rfl⟩
abbrev main_while0b_v240 : Ref sig .tc := ⟨.hbm, 372, rfl⟩
abbrev main_while0b_c_55 : Ref sig .tc := ⟨.hbm, 373, rfl⟩
abbrev main_while0b_v241 : Ref sig .tc := ⟨.hbm, 374, rfl⟩
abbrev main_v13 : Ref sig .tc := ⟨.hbm, 375, rfl⟩
abbrev main_v14 : Ref sig .tc := ⟨.hbm, 376, rfl⟩
abbrev main_v15 : Ref sig .tc := ⟨.hbm, 377, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S4096x1024 : Shape := ⟨2, ![4096, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S16384x1024, .f32⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Kernel2Ideal.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S4096x1024 : Shape := ⟨2, ![4096, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S16384x1024, .f32⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x4096, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel3.lean ====
abbrev S16384x1024 : Shape := ⟨2, ![16384, 1024]⟩
abbrev S16384x4096 : Shape := ⟨2, ![16384, 4096]⟩
abbrev S1024x4096 : Shape := ⟨2, ![1024, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel3Ideal.lean ====
abbrev S16384x1024 : Shape := ⟨2, ![16384, 1024]⟩
abbrev S16384x4096 : Shape := ⟨2, ![16384, 4096]⟩
abbrev S1024x4096 : Shape := ⟨2, ![1024, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S16384x6272 : Shape := ⟨2, ![16384, 6272]⟩
abbrev S1024x6272 : Shape := ⟨2, ![1024, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x6272, .bf16⟩
  | .hbm, ⟨2, _⟩ => ⟨S1024x6272, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16384x1024 : Shape := ⟨2, ![16384, 1024]⟩
abbrev S16384x6272 : Shape := ⟨2, ![16384, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6272, .bf16⟩
  | .hbm, ⟨2, _⟩ => ⟨S_, .f32⟩
  | .hbm, ⟨3, _⟩ => ⟨S1024x6272, .f32⟩
  | .hbm, ⟨4, _⟩ => ⟨S16384x1024, .f32⟩
  | .hbm, ⟨5, _⟩ => ⟨S16384x6272, .f32⟩
  | .hbm, ⟨6, _⟩ => ⟨S16384x6272, .f32⟩
  | .hbm, ⟨7, _⟩ => ⟨S6272x1024, .f32⟩
  | .hbm, ⟨8, _⟩ => ⟨S1024x6272, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S16384x2560 : Shape := ⟨2, ![16384, 2560]⟩
abbrev S1024x2560 : Shape := ⟨2, ![1024, 2560]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S1024x2560, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel5Ideal.lean ====
abbrev S16384x1024 : Shape := ⟨2, ![16384, 1024]⟩
abbrev S16384x2560 : Shape := ⟨2, ![16384, 2560]⟩
abbrev S1024x2560 : Shape := ⟨2, ![1024, 2560]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S1024x2560, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S16384x2560 : Shape := ⟨2, ![16384, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S_, .f32⟩
  | .hbm, ⟨3, _⟩ => ⟨S1024x2560, .f32⟩
  | .hbm, ⟨4, _⟩ => ⟨S16384x1024, .f32⟩
  | .hbm, ⟨5, _⟩ => ⟨S16384x2560, .f32⟩
  | .hbm, ⟨6, _⟩ => ⟨S16384x2560, .f32⟩
  | .hbm, ⟨7, _⟩ => ⟨S2560x1024, .f32⟩
  | .hbm, ⟨8, _⟩ => ⟨S1024x2560, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S16384x2048 : Shape := ⟨2, ![16384, 2048]⟩
abbrev S16384x1024 : Shape := ⟨2, ![16384, 1024]⟩
abbrev S2048x1024 : Shape := ⟨2, ![2048, 1024]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S1024x2048, .f32⟩
  | .hbm, ⟨7, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel8Ideal.lean ====
abbrev S16384x1024 : Shape := ⟨2, ![16384, 1024]⟩
abbrev S1x1024 : Shape := ⟨2, ![1, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S_, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S2048x1024 : Shape := ⟨2, ![2048, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2048x1024, .bf16⟩
  | .hbm, ⟨3, _⟩ => ⟨S1024x2048, .bf16⟩
  | .hbm, ⟨4, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x1024 : Shape := ⟨2, ![16384, 1024]⟩
abbrev S1x1024 : Shape := ⟨2, ![1, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2048x1024, .bf16⟩
  | .hbm, ⟨3, _⟩ => ⟨S_, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel10Ideal.lean ====
abbrev S16384x1024 : Shape := ⟨2, ![16384, 1024]⟩
abbrev S1024x1024 : Shape := ⟨2, ![1024, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x1024 : Shape := ⟨2, ![16384, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16384x2048 : Shape := ⟨2, ![16384, 2048]⟩
abbrev S2048x1024 : Shape := ⟨2, ![2048, 1024]⟩
abbrev S16384x1024 : Shape := ⟨2, ![16384, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S1x1024, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S16384x6272 : Shape := ⟨2, ![16384, 6272]⟩
abbrev S1024x6272 : Shape := ⟨2, ![1024, 6272]⟩
abbrev S16384x1024 : Shape := ⟨2, ![16384, 1024]⟩
abbrev S1x1024 : Shape := ⟨2, ![1, 1024]⟩
abbrev S6272x1024 : Shape := ⟨2, ![6272, 1024]⟩
abbrev S8x1024 : Shape := ⟨2, ![8, 1024]⟩
abbrev S256x6272 : Shape := ⟨2, ![256, 6272]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x6272, .bf16⟩
  | .hbm, ⟨1, _⟩ => ⟨S1024x6272, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S6272x1024, .bf16⟩
  | .hbm, ⟨8, _⟩ => ⟨S16384x1024, .f32⟩
  | .hbm, ⟨9, _⟩ => ⟨S8x1024, .f32⟩
  | .local _ .vmem, ⟨0, _⟩ => ⟨S256x6272, .bf16⟩
  | .local _ .vmem, ⟨1, _⟩ => ⟨S256x6272, .bf16⟩
  | .local _ .vmem, ⟨2, _⟩ => ⟨S6272x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x1024, .f32⟩
  | _, _ => ⟨S16384x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![64, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6272x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Kernel12Ideal.lean ====
abbrev S16384x6272 : Shape := ⟨2, ![16384, 6272]⟩
abbrev S1024x6272 : Shape := ⟨2, ![1024, 6272]⟩
abbrev S16384x1024 : Shape := ⟨2, ![16384, 1024]⟩
abbrev S1x1024 : Shape := ⟨2, ![1, 1024]⟩
abbrev S6272x1024 : Shape := ⟨2, ![6272, 1024]⟩
abbrev S8x1024 : Shape := ⟨2, ![8, 1024]⟩
abbrev S256x6272 : Shape := ⟨2, ![256, 6272]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x6272, .bf16⟩
  | .hbm, ⟨1, _⟩ => ⟨S1024x6272, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S6272x1024, .bf16⟩
  | .hbm, ⟨8, _⟩ => ⟨S16384x1024, .f32⟩
  | .hbm, ⟨9, _⟩ => ⟨S8x1024, .f32⟩
  | .local _ .vmem, ⟨0, _⟩ => ⟨S256x6272, .bf16⟩
  | .local _ .vmem, ⟨1, _⟩ => ⟨S256x6272, .bf16⟩
  | .local _ .vmem, ⟨2, _⟩ => ⟨S6272x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x1024, .f32⟩
  | _, _ => ⟨S16384x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![64, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6272x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference12Ideal.lean ====
abbrev S16384x6272 : Shape := ⟨2, ![16384, 6272]⟩
abbrev S1024x6272 : Shape := ⟨2, ![1024, 6272]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x6272, .bf16⟩
  | .hbm, ⟨1, _⟩ => ⟨S1024x6272, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x6272, .f32⟩
  | .hbm, ⟨34, _⟩ => ⟨S16384x6272, .f32⟩
  | .hbm, ⟨35, _⟩ => ⟨S16384x6272, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S16384x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel13.lean ====
abbrev S16384x2560 : Shape := ⟨2, ![16384, 2560]⟩
abbrev S1024x2560 : Shape := ⟨2, ![1024, 2560]⟩
abbrev S16384x1024 : Shape := ⟨2, ![16384, 1024]⟩
abbrev S1x1024 : Shape := ⟨2, ![1, 1024]⟩
abbrev S2560x1024 : Shape := ⟨2, ![2560, 1024]⟩
abbrev S8x1024 : Shape := ⟨2, ![8, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2560, .bf16⟩
  | .hbm, ⟨1, _⟩ => ⟨S1024x2560, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2560x1024, .bf16⟩
  | .hbm, ⟨8, _⟩ => ⟨S16384x1024, .f32⟩
  | .hbm, ⟨9, _⟩ => ⟨S8x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S512x1024, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference13Ideal.lean ====
abbrev S16384x2560 : Shape := ⟨2, ![16384, 2560]⟩
abbrev S1024x2560 : Shape := ⟨2, ![1024, 2560]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S1024x2560, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024x2560, .f32⟩
  | .hbm, ⟨34, _⟩ => ⟨S16384x2560, .f32⟩
  | .hbm, ⟨35, _⟩ => ⟨S16384x2560, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel14.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S16384x4096, .f32⟩
  | .hbm, ⟨6, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference14Ideal.lean ====
abbrev S16384x1024 : Shape := ⟨2, ![16384, 1024]⟩
abbrev S1x1024 : Shape := ⟨2, ![1, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x4096, .f32⟩
  | .hbm, ⟨28, _⟩ => ⟨S16384x4096, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel15.lean ====
abbrev S16384x1024 : Shape := ⟨2, ![16384, 1024]⟩
abbrev S1x1024 : Shape := ⟨2, ![1, 1024]⟩
abbrev S1024x6272 : Shape := ⟨2, ![1024, 6272]⟩
abbrev S16384x6272 : Shape := ⟨2, ![16384, 6272]⟩
abbrev S1024x1024 : Shape := ⟨2, ![1024, 1024]⟩
abbrev S1024x896 : Shape := ⟨2, ![1024, 896]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6272, .bf16⟩
  | .hbm, ⟨5, _⟩ => ⟨S16384x6272, .f32⟩
  | .hbm, ⟨6, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x896, .bf16⟩
  | .local _ .vmem, ⟨6, _⟩ => ⟨S1024x896, .bf16⟩
  | .local _ .vmem, ⟨7, _⟩ => ⟨S1024x896, .f32⟩
  | .local _ .vmem, ⟨8, _⟩ => ⟨S1024x896, .f32⟩
  | .local _ .vmem, ⟨9, _⟩ => ⟨S1024x1024, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference15Ideal.lean ====
abbrev S16384x1024 : Shape := ⟨2, ![16384, 1024]⟩
abbrev S1x1024 : Shape := ⟨2, ![1, 1024]⟩
abbrev S1024x6272 : Shape := ⟨2, ![1024, 6272]⟩
abbrev S_ : Shape := ⟨0, ![]⟩
abbrev S16384 : Shape := ⟨1, ![16384]⟩
abbrev S16384x1 : Shape := ⟨2, ![16384, 1]⟩
abbrev S16384x6272 : Shape := ⟨2, ![16384, 6272]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6272, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x6272, .f32⟩
  | .hbm, ⟨28, _⟩ => ⟨S16384x6272, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel16.lean ====
abbrev S16384x1024 : Shape := ⟨2, ![16384, 1024]⟩
abbrev S1x1024 : Shape := ⟨2, ![1, 1024]⟩
abbrev S1024x2560 : Shape := ⟨2, ![1024, 2560]⟩
abbrev S16384x2560 : Shape := ⟨2, ![16384, 2560]⟩
abbrev S1024x1024 : Shape := ⟨2, ![1024, 1024]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .bf16⟩
  | .hbm, ⟨5, _⟩ => ⟨S16384x2560, .f32⟩
  | .hbm, ⟨6, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1280, .bf16⟩
  | .local _ .vmem, ⟨6, _⟩ => ⟨S1024x1280, .bf16⟩
  | .local _ .vmem, ⟨7, _⟩ => ⟨S1024x1280, .f32⟩
  | .local _ .vmem, ⟨8, _⟩ => ⟨S1024x1280, .f32⟩
  | .local _ .vmem, ⟨9, _⟩ => ⟨S1024x1024, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S16384x1024 : Shape := ⟨2, ![16384, 1024]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2560, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x2560, .f32⟩
  | .hbm, ⟨28, _⟩ => ⟨S16384x2560, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel17.lean ====
abbrev S4096x768 : Shape := ⟨2, ![4096, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
abbrev S4096x768 : Shape := ⟨2, ![4096, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1280x1024 : Shape := ⟨2, ![1280, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1280x1024, .f32⟩
  | .hbm, ⟨1, _⟩ => ⟨S1280x1024, .f32⟩
  | .hbm, ⟨2, _⟩ => ⟨S1280x1024, .f32⟩
  | .hbm, ⟨3, _⟩ => ⟨S1280x1024, .f32⟩
  | .hbm, ⟨4, _⟩ => ⟨S1280x1024, .f32⟩
  | .hbm, ⟨5, _⟩ => ⟨S1280x1024, .f32⟩
  | .hbm, ⟨6, _⟩ => ⟨S1280x1024, .f32⟩
  | .hbm, ⟨7, _⟩ => ⟨S1280x1024, .f32⟩
  | .hbm, ⟨8, _⟩ => ⟨S1280x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S1280x1024 : Shape := ⟨2, ![1280, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1280x1024, .f32⟩
  | .hbm, ⟨1, _⟩ => ⟨S1280x1024, .f32⟩
  | .hbm, ⟨2, _⟩ => ⟨S1280x1024, .f32⟩
  | .hbm, ⟨3, _⟩ => ⟨S1280x1024, .f32⟩
  | .hbm, ⟨4, _⟩ => ⟨S1280x1024, .f32⟩
  | .hbm, ⟨5, _⟩ => ⟨S1280x1024, .f32⟩
  | .hbm, ⟨6, _⟩ => ⟨S1280x1024, .f32⟩
  | .hbm, ⟨7, _⟩ => ⟨S1280x1024, .f32⟩
  | .hbm, ⟨8, _⟩ => ⟨S1280x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S1280x1024 : Shape := ⟨2, ![1280, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1280x1024, .f32⟩
  | .hbm, ⟨1, _⟩ => ⟨S1280x1024, .f32⟩
  | .hbm, ⟨2, _⟩ => ⟨S1280x1024, .f32⟩
  | .hbm, ⟨3, _⟩ => ⟨S1280x1024, .f32⟩
  | .hbm, ⟨4, _⟩ => ⟨S1280x1024, .f32⟩
  | .hbm, ⟨5, _⟩ => ⟨S1280x1024, .f32⟩
  | .hbm, ⟨6, _⟩ => ⟨S1280x1024, .f32⟩
  | .hbm, ⟨7, _⟩ => ⟨S_, .f32⟩
  | .hbm, ⟨8, _⟩ => ⟨S1280x1024, .f32⟩
  | .hbm, ⟨9, _⟩ => ⟨S1280x1024, .f32⟩
  | .hbm, ⟨10, _⟩ => ⟨S_, .f32⟩
  | .hbm, ⟨11, _⟩ => ⟨S1280x1024, .f32⟩
  | .hbm, ⟨12, _⟩ => ⟨S1280x1024, .f32⟩
  | .hbm, ⟨13, _⟩ => ⟨S1280x1024, .f32⟩
  | .hbm, ⟨14, _⟩ => ⟨S_, .f32⟩
  | .hbm, ⟨15, _⟩ => ⟨S1280x1024, .f32⟩
  | .hbm, ⟨16, _⟩ => ⟨S1280x1024, .f32⟩
  | .hbm, ⟨17, _⟩ => ⟨S1280x1024, .f32⟩
  | .hbm, ⟨18, _⟩ => ⟨S_, .f32⟩
  | .hbm, ⟨19, _⟩ => ⟨S1280x1024, .f32⟩
  | .hbm, ⟨20, _⟩ => ⟨S1280x1024, .f32⟩
  | .hbm, ⟨21, _⟩ => ⟨S1280x1024, .f32⟩
  | .hbm, ⟨22, _⟩ => ⟨S_, .f32⟩
  | .hbm, ⟨23, _⟩ => ⟨S1280x1024, .f32⟩
  | .hbm, ⟨24, _⟩ => ⟨S1280x1024, .f32⟩
  | .hbm, ⟨25, _⟩ => ⟨S_, .f32⟩
  | .hbm, ⟨26, _⟩ => ⟨S1280x1024, .f32⟩
  | .hbm, ⟨27, _⟩ => ⟨S1280x1024, .f32⟩
  | .hbm, ⟨28, _⟩ => ⟨S1280x1024, .f32⟩
  | .hbm, ⟨29, _⟩ => ⟨S_, .f32⟩
  | .hbm, ⟨30, _⟩ => ⟨S1280x1024, .f32⟩
  | .hbm, ⟨31, _⟩ => ⟨S1280x1024, .f32⟩
  | .hbm, ⟨32, _⟩ => ⟨S1280x1024, .f32⟩
  | .hbm, ⟨33, _⟩ => ⟨S_, .f32⟩
  | .hbm, ⟨34, _⟩ => ⟨S1280x1024, .f32⟩
  | .hbm, ⟨35, _⟩ => ⟨S1280x1024, .f32⟩
  | .hbm, ⟨36, _⟩ => ⟨S1280x1024, .f32⟩
  | .hbm, ⟨37, _⟩ => ⟨S_, .f32⟩
  | .hbm, ⟨38, _⟩ => ⟨S1280x1024, .f32⟩
  | .hbm, ⟨39, _⟩ => ⟨S1280x1024, .f32⟩
  | _, _ => ⟨S1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S4240x1024 : Shape := ⟨2, ![4240, 1024]⟩
abbrev S80x1024 : Shape := ⟨2, ![80, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4240x1024, .f32⟩
  | .hbm, ⟨1, _⟩ => ⟨S4240x1024, .f32⟩
  | .hbm, ⟨2, _⟩ => ⟨S4240x1024, .f32⟩
  | .hbm, ⟨3, _⟩ => ⟨S4240x1024, .f32⟩
  | .hbm, ⟨4, _⟩ => ⟨S4240x1024, .f32⟩
  | .hbm, ⟨5, _⟩ => ⟨S4240x1024, .f32⟩
  | .hbm, ⟨6, _⟩ => ⟨S4240x1024, .f32⟩
  | .hbm, ⟨7, _⟩ => ⟨S4240x1024, .f32⟩
  | .hbm, ⟨8, _⟩ => ⟨S4240x1024, .f32⟩
  | .local _ .vmem, ⟨0, _⟩ => ⟨S80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | .local _ .vmem, ⟨8, _⟩ => ⟨S80x1024, .f32⟩
  | .local _ .vmem, ⟨9, _⟩ => ⟨S80x1024, .f32⟩
  | .local _ .vmem, ⟨10, _⟩ => ⟨S80x1024, .f32⟩
  | .local _ .vmem, ⟨11, _⟩ => ⟨S80x1024, .f32⟩
  | .local _ .vmem, ⟨12, _⟩ => ⟨S80x1024, .f32⟩
  | .local _ .vmem, ⟨13, _⟩ => ⟨S80x1024, .f32⟩
  | .local _ .vmem, ⟨14, _⟩ => ⟨S80x1024, .f32⟩
  | .local _ .vmem, ⟨15, _⟩ => ⟨S80x1024, .f32⟩
  | .local _ .vmem, ⟨16, _⟩ => ⟨S80x1024, .f32⟩
  | .local _ .vmem, ⟨17, _⟩ => ⟨S80x1024, .f32⟩
  | _, _ => ⟨S4240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![53], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4240x1024 : Shape := ⟨2, ![4240, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4240x1024, .f32⟩
  | .hbm, ⟨1, _⟩ => ⟨S4240x1024, .f32⟩
  | .hbm, ⟨2, _⟩ => ⟨S4240x1024, .f32⟩
  | .hbm, ⟨3, _⟩ => ⟨S4240x1024, .f32⟩
  | .hbm, ⟨4, _⟩ => ⟨S4240x1024, .f32⟩
  | .hbm, ⟨5, _⟩ => ⟨S4240x1024, .f32⟩
  | .hbm, ⟨6, _⟩ => ⟨S4240x1024, .f32⟩
  | .hbm, ⟨7, _⟩ => ⟨S_, .f32⟩
  | .hbm, ⟨8, _⟩ => ⟨S4240x1024, .f32⟩
  | .hbm, ⟨9, _⟩ => ⟨S4240x1024, .f32⟩
  | .hbm, ⟨10, _⟩ => ⟨S_, .f32⟩
  | .hbm, ⟨11, _⟩ => ⟨S4240x1024, .f32⟩
  | .hbm, ⟨12, _⟩ => ⟨S4240x1024, .f32⟩
  | .hbm, ⟨13, _⟩ => ⟨S4240x1024, .f32⟩
  | .hbm, ⟨14, _⟩ => ⟨S_, .f32⟩
  | .hbm, ⟨15, _⟩ => ⟨S4240x1024, .f32⟩
  | .hbm, ⟨16, _⟩ => ⟨S4240x1024, .f32⟩
  | .hbm, ⟨17, _⟩ => ⟨S4240x1024, .f32⟩
  | .hbm, ⟨18, _⟩ => ⟨S_, .f32⟩
  | .hbm, ⟨19, _⟩ => ⟨S4240x1024, .f32⟩
  | .hbm, ⟨20, _⟩ => ⟨S4240x1024, .f32⟩
  | .hbm, ⟨21, _⟩ => ⟨S4240x1024, .f32⟩
  | .hbm, ⟨22, _⟩ => ⟨S_, .f32⟩
  | .hbm, ⟨23, _⟩ => ⟨S4240x1024, .f32⟩
  | .hbm, ⟨24, _⟩ => ⟨S4240x1024, .f32⟩
  | .hbm, ⟨25, _⟩ => ⟨S_, .f32⟩
  | .hbm, ⟨26, _⟩ => ⟨S4240x1024, .f32⟩
  | .hbm, ⟨27, _⟩ => ⟨S4240x1024, .f32⟩
  | .hbm, ⟨28, _⟩ => ⟨S4240x1024, .f32⟩
  | .hbm, ⟨29, _⟩ => ⟨S_, .f32⟩
  | .hbm, ⟨30, _⟩ => ⟨S4240x1024, .f32⟩
  | .hbm, ⟨31, _⟩ => ⟨S4240x1024, .f32⟩
  | .hbm, ⟨32, _⟩ => ⟨S4240x1024, .f32⟩
  | .hbm, ⟨33, _⟩ => ⟨S_, .f32⟩
  | .hbm, ⟨34, _⟩ => ⟨S4240x1024, .f32⟩
  | .hbm, ⟨35, _⟩ => ⟨S4240x1024, .f32⟩
  | .hbm, ⟨36, _⟩ => ⟨S4240x1024, .f32⟩
  | .hbm, ⟨37, _⟩ => ⟨S_, .f32⟩
  | .hbm, ⟨38, _⟩ => ⟨S4240x1024, .f32⟩
  | .hbm, ⟨39, _⟩ => ⟨S4240x1024, .f32⟩
  | _, _ => ⟨S4240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S4x3072 : Shape := ⟨2, ![4, 3072]⟩

abbrev nBuf : Space → Nat
  | .hbm => 8
  | .vmem => 8
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .hbm, ⟨7, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | .local _ .vmem, ⟨7, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S4x3072 : Shape := ⟨2, ![4, 3072]⟩

abbrev nBuf : Space → Nat
  | .hbm => 8
  | .vmem => 8
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S4x3072, .f32⟩
  | .hbm, ⟨5, _⟩ => ⟨S4x3072, .f32⟩
  | .hbm, ⟨6, _⟩ => ⟨S4x3072, .f32⟩
  | .hbm, ⟨7, _⟩ => ⟨S4x3072, .f32⟩
  | .local _ .vmem, ⟨0, _⟩ => ⟨S4x3072, .f32⟩
  | .local _ .vmem, ⟨1, _⟩ => ⟨S4x3072, .f32⟩
  | .local _ .vmem, ⟨2, _⟩ => ⟨S4x3072, .f32⟩
  | .local _ .vmem, ⟨3, _⟩ => ⟨S4x3072, .f32⟩
  | .local _ .vmem, ⟨4, _⟩ => ⟨S4x3072, .f32⟩
  | .local _ .vmem, ⟨5, _⟩ => ⟨S4x3072, .f32⟩
  | .local _ .vmem, ⟨6, _⟩ => ⟨S4x3072, .f32⟩
  | .local _ .vmem, ⟨7, _⟩ => ⟨S4x3072, .f32⟩
  | _, _ => ⟨S4x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S4x3072 : Shape := ⟨2, ![4, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x3072, .f32⟩
  | .hbm, ⟨1, _⟩ => ⟨S4x3072, .f32⟩
  | .hbm, ⟨2, _⟩ => ⟨S4x3072, .f32⟩
  | .hbm, ⟨3, _⟩ => ⟨S4x3072, .f32⟩
  | .hbm, ⟨4, _⟩ => ⟨S_, .f32⟩
  | .hbm, ⟨5, _⟩ => ⟨S4x3072, .f32⟩
  | .hbm, ⟨6, _⟩ => ⟨S4x3072, .f32⟩
  | .hbm, ⟨7, _⟩ => ⟨S_, .f32⟩
  | .hbm, ⟨8, _⟩ => ⟨S4x3072, .f32⟩
  | .hbm, ⟨9, _⟩ => ⟨S4x3072, .f32⟩
  | .hbm, ⟨10, _⟩ => ⟨S4x3072, .f32⟩
  | .hbm, ⟨11, _⟩ => ⟨S_, .f32⟩
  | .hbm, ⟨12, _⟩ => ⟨S4x3072, .f32⟩
  | .hbm, ⟨13, _⟩ => ⟨S4x3072, .f32⟩
  | .hbm, ⟨14, _⟩ => ⟨S4x3072, .f32⟩
  | .hbm, ⟨15, _⟩ => ⟨S_, .f32⟩
  | .hbm, ⟨16, _⟩ => ⟨S4x3072, .f32⟩
  | .hbm, ⟨17, _⟩ => ⟨S4x3072, .f32⟩
  | .hbm, ⟨18, _⟩ => ⟨S4x3072, .f32⟩
  | .hbm, ⟨19, _⟩ => ⟨S_, .f32⟩
  | .hbm, ⟨20, _⟩ => ⟨S4x3072, .f32⟩
  | .hbm, ⟨21, _⟩ => ⟨S4x3072, .f32⟩
  | .hbm, ⟨22, _⟩ => ⟨S_, .f32⟩
  | .hbm, ⟨23, _⟩ => ⟨S4x3072, .f32⟩
  | .hbm, ⟨24, _⟩ => ⟨S4x3072, .f32⟩
  | .hbm, ⟨25, _⟩ => ⟨S4x3072, .f32⟩
  | .hbm, ⟨26, _⟩ => ⟨S_, .f32⟩
  | .hbm, ⟨27, _⟩ => ⟨S4x3072, .f32⟩
  | .hbm, ⟨28, _⟩ => ⟨S4x3072, .f32⟩
  | .hbm, ⟨29, _⟩ => ⟨S4x3072, .f32⟩
  | .hbm, ⟨30, _⟩ => ⟨S_, .f32⟩
  | .hbm, ⟨31, _⟩ => ⟨S4x3072, .f32⟩
  | .hbm, ⟨32, _⟩ => ⟨S4x3072, .f32⟩
  | .hbm, ⟨33, _⟩ => ⟨S4x3072, .f32⟩
  | .hbm, ⟨34, _⟩ => ⟨S_, .f32⟩
  | .hbm, ⟨35, _⟩ => ⟨S4x3072, .f32⟩
  | .hbm, ⟨36, _⟩ => ⟨S4x3072, .f32⟩
  | _, _ => ⟨S4x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S32x1024 : Shape := ⟨2, ![32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
abbrev S32x1024 : Shape := ⟨2, ![32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S16384x1024 : Shape := ⟨2, ![16384, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel24.lean ====
abbrev S1024x1024 : Shape := ⟨2, ![1024, 1024]⟩
abbrev S1x1024 : Shape := ⟨2, ![1, 1024]⟩
abbrev S8x1024 : Shape := ⟨2, ![8, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Kernel24Ideal.lean ====
abbrev S1024x1024 : Shape := ⟨2, ![1024, 1024]⟩
abbrev S1x1024 : Shape := ⟨2, ![1, 1024]⟩
abbrev S8x1024 : Shape := ⟨2, ![8, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference24Ideal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S7x1024, .f32⟩
  | .hbm, ⟨14, _⟩ => ⟨S8x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel25.lean ====
abbrev S2048x1024 : Shape := ⟨2, ![2048, 1024]⟩
abbrev S1x1024 : Shape := ⟨2, ![1, 1024]⟩
abbrev S8x1024 : Shape := ⟨2, ![8, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S2048x1024, .f32⟩
  | .hbm, ⟨4, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference25Ideal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S7x1024 : Shape := ⟨2, ![7, 1024]⟩
abbrev S8x1024 : Shape := ⟨2, ![8, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S7x1024, .f32⟩
  | .hbm, ⟨14, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Vocab.lean ====
/- The values one visit of the backward pass computes, named: the elementwise ones over the whole 64 x 1024 block, the products head by
   head. Every definition applies the operations of the kernel's body in its own order. -/
module

public import proofs.«01_k».proof.Proof.Gen.KernelIdeal.Skeleton

@[expose] public section

noncomputable section

namespace Cert.HG

open Idealize.ShloMosaic Idealize.SL.Sem
open Cert.KernelIdeal Cert.KernelIdeal.Facts₀

variable {F : FTy → Type} [FloatOps F] [Facts]

/-- What a visit reads: the four parts of the projected block, the saved state, the gradient of the layer's output, the lower bound,
    the gain, and the gradient of the state from the chunk after. -/
structure Ins (F : FTy → Type) [FloatOps F] where
  q : FVec F S64x1024 .f32
  f : FVec F S64x1024 .f32
  v : FVec F S64x1024 .f32
  z : FVec F S64x1024 .f32
  st3 : FVec F S1x1024x128 .f32
  lb : FVec F S1x1024 .f32
  go : FVec F S1x128 .f32
  dp : FVec F S64x1024 .bf16
  dS : FVec F S1024x128 .f32

/-- A constant array. -/
def kc (S : Shape) (w : BitVec 32) : FVec F S .f32 := broadcast S (Scalar.ofBits .f32 w)
/-- A row repeated down the block. -/
def down (x : FVec F S1x1024 .f32) : FVec F S64x1024 .f32 := broadcastTo S64x1024 x broadcasts_S1x1024_S64x1024
/-- The sums of a block's columns, as a row. -/
def csum (x : FVec F S64x1024 .f32) : FVec F S1x1024 .f32 :=
  shapeCast S1x1024 (multiReduction .add [0] S1024 x 0x00000000#32 reduces_S64x1024_S1024 (.inl rfl) rfl) shapeCasts_S1024_S1x1024
/-- The sum over the one row of a row. -/
def csum1 (x : FVec F S1x1024 .f32) : FVec F S1x1024 .f32 :=
  shapeCast S1x1024 (multiReduction .add [0] S1024 x 0x00000000#32 reduces_S1x1024_S1024 (.inl rfl) rfl) shapeCasts_S1024_S1x1024
/-- The row numbers. -/
def rowI : IVec S64x1024 32 := iota .tc S64x1024 32 [0] iota_S64x1024_d0_w32
/-- The row numbers, in one column. -/
def rowC : IVec S64x1 32 := iota .tc S64x1 32 [0] iota_S64x1_d0_w32
/-- The rows of number `w`. -/
def rowEq (w : BitVec 32) : IVec S64x1024 1 := cmpi .eq rowI (broadcast S64x1024 w)
/-- A mask of rows. -/
def rowM (x : IVec S64x1 1) : IVec S64x1024 1 :=
  broadcastTo S64x1024 (shapeCast S64x1 x shapeCasts_S64x1_S64x1) broadcasts_S64x1_S64x1024
/-- The rows below `w`. -/
def rowLt (w : BitVec 32) : IVec S64x1024 1 := rowM (cmpi .slt rowC (broadcast S64x1 w))
/-- The rows from `a` to below `b`. -/
def rowIn (a b : BitVec 32) : IVec S64x1024 1 :=
  rowM (andi (cmpi .sge rowC (broadcast S64x1 a)) (cmpi .slt rowC (broadcast S64x1 b)))
/-- The causal mask of a block of scores: the column's half is the row's half and the column is not after the row. -/
def mAll : IVec S64x128 1 :=
  Gen.k0_pay47 (iota .tc S64x128 32 [0] iota_S64x128_d0_w32) (iota .tc S64x128 32 [1] iota_S64x128_d1_w32) Gen.k0_pay44 Gen.k0_pay45 Gen.k0_pay46
/-- One doubling of a running sum. -/
def stepS (w : BitVec 32) (x : FVec F S64x1024 .f32) : FVec F S64x1024 .f32 :=
  addf x (select (cmpi .sge rowI (broadcast S64x1024 w)) (dynamicRotate 0 w none x rotates_S64x1024_d0) (kc S64x1024 0x00000000#32))
/-- The running sum down the rows. -/
def scan (x : FVec F S64x1024 .f32) : FVec F S64x1024 .f32 :=
  stepS 32#32 (stepS 16#32 (stepS 8#32 (stepS 4#32 (stepS 2#32 (stepS 1#32 x)))))

/-- The columns of head `h` lie inside the block. -/
theorem hs64 (h : Fin 8) : S64x1024.Slices ![0, 128 * h.val] S64x128 := by fin_cases h <;> decide +kernel
theorem hs128 (h : Fin 8) : S128x1024.Slices ![0, 128 * h.val] S128x128 := by fin_cases h <;> decide +kernel
theorem hs1 (h : Fin 8) : S1x1024.Slices ![0, 128 * h.val] S1x128 := by fin_cases h <;> decide +kernel
theorem hsT (h : Fin 8) : S1024x128.Slices ![128 * h.val, 0] S128x128 := by fin_cases h <;> decide +kernel

/-- Head `h` of a block, of a doubled block, of a row, of a state. -/
def hd {φ : FTy} (h : Fin 8) (x : FVec F S64x1024 φ) : FVec F S64x128 φ := extractStridedSlice S64x128 ![0, 128 * h.val] x (hs64 h)
def hd2 (h : Fin 8) (x : FVec F S128x1024 .f32) : FVec F S128x128 .f32 := extractStridedSlice S128x128 ![0, 128 * h.val] x (hs128 h)
def hd1 (h : Fin 8) (x : FVec F S1x1024 .f32) : FVec F S1x128 .f32 := extractStridedSlice S1x128 ![0, 128 * h.val] x (hs1 h)
def hdT (h : Fin 8) (x : FVec F S1024x128 .f32) : FVec F S128x128 .f32 := extractStridedSlice S128x128 ![128 * h.val, 0] x (hsT h)

/-- The eight heads side by side. -/
def cat (x : Fin 8 → FVec F S64x128 .f32) : FVec F S64x1024 .f32 :=
  concatenate S64x1024 1 [⟨S64x128, x 0⟩, ⟨S64x128, x 1⟩, ⟨S64x128, x 2⟩, ⟨S64x128, x 3⟩, ⟨S64x128, x 4⟩, ⟨S64x128, x 5⟩, ⟨S64x128, x 6⟩, ⟨S64x128, x 7⟩] concatenates_S64x128_S64x128_S64x128_S64x128_S64x128_S64x128_S64x128_S64x128_S64x1024_d1
def cat2 (x : Fin 8 → FVec F S128x128 .f32) : FVec F S128x1024 .f32 :=
  concatenate S128x1024 1 [⟨S128x128, x 0⟩, ⟨S128x128, x 1⟩, ⟨S128x128, x 2⟩, ⟨S128x128, x 3⟩, ⟨S128x128, x 4⟩, ⟨S128x128, x 5⟩, ⟨S128x128, x 6⟩, ⟨S128x128, x 7⟩] concatenates_S128x128_S128x128_S128x128_S128x128_S128x128_S128x128_S128x128_S128x128_S128x1024_d1
def cat1 (x : Fin 8 → FVec F S1x128 .f32) : FVec F S1x1024 .f32 :=
  concatenate S1x1024 1 [⟨S1x128, x 0⟩, ⟨S1x128, x 1⟩, ⟨S1x128, x 2⟩, ⟨S1x128, x 3⟩, ⟨S1x128, x 4⟩, ⟨S1x128, x 5⟩, ⟨S1x128, x 6⟩, ⟨S1x128, x 7⟩] concatenates_S1x128_S1x128_S1x128_S1x128_S1x128_S1x128_S1x128_S1x128_S1x1024_d1
def catT (x : Fin 8 → FVec F S128x128 .f32) : FVec F S1024x128 .f32 :=
  concatenate S1024x128 0 [⟨S128x128, x 0⟩, ⟨S128x128, x 1⟩, ⟨S128x128, x 2⟩, ⟨S128x128, x 3⟩, ⟨S128x128, x 4⟩, ⟨S128x128, x 5⟩, ⟨S128x128, x 6⟩, ⟨S128x128, x 7⟩] concatenates_S128x128_S128x128_S128x128_S128x128_S128x128_S128x128_S128x128_S128x128_S1024x128_d0

/-- A column repeated along its row; a row repeated down a head. -/
def along (x : FVec F S64x1 .f32) : FVec F S64x128 .f32 := broadcastTo S64x128 x broadcasts_S64x1_S64x128
def downH (x : FVec F S1x128 .f32) : FVec F S64x128 .f32 := broadcastTo S64x128 x broadcasts_S1x128_S64x128
def downT (x : FVec F S1x128 .f32) : FVec F S128x128 .f32 := broadcastTo S128x128 x broadcasts_S1x128_S128x128
/-- Row sums and column sums of a head. -/
def rsum (x : FVec F S64x128 .f32) : FVec F S64x1 .f32 :=
  shapeCast S64x1 (multiReduction .add [1] S64 x 0x00000000#32 reduces_S64x128_S64 (.inl rfl) rfl) shapeCasts_S64_S64x1
def rsum1 (x : FVec F S64x1 .f32) : FVec F S64x1 .f32 :=
  shapeCast S64x1 (multiReduction .add [1] S64 x 0x00000000#32 reduces_S64x1_S64 (.inl rfl) rfl) shapeCasts_S64_S64x1
def csumH (x : FVec F S64x128 .f32) : FVec F S1x128 .f32 :=
  shapeCast S1x128 (multiReduction .add [0] S128 x 0x00000000#32 reduces_S64x128_S128 (.inl rfl) rfl) shapeCasts_S128_S1x128
def csumT (x : FVec F S128x128 .f32) : FVec F S1x128 .f32 :=
  shapeCast S1x128 (multiReduction .add [0] S128 x 0x00000000#32 reduces_S128x128_S128 (.inl rfl) rfl) shapeCasts_S128_S1x128
/-- Products: rows by rows, rows by columns, columns by columns. -/
def mmT {φ ψ : FTy} (x : FVec F S64x128 φ) (y : FVec F S128x128 ψ) : FVec F S64x128 .f32 :=
  matmul dot_S64x128_S128x128_S64x128_1_1_0_0_n_n none x y (constant S64x128 .f32 0x00000000#32)
def mm {φ ψ : FTy} (x : FVec F S64x128 φ) (y : FVec F S128x128 ψ) : FVec F S64x128 .f32 :=
  matmul dot_S64x128_S128x128_S64x128_1_0_0_1_n_n none x y (constant S64x128 .f32 0x00000000#32)
def mmC {φ ψ : FTy} (x : FVec F S64x128 φ) (y : FVec F S64x128 ψ) : FVec F S128x128 .f32 :=
  matmul dot_S64x128_S64x128_S128x128_0_0_1_1_n_n none x y (constant S128x128 .f32 0x00000000#32)
def mm01 {φ ψ : FTy} (x : FVec F S128x128 φ) (y : FVec F S64x128 ψ) : FVec F S128x64 .f32 :=
  matmul dot_S128x128_S64x128_S128x64_0_1_1_0_n_n none x y (constant S128x64 .f32 0x00000000#32)
def mm11 {φ ψ : FTy} (x : FVec F S128x128 φ) (y : FVec F S64x128 ψ) : FVec F S128x64 .f32 :=
  matmul dot_S128x128_S64x128_S128x64_1_1_0_0_n_n none x y (constant S128x64 .f32 0x00000000#32)
/-- Narrowing, and narrowing and widening. -/
def tr {S : Shape} (x : FVec F S .f32) : FVec F S .bf16 := truncf .bf16 x bitsLt_bf16_f32
def rt {S : Shape} (x : FVec F S .f32) : FVec F S .f32 := extf .f32 (tr x) bitsLt_bf16_f32

variable (I : Ins F)

namespace Ins

def st : FVec F S1024x128 .f32 := shapeCast S1024x128 I.st3 shapeCasts_S1x1024x128_S1024x128
def u12 : FVec F S1x1024 .f32 := subf (kc S1x1024 0x3F800000#32) I.lb
def sf : FVec F S64x1024 .f32 := logistic I.f
def sf1 : FVec F S64x1024 .f32 := mulf I.sf (subf (kc S64x1024 0x3F800000#32) I.sf)
def fg : FVec F S64x1024 .f32 := addf (down I.lb) (mulf (down I.u12) I.sf)
def lf : FVec F S64x1024 .f32 := log I.fg
def sn : FVec F S64x1024 .f32 := logistic (subf (kc S64x1024 0x00000000#32) I.f)
def sn1 : FVec F S64x1024 .f32 := mulf I.sn (subf (kc S64x1024 0x3F800000#32) I.sn)
def k : FVec F S64x1024 .f32 := mulf (down I.u12) I.sn
def sq : FVec F S64x1024 .f32 := logistic I.q
def sq1 : FVec F S64x1024 .f32 := mulf I.sq (subf (kc S64x1024 0x3F800000#32) I.sq)
def qs : FVec F S64x1024 .f32 := mulf I.q I.sq
def b : FVec F S64x1024 .f32 := scan I.lf
def b16 : FVec F S1x1024 .f32 := csum (select (rowEq 16#32) I.b (kc S64x1024 0x00000000#32))
def b48 : FVec F S1x1024 .f32 := csum (select (rowEq 48#32) I.b (kc S64x1024 0x00000000#32))
def ref : FVec F S64x1024 .f32 := addf (addf (kc S64x1024 0x00000000#32) (select (rowIn 0#32 32#32) (down (shapeCast S1x1024 I.b16 shapeCasts_S1x1024_S1x1024)) (kc S64x1024 0x00000000#32)))
    (select (rowIn 32#32 64#32) (down (shapeCast S1x1024 I.b48 shapeCasts_S1x1024_S1x1024)) (kc S64x1024 0x00000000#32))
def eq : FVec F S64x1024 .f32 := exp (subf I.b I.ref)
def qt : FVec F S64x1024 .f32 := mulf I.qs I.eq
def elo : FVec F S64x1024 .f32 := exp (select (rowLt 32#32) (subf (down I.b16) I.b) (kc S64x1024 0xFF800000#32))
def ehi : FVec F S64x1024 .f32 := exp (select (rowLt 64#32) (subf (down I.b48) I.b) (kc S64x1024 0xFF800000#32))
def kall : FVec F S128x1024 .f32 := concatenate S128x1024 0 [⟨S64x1024, mulf I.k I.elo⟩, ⟨S64x1024, mulf I.k I.ehi⟩] concatenates_S64x1024_S64x1024_S128x1024_d0
def v4 : FVec F S128x1024 .f32 := concatenate S128x1024 0 [⟨S64x1024, I.v⟩, ⟨S64x1024, I.v⟩] concatenates_S64x1024_S64x1024_S128x1024_d0
def bt : FVec F S1x1024 .f32 := csum I.lf
def eb : FVec F S64x1024 .f32 := exp I.b
def qb : FVec F S64x1024 .f32 := mulf I.qs I.eb
def ed : FVec F S64x1024 .f32 := exp (subf (down I.bt) I.b)
def kd : FVec F S64x1024 .f32 := mulf I.k I.ed
def et : FVec F S1x1024 .f32 := exp I.bt
def P (h : Fin 8) : FVec F S64x128 .f32 := select mAll (mmT (tr (hd h I.qt)) (tr (hd2 h I.kall))) (kc S64x128 0x00000000#32)
def o (h : Fin 8) : FVec F S64x128 .f32 := addf (mm (tr (I.P h)) (tr (hd2 h I.v4))) (mmT (tr (hd h I.qb)) (tr (hdT h I.st)))
def ms (h : Fin 8) : FVec F S64x1 .f32 := addf (divf (rsum (mulf (I.o h) (I.o h))) (kc S64x1 0x43000000#32)) (kc S64x1 0x358637BD#32)
def r (h : Fin 8) : FVec F S64x1 .f32 := rsqrt (I.ms h)
def hr (h : Fin 8) : FVec F S64x1 .f32 := mulf (kc S64x1 0xBF000000#32) (divf (I.r h) (I.ms h))
def on (h : Fin 8) : FVec F S64x128 .f32 := mulf (I.o h) (along (I.r h))
def y (h : Fin 8) : FVec F S64x128 .f32 := mulf (I.on h) (downH I.go)
def sz (h : Fin 8) : FVec F S64x128 .f32 := logistic (hd h I.z)
def sz1 (h : Fin 8) : FVec F S64x128 .f32 := mulf (I.sz h) (subf (kc S64x128 0x3F800000#32) (I.sz h))
def dpf : FVec F S64x1024 .f32 := extf .f32 I.dp bitsLt_bf16_f32
def yp (h : Fin 8) : FVec F S64x128 .f32 := mulf (I.y h) (hd h I.dpf)
def dy (h : Fin 8) : FVec F S64x128 .f32 := mulf (hd h I.dpf) (mulf (hd h I.z) (I.sz h))
def dz (h : Fin 8) : FVec F S64x128 .f32 := addf (mulf (I.yp h) (I.sz h)) (mulf (mulf (hd h I.z) (I.yp h)) (I.sz1 h))
def dg (h : Fin 8) : FVec F S1x128 .f32 := csumH (mulf (I.on h) (I.dy h))
def dn (h : Fin 8) : FVec F S64x128 .f32 := mulf (I.dy h) (downH I.go)
def w (h : Fin 8) : FVec F S64x128 .f32 := along (rsum1 (divf (mulf (rsum (mulf (I.o h) (I.dn h))) (I.hr h)) (kc S64x1 0x43000000#32)))
def dO (h : Fin 8) : FVec F S64x128 .f32 := addf (addf (mulf (I.dn h) (along (I.r h))) (mulf (I.o h) (I.w h))) (mulf (I.w h) (I.o h))
def dgo : FVec F S1x128 .f32 := addf (addf (addf (addf (addf (addf (addf (I.dg 7) (I.dg 6)) (I.dg 5)) (I.dg 4)) (I.dg 3)) (I.dg 2)) (I.dg 1)) (I.dg 0)
def sd (h : Fin 8) : FVec F S1x128 .f32 := csumT (mulf (hdT h I.dS) (hdT h I.st))
def dkd (h : Fin 8) : FVec F S64x128 .f32 := rt (transpose S64x128 [1, 0] (mm01 (hdT h I.dS) (tr (hd h I.v))) transposes_S128x64_p1_0_S64x128)
def dvs (h : Fin 8) : FVec F S64x128 .f32 := rt (transpose S64x128 [1, 0] (mm11 (hdT h I.dS) (tr (hd h I.kd))) transposes_S128x64_p1_0_S64x128)
def dv4 (h : Fin 8) : FVec F S128x128 .f32 := rt (transpose S128x128 [1, 0] (mmC (I.dO h) (tr (I.P h))) transposes_S128x128_p1_0_S128x128)
def dP (h : Fin 8) : FVec F S64x128 .f32 := select mAll (rt (mmT (I.dO h) (tr (hd2 h I.v4)))) (kc S64x128 0x00000000#32)
def dSn (h : Fin 8) : FVec F S128x128 .f32 := addf (mulf (downT (hd1 h I.et)) (hdT h I.dS)) (rt (mmC (I.dO h) (tr (hd h I.qb))))
def dqb (h : Fin 8) : FVec F S64x128 .f32 := rt (mm (I.dO h) (tr (hdT h I.st)))
def dka (h : Fin 8) : FVec F S128x128 .f32 := rt (mmC (I.dP h) (tr (hd h I.qt)))
def dqt (h : Fin 8) : FVec F S64x128 .f32 := rt (mm (I.dP h) (tr (hd2 h I.kall)))
def DST : FVec F S1024x128 .f32 := catT I.dSn
def SD : FVec F S1x1024 .f32 := cat1 I.sd
def DZ : FVec F S64x1024 .f32 := cat I.dz
def DVS : FVec F S64x1024 .f32 := cat I.dvs
def DKD : FVec F S64x1024 .f32 := cat I.dkd
def DQB : FVec F S64x1024 .f32 := cat I.dqb
def DV4 : FVec F S128x1024 .f32 := cat2 I.dv4
def DKA : FVec F S128x1024 .f32 := cat2 I.dka
def DQT : FVec F S64x1024 .f32 := cat I.dqt
def x1083 : FVec F S1x1024 .f32 := mulf I.SD I.et
def x1086 : FVec F S64x1024 .f32 := mulf (mulf I.k I.DKD) I.ed
def dbl : FVec F S1x1024 .f32 := addf I.x1083 (csum I.x1086)
def x1095 : FVec F S64x1024 .f32 := addf (subf (kc S64x1024 0x00000000#32) I.x1086) (mulf (mulf I.qs I.DQB) I.eb)
def DV : FVec F S64x1024 .f32 := addf (addf I.DVS (extractStridedSlice S64x1024 ![0, 0] I.DV4 slices_S128x1024_o0_0_S64x1024)) (extractStridedSlice S64x1024 ![64, 0] I.DV4 slices_S128x1024_o64_0_S64x1024)
def Klo : FVec F S64x1024 .f32 := extractStridedSlice S64x1024 ![0, 0] I.DKA slices_S128x1024_o0_0_S64x1024
def Khi : FVec F S64x1024 .f32 := extractStridedSlice S64x1024 ![64, 0] I.DKA slices_S128x1024_o64_0_S64x1024
def DK : FVec F S64x1024 .f32 := addf (addf (mulf I.DKD I.ed) (mulf I.Khi I.ehi)) (mulf I.Klo I.elo)
def x1110 : FVec F S64x1024 .f32 := select (rowLt 64#32) (mulf (mulf I.k I.Khi) I.ehi) (kc S64x1024 0x00000000#32)
def x1121 : FVec F S64x1024 .f32 := select (rowLt 32#32) (mulf (mulf I.k I.Klo) I.elo) (kc S64x1024 0x00000000#32)
def DQS : FVec F S64x1024 .f32 := addf (mulf I.DQB I.eb) (mulf I.DQT I.eq)
def x1130 : FVec F S64x1024 .f32 := mulf (mulf I.qs I.DQT) I.eq
def x1132 : FVec F S64x1024 .f32 := subf (kc S64x1024 0x00000000#32) I.x1130
def x1133 : FVec F S64x1024 .f32 := addf (addf (addf I.x1095 (subf (kc S64x1024 0x00000000#32) I.x1110)) (subf (kc S64x1024 0x00000000#32) I.x1121)) I.x1130
def x1138 : FVec F S1x1024 .f32 := addf (csum I.x1110) (csum (select (rowIn 32#32 64#32) I.x1132 (kc S64x1024 0x00000000#32)))
def x1143 : FVec F S1x1024 .f32 := addf (csum I.x1121) (csum (select (rowIn 0#32 32#32) I.x1132 (kc S64x1024 0x00000000#32)))
def DB : FVec F S64x1024 .f32 := addf (addf I.x1133 (select (rowEq 48#32) (down (csum1 I.x1138)) (kc S64x1024 0x00000000#32))) (select (rowEq 16#32) (down (csum1 I.x1143)) (kc S64x1024 0x00000000#32))
def DLF : FVec F S64x1024 .f32 := addf (down (csum1 I.dbl)) (addf (subf (down (csum I.DB)) (scan I.DB)) I.DB)
def DFG : FVec F S64x1024 .f32 := divf I.DLF I.fg
def DQ : FVec F S64x1024 .f32 := addf (mulf I.DQS I.sq) (mulf (mulf I.q I.DQS) I.sq1)
def DF : FVec F S64x1024 .f32 := addf (subf (kc S64x1024 0x00000000#32) (mulf (mulf (down I.u12) I.DK) I.sn1)) (mulf (mulf (down I.u12) I.DFG) I.sf1)
def DLB : FVec F S1x1024 .f32 := addf (addf (subf (kc S1x1024 0x00000000#32) (csum (mulf I.DK I.sn))) (csum I.DFG)) (subf (kc S1x1024 0x00000000#32) (csum (mulf I.DFG I.sf)))

end Ins

end Cert.HG
-- ==== Proof.Reals.lean ====
/- Arrays of extended reals all of whose elements are real numbers: what each operation of the two programs makes of such arrays,
   as a plain real formula at an index. -/
module

public import proofs.«01_k».proof.Proof.Vocab
public import Idealize.ShloMosaic.Lib.Pointwise
public import Idealize.ShloMosaic.Lib.ValueIdx

@[expose] public section

noncomputable section

namespace Cert.HG

open Idealize.ShloMosaic Idealize.ShloMosaic.TcCoe Idealize.SL.Sem
open Cert.KernelIdeal

/-- The matrix `x` holds the real numbers `r`. -/
def R2 {a b : ℕ} {φ : FTy} (x : FVec Ideal ⟨2, ![a, b]⟩ φ) (r : Fin a → Fin b → ℝ) : Prop :=
  ∀ i j, x (ix2 i j) = ((r i j : ℝ) : EReal)

theorem R2.congr {a b : ℕ} {φ : FTy} {x : FVec Ideal ⟨2, ![a, b]⟩ φ} {r s : Fin a → Fin b → ℝ} (h : R2 x r)
    (e : ∀ i j, r i j = s i j) : R2 x s := fun i j => (h i j).trans (by rw [e])

/-- A finite sum of real numbers, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section Ew
variable {a b : ℕ} {φ ψ : FTy} {x y : FVec Ideal ⟨2, ![a, b]⟩ φ} {r s : Fin a → Fin b → ℝ}

theorem R2.add (h : R2 x r) (k : R2 y s) : R2 (addf x y) (fun i j => r i j + s i j) := fun i j => by
  show x _ + y _ = _
  rw [h, k, EReal.coe_add]

theorem R2.sub (h : R2 x r) (k : R2 y s) : R2 (subf x y) (fun i j => r i j - s i j) := fun i j => by
  show x _ - y _ = _
  rw [h, k, EReal.coe_sub]

theorem R2.mul (h : R2 x r) (k : R2 y s) : R2 (mulf x y) (fun i j => r i j * s i j) := fun i j => by
  show x _ * y _ = _
  rw [h, k, EReal.coe_mul]

theorem div_real (p q : ℝ) (hq : q ≠ 0) : Ideal.div (p : EReal) (q : EReal) = ((p / q : ℝ) : EReal) := by
  rw [Ideal.div_coe hq, ← EReal.coe_mul, mul_one_div]

theorem R2.div (h : R2 x r) (k : R2 y s) (hs : ∀ i j, s i j ≠ 0) : R2 (divf x y) (fun i j => r i j / s i j) := fun i j => by
  show Ideal.div (x _) (y _) = _
  rw [h, k, div_real _ _ (hs i j)]

theorem R2.exp (h : R2 x r) : R2 (exp x) (fun i j => Real.exp (r i j)) := fun i j => by
  show Ideal.exp (x _) = _
  rw [h]; rfl

theorem log_real (p : ℝ) (hp : 0 < p) : Ideal.log (p : EReal) = ((Real.log p : ℝ) : EReal) := by
  show (if p ≤ 0 then (⊥ : EReal) else _) = _
  rw [if_neg (not_le.mpr hp)]

theorem R2.log (h : R2 x r) (hr : ∀ i j, 0 < r i j) : R2 (log x) (fun i j => Real.log (r i j)) := fun i j => by
  show Ideal.log (x _) = _
  rw [h, log_real _ (hr i j)]

theorem rsqrt_real (p : ℝ) (hp : 0 < p) : Ideal.rsqrt (p : EReal) = (((Real.sqrt p)⁻¹ : ℝ) : EReal) := by
  show (if p < 0 then (⊥ : EReal) else if p = 0 then ⊤ else _) = _
  rw [if_neg (not_lt.mpr hp.le), if_neg hp.ne']

theorem R2.rsqrt (h : R2 x r) (hr : ∀ i j, 0 < r i j) : R2 (rsqrt x) (fun i j => (Real.sqrt (r i j))⁻¹) := fun i j => by
  show Ideal.rsqrt (x _) = _
  rw [h, rsqrt_real _ (hr i j)]

/-- The logistic function on the real numbers. -/
def sg (x : ℝ) : ℝ := (1 + Real.exp (-x))⁻¹

theorem R2.logistic (h : R2 x r) : R2 (logistic x) (fun i j => sg (r i j)) := fun i j => by
  show Ideal.logistic (x _) = _
  rw [h, Ideal.logistic_coe]; rfl

theorem R2.truncf (h : R2 x r) (hb : ψ.bits < φ.bits) : R2 (truncf ψ x hb) r := h
theorem R2.extf (h : R2 x r) (hb : φ.bits < ψ.bits) : R2 (extf ψ x hb) r := h

theorem ofBits_one : Ideal.ofBits .f32 0x3F800000#32 = ((1 : ℝ) : EReal) := by rw [Ideal.ofBits_one_f32]; rfl
theorem ofBits_zero : Ideal.ofBits .f32 0x00000000#32 = ((0 : ℝ) : EReal) := by rw [Ideal.ofBits_zero_f32]; rfl

end Ew

theorem R2.const {a b : ℕ} {w : BitVec 32} {p : ℝ} (h : Ideal.ofBits .f32 w = (p : EReal)) :
    R2 (broadcast ⟨2, ![a, b]⟩ (Scalar.ofBits (F := Ideal) .f32 w)) (fun _ _ => p) := fun _ _ => h

end Cert.HG
end
-- ==== Proof.Mask.lean ====
/- The causal mask of a block of scores, entry by entry. -/
module

public import proofs.«01_k».proof.Proof.Reals

@[expose] public section

noncomputable section

namespace Cert.HG

open Idealize.ShloMosaic Idealize.ShloMosaic.TcCoe Idealize.SL.Sem
open Cert.KernelIdeal Cert.KernelIdeal.Facts₀

variable [Facts]

/-- The mask of the scores holds where the column lies in the row's half and not after the row. -/
theorem mAll_apply (i : Fin 64) (j : Fin 128) : mAll (ix2 i j) = if j.val / 64 = i.val / 32 ∧ j.val % 64 ≤ i.val then 1#1 else 0#1 := by
  revert i j
  decide +kernel

end Cert.HG
end
-- ==== Proof.Ops.lean ====
/- What the named operations of a visit make of arrays of real numbers. -/
module

public import proofs.«01_k».proof.Proof.Reals
public import proofs.«01_k».proof.Proof.Mask

@[expose] public section

noncomputable section

namespace Cert.HG

open Idealize.ShloMosaic Idealize.ShloMosaic.TcCoe Idealize.SL.Sem
open Cert.KernelIdeal Cert.KernelIdeal.Facts₀

variable [Facts]

/-- The column of head `h`, lane `d`; the head and the lane of a column. -/
def col (h : Fin 8) (d : Fin 128) : Fin 1024 := ⟨128 * h.val + d.val, by omega⟩
def hof (c : Fin 1024) : Fin 8 := ⟨c.val / 128, by omega⟩
def dof (c : Fin 1024) : Fin 128 := ⟨c.val % 128, by omega⟩
@[simp] theorem hof_col (h : Fin 8) (d : Fin 128) : hof (col h d) = h := Fin.ext (by show (128 * h.val + d.val) / 128 = h.val; omega)
@[simp] theorem dof_col (h : Fin 8) (d : Fin 128) : dof (col h d) = d := Fin.ext (by show (128 * h.val + d.val) % 128 = d.val; omega)
@[simp] theorem col_hof (c : Fin 1024) : col (hof c) (dof c) = c := Fin.ext (by show 128 * (c.val / 128) + c.val % 128 = c.val; omega)

theorem R2.down {x : FVec Ideal S1x1024 .f32} {r : Fin 1 → Fin 1024 → ℝ} (h : R2 x r) : R2 (down x) (fun _ j => r 0 j) := fun i j => by
  unfold HG.down
  pointwise
  exact h 0 j

theorem R2.csum {x : FVec Ideal S64x1024 .f32} {r : Fin 64 → Fin 1024 → ℝ} (h : R2 x r) :
    R2 (csum x) (fun _ j => ∑ i, r i j) := fun i j => by
  unfold HG.csum
  pointwise
  rw [coe_sum]; exact Finset.sum_congr rfl fun e _ => h e j

theorem R2.csum1 {x : FVec Ideal S1x1024 .f32} {r : Fin 1 → Fin 1024 → ℝ} (h : R2 x r) :
    R2 (csum1 x) (fun _ j => r 0 j) := fun i j => by
  unfold HG.csum1
  pointwise
  rw [Fin.sum_univ_one]; exact h 0 j

/-- The three masks of rows. -/
theorem rowEq_apply (w : ℕ) (hw : w < 65) (i : Fin 64) (j : Fin 1024) :
    rowEq (BitVec.ofNat 32 w) (ix2 i j) = if i.val = w then 1#1 else 0#1 := by
  unfold rowEq rowI
  pointwise
  revert i w
  decide +kernel

theorem rowLt_apply (w : ℕ) (hw : w < 65) (i : Fin 64) (j : Fin 1024) :
    rowLt (BitVec.ofNat 32 w) (ix2 i j) = if i.val < w then 1#1 else 0#1 := by
  unfold rowLt rowM rowC
  pointwise
  revert i w
  decide +kernel

theorem rowIn_apply (w v : ℕ) (hw : w < 65) (hv : v < 65) (i : Fin 64) (j : Fin 1024) :
    rowIn (BitVec.ofNat 32 w) (BitVec.ofNat 32 v) (ix2 i j) = if w ≤ i.val ∧ i.val < v then 1#1 else 0#1 := by
  unfold rowIn rowM rowC
  pointwise
  have h1 : ∀ w < 65, ∀ i : Fin 64, IntOp.cmpi CmpIPredicate.sge (BitVec.ofNat 32 i.val) (BitVec.ofNat 32 w) = if w ≤ i.val then 1#1 else 0#1 := by
    decide +kernel
  have h2 : ∀ w < 65, ∀ i : Fin 64, IntOp.cmpi CmpIPredicate.slt (BitVec.ofNat 32 i.val) (BitVec.ofNat 32 w) = if i.val < w then 1#1 else 0#1 := by
    decide +kernel
  rw [h1 w hw i, h2 v hv i]
  by_cases a : w ≤ i.val <;> by_cases b : i.val < v <;> simp only [a, b, if_true, if_false, and_true, and_false] <;> rfl

theorem R2.sel {a b : ℕ} {x y : FVec Ideal ⟨2, ![a, b]⟩ .f32} {r s : Fin a → Fin b → ℝ} (h : R2 x r) (k : R2 y s) (m : IVec ⟨2, ![a, b]⟩ 1)
    (p : Fin a → Fin b → Prop) [∀ i j, Decidable (p i j)] (hm : ∀ i j, m (ix2 i j) = if p i j then 1#1 else 0#1) :
    R2 (select m x y) (fun i j => if p i j then r i j else s i j) := fun i j => by
  pointwise
  rw [hm]
  by_cases hp : p i j
  · simp only [hp, if_true, h i j]; rfl
  · simp only [hp, if_false, k i j]; rfl

theorem R2.stepS {x : FVec Ideal S64x1024 .f32} {r : Fin 64 → Fin 1024 → ℝ} (h : R2 x r) (w : ℕ) (hw : w < 64) :
    R2 (stepS (BitVec.ofNat 32 w) x) (fun i j => r i j + if h : w ≤ i.val then r ⟨i.val - w, by omega⟩ j else 0) := fun i j => by
  unfold HG.stepS rowI
  pointwise
  have h1 : ∀ w < 64, ∀ i : Fin 64, IntOp.cmpi CmpIPredicate.sge (BitVec.ofNat 32 i.val) (BitVec.ofNat 32 w) = if w ≤ i.val then 1#1 else 0#1 := by
    decide +kernel
  have h2 : (BitVec.ofNat 32 w).toNat = w := by rw [BitVec.toNat_ofNat]; omega
  rw [h1 w hw i, EReal.coe_add, h i j]
  congr 1
  by_cases a : w ≤ i.val
  · rw [if_pos a, dif_pos a, ← h]
    show x _ = x _
    congr 2
    exact Fin.ext (by show (i.val + 64 - (BitVec.ofNat 32 w).toNat % 64) % 64 = i.val - w; rw [h2]; omega)
  · rw [if_neg a, dif_neg a]
    exact ofBits_zero

theorem R2.hd {φ} {x : FVec Ideal S64x1024 φ} {r : Fin 64 → Fin 1024 → ℝ} (h : R2 x r) (k : Fin 8) :
    R2 (hd k x) (fun i j => r i (col k j)) := fun i j => by
  unfold HG.hd
  pointwise
  exact h i (col k j)

theorem R2.hd2 {x : FVec Ideal S128x1024 .f32} {r : Fin 128 → Fin 1024 → ℝ} (h : R2 x r) (k : Fin 8) :
    R2 (hd2 k x) (fun i j => r i (col k j)) := fun i j => by
  unfold HG.hd2
  pointwise
  exact h i (col k j)

theorem R2.hd1 {x : FVec Ideal S1x1024 .f32} {r : Fin 1 → Fin 1024 → ℝ} (h : R2 x r) (k : Fin 8) :
    R2 (hd1 k x) (fun i j => r i (col k j)) := fun i j => by
  unfold HG.hd1
  pointwise
  rw [Subsingleton.elim i 0]; exact h 0 (col k j)

theorem R2.hdT {x : FVec Ideal S1024x128 .f32} {r : Fin 1024 → Fin 128 → ℝ} (h : R2 x r) (k : Fin 8) :
    R2 (hdT k x) (fun i j => r (col k i) j) := fun i j => by
  unfold HG.hdT
  pointwise
  exact h (col k i) j

/-- Eight pieces of 128 laid end to end, read at a place of piece `k`. -/
theorem ladder {α : Type} (y : Fin 8 → Fin 128 → α) (k : Fin 8) (d : Fin 128) (n : ℕ) (hn : n = 128 * k.val + d.val) :
    (if h0 : n < 128 then y 0 ⟨n, h0⟩ else if h1 : n - 128 < 128 then y 1 ⟨n - 128, h1⟩ else if h2 : n - 128 - 128 < 128 then y 2 ⟨n - 128 - 128, h2⟩ else if h3 : n - 128 - 128 - 128 < 128 then y 3 ⟨n - 128 - 128 - 128, h3⟩ else if h4 : n - 128 - 128 - 128 - 128 < 128 then y 4 ⟨n - 128 - 128 - 128 - 128, h4⟩ else if h5 : n - 128 - 128 - 128 - 128 - 128 < 128 then y 5 ⟨n - 128 - 128 - 128 - 128 - 128, h5⟩ else if h6 : n - 128 - 128 - 128 - 128 - 128 - 128 < 128 then y 6 ⟨n - 128 - 128 - 128 - 128 - 128 - 128, h6⟩ else y 7 ⟨n - 128 - 128 - 128 - 128 - 128 - 128 - 128, by omega⟩) = y k d := by
  have hd := d.isLt
  have e : ∀ (m : ℕ) (h : m < 128), m = d.val → (⟨m, h⟩ : Fin 128) = d := fun m h e => Fin.ext e
  fin_cases k <;> dsimp only at hn
  · rw [dif_pos (by omega), e _ _ (by omega)]; rfl
  · rw [dif_neg (by omega), dif_pos (by omega), e _ _ (by omega)]; rfl
  · rw [dif_neg (by omega), dif_neg (by omega), dif_pos (by omega), e _ _ (by omega)]; rfl
  · rw [dif_neg (by omega), dif_neg (by omega), dif_neg (by omega), dif_pos (by omega), e _ _ (by omega)]; rfl
  · rw [dif_neg (by omega), dif_neg (by omega), dif_neg (by omega), dif_neg (by omega), dif_pos (by omega), e _ _ (by omega)]; rfl
  · rw [dif_neg (by omega), dif_neg (by omega), dif_neg (by omega), dif_neg (by omega), dif_neg (by omega), dif_pos (by omega), e _ _ (by omega)]; rfl
  · rw [dif_neg (by omega), dif_neg (by omega), dif_neg (by omega), dif_neg (by omega), dif_neg (by omega), dif_neg (by omega), dif_pos (by omega), e _ _ (by omega)]; rfl
  · rw [dif_neg (by omega), dif_neg (by omega), dif_neg (by omega), dif_neg (by omega), dif_neg (by omega), dif_neg (by omega), dif_neg (by omega), e _ _ (by omega)]; rfl

theorem R2.cat {x : Fin 8 → FVec Ideal S64x128 .f32} {r : Fin 8 → Fin 64 → Fin 128 → ℝ} (h : ∀ k, R2 (x k) (r k)) :
    R2 (cat x) (fun i c => r (hof c) i (dof c)) := fun i c => by
  obtain ⟨k, d, rfl⟩ : ∃ k d, c = col k d := ⟨_, _, (col_hof c).symm⟩
  show HG.cat x (ix2 i (col k d)) = ((r (hof (col k d)) i (dof (col k d)) : ℝ) : EReal)
  rw [hof_col, dof_col, ← h k i d]
  unfold HG.cat col
  pointwise
  exact ladder (fun k d => x k (ix2 i d)) k d _ rfl

theorem R2.cat2 {x : Fin 8 → FVec Ideal S128x128 .f32} {r : Fin 8 → Fin 128 → Fin 128 → ℝ} (h : ∀ k, R2 (x k) (r k)) :
    R2 (cat2 x) (fun i c => r (hof c) i (dof c)) := fun i c => by
  obtain ⟨k, d, rfl⟩ : ∃ k d, c = col k d := ⟨_, _, (col_hof c).symm⟩
  show HG.cat2 x (ix2 i (col k d)) = ((r (hof (col k d)) i (dof (col k d)) : ℝ) : EReal)
  rw [hof_col, dof_col, ← h k i d]
  unfold HG.cat2 col
  pointwise
  exact ladder (fun k d => x k (ix2 i d)) k d _ rfl

theorem R2.cat1 {x : Fin 8 → FVec Ideal S1x128 .f32} {r : Fin 8 → Fin 1 → Fin 128 → ℝ} (h : ∀ k, R2 (x k) (r k)) :
    R2 (cat1 x) (fun i c => r (hof c) i (dof c)) := fun i c => by
  rw [Subsingleton.elim i 0]
  obtain ⟨k, d, rfl⟩ : ∃ k d, c = col k d := ⟨_, _, (col_hof c).symm⟩
  show HG.cat1 x (ix2 0 (col k d)) = ((r (hof (col k d)) 0 (dof (col k d)) : ℝ) : EReal)
  rw [hof_col, dof_col, ← h k 0 d]
  unfold HG.cat1 col
  pointwise
  exact ladder (fun k d => x k (ix2 0 d)) k d _ rfl

theorem R2.catT {x : Fin 8 → FVec Ideal S128x128 .f32} {r : Fin 8 → Fin 128 → Fin 128 → ℝ} (h : ∀ k, R2 (x k) (r k)) :
    R2 (catT x) (fun c i => r (hof c) (dof c) i) := fun c i => by
  obtain ⟨k, d, rfl⟩ : ∃ k d, c = col k d := ⟨_, _, (col_hof c).symm⟩
  show HG.catT x (ix2 (col k d) i) = ((r (hof (col k d)) (dof (col k d)) i : ℝ) : EReal)
  rw [hof_col, dof_col, ← h k d i]
  unfold HG.catT col
  pointwise
  exact ladder (fun k d => x k (ix2 d i)) k d _ rfl

theorem R2.along {x : FVec Ideal S64x1 .f32} {r : Fin 64 → Fin 1 → ℝ} (h : R2 x r) : R2 (along x) (fun i _ => r i 0) := fun i j => by
  unfold HG.along
  pointwise
  exact h i 0
theorem R2.downH {x : FVec Ideal S1x128 .f32} {r : Fin 1 → Fin 128 → ℝ} (h : R2 x r) : R2 (downH x) (fun _ j => r 0 j) := fun i j => by
  unfold HG.downH
  pointwise
  exact h 0 j
theorem R2.downT {x : FVec Ideal S1x128 .f32} {r : Fin 1 → Fin 128 → ℝ} (h : R2 x r) : R2 (downT x) (fun _ j => r 0 j) := fun i j => by
  unfold HG.downT
  pointwise
  exact h 0 j
theorem R2.rsum {x : FVec Ideal S64x128 .f32} {r : Fin 64 → Fin 128 → ℝ} (h : R2 x r) : R2 (rsum x) (fun i _ => ∑ e, r i e) := fun i j => by
  unfold HG.rsum
  pointwise
  rw [coe_sum]; exact Finset.sum_congr rfl fun e _ => h i e
theorem R2.rsum1 {x : FVec Ideal S64x1 .f32} {r : Fin 64 → Fin 1 → ℝ} (h : R2 x r) : R2 (rsum1 x) (fun i _ => r i 0) := fun i j => by
  unfold HG.rsum1
  pointwise
  rw [Fin.sum_univ_one]; exact h i 0
theorem R2.csumH {x : FVec Ideal S64x128 .f32} {r : Fin 64 → Fin 128 → ℝ} (h : R2 x r) : R2 (csumH x) (fun _ j => ∑ e, r e j) := fun i j => by
  unfold HG.csumH
  pointwise
  rw [coe_sum]; exact Finset.sum_congr rfl fun e _ => h e j
theorem R2.csumT {x : FVec Ideal S128x128 .f32} {r : Fin 128 → Fin 128 → ℝ} (h : R2 x r) : R2 (csumT x) (fun _ j => ∑ e, r e j) := fun i j => by
  unfold HG.csumT
  pointwise
  rw [coe_sum]; exact Finset.sum_congr rfl fun e _ => h e j

theorem R2.mmT {φ ψ} {x : FVec Ideal S64x128 φ} {y : FVec Ideal S128x128 ψ} {r : Fin 64 → Fin 128 → ℝ} {s : Fin 128 → Fin 128 → ℝ}
    (h : R2 x r) (k : R2 y s) : R2 (mmT x y) (fun i j => ∑ e, r i e * s j e) := fun i j => by
  unfold HG.mmT
  pointwise
  rw [coe_sum]; exact Finset.sum_congr rfl fun e _ => by rw [h i e, k j e, EReal.coe_mul]
theorem R2.mm {φ ψ} {x : FVec Ideal S64x128 φ} {y : FVec Ideal S128x128 ψ} {r : Fin 64 → Fin 128 → ℝ} {s : Fin 128 → Fin 128 → ℝ}
    (h : R2 x r) (k : R2 y s) : R2 (mm x y) (fun i j => ∑ e, r i e * s e j) := fun i j => by
  unfold HG.mm
  pointwise
  rw [coe_sum]; exact Finset.sum_congr rfl fun e _ => by rw [h i e, k e j, EReal.coe_mul]
theorem R2.mmC {φ ψ} {x : FVec Ideal S64x128 φ} {y : FVec Ideal S64x128 ψ} {r : Fin 64 → Fin 128 → ℝ} {s : Fin 64 → Fin 128 → ℝ}
    (h : R2 x r) (k : R2 y s) : R2 (mmC x y) (fun i j => ∑ e, r e i * s e j) := fun i j => by
  unfold HG.mmC
  pointwise
  rw [coe_sum]; exact Finset.sum_congr rfl fun e _ => by rw [h e i, k e j, EReal.coe_mul]
theorem R2.mm01 {φ ψ} {x : FVec Ideal S128x128 φ} {y : FVec Ideal S64x128 ψ} {r : Fin 128 → Fin 128 → ℝ} {s : Fin 64 → Fin 128 → ℝ}
    (h : R2 x r) (k : R2 y s) : R2 (mm01 x y) (fun i j => ∑ e, r e i * s j e) := fun i j => by
  unfold HG.mm01
  pointwise
  rw [coe_sum]; exact Finset.sum_congr rfl fun e _ => by rw [h e i, k j e, EReal.coe_mul]
theorem R2.mm11 {φ ψ} {x : FVec Ideal S128x128 φ} {y : FVec Ideal S64x128 ψ} {r : Fin 128 → Fin 128 → ℝ} {s : Fin 64 → Fin 128 → ℝ}
    (h : R2 x r) (k : R2 y s) : R2 (mm11 x y) (fun i j => ∑ e, r i e * s j e) := fun i j => by
  unfold HG.mm11
  pointwise
  rw [coe_sum]; exact Finset.sum_congr rfl fun e _ => by rw [h i e, k j e, EReal.coe_mul]

theorem R2.tr {a b : ℕ} {x : FVec Ideal ⟨2, ![a, b]⟩ .f32} {r : Fin a → Fin b → ℝ} (h : R2 x r) : R2 (tr x) r := h
theorem R2.rt {a b : ℕ} {x : FVec Ideal ⟨2, ![a, b]⟩ .f32} {r : Fin a → Fin b → ℝ} (h : R2 x r) : R2 (rt x) r := h
theorem R2.transp {x : FVec Ideal S128x64 .f32} {r : Fin 128 → Fin 64 → ℝ} (h : R2 x r) (hb) :
    R2 (transpose S64x128 [1, 0] x hb) (fun i j => r j i) := fun i j => by
  pointwise
  exact h j i
theorem R2.transpS {x : FVec Ideal S128x128 .f32} {r : Fin 128 → Fin 128 → ℝ} (h : R2 x r) (hb) :
    R2 (transpose S128x128 [1, 0] x hb) (fun i j => r j i) := fun i j => by
  pointwise
  exact h j i
theorem R2.twice {x y : FVec Ideal S64x1024 .f32} {r s : Fin 64 → Fin 1024 → ℝ} (h : R2 x r) (k : R2 y s) (hc) :
    R2 (concatenate S128x1024 0 [⟨S64x1024, x⟩, ⟨S64x1024, y⟩] hc)
      (fun i j => if h : i.val < 64 then r ⟨i.val, h⟩ j else s ⟨i.val - 64, by omega⟩ j) := fun i j => by
  pointwise
  by_cases a : i.val < 64
  · simp only [a, dif_pos]; exact h _ j
  · simp only [a, dif_neg, not_false_eq_true]; exact k _ j
theorem R2.lower {x : FVec Ideal S128x1024 .f32} {r : Fin 128 → Fin 1024 → ℝ} (h : R2 x r) (hb) :
    R2 (extractStridedSlice S64x1024 ![0, 0] x hb) (fun i j => r ⟨i.val, by omega⟩ j) := fun i j => by
  pointwise
  exact h _ j
theorem R2.upper {x : FVec Ideal S128x1024 .f32} {r : Fin 128 → Fin 1024 → ℝ} (h : R2 x r) (hb) :
    R2 (extractStridedSlice S64x1024 ![64, 0] x hb) (fun i j => r ⟨64 + i.val, by omega⟩ j) := fun i j => by
  pointwise
  exact h _ j

end Cert.HG
end
-- ==== Proof.Spec.lean ====
/- The backward pass of one chunk of the layer, over the real numbers, written as the mathematics states it. -/
module

public import proofs.«01_k».proof.Proof.Ops

@[expose] public section

noncomputable section

namespace Cert.HG

/-- The small constant under the root. -/
def eps : ℝ := 8796093 / 8796093022208
theorem eps_pos : 0 < eps := by unfold eps; norm_num
theorem sg_pos (x : ℝ) : 0 < sg x := by unfold sg; positivity
theorem sg_lt (x : ℝ) : sg x < 1 := by
  unfold sg
  have := Real.exp_pos (-x)
  rw [inv_lt_one_iff₀]; right; linarith

/-- What one chunk of the backward pass reads, as real numbers. -/
structure Rin where
  q : Fin 64 → Fin 1024 → ℝ
  f : Fin 64 → Fin 1024 → ℝ
  v : Fin 64 → Fin 1024 → ℝ
  z : Fin 64 → Fin 1024 → ℝ
  dp : Fin 64 → Fin 1024 → ℝ
  st : Fin 1024 → Fin 128 → ℝ
  dS : Fin 1024 → Fin 128 → ℝ
  lb : Fin 1024 → ℝ
  go : Fin 128 → ℝ

namespace Rin
variable (J : Rin)

/-- The forget gate, its logarithm, and the running sum of the logarithms. -/
def fg (t : Fin 64) (c : Fin 1024) : ℝ := J.lb c + (1 - J.lb c) * sg (J.f t c)
def lf (t : Fin 64) (c : Fin 1024) : ℝ := Real.log (J.fg t c)
def b (t : Fin 64) (c : Fin 1024) : ℝ := ∑ s : Fin 64, if s ≤ t then J.lf s c else 0
def bt (c : Fin 1024) : ℝ := ∑ s : Fin 64, J.lf s c
/-- The keys and the queries. -/
def k (t : Fin 64) (c : Fin 1024) : ℝ := (1 - J.lb c) * sg (-J.f t c)
def qs (t : Fin 64) (c : Fin 1024) : ℝ := J.q t c * sg (J.q t c)
/-- The decay from row `s` to row `t`; to the end of the chunk. -/
def dec (t s : Fin 64) (c : Fin 1024) : ℝ := if s ≤ t then Real.exp (J.b t c - J.b s c) else 0
def ed (t : Fin 64) (c : Fin 1024) : ℝ := Real.exp (J.bt c - J.b t c)
/-- The scores, and the layer's output before its norm. -/
def A (h : Fin 8) (t s : Fin 64) : ℝ := ∑ d, J.qs t (col h d) * J.k s (col h d) * J.dec t s (col h d)
def o (h : Fin 8) (t : Fin 64) (e : Fin 128) : ℝ :=
  ∑ s, J.A h t s * J.v s (col h e) + ∑ d, J.qs t (col h d) * Real.exp (J.b t (col h d)) * J.st (col h e) d
/-- The mean square, the reciprocal root, the normed output. -/
def ms (h : Fin 8) (t : Fin 64) : ℝ := (∑ e, J.o h t e * J.o h t e) / 128 + eps
def r (h : Fin 8) (t : Fin 64) : ℝ := (Real.sqrt (J.ms h t))⁻¹
def y (h : Fin 8) (t : Fin 64) (e : Fin 128) : ℝ := J.o h t e * J.r h t * J.go e
/-- The gradients of the gate, of the normed output and of the output. -/
def dz (t : Fin 64) (c : Fin 1024) : ℝ :=
  J.y (hof c) t (dof c) * J.dp t c * sg (J.z t c) + J.z t c * (J.y (hof c) t (dof c) * J.dp t c) * (sg (J.z t c) * (1 - sg (J.z t c)))
def dy (h : Fin 8) (t : Fin 64) (e : Fin 128) : ℝ := J.dp t (col h e) * (J.z t (col h e) * sg (J.z t (col h e)))
def dgo (e : Fin 128) : ℝ := ∑ h, ∑ t, J.o h t e * J.r h t * J.dy h t e
def dn (h : Fin 8) (t : Fin 64) (e : Fin 128) : ℝ := J.dy h t e * J.go e
def w (h : Fin 8) (t : Fin 64) : ℝ := (∑ e, J.o h t e * J.dn h t e) * (-(1 / 2) * (J.r h t / J.ms h t)) / 128
def dO (h : Fin 8) (t : Fin 64) (e : Fin 128) : ℝ := J.dn h t e * J.r h t + J.o h t e * J.w h t + J.w h t * J.o h t e
/-- The gradients that pass through the state. -/
def dkd (t : Fin 64) (c : Fin 1024) : ℝ := ∑ e, J.dS (col (hof c) e) (dof c) * J.v t (col (hof c) e)
def dSn (c : Fin 1024) (d : Fin 128) : ℝ :=
  Real.exp (J.bt (col (hof c) d)) * J.dS c d
    + ∑ t, J.dO (hof c) t (dof c) * (J.qs t (col (hof c) d) * Real.exp (J.b t (col (hof c) d)))
def dqb (t : Fin 64) (c : Fin 1024) : ℝ := ∑ e, J.dO (hof c) t e * J.st (col (hof c) e) (dof c)
/-- The gradients of the scores, and through them of the queries and the keys. -/
def dA (h : Fin 8) (t s : Fin 64) : ℝ := ∑ e, J.dO h t e * J.v s (col h e)
def dqi (t : Fin 64) (c : Fin 1024) : ℝ := ∑ s, J.dA (hof c) t s * J.k s c * J.dec t s c
def dki (s : Fin 64) (c : Fin 1024) : ℝ := ∑ t, J.dA (hof c) t s * J.qs t c * J.dec t s c
def dv (s : Fin 64) (c : Fin 1024) : ℝ :=
  ∑ d, J.dS c d * (J.k s (col (hof c) d) * J.ed s (col (hof c) d)) + ∑ t, J.A (hof c) t s * J.dO (hof c) t (dof c)
def dk (t : Fin 64) (c : Fin 1024) : ℝ := J.dkd t c * J.ed t c + J.dki t c
def dqs (t : Fin 64) (c : Fin 1024) : ℝ := J.dqb t c * Real.exp (J.b t c) + J.dqi t c
/-- The gradient of the running sum, of the last running sum, of the gate. -/
def db (t : Fin 64) (c : Fin 1024) : ℝ :=
  -(J.k t c * J.dkd t c * J.ed t c) + J.qs t c * J.dqb t c * Real.exp (J.b t c) + J.qs t c * J.dqi t c - J.k t c * J.dki t c
def dbl (c : Fin 1024) : ℝ :=
  (∑ e, J.dS (col (hof c) e) (dof c) * J.st (col (hof c) e) (dof c)) * Real.exp (J.bt c) + ∑ t, J.k t c * J.dkd t c * J.ed t c
def dlf (t : Fin 64) (c : Fin 1024) : ℝ := J.dbl c + ∑ s : Fin 64, if t ≤ s then J.db s c else 0
def dfg (t : Fin 64) (c : Fin 1024) : ℝ := J.dlf t c / J.fg t c
/-- The results of the chunk. -/
def dq (t : Fin 64) (c : Fin 1024) : ℝ := J.dqs t c * sg (J.q t c) + J.q t c * J.dqs t c * (sg (J.q t c) * (1 - sg (J.q t c)))
def df (t : Fin 64) (c : Fin 1024) : ℝ :=
  -((1 - J.lb c) * J.dk t c * (sg (-J.f t c) * (1 - sg (-J.f t c)))) + (1 - J.lb c) * J.dfg t c * (sg (J.f t c) * (1 - sg (J.f t c)))
def dlb (c : Fin 1024) : ℝ := -(∑ t, J.dk t c * sg (-J.f t c)) + ∑ t, J.dfg t c - ∑ t, J.dfg t c * sg (J.f t c)

/-- With a nonnegative lower bound the gate is positive. -/
theorem fg_pos (h : ∀ c, 0 ≤ J.lb c) (t : Fin 64) (c : Fin 1024) : 0 < J.fg t c := by
  unfold fg
  have h1 := sg_pos (J.f t c); have h2 := sg_lt (J.f t c); have h3 := h c
  nlinarith
theorem ms_pos (h : Fin 8) (t : Fin 64) : 0 < J.ms h t := by
  unfold ms
  have : 0 ≤ ∑ e, J.o h t e * J.o h t e := Finset.sum_nonneg fun e _ => mul_self_nonneg _
  have := eps_pos
  positivity

end Rin
end Cert.HG
end
-- ==== Proof.ROps.lean ====
/- What the operations of the plain backward pass make of arrays of real numbers: arrays of rank three and four, the split of the
   columns into heads, sums, products, broadcasts and running sums. -/
module

public import proofs.«01_k».proof.Proof.Spec
public import proofs.«01_k».proof.Proof.Gen.ReferenceIdeal

@[expose] public section

noncomputable section

namespace Cert.HG

open Idealize.ShloMosaic Idealize.ShloMosaic.TcCoe Idealize.SL.Sem
open Cert.ReferenceIdeal

/-- An array of rank three, of rank four, that holds real numbers. -/
def R3 {a b c : ℕ} {φ : FTy} (x : FVec Ideal ⟨3, ![a, b, c]⟩ φ) (r : Fin a → Fin b → Fin c → ℝ) : Prop :=
  ∀ i j k, x (ix3 i j k) = ((r i j k : ℝ) : EReal)
def R4 {a b c d : ℕ} {φ : FTy} (x : FVec Ideal ⟨4, ![a, b, c, d]⟩ φ) (r : Fin a → Fin b → Fin c → Fin d → ℝ) : Prop :=
  ∀ i j k l, x (ix4 i j k l) = ((r i j k l : ℝ) : EReal)

theorem R3.congr {a b c : ℕ} {φ : FTy} {x : FVec Ideal ⟨3, ![a, b, c]⟩ φ} {r s : Fin a → Fin b → Fin c → ℝ} (h : R3 x r)
    (e : ∀ i j k, r i j k = s i j k) : R3 x s := fun i j k => by rw [h, e]
theorem R4.congr {a b c d : ℕ} {φ : FTy} {x : FVec Ideal ⟨4, ![a, b, c, d]⟩ φ} {r s : Fin a → Fin b → Fin c → Fin d → ℝ} (h : R4 x r)
    (e : ∀ i j k l, r i j k l = s i j k l) : R4 x s := fun i j k l => by rw [h, e]

section Ew
variable {a b c d : ℕ}
section two
variable {x y : FVec Ideal ⟨2, ![a, b]⟩ .f32} {r s : Fin a → Fin b → ℝ}
theorem R2.hdiv (h : R2 x r) (k : R2 y s) (hs : ∀ i j, s i j ≠ 0) : R2 (Host.divf x y) (fun i j => r i j / s i j) := fun i j => by
  show Ideal.div (x _) (y _) = _
  rw [h, k, div_real _ _ (hs i j)]
theorem R2.hexp (h : R2 x r) : R2 (Host.exp x) (fun i j => Real.exp (r i j)) := fun i j => by
  show Ideal.exp (x _) = _
  rw [h]; rfl
theorem R2.hlog (h : R2 x r) (hr : ∀ i j, 0 < r i j) : R2 (Host.log x) (fun i j => Real.log (r i j)) := fun i j => by
  show Ideal.log (x _) = _
  rw [h, log_real _ (hr i j)]
theorem R2.hneg (h : R2 x r) : R2 (Host.negf x) (fun i j => -r i j) := fun i j => by
  show -(x _) = _
  rw [h, EReal.coe_neg]
theorem R2.splat {w : BitVec 32} {p : ℝ} (hb) (h : Ideal.ofBits .f32 w = (p : EReal)) :
    R2 (broadcastInDim ⟨2, ![a, b]⟩ ![] hb (constant (F := Ideal) S_ .f32 w)) (fun _ _ => p) := fun i j => h
end two
section three
variable {x y : FVec Ideal ⟨3, ![a, b, c]⟩ .f32} {r s : Fin a → Fin b → Fin c → ℝ}
theorem R3.add (h : R3 x r) (k : R3 y s) : R3 (addf x y) (fun i j l => r i j l + s i j l) := fun i j l => by
  show x _ + y _ = _
  rw [h, k, EReal.coe_add]
theorem R3.sub (h : R3 x r) (k : R3 y s) : R3 (subf x y) (fun i j l => r i j l - s i j l) := fun i j l => by
  show x _ - y _ = _
  rw [h, k, EReal.coe_sub]
theorem R3.mul (h : R3 x r) (k : R3 y s) : R3 (mulf x y) (fun i j l => r i j l * s i j l) := fun i j l => by
  show x _ * y _ = _
  rw [h, k, EReal.coe_mul]
theorem R3.hdiv (h : R3 x r) (k : R3 y s) (hs : ∀ i j l, s i j l ≠ 0) : R3 (Host.divf x y) (fun i j l => r i j l / s i j l) := fun i j l => by
  show Ideal.div (x _) (y _) = _
  rw [h, k, div_real _ _ (hs i j l)]
theorem R3.hexp (h : R3 x r) : R3 (Host.exp x) (fun i j l => Real.exp (r i j l)) := fun i j l => by
  show Ideal.exp (x _) = _
  rw [h]; rfl
theorem R3.hneg (h : R3 x r) : R3 (Host.negf x) (fun i j l => -r i j l) := fun i j l => by
  show -(x _) = _
  rw [h, EReal.coe_neg]
theorem R3.hrsqrt (h : R3 x r) (hr : ∀ i j l, 0 < r i j l) : R3 (Host.rsqrt x) (fun i j l => (Real.sqrt (r i j l))⁻¹) := fun i j l => by
  show Ideal.rsqrt (x _) = _
  rw [h, rsqrt_real _ (hr i j l)]
theorem R3.splat {w : BitVec 32} {p : ℝ} (hb) (h : Ideal.ofBits .f32 w = (p : EReal)) :
    R3 (broadcastInDim ⟨3, ![a, b, c]⟩ ![] hb (constant (F := Ideal) S_ .f32 w)) (fun _ _ _ => p) := fun i j k => h
end three
section four
variable {x y : FVec Ideal ⟨4, ![a, b, c, d]⟩ .f32} {r s : Fin a → Fin b → Fin c → Fin d → ℝ}
theorem R4.sub (h : R4 x r) (k : R4 y s) : R4 (subf x y) (fun i j l m => r i j l m - s i j l m) := fun i j l m => by
  show x _ - y _ = _
  rw [h, k, EReal.coe_sub]
theorem R4.mul (h : R4 x r) (k : R4 y s) : R4 (mulf x y) (fun i j l m => r i j l m * s i j l m) := fun i j l m => by
  show x _ * y _ = _
  rw [h, k, EReal.coe_mul]
theorem R4.hneg (h : R4 x r) : R4 (Host.negf x) (fun i j l m => -r i j l m) := fun i j l m => by
  show -(x _) = _
  rw [h, EReal.coe_neg]
end four
end Ew

/-- The host's spelling of the logistic function. -/
theorem R2.hsg {a b : ℕ} {x : FVec Ideal ⟨2, ![a, b]⟩ .f32} {r : Fin a → Fin b → ℝ} (h : R2 x r) (hb hc) :
    R2 (Host.divf (broadcastInDim ⟨2, ![a, b]⟩ ![] hb (constant (F := Ideal) S_ .f32 0x3F800000#32))
      (addf (broadcastInDim ⟨2, ![a, b]⟩ ![] hc (constant (F := Ideal) S_ .f32 0x3F800000#32)) (Host.exp (Host.negf x)))) (fun i j => sg (r i j)) :=
  ((R2.splat hb ofBits_one).hdiv ((R2.splat hc ofBits_one).add h.hneg.hexp) (fun i j => by
    have := Real.exp_pos (-r i j); positivity)).congr fun i j => by unfold sg; rw [one_div]

/-! ## Shapes -/

theorem R2.bdown {x : FVec Ideal S1x1024 .f32} {r : Fin 1 → Fin 1024 → ℝ} (h : R2 x r) (hb) :
    R2 (broadcastInDim S64x1024 ![0, 1] hb x) (fun _ c => r 0 c) := fun i j => by
  pointwise; exact h 0 j
theorem R2.split {x : FVec Ideal S64x1024 .f32} {r : Fin 64 → Fin 1024 → ℝ} (h : R2 x r) (hs) :
    R3 (shapeCast S64x8x128 x hs) (fun t g d => r t (col g d)) := fun t g d => by
  pointwise
  have e : (⟨g.val * 128 + d.val, by omega⟩ : Fin 1024) = col g d := Fin.ext (by show g.val * 128 + d.val = 128 * g.val + d.val; omega)
  rw [e]; exact h t (col g d)
theorem R3.join {x : FVec Ideal S64x8x128 .f32} {r : Fin 64 → Fin 8 → Fin 128 → ℝ} (h : R3 x r) (hs) :
    R2 (shapeCast S64x1024 x hs) (fun t c => r t (hof c) (dof c)) := fun t c => by
  pointwise; exact h t (hof c) (dof c)
theorem R3.swap {x : FVec Ideal S64x8x128 .f32} {r : Fin 64 → Fin 8 → Fin 128 → ℝ} (h : R3 x r) (hs) :
    R3 (transpose S8x64x128 [1, 0, 2] x hs) (fun g t d => r t g d) := fun g t d => by
  pointwise; exact h t g d
theorem R3.back {x : FVec Ideal S8x64x128 .f32} {r : Fin 8 → Fin 64 → Fin 128 → ℝ} (h : R3 x r) (hs) :
    R3 (transpose S64x8x128 [1, 0, 2] x hs) (fun t g d => r g t d) := fun t g d => by
  pointwise; exact h g t d
theorem R3.row63 {x : FVec Ideal S8x64x128 .f32} {r : Fin 8 → Fin 64 → Fin 128 → ℝ} (h : R3 x r) (hs) :
    R3 (extractStridedSlice S8x1x128 ![0, 63, 0] x hs) (fun g _ d => r g 63 d) := fun g t d => by
  pointwise; exact h g 63 d
theorem R3.bt {x : FVec Ideal S8x64x128 .f32} {r : Fin 8 → Fin 64 → Fin 128 → ℝ} (h : R3 x r) (hb hc) :
    R4 (broadcastInDim S8x64x64x128 ![0, 1, 2, 3] hc (broadcastInDim S8x64x1x128 ![0, 1, 3] hb x)) (fun g t _ d => r g t d) := fun g t s d => by
  pointwise; exact h g t d
theorem R3.bs {x : FVec Ideal S8x64x128 .f32} {r : Fin 8 → Fin 64 → Fin 128 → ℝ} (h : R3 x r) (hb hc) :
    R4 (broadcastInDim S8x64x64x128 ![0, 1, 2, 3] hc (broadcastInDim S8x1x64x128 ![0, 2, 3] hb x)) (fun g _ s d => r g s d) := fun g t s d => by
  pointwise; exact h g s d
theorem R3.bA {x : FVec Ideal S8x64x64 .f32} {r : Fin 8 → Fin 64 → Fin 64 → ℝ} (h : R3 x r) (hb) :
    R4 (broadcastInDim S8x64x64x128 ![0, 1, 2] hb x) (fun g t s _ => r g t s) := fun g t s d => by
  pointwise; exact h g t s
theorem R3.along {x : FVec Ideal S64x8x1 .f32} {r : Fin 64 → Fin 8 → Fin 1 → ℝ} (h : R3 x r) (hb) :
    R3 (broadcastInDim S64x8x128 ![0, 1, 2] hb x) (fun t g _ => r t g 0) := fun t g d => by
  pointwise; exact h t g 0
theorem R2.gain {x : FVec Ideal S1x128 .f32} {r : Fin 1 → Fin 128 → ℝ} (h : R2 x r) (hb hc) :
    R3 (broadcastInDim S64x8x128 ![0, 1, 2] hc (broadcastInDim S1x1x128 ![1, 2] hb x)) (fun _ _ e => r 0 e) := fun t g e => by
  pointwise; exact h 0 e
theorem R3.bdown {x : FVec Ideal S8x1x128 .f32} {r : Fin 8 → Fin 1 → Fin 128 → ℝ} (h : R3 x r) (hb) :
    R3 (broadcastInDim S8x64x128 ![0, 1, 2] hb x) (fun g _ d => r g 0 d) := fun g t d => by
  pointwise; exact h g 0 d
theorem R3.bstate {x : FVec Ideal S8x1x128 .f32} {r : Fin 8 → Fin 1 → Fin 128 → ℝ} (h : R3 x r) (ha hb hc) :
    R3 (broadcastInDim S8x128x128 ![0, 1, 2] hc (broadcastInDim S8x128x1 ![0, 1] hb (shapeCast S8x128 x ha))) (fun g d _ => r g 0 d) := fun g d e => by
  pointwise; exact h g 0 d

/-! ## Sums -/

theorem R4.sumD {x : FVec Ideal S8x64x64x128 .f32} {r : Fin 8 → Fin 64 → Fin 64 → Fin 128 → ℝ} (h : R4 x r) (ha hb) :
    R3 (Host.reduceAdd x (constant (F := Ideal) S_ .f32 0x00000000#32) (t := S8x64x64) (axes := [3]) ha hb) (fun g t s => ∑ d, r g t s d) := fun g t s => by
  pointwise
  rw [coe_sum]; exact Finset.sum_congr rfl fun d _ => h g t s d
theorem R4.sumT {x : FVec Ideal S8x64x64x128 .f32} {r : Fin 8 → Fin 64 → Fin 64 → Fin 128 → ℝ} (h : R4 x r) (ha hb hc hd he) :
    R3 (Host.reduceAdd (shapeCast S8x1x64x128 (Host.reduceAdd x (constant (F := Ideal) S_ .f32 0x00000000#32) (t := S8x64x128) (axes := [1]) ha hb) hc)
      (constant (F := Ideal) S_ .f32 0x00000000#32) (t := S8x64x128) (axes := [1]) hd he) (fun g s d => ∑ t, r g t s d) := fun g s d => by
  pointwise
  rw [Fin.sum_univ_one, coe_sum]; exact Finset.sum_congr rfl fun t _ => h g t s d
theorem R4.sumS {x : FVec Ideal S8x64x64x128 .f32} {r : Fin 8 → Fin 64 → Fin 64 → Fin 128 → ℝ} (h : R4 x r) (ha hb hc hd he) :
    R3 (Host.reduceAdd (shapeCast S8x64x1x128 (Host.reduceAdd x (constant (F := Ideal) S_ .f32 0x00000000#32) (t := S8x64x128) (axes := [2]) ha hb) hc)
      (constant (F := Ideal) S_ .f32 0x00000000#32) (t := S8x64x128) (axes := [2]) hd he) (fun g t d => ∑ s, r g t s d) := fun g t d => by
  pointwise
  rw [Fin.sum_univ_one, coe_sum]; exact Finset.sum_congr rfl fun s _ => h g t s d
theorem R3.sumE {x : FVec Ideal S64x8x128 .f32} {r : Fin 64 → Fin 8 → Fin 128 → ℝ} (h : R3 x r) (ha hb hc) :
    R3 (broadcastInDim S64x8x1 ![0, 1] hc (Host.reduceAdd x (constant (F := Ideal) S_ .f32 0x00000000#32) (t := S64x8) (axes := [2]) ha hb)) (fun t g _ => ∑ e, r t g e) := fun t g u => by
  pointwise
  rw [coe_sum]; exact Finset.sum_congr rfl fun e _ => h t g e
theorem R3.sumE' {x : FVec Ideal S64x8x128 .f32} {r : Fin 64 → Fin 8 → Fin 128 → ℝ} (h : R3 x r) (ha hb hc) :
    R3 (shapeCast S64x8x1 (Host.reduceAdd x (constant (F := Ideal) S_ .f32 0x00000000#32) (t := S64x8) (axes := [2]) ha hb) hc) (fun t g _ => ∑ e, r t g e) := fun t g u => by
  pointwise
  rw [coe_sum]; exact Finset.sum_congr rfl fun e _ => h t g e
theorem R3.spread {x : FVec Ideal S64x8x1 .f32} {r : Fin 64 → Fin 8 → Fin 1 → ℝ} (h : R3 x r) (ha hb hc) :
    R3 (broadcastInDim S64x8x128 ![0, 1] hc (Host.reduceAdd x (constant (F := Ideal) S_ .f32 0x00000000#32) (t := S64x8) (axes := [2]) ha hb)) (fun t g _ => r t g 0) := fun t g u => by
  pointwise
  rw [Fin.sum_univ_one]; exact h t g 0
theorem R3.sumRows {x : FVec Ideal S8x64x128 .f32} {r : Fin 8 → Fin 64 → Fin 128 → ℝ} (h : R3 x r) (ha hb hc) :
    R3 (shapeCast S8x1x128 (Host.reduceAdd x (constant (F := Ideal) S_ .f32 0x00000000#32) (t := S8x128) (axes := [1]) ha hb) hc) (fun g _ d => ∑ t, r g t d) := fun g u d => by
  pointwise
  rw [coe_sum]; exact Finset.sum_congr rfl fun t _ => h g t d
theorem R3.sumState {x : FVec Ideal S8x128x128 .f32} {r : Fin 8 → Fin 128 → Fin 128 → ℝ} (h : R3 x r) (ha hb hc hd he hf) :
    R3 (broadcastInDim S8x1x128 ![0, 2] hf (Host.reduceAdd (shapeCast S8x128x1 (Host.reduceAdd x (constant (F := Ideal) S_ .f32 0x00000000#32) (t := S8x128) (axes := [2]) ha hb) hc)
      (constant (F := Ideal) S_ .f32 0x00000000#32) (t := S8x128) (axes := [2]) hd he)) (fun g _ d => ∑ e, r g d e) := fun g u d => by
  pointwise
  rw [Fin.sum_univ_one, coe_sum]; exact Finset.sum_congr rfl fun e _ => h g d e
theorem R2.sumRows {x : FVec Ideal S64x1024 .f32} {r : Fin 64 → Fin 1024 → ℝ} (h : R2 x r) (ha hb hc) :
    R2 (shapeCast S1x1024 (Host.reduceAdd x (constant (F := Ideal) S_ .f32 0x00000000#32) (t := S1024) (axes := [0]) ha hb) hc) (fun _ c => ∑ t, r t c) := fun u c => by
  pointwise
  rw [coe_sum]; exact Finset.sum_congr rfl fun t _ => h t c

/-- A sum over the first two axes. -/
theorem sum01 {A B : ℕ} {x : FVec Ideal ⟨3, ![A, B, 128]⟩ .f32} (ha hb) (e : Fin 128) :
    Host.reduceAdd x (constant (F := Ideal) S_ .f32 0x00000000#32) (t := S128) (axes := [0, 1]) ha hb (ix1 e) = ∑ a : Fin A, ∑ b : Fin B, x (ix3 a b e) := by
  show Ideal.ofBits .f32 0x00000000#32 + ∑ i ∈ Finset.univ.filter (fun i => ha.drop i = ix1 e), x i = _
  rw [ofBits_zero, EReal.coe_zero, zero_add, Finset.sum_filter, sum_idx3]
  refine Finset.sum_congr rfl fun a _ => Finset.sum_congr rfl fun b _ => ?_
  have hv : ∀ c : Fin 128, (ha.drop (ix3 a b c) 0 : Nat) = c.val := fun c => Shape.ReducesTo.drop_apply_val ha (ix3 a b c) 0
  rw [Finset.sum_eq_single e]
  · rw [if_pos]
    funext k
    fin_cases k
    exact Fin.ext (hv e)
  · intro c _ hc
    rw [if_neg]
    intro h
    exact hc (Fin.ext ((hv c).symm.trans (by rw [h]; rfl)))
  · intro h; exact absurd (Finset.mem_univ _) h
theorem R3.sumAll {x : FVec Ideal S64x8x128 .f32} {r : Fin 64 → Fin 8 → Fin 128 → ℝ} (h : R3 x r) (ha hb hc hd he hf) :
    R2 (broadcastInDim S1x128 ![1] hf (Host.reduceAdd (shapeCast S1x1x128 (Host.reduceAdd x (constant (F := Ideal) S_ .f32 0x00000000#32) (t := S128) (axes := [0, 1]) ha hb) hc)
      (constant (F := Ideal) S_ .f32 0x00000000#32) (t := S128) (axes := [0, 1]) hd he)) (fun _ e => ∑ g, ∑ t, r t g e) := fun u e => by
  have e1 : (broadcastInDim S1x128 ![1] hf (Host.reduceAdd (shapeCast S1x1x128 (Host.reduceAdd x (constant (F := Ideal) S_ .f32 0x00000000#32) (t := S128) (axes := [0, 1]) ha hb) hc)
      (constant (F := Ideal) S_ .f32 0x00000000#32) (t := S128) (axes := [0, 1]) hd he) : FVec Ideal S1x128 .f32) (ix2 u e)
      = Host.reduceAdd (shapeCast S1x1x128 (Host.reduceAdd x (constant (F := Ideal) S_ .f32 0x00000000#32) (t := S128) (axes := [0, 1]) ha hb) hc)
      (constant (F := Ideal) S_ .f32 0x00000000#32) (t := S128) (axes := [0, 1]) hd he (ix1 e) := by
    generalize Host.reduceAdd (shapeCast S1x1x128 (Host.reduceAdd x (constant (F := Ideal) S_ .f32 0x00000000#32) (t := S128) (axes := [0, 1]) ha hb) hc)
      (constant (F := Ideal) S_ .f32 0x00000000#32) (t := S128) (axes := [0, 1]) hd he = Y
    pointwise
  have e2 : (shapeCast S1x1x128 (Host.reduceAdd x (constant (F := Ideal) S_ .f32 0x00000000#32) (t := S128) (axes := [0, 1]) ha hb) hc : FVec Ideal S1x1x128 .f32) (ix3 0 0 e)
      = Host.reduceAdd x (constant (F := Ideal) S_ .f32 0x00000000#32) (t := S128) (axes := [0, 1]) ha hb (ix1 e) := by
    generalize Host.reduceAdd x (constant (F := Ideal) S_ .f32 0x00000000#32) (t := S128) (axes := [0, 1]) ha hb = Y
    pointwise
  rw [e1, sum01 hd he, Fin.sum_univ_one, Fin.sum_univ_one, e2, sum01 ha hb, Finset.sum_comm, coe_sum]
  exact Finset.sum_congr rfl fun g _ => by rw [coe_sum]; exact Finset.sum_congr rfl fun t _ => h t g e
theorem R3.lastRow {x : FVec Ideal S8x1x128 .f32} {r : Fin 8 → Fin 1 → Fin 128 → ℝ} (h : R3 x r) (ha hb) :
    R3 (pad S8x64x128 ![0, 63, 0] ![0, 0, 0] ![0, 0, 0] x (constant (F := Ideal) S_ .f32 0x00000000#32) ha hb) (fun g t d => if t.val = 63 then r g 0 d else 0) := fun g t d => by
  pointwise
  by_cases k : t.val = 63
  · rw [dif_pos (by omega), if_pos k]
    have e : (⟨t.val - 63, by omega⟩ : Fin 1) = 0 := Subsingleton.elim _ _
    rw [e]; exact h g 0 d
  · rw [dif_neg (by omega), if_neg k]; rfl

/-! ## Products -/

theorem R3.dotAV {x : FVec Ideal S8x64x64 .f32} {y : FVec Ideal S8x64x128 .f32} {r : Fin 8 → Fin 64 → Fin 64 → ℝ} {s : Fin 8 → Fin 64 → Fin 128 → ℝ}
    [Facts] (h : R3 x r) (k : R3 y s) : R3 (Host.dotGeneral dot_S8x64x64_S8x64x128_S8x64x128_2_1_1_2_0_0 none x y) (fun g t e => ∑ i, r g t i * s g i e) := fun g t e => by
  pointwise
  rw [coe_sum]; exact Finset.sum_congr rfl fun i _ => by rw [h, k, EReal.coe_mul]
theorem R3.dotQS {x : FVec Ideal S8x64x128 .f32} {y : FVec Ideal S8x128x128 .f32} {r : Fin 8 → Fin 64 → Fin 128 → ℝ} {s : Fin 8 → Fin 128 → Fin 128 → ℝ}
    [Facts] (h : R3 x r) (k : R3 y s) : R3 (Host.dotGeneral dot_S8x64x128_S8x128x128_S8x64x128_2_1_1_2_0_0 none x y) (fun g t e => ∑ i, r g t i * s g i e) := fun g t e => by
  pointwise
  rw [coe_sum]; exact Finset.sum_congr rfl fun i _ => by rw [h, k, EReal.coe_mul]
theorem R3.dotSV {x : FVec Ideal S8x128x128 .f32} {y : FVec Ideal S8x64x128 .f32} {r : Fin 8 → Fin 128 → Fin 128 → ℝ} {s : Fin 8 → Fin 64 → Fin 128 → ℝ}
    [Facts] (h : R3 x r) (k : R3 y s) (hb) : R3 (transpose S8x64x128 [0, 2, 1] (Host.dotGeneral dot_S8x128x128_S8x64x128_S8x128x64_2_2_1_1_0_0 none x y) hb)
      (fun g t d => ∑ e, r g d e * s g t e) := fun g t d => by
  pointwise
  rw [coe_sum]; exact Finset.sum_congr rfl fun i _ => by rw [h, k, EReal.coe_mul]
theorem R3.dotOS {x : FVec Ideal S8x64x128 .f32} {y : FVec Ideal S8x128x128 .f32} {r : Fin 8 → Fin 64 → Fin 128 → ℝ} {s : Fin 8 → Fin 128 → Fin 128 → ℝ}
    [Facts] (h : R3 x r) (k : R3 y s) : R3 (Host.dotGeneral dot_S8x64x128_S8x128x128_S8x64x128_2_2_1_1_0_0 none x y) (fun g t d => ∑ e, r g t e * s g d e) := fun g t e => by
  pointwise
  rw [coe_sum]; exact Finset.sum_congr rfl fun i _ => by rw [h, k, EReal.coe_mul]
theorem R3.dotOV {x y : FVec Ideal S8x64x128 .f32} {r s : Fin 8 → Fin 64 → Fin 128 → ℝ}
    [Facts] (h : R3 x r) (k : R3 y s) : R3 (Host.dotGeneral dot_S8x64x128_S8x64x128_S8x64x64_2_2_1_1_0_0 none x y) (fun g t i => ∑ e, r g t e * s g i e) := fun g t e => by
  pointwise
  rw [coe_sum]; exact Finset.sum_congr rfl fun i _ => by rw [h, k, EReal.coe_mul]
theorem R3.dotOQ {x y : FVec Ideal S8x64x128 .f32} {r s : Fin 8 → Fin 64 → Fin 128 → ℝ}
    [Facts] (h : R3 x r) (k : R3 y s) (hb) : R3 (transpose S8x128x128 [0, 2, 1] (Host.dotGeneral dot_S8x64x128_S8x64x128_S8x128x128_1_1_2_2_0_0 none x y) hb)
      (fun g d e => ∑ t, r g t e * s g t d) := fun g t e => by
  pointwise
  rw [coe_sum]; exact Finset.sum_congr rfl fun i _ => by rw [h, k, EReal.coe_mul]
theorem R3.dotSK {x : FVec Ideal S8x128x128 .f32} {y : FVec Ideal S8x64x128 .f32} {r : Fin 8 → Fin 128 → Fin 128 → ℝ} {s : Fin 8 → Fin 64 → Fin 128 → ℝ}
    [Facts] (h : R3 x r) (k : R3 y s) (hb) : R3 (transpose S8x64x128 [0, 2, 1] (Host.dotGeneral dot_S8x128x128_S8x64x128_S8x128x64_1_2_2_1_0_0 none x y) hb)
      (fun g t e => ∑ d, r g d e * s g t d) := fun g t d => by
  pointwise
  rw [coe_sum]; exact Finset.sum_congr rfl fun i _ => by rw [h, k, EReal.coe_mul]
theorem R3.dotOA {x : FVec Ideal S8x64x128 .f32} {y : FVec Ideal S8x64x64 .f32} {r : Fin 8 → Fin 64 → Fin 128 → ℝ} {s : Fin 8 → Fin 64 → Fin 64 → ℝ}
    [Facts] (h : R3 x r) (k : R3 y s) (hb) : R3 (transpose S8x64x128 [0, 2, 1] (Host.dotGeneral dot_S8x64x128_S8x64x64_S8x128x64_1_1_2_2_0_0 none x y) hb)
      (fun g i e => ∑ t, r g t e * s g t i) := fun g t d => by
  pointwise
  rw [coe_sum]; exact Finset.sum_congr rfl fun i _ => by rw [h, k, EReal.coe_mul]

/-! ## Running sums -/

/-- A window sum from zero, as a sum over the window. -/
theorem window_sum {s t : Shape} (window strides lo hi : Fin s.rank → Nat) (x : s.Idx → EReal) (h : s.ReduceWindows window strides lo hi t) (j : t.Idx) :
    Ideal.hostReduceWindowAdd window strides lo hi h x 0 j = ∑ n : (⟨s.rank, window⟩ : Shape).Idx,
      if hin : ∀ a, lo a ≤ (j (a.cast h.1.symm)).val * strides a + (n a).val ∧ (j (a.cast h.1.symm)).val * strides a + (n a).val - lo a < s.size a then
        x (fun a => ⟨(j (a.cast h.1.symm)).val * strides a + (n a).val - lo a, (hin a).2⟩) else 0 := by
  unfold Ideal.hostReduceWindowAdd Host.reduceWindow
  rw [← Equiv.sum_comp (⟨s.rank, window⟩ : Shape).rowMajor.symm, Fin.sum_univ_def, List.sum_eq_foldl, List.foldl_map]
  dsimp only
  congr 1
  funext r n
  congr 1
  split_ifs <;> rfl

theorem window_rows {x : FVec Ideal S8x64x128 .f32} {r : Fin 8 → Fin 64 → Fin 128 → ℝ} (h : R3 x r) (L M : ℕ)
    (hb : S8x64x128.ReduceWindows ![1, 64, 1] ![1, 1, 1] ![0, L, 0] ![0, M, 0] S8x64x128) (g : Fin 8) (t : Fin 64) (d : Fin 128) :
    Ideal.hostReduceWindowAdd ![1, 64, 1] ![1, 1, 1] ![0, L, 0] ![0, M, 0] hb x 0 (ix3 g t d)
      = ((∑ n : Fin 64, if k : L ≤ t.val + n.val ∧ t.val + n.val - L < 64 then r g ⟨t.val + n.val - L, k.2⟩ d else 0 : ℝ) : EReal) := by
  rw [window_sum]
  refine (sum_idx3 (n0 := 1) (n1 := 64) (n2 := 1) _).trans ?_
  rw [Fin.sum_univ_one, coe_sum]
  refine Finset.sum_congr rfl fun n _ => ?_
  rw [Fin.sum_univ_one]
  by_cases k : L ≤ t.val + n.val ∧ t.val + n.val - L < 64
  · rw [dif_pos k, ← h g _ d, dif_pos]
    · refine congrArg x ?_
      funext a
      fin_cases a
      · exact Fin.ext (by show g.val * 1 + 0 - 0 = g.val; omega)
      · exact Fin.ext (by show t.val * 1 + n.val - L = t.val + n.val - L; omega)
      · exact Fin.ext (by show d.val * 1 + 0 - 0 = d.val; omega)
    · intro a
      fin_cases a
      · show 0 ≤ g.val * 1 + 0 ∧ g.val * 1 + 0 - 0 < 8; omega
      · show L ≤ t.val * 1 + n.val ∧ t.val * 1 + n.val - L < 64; omega
      · show 0 ≤ d.val * 1 + 0 ∧ d.val * 1 + 0 - 0 < 128; omega
  · rw [dif_neg k, dif_neg]
    · rfl
    · intro hin
      have e : L ≤ t.val * 1 + n.val ∧ t.val * 1 + n.val - L < 64 := hin (1 : Fin 3)
      exact k (by omega)

theorem R3.before {x : FVec Ideal S8x64x128 .f32} {r : Fin 8 → Fin 64 → Fin 128 → ℝ} (h : R3 x r) (ha hb hc) :
    R3 (Host.reduceWindowAdd ![1, 64, 1] ![1, 1, 1] ![0, 63, 0] ![0, 0, 0] x (broadcastInDim S_ ![] ha (constant (F := Ideal) S_ .f32 0x00000000#32)) (t := S8x64x128) hb hc)
      (fun g t d => ∑ s : Fin 64, if s ≤ t then r g s d else 0) := fun g t d => by
  show Ideal.hostReduceWindowAdd ![1, 64, 1] ![1, 1, 1] ![0, 63, 0] ![0, 0, 0] hb x (Ideal.ofBits .f32 0x00000000#32) _ = _
  rw [show Ideal.ofBits .f32 0x00000000#32 = 0 from ofBits_zero, window_rows h, EReal.coe_eq_coe_iff]
  show (_ : ℝ) = ∑ s : Fin 64, if s ≤ t then r g s d else 0
  rw [← Finset.sum_filter,
    ← Finset.sum_filter_of_ne (p := fun n : Fin 64 => 63 ≤ t.val + n.val)]
  · refine Finset.sum_bij' (fun n hn => ⟨t.val + n.val - 63, by omega⟩)
      (fun s hs => ⟨s.val + 63 - t.val, by have : s.val ≤ t.val := (Finset.mem_filter.mp hs).2; omega⟩) ?_ ?_ ?_ ?_ ?_
    · intro n hn; exact Finset.mem_filter.mpr ⟨Finset.mem_univ _, show t.val + n.val - 63 ≤ t.val by omega⟩
    · intro s hs; exact Finset.mem_filter.mpr ⟨Finset.mem_univ _, show 63 ≤ t.val + (s.val + 63 - t.val) by omega⟩
    · intro n hn; have := (Finset.mem_filter.mp hn).2; exact Fin.ext (by show t.val + n.val - 63 + 63 - t.val = n.val; omega)
    · intro s hs
      have : s.val ≤ t.val := (Finset.mem_filter.mp hs).2
      exact Fin.ext (by show t.val + (s.val + 63 - t.val) - 63 = s.val; omega)
    · intro n hn; have := (Finset.mem_filter.mp hn).2; rw [dif_pos ⟨this, by omega⟩]
  · intro n _ hn
    by_contra k
    exact hn (dif_neg fun e => k e.1)

theorem R3.after {x : FVec Ideal S8x64x128 .f32} {r : Fin 8 → Fin 64 → Fin 128 → ℝ} (h : R3 x r) (ha hb hc) :
    R3 (Host.reduceWindowAdd ![1, 64, 1] ![1, 1, 1] ![0, 0, 0] ![0, 63, 0] x (broadcastInDim S_ ![] ha (constant (F := Ideal) S_ .f32 0x00000000#32)) (t := S8x64x128) hb hc)
      (fun g t d => ∑ s : Fin 64, if t ≤ s then r g s d else 0) := fun g t d => by
  show Ideal.hostReduceWindowAdd ![1, 64, 1] ![1, 1, 1] ![0, 0, 0] ![0, 63, 0] hb x (Ideal.ofBits .f32 0x00000000#32) _ = _
  rw [show Ideal.ofBits .f32 0x00000000#32 = 0 from ofBits_zero, window_rows h, EReal.coe_eq_coe_iff]
  show (_ : ℝ) = ∑ s : Fin 64, if t ≤ s then r g s d else 0
  rw [← Finset.sum_filter,
    ← Finset.sum_filter_of_ne (p := fun n : Fin 64 => t.val + n.val < 64)]
  · refine Finset.sum_bij' (fun n hn => ⟨t.val + n.val, (Finset.mem_filter.mp hn).2⟩)
      (fun s hs => ⟨s.val - t.val, by omega⟩) ?_ ?_ ?_ ?_ ?_
    · intro n hn; exact Finset.mem_filter.mpr ⟨Finset.mem_univ _, show t.val ≤ t.val + n.val by omega⟩
    · intro s hs
      have : t.val ≤ s.val := (Finset.mem_filter.mp hs).2
      exact Finset.mem_filter.mpr ⟨Finset.mem_univ _, show t.val + (s.val - t.val) < 64 by omega⟩
    · intro n hn; exact Fin.ext (by show t.val + n.val - t.val = n.val; omega)
    · intro s hs
      have : t.val ≤ s.val := (Finset.mem_filter.mp hs).2
      exact Fin.ext (by show t.val + (s.val - t.val) = s.val; omega)
    · intro n hn; have := (Finset.mem_filter.mp hn).2; rw [dif_pos ⟨Nat.zero_le _, by omega⟩]; rfl
  · intro n _ hn
    by_contra k
    exact hn (dif_neg fun e => k (by have := e.2; omega))

/-! ## The causal mask, the chunk read and written -/

theorem R4.expMask {x : FVec Ideal S8x64x64x128 .f32} {r : Fin 8 → Fin 64 → Fin 64 → Fin 128 → ℝ} (h : R4 x r) {m : IVec S8x64x64x128 1} (hb)
    (hm : ∀ g t s d, m (ix4 g t s d) = if s ≤ t then 1#1 else 0#1) {w : BitVec 32} (hw : Ideal.ofBits .f32 w = ⊥) :
    R4 (Host.exp (select m x (broadcastInDim S8x64x64x128 ![] hb (id (constant (F := Ideal) S_ .f32 w))))) (fun g t s d => if s ≤ t then Real.exp (r g t s d) else 0) := fun g t s d => by
  show Ideal.exp (Scalar.select (m (ix4 g t s d)) (x (ix4 g t s d)) (Ideal.ofBits .f32 w)) = _
  rw [hm, hw]
  by_cases k : s ≤ t
  · simp only [k, if_true]; show Ideal.exp (x _) = _; rw [h]; rfl
  · simp only [k, if_false]; rfl
theorem R4.selMask {x : FVec Ideal S8x64x64x128 .f32} {r : Fin 8 → Fin 64 → Fin 64 → Fin 128 → ℝ} (h : R4 x r) {m : IVec S8x64x64x128 1} (hb)
    (hm : ∀ g t s d, m (ix4 g t s d) = if s ≤ t then 1#1 else 0#1) :
    R4 (select m x (broadcastInDim S8x64x64x128 ![] hb (constant (F := Ideal) S_ .f32 0x00000000#32))) (fun g t s d => if s ≤ t then r g t s d else 0) := fun g t s d => by
  show Scalar.select (m (ix4 g t s d)) (x (ix4 g t s d)) (Ideal.ofBits .f32 0x00000000#32) = _
  rw [hm, ofBits_zero]
  by_cases k : s ≤ t
  · simp only [k, if_true]; exact h g t s d
  · simp only [k, if_false]; rfl

theorem causal (ha hb hc hd he) (g : Fin 8) (t s : Fin 64) (d : Fin 128) :
    (broadcastInDim S8x64x64x128 ![1, 2, 3] ha (broadcastInDim S64x64x1 ![0, 1] hb (select (cmpi .sge (addi (iotaInDim S64x64 32 0) (broadcastInDim S64x64 ![] hc (constantI S_ 32 0#32))) (iotaInDim S64x64 32 1))
      (broadcastInDim S64x64 ![] hd (constantI S_ 1 1#1)) (broadcastInDim S64x64 ![] he (constantI S_ 1 0#1)))) : IVec S8x64x64x128 1) (ix4 g t s d) = if s ≤ t then 1#1 else 0#1 := by
  pointwise
  clear ha hb hc hd he
  revert t s
  decide +kernel

end Cert.HG
end
-- ==== Proof.KReal.lean ====
/- The values of a visit, over the real numbers: each named value of the kernel's body holds the real numbers the plain backward pass
   states. The kernel measures its decays from the middle of each half of the chunk; the measure cancels in every product. -/
module

public import proofs.«01_k».proof.Proof.Spec

@[expose] public section

noncomputable section

namespace Cert.HG

open Idealize.ShloMosaic Idealize.ShloMosaic.TcCoe Idealize.SL.Sem
open Cert.KernelIdeal Cert.KernelIdeal.Facts₀

variable [Facts]

theorem ofBits_128 : Ideal.ofBits .f32 0x43000000#32 = ((128 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul, -EReal.coe_neg]; norm_num
theorem ofBits_eps : Ideal.ofBits .f32 0x358637BD#32 = ((eps : ℝ) : EReal) := by
  unfold eps
  simp [Ideal.ofBits, Ideal.ieee, -EReal.coe_mul]; norm_num
theorem ofBits_bot : Ideal.ofBits .f32 0xFF800000#32 = ⊥ := by
  simp [Ideal.ofBits, Ideal.ieee]

theorem kc0 {a b : ℕ} : R2 (kc (F := Ideal) ⟨2, ![a, b]⟩ 0x00000000#32) (fun _ _ => 0) := R2.const ofBits_zero
theorem kc1 {a b : ℕ} : R2 (kc (F := Ideal) ⟨2, ![a, b]⟩ 0x3F800000#32) (fun _ _ => 1) := R2.const ofBits_one

/-! ## Sums -/

/-- A running sum by doubling: after the doublings, the sum of the last `m` entries. -/
def part (g : ℕ → ℝ) (m t : ℕ) : ℝ := ∑ i ∈ Finset.range m, if i ≤ t then g (t - i) else 0

theorem part_double (g : ℕ → ℝ) (m t : ℕ) : part g m t + (if m ≤ t then part g m (t - m) else 0) = part g (m + m) t := by
  unfold part
  rw [Finset.sum_range_add]
  congr 1
  split_ifs with h
  · refine Finset.sum_congr rfl fun i _ => ?_
    by_cases hi : i ≤ t - m
    · rw [if_pos hi, if_pos (by omega)]; congr 1; omega
    · rw [if_neg hi, if_neg (by omega)]
  · symm
    exact Finset.sum_eq_zero fun i _ => if_neg (by omega)

/-- An array of 64 rows as a function of every number. -/
def ext (r : Fin 64 → ℝ) (n : ℕ) : ℝ := if h : n < 64 then r ⟨n, h⟩ else 0

theorem part_all (r : Fin 64 → ℝ) (t : Fin 64) : part (ext r) 64 t.val = ∑ s : Fin 64, if s ≤ t then r s else 0 := by
  unfold part
  rw [← Fin.sum_univ_eq_sum_range (fun i => if i ≤ t.val then ext r (t.val - i) else 0) 64,
    ← Finset.sum_filter, ← Finset.sum_filter]
  refine Finset.sum_nbij' (fun i => ⟨t.val - i.val, by omega⟩) (fun s => ⟨t.val - s.val, by omega⟩) ?_ ?_ ?_ ?_ ?_
  · intro i hi; simp only [Finset.mem_filter, Finset.mem_univ, true_and] at hi ⊢; show t.val - i.val ≤ t.val; omega
  · intro s hs; simp only [Finset.mem_filter, Finset.mem_univ, true_and] at hs ⊢; show t.val - s.val ≤ t.val; omega
  · intro i hi; simp only [Finset.mem_filter, Finset.mem_univ, true_and] at hi; exact Fin.ext (by show t.val - (t.val - i.val) = i.val; omega)
  · intro s hs
    simp only [Finset.mem_filter, Finset.mem_univ, true_and] at hs
    have : s.val ≤ t.val := hs
    exact Fin.ext (by show t.val - (t.val - s.val) = s.val; omega)
  · intro i hi; unfold ext; rw [dif_pos (by omega)]

theorem stepPart {x : FVec Ideal S64x1024 .f32} {r : Fin 64 → Fin 1024 → ℝ} (m : ℕ) (hm : m < 64)
    (h : R2 x (fun t c => part (ext fun s => r s c) m t.val)) :
    R2 (stepS (BitVec.ofNat 32 m) x) (fun t c => part (ext fun s => r s c) (m + m) t.val) :=
  (h.stepS m hm).congr fun t c => by
    rw [← part_double]
    congr 1

/-- The kernel's running sum. -/
theorem R2.scan {x : FVec Ideal S64x1024 .f32} {r : Fin 64 → Fin 1024 → ℝ} (h : R2 x r) :
    R2 (scan x) (fun t c => ∑ s : Fin 64, if s ≤ t then r s c else 0) := by
  have h1 : R2 x (fun t c => part (ext fun s => r s c) 1 t.val) := h.congr fun t c => by
    unfold part ext
    rw [Finset.sum_range_one, if_pos (Nat.zero_le _), dif_pos (by omega)]
    rfl
  exact (stepPart 32 (by omega) (stepPart 16 (by omega) (stepPart 8 (by omega) (stepPart 4 (by omega)
    (stepPart 2 (by omega) (stepPart 1 (by omega) h1)))))).congr fun t c => part_all _ t

/-- A sum over the doubled rows. -/
theorem sum128 (F : Fin 128 → ℝ) : ∑ c, F c = ∑ s : Fin 64, F ⟨s.val, by omega⟩ + ∑ s : Fin 64, F ⟨64 + s.val, by omega⟩ :=
  Fin.sum_univ_add (a := 64) (b := 64) F

/-- A sum over the doubled columns under the mask of the scores is the causal sum. -/
theorem sumMask (t : Fin 64) (G : Fin 128 → ℝ) (g : Fin 64 → ℝ)
    (hlo : ∀ s : Fin 64, t.val < 32 → s ≤ t → G ⟨s.val, by omega⟩ = g s) (hhi : ∀ s : Fin 64, 32 ≤ t.val → s ≤ t → G ⟨64 + s.val, by omega⟩ = g s) :
    (∑ c : Fin 128, if c.val / 64 = t.val / 32 ∧ c.val % 64 ≤ t.val then G c else 0) = ∑ s, if s ≤ t then g s else 0 := by
  rw [sum128]
  by_cases h : t.val < 32
  · rw [Finset.sum_eq_zero (s := Finset.univ) (f := fun s : Fin 64 => if (64 + s.val) / 64 = t.val / 32 ∧ (64 + s.val) % 64 ≤ t.val then G ⟨64 + s.val, _⟩ else 0)
      (fun s _ => if_neg (by omega)), add_zero]
    refine Finset.sum_congr rfl fun s _ => ?_
    by_cases k : s ≤ t
    · have k' : s.val ≤ t.val := k
      rw [if_pos k, if_pos ⟨by dsimp only; omega, by dsimp only; omega⟩, hlo s h k]
    · have k' : ¬ s.val ≤ t.val := k
      rw [if_neg k, if_neg (by dsimp only; omega)]
  · rw [Finset.sum_eq_zero (s := Finset.univ) (f := fun s : Fin 64 => if s.val / 64 = t.val / 32 ∧ s.val % 64 ≤ t.val then G ⟨s.val, _⟩ else 0)
      (fun s _ => if_neg (by omega)), zero_add]
    refine Finset.sum_congr rfl fun s _ => ?_
    by_cases k : s ≤ t
    · have k' : s.val ≤ t.val := k
      rw [if_pos k, if_pos ⟨by dsimp only; omega, by dsimp only; omega⟩, hhi s (by omega) k]
    · have k' : ¬ s.val ≤ t.val := k
      rw [if_neg k, if_neg (by dsimp only; omega)]

/-! ## The visit's values -/

/-- The visit reads the real numbers of `J`. -/
structure Rep (I : Ins Ideal) (J : Rin) : Prop where
  q : R2 I.q J.q
  f : R2 I.f J.f
  v : R2 I.v J.v
  z : R2 I.z J.z
  dp : R2 I.dp J.dp
  st : R2 I.st J.st
  dS : R2 I.dS J.dS
  lb : R2 I.lb (fun _ c => J.lb c)
  go : R2 I.go (fun _ e => J.go e)
  nn : ∀ c, 0 ≤ J.lb c

namespace Rep
variable {I : Ins Ideal} {J : Rin} (H : Rep I J)
include H

theorem u12 : R2 I.u12 (fun _ c => 1 - J.lb c) := kc1.sub H.lb
theorem sf : R2 I.sf (fun t c => sg (J.f t c)) := H.f.logistic
theorem sf1 : R2 I.sf1 (fun t c => sg (J.f t c) * (1 - sg (J.f t c))) := H.sf.mul (kc1.sub H.sf)
theorem fg : R2 I.fg J.fg := H.lb.down.add (H.u12.down.mul H.sf)
theorem lf : R2 I.lf J.lf := H.fg.log (J.fg_pos H.nn)
theorem sn : R2 I.sn (fun t c => sg (-J.f t c)) := ((kc0.sub H.f).logistic).congr fun t c => by rw [zero_sub]
theorem sn1 : R2 I.sn1 (fun t c => sg (-J.f t c) * (1 - sg (-J.f t c))) := H.sn.mul (kc1.sub H.sn)
theorem k : R2 I.k J.k := H.u12.down.mul H.sn
theorem sq : R2 I.sq (fun t c => sg (J.q t c)) := H.q.logistic
theorem sq1 : R2 I.sq1 (fun t c => sg (J.q t c) * (1 - sg (J.q t c))) := H.sq.mul (kc1.sub H.sq)
theorem qs : R2 I.qs J.qs := H.q.mul H.sq
theorem b : R2 I.b J.b := H.lf.scan

/-- The sum of one row picked out. -/
theorem pick (r : Fin 64 → ℝ) (w : Fin 64) : (∑ i : Fin 64, if i.val = w.val then r i else 0) = r w := by
  rw [Finset.sum_eq_single w (fun i _ hi => if_neg fun e => hi (Fin.ext e)) (fun h => absurd (Finset.mem_univ _) h), if_pos rfl]

theorem b16 : R2 I.b16 (fun _ c => J.b 16 c) :=
  ((H.b.sel kc0 (rowEq 16#32) _ (rowEq_apply 16 (by omega))).csum).congr fun _ c => pick H (fun i => J.b i c) 16
theorem b48 : R2 I.b48 (fun _ c => J.b 48 c) :=
  ((H.b.sel kc0 (rowEq 48#32) _ (rowEq_apply 48 (by omega))).csum).congr fun _ c => pick H (fun i => J.b i c) 48

theorem sc {x : FVec Ideal S1x1024 .f32} {r : Fin 1 → Fin 1024 → ℝ} (h : R2 x r) (hc) : R2 (shapeCast S1x1024 x hc) r := fun i j => by
  rw [shapeCast_self]; exact h i j

/-- The middle of the half of row `t`. -/
def _root_.Cert.HG.Rin.mid (J : Rin) (t : Fin 64) (c : Fin 1024) : ℝ := if t.val < 32 then J.b 16 c else J.b 48 c

theorem ref : R2 I.ref J.mid :=
  ((kc0.add ((sc H H.b16 _).down.sel kc0 (rowIn 0#32 32#32) _ (rowIn_apply 0 32 (by omega) (by omega)))).add
    ((sc H H.b48 _).down.sel kc0 (rowIn 32#32 64#32) _ (rowIn_apply 32 64 (by omega) (by omega)))).congr fun t c => by
      unfold Rin.mid
      by_cases h : t.val < 32
      · rw [if_pos ⟨Nat.zero_le _, h⟩, if_neg (by omega), if_pos h]; ring
      · rw [if_neg (by omega), if_pos (by omega), if_neg h]; ring
theorem eq : R2 I.eq (fun t c => Real.exp (J.b t c - J.mid t c)) := (H.b.sub H.ref).exp
theorem qt : R2 I.qt (fun t c => J.qs t c * Real.exp (J.b t c - J.mid t c)) := H.qs.mul H.eq

theorem expSel {x : FVec Ideal S64x1024 .f32} {r : Fin 64 → Fin 1024 → ℝ} (h : R2 x r) (w : ℕ) (hw : w < 65) :
    R2 (exp (select (rowLt (BitVec.ofNat 32 w)) x (kc S64x1024 0xFF800000#32))) (fun s c => if s.val < w then Real.exp (r s c) else 0) := fun s c => by
  show Ideal.exp (Scalar.select (rowLt (BitVec.ofNat 32 w) (ix2 s c)) (x (ix2 s c)) (kc (F := Ideal) S64x1024 0xFF800000#32 (ix2 s c))) = _
  rw [rowLt_apply w hw]
  by_cases a : s.val < w
  · simp only [a, if_true]; show Ideal.exp (x (ix2 s c)) = _; rw [h]; rfl
  · simp only [a, if_false]
    show Ideal.exp (Ideal.ofBits .f32 0xFF800000#32) = _
    rw [ofBits_bot]; rfl

theorem elo : R2 I.elo (fun s c => if s.val < 32 then Real.exp (J.b 16 c - J.b s c) else 0) := expSel H (H.b16.down.sub H.b) 32 (by omega)
theorem ehi : R2 I.ehi (fun s c => Real.exp (J.b 48 c - J.b s c)) :=
  (expSel H (H.b48.down.sub H.b) 64 (by omega)).congr fun s c => if_pos s.isLt

/-- The keys measured from the two middles, one under the other. -/
def _root_.Cert.HG.Rin.kal (J : Rin) (i : Fin 128) (c : Fin 1024) : ℝ :=
  if h : i.val < 64 then J.k ⟨i.val, h⟩ c * (if i.val < 32 then Real.exp (J.b 16 c - J.b ⟨i.val, h⟩ c) else 0)
  else J.k ⟨i.val - 64, by omega⟩ c * Real.exp (J.b 48 c - J.b ⟨i.val - 64, by omega⟩ c)
def _root_.Cert.HG.Rin.val2 (J : Rin) (i : Fin 128) (c : Fin 1024) : ℝ := J.v ⟨i.val % 64, by omega⟩ c

theorem kall : R2 I.kall J.kal := (H.k.mul H.elo).twice (H.k.mul H.ehi) _
theorem v4 : R2 I.v4 J.val2 := ((H.v.twice H.v _)).congr fun i c => by
  unfold Rin.val2
  by_cases h : i.val < 64
  · rw [dif_pos h]; congr 1; exact Fin.ext (by show i.val = i.val % 64; omega)
  · rw [dif_neg h]; congr 1; exact Fin.ext (by show i.val - 64 = i.val % 64; omega)
theorem bt : R2 I.bt (fun _ c => J.bt c) := H.lf.csum
theorem eb : R2 I.eb (fun t c => Real.exp (J.b t c)) := H.b.exp
theorem qb : R2 I.qb (fun t c => J.qs t c * Real.exp (J.b t c)) := H.qs.mul H.eb
theorem ed : R2 I.ed J.ed := (H.bt.down.sub H.b).exp
theorem kd : R2 I.kd (fun t c => J.k t c * J.ed t c) := H.k.mul H.ed
theorem et : R2 I.et (fun _ c => Real.exp (J.bt c)) := H.bt.exp

/-- The measure cancels. -/
theorem cancel (t s : Fin 64) (h : s ≤ t) (c : Fin 1024) (hl : t.val < 32) :
    Real.exp (J.b t c - J.mid t c) * (if s.val < 32 then Real.exp (J.b 16 c - J.b s c) else 0) = J.dec t s c := by
  have h' : s.val ≤ t.val := h
  unfold Rin.mid Rin.dec
  rw [if_pos hl, if_pos (by omega), if_pos h, ← Real.exp_add]
  congr 1; ring
theorem cancel' (t s : Fin 64) (h : s ≤ t) (c : Fin 1024) (hl : 32 ≤ t.val) :
    Real.exp (J.b t c - J.mid t c) * Real.exp (J.b 48 c - J.b s c) = J.dec t s c := by
  unfold Rin.mid Rin.dec
  rw [if_neg (by omega), if_pos h, ← Real.exp_add]
  congr 1; ring

/-- The keys of column `c` of a row's half, with the row's measure, are the decayed keys. -/
theorem kal_lo (t s : Fin 64) (h : s ≤ t) (c : Fin 1024) (hl : t.val < 32) :
    Real.exp (J.b t c - J.mid t c) * J.kal ⟨s.val, by omega⟩ c = J.k s c * J.dec t s c := by
  rw [← cancel H t s h c hl]; unfold Rin.kal; rw [dif_pos s.isLt]; dsimp only [Fin.eta]; ring
theorem kal_hi (t s : Fin 64) (h : s ≤ t) (c : Fin 1024) (hl : 32 ≤ t.val) :
    Real.exp (J.b t c - J.mid t c) * J.kal ⟨64 + s.val, by omega⟩ c = J.k s c * J.dec t s c := by
  rw [← cancel' H t s h c hl]; unfold Rin.kal; rw [dif_neg (by dsimp only; omega)]
  have e : (⟨64 + s.val - 64, by omega⟩ : Fin 64) = s := Fin.ext (by show 64 + s.val - 64 = s.val; omega)
  dsimp only
  rw [e]; ring
theorem val2_lo (s : Fin 64) (c : Fin 1024) : J.val2 ⟨s.val, by omega⟩ c = J.v s c := by
  unfold Rin.val2; congr 1; exact Fin.ext (by show s.val % 64 = s.val; omega)
theorem val2_hi (s : Fin 64) (c : Fin 1024) : J.val2 ⟨64 + s.val, by omega⟩ c = J.v s c := by
  unfold Rin.val2; congr 1; exact Fin.ext (by show (64 + s.val) % 64 = s.val; omega)

/-- The mask of the scores. -/
abbrev msk (t : Fin 64) (i : Fin 128) : Prop := i.val / 64 = t.val / 32 ∧ i.val % 64 ≤ t.val

theorem P (h : Fin 8) : R2 (I.P h) (fun t i => if i.val / 64 = t.val / 32 ∧ i.val % 64 ≤ t.val then
    ∑ d, J.qs t (col h d) * Real.exp (J.b t (col h d) - J.mid t (col h d)) * J.kal i (col h d) else 0) :=
  ((H.qt.hd h).tr.mmT (H.kall.hd2 h).tr).sel kc0 mAll _ mAll_apply

theorem A_eq (h : Fin 8) (t s : Fin 64) (hs : s ≤ t) (i : Fin 128)
    (hk : ∀ c, Real.exp (J.b t c - J.mid t c) * J.kal i c = J.k s c * J.dec t s c) :
    (∑ d, J.qs t (col h d) * Real.exp (J.b t (col h d) - J.mid t (col h d)) * J.kal i (col h d)) = J.A h t s := by
  unfold Rin.A
  exact Finset.sum_congr rfl fun d _ => by rw [mul_assoc, hk, mul_assoc]

theorem A_zero (h : Fin 8) (t s : Fin 64) (hs : ¬ s ≤ t) : J.A h t s = 0 := by
  unfold Rin.A Rin.dec
  exact Finset.sum_eq_zero fun d _ => by rw [if_neg hs, mul_zero]

theorem o (h : Fin 8) : R2 (I.o h) (J.o h) :=
  (((H.P h).tr.mm (H.v4.hd2 h).tr).add ((H.qb.hd h).tr.mmT (H.st.hdT h).tr)).congr fun t e => by
    unfold Rin.o
    congr 1
    simp only [ite_mul, zero_mul]
    rw [sumMask t _ (fun s => J.A h t s * J.v s (col h e))]
    · refine Finset.sum_congr rfl fun s _ => ?_
      by_cases k : s ≤ t
      · rw [if_pos k]
      · rw [if_neg k, A_zero H h t s k, zero_mul]
    · intro s hl hs
      rw [A_eq H h t s hs _ (fun c => kal_lo H t s hs c hl), val2_lo H]
    · intro s hl hs
      rw [A_eq H h t s hs _ (fun c => kal_hi H t s hs c hl), val2_hi H]

theorem ms (h : Fin 8) : R2 (I.ms h) (fun t _ => J.ms h t) :=
  (((H.o h).mul (H.o h)).rsum.div (R2.const ofBits_128) (fun _ _ => by norm_num)).add (R2.const ofBits_eps)
theorem r (h : Fin 8) : R2 (I.r h) (fun t _ => J.r h t) := (H.ms h).rsqrt fun t _ => J.ms_pos h t
theorem hr (h : Fin 8) : R2 (I.hr h) (fun t _ => -(1 / 2) * (J.r h t / J.ms h t)) :=
  (R2.const ofBits_half).mul ((H.r h).div (H.ms h) fun t _ => (J.ms_pos h t).ne')
theorem on (h : Fin 8) : R2 (I.on h) (fun t e => J.o h t e * J.r h t) := (H.o h).mul (H.r h).along
theorem y (h : Fin 8) : R2 (I.y h) (J.y h) := (H.on h).mul H.go.downH
theorem sz (h : Fin 8) : R2 (I.sz h) (fun t e => sg (J.z t (col h e))) := (H.z.hd h).logistic
theorem sz1 (h : Fin 8) : R2 (I.sz1 h) (fun t e => sg (J.z t (col h e)) * (1 - sg (J.z t (col h e)))) := (H.sz h).mul (kc1.sub (H.sz h))
theorem dpf : R2 I.dpf J.dp := H.dp
theorem yp (h : Fin 8) : R2 (I.yp h) (fun t e => J.y h t e * J.dp t (col h e)) := (H.y h).mul (H.dpf.hd h)
theorem dy (h : Fin 8) : R2 (I.dy h) (J.dy h) := (H.dpf.hd h).mul ((H.z.hd h).mul (H.sz h))
theorem dz (h : Fin 8) : R2 (I.dz h) (fun t e => J.dz t (col h e)) :=
  (((H.yp h).mul (H.sz h)).add (((H.z.hd h).mul (H.yp h)).mul (H.sz1 h))).congr fun t e => by
    unfold Rin.dz; rw [hof_col, dof_col]
theorem dg (h : Fin 8) : R2 (I.dg h) (fun _ e => ∑ t, J.o h t e * J.r h t * J.dy h t e) := ((H.on h).mul (H.dy h)).csumH
theorem dgo : R2 I.dgo (fun _ e => J.dgo e) :=
  ((((((((H.dg 7).add (H.dg 6)).add (H.dg 5)).add (H.dg 4)).add (H.dg 3)).add (H.dg 2)).add (H.dg 1)).add (H.dg 0)).congr fun _ e => by
    unfold Rin.dgo; rw [Fin.sum_univ_eight]; ring
theorem dn (h : Fin 8) : R2 (I.dn h) (J.dn h) := (H.dy h).mul H.go.downH
theorem w (h : Fin 8) : R2 (I.w h) (fun t _ => J.w h t) :=
  ((((H.o h).mul (H.dn h)).rsum.mul (H.hr h)).div (R2.const ofBits_128) (fun _ _ => by norm_num)).rsum1.along
theorem dO (h : Fin 8) : R2 (I.dO h) (J.dO h) :=
  (((H.dn h).mul (H.r h).along).add ((H.o h).mul (H.w h))).add ((H.w h).mul (H.o h))

theorem sd (h : Fin 8) : R2 (I.sd h) (fun _ d => ∑ e, J.dS (col h e) d * J.st (col h e) d) := ((H.dS.hdT h).mul (H.st.hdT h)).csumT
theorem dkd (h : Fin 8) : R2 (I.dkd h) (fun t d => J.dkd t (col h d)) :=
  (((H.dS.hdT h).mm01 (H.v.hd h).tr).transp _).rt.congr fun t d => by unfold Rin.dkd; rw [hof_col, dof_col]
theorem dvs (h : Fin 8) : R2 (I.dvs h) (fun s e => ∑ d, J.dS (col h e) d * (J.k s (col h d) * J.ed s (col h d))) :=
  (((H.dS.hdT h).mm11 (H.kd.hd h).tr).transp _).rt
theorem dv4 (h : Fin 8) : R2 (I.dv4 h) (fun i e => ∑ t, J.dO h t e * (if i.val / 64 = t.val / 32 ∧ i.val % 64 ≤ t.val then
    ∑ d, J.qs t (col h d) * Real.exp (J.b t (col h d) - J.mid t (col h d)) * J.kal i (col h d) else 0)) :=
  (((H.dO h).mmC (H.P h).tr).transpS _).rt
theorem dP (h : Fin 8) : R2 (I.dP h) (fun t i => if i.val / 64 = t.val / 32 ∧ i.val % 64 ≤ t.val then ∑ e, J.dO h t e * J.val2 i (col h e) else 0) :=
  ((H.dO h).mmT (H.v4.hd2 h).tr).rt.sel kc0 mAll _ mAll_apply
theorem dSn (h : Fin 8) : R2 (I.dSn h) (fun e d => J.dSn (col h e) d) :=
  (((H.et.hd1 h).downT.mul (H.dS.hdT h)).add ((H.dO h).mmC (H.qb.hd h).tr).rt).congr fun e d => by
    unfold Rin.dSn; rw [hof_col, dof_col]
theorem dqb (h : Fin 8) : R2 (I.dqb h) (fun t d => J.dqb t (col h d)) :=
  ((H.dO h).mm (H.st.hdT h).tr).rt.congr fun t d => by unfold Rin.dqb; rw [hof_col, dof_col]
theorem dka (h : Fin 8) : R2 (I.dka h) (fun i d => ∑ t, (if i.val / 64 = t.val / 32 ∧ i.val % 64 ≤ t.val then ∑ e, J.dO h t e * J.val2 i (col h e) else 0)
    * (J.qs t (col h d) * Real.exp (J.b t (col h d) - J.mid t (col h d)))) := ((H.dP h).mmC (H.qt.hd h).tr).rt
theorem dqt (h : Fin 8) : R2 (I.dqt h) (fun t d => ∑ i, (if i.val / 64 = t.val / 32 ∧ i.val % 64 ≤ t.val then ∑ e, J.dO h t e * J.val2 i (col h e) else 0)
    * J.kal i (col h d)) := ((H.dP h).mm (H.kall.hd2 h).tr).rt

theorem DST : R2 I.DST J.dSn := (R2.catT H.dSn).congr fun c d => by rw [col_hof]
theorem SD : R2 I.SD (fun _ c => ∑ e, J.dS (col (hof c) e) (dof c) * J.st (col (hof c) e) (dof c)) := R2.cat1 H.sd
theorem DZ : R2 I.DZ J.dz := (R2.cat H.dz).congr fun t c => by rw [col_hof]
theorem DVS : R2 I.DVS (fun s c => ∑ d, J.dS c d * (J.k s (col (hof c) d) * J.ed s (col (hof c) d))) :=
  (R2.cat H.dvs).congr fun t c => by rw [col_hof]
theorem DKD : R2 I.DKD J.dkd := (R2.cat H.dkd).congr fun t c => by rw [col_hof]
theorem DQB : R2 I.DQB J.dqb := (R2.cat H.dqb).congr fun t c => by rw [col_hof]

/-- The products with the two copies of the values, joined. -/
theorem dv4_sum (h : Fin 8) (s : Fin 64) (e : Fin 128) :
    (∑ t, J.dO h t e * (if (⟨s.val, by omega⟩ : Fin 128).val / 64 = t.val / 32 ∧ (⟨s.val, by omega⟩ : Fin 128).val % 64 ≤ t.val then
      ∑ d, J.qs t (col h d) * Real.exp (J.b t (col h d) - J.mid t (col h d)) * J.kal ⟨s.val, by omega⟩ (col h d) else 0))
    + (∑ t, J.dO h t e * (if (⟨64 + s.val, by omega⟩ : Fin 128).val / 64 = t.val / 32 ∧ (⟨64 + s.val, by omega⟩ : Fin 128).val % 64 ≤ t.val then
      ∑ d, J.qs t (col h d) * Real.exp (J.b t (col h d) - J.mid t (col h d)) * J.kal ⟨64 + s.val, by omega⟩ (col h d) else 0))
    = ∑ t, J.A h t s * J.dO h t e := by
  rw [← Finset.sum_add_distrib]
  refine Finset.sum_congr rfl fun t _ => ?_
  by_cases k : s ≤ t
  · have k' : s.val ≤ t.val := k
    by_cases hl : t.val < 32
    · rw [if_pos ⟨by dsimp only; omega, by dsimp only; omega⟩, if_neg (by dsimp only; omega), A_eq H h t s k _ (fun c => kal_lo H t s k c hl)]; ring
    · rw [if_neg (by dsimp only; omega), if_pos ⟨by dsimp only; omega, by dsimp only; omega⟩, A_eq H h t s k _ (fun c => kal_hi H t s k c (by omega))]; ring
  · have k' : ¬ s.val ≤ t.val := k
    rw [if_neg (by dsimp only; omega), if_neg (by dsimp only; omega), A_zero H h t s k]; ring

theorem DV : R2 I.DV J.dv :=
  ((H.DVS.add ((R2.cat2 H.dv4).lower _)).add ((R2.cat2 H.dv4).upper _)).congr fun s c => by
    unfold Rin.dv
    rw [add_assoc]; congr 1
    exact dv4_sum H (hof c) s (dof c)

/-- The key gradients of the two halves, before they are joined. -/
def _root_.Cert.HG.Rin.klo (J : Rin) (s : Fin 64) (c : Fin 1024) : ℝ :=
  ∑ t : Fin 64, if t.val < 32 then J.dA (hof c) t s * J.qs t c * J.dec t s c else 0
def _root_.Cert.HG.Rin.khi (J : Rin) (s : Fin 64) (c : Fin 1024) : ℝ :=
  ∑ t : Fin 64, if t.val < 32 then 0 else J.dA (hof c) t s * J.qs t c * J.dec t s c

theorem khl (s : Fin 64) (c : Fin 1024) : J.khi s c + J.klo s c = J.dki s c := by
  unfold Rin.khi Rin.klo Rin.dki
  rw [← Finset.sum_add_distrib]
  exact Finset.sum_congr rfl fun t _ => by split_ifs <;> ring

theorem dec_zero (t s : Fin 64) (hs : ¬ s ≤ t) (c : Fin 1024) : J.dec t s c = 0 := if_neg hs

theorem dA_lo (h : Fin 8) (t s : Fin 64) : (∑ e, J.dO h t e * J.val2 ⟨s.val, by omega⟩ (col h e)) = J.dA h t s := by
  unfold Rin.dA; exact Finset.sum_congr rfl fun e _ => by rw [val2_lo H]
theorem dA_hi (h : Fin 8) (t s : Fin 64) : (∑ e, J.dO h t e * J.val2 ⟨64 + s.val, by omega⟩ (col h e)) = J.dA h t s := by
  unfold Rin.dA; exact Finset.sum_congr rfl fun e _ => by rw [val2_hi H]

theorem Klo : R2 (mulf I.Klo I.elo) J.klo :=
  (((R2.cat2 H.dka).lower _).mul H.elo).congr fun s c => by
    unfold Rin.klo
    dsimp only
    rw [Finset.sum_mul]
    refine Finset.sum_congr rfl fun t _ => ?_
    rw [col_hof, dA_lo H]
    by_cases hl : t.val < 32
    · by_cases k : s ≤ t
      · have k' : s.val ≤ t.val := k
        rw [if_pos ⟨by omega, by omega⟩, if_pos hl, ← cancel H t s k c hl]; ring
      · have k' : ¬ s.val ≤ t.val := k
        rw [if_neg (by omega), if_pos hl, dec_zero H t s k]; ring
    · rw [if_neg (by omega), if_neg hl]; ring
theorem Khi : R2 (mulf I.Khi I.ehi) J.khi :=
  (((R2.cat2 H.dka).upper _).mul H.ehi).congr fun s c => by
    unfold Rin.khi
    dsimp only
    rw [Finset.sum_mul]
    refine Finset.sum_congr rfl fun t _ => ?_
    rw [col_hof, dA_hi H]
    by_cases hl : t.val < 32
    · rw [if_neg (by omega), if_pos hl]; ring
    · by_cases k : s ≤ t
      · have k' : s.val ≤ t.val := k
        rw [if_pos ⟨by omega, by omega⟩, if_neg hl, ← cancel' H t s k c (by omega)]; ring
      · have k' : ¬ s.val ≤ t.val := k
        rw [if_neg (by omega), if_neg hl, dec_zero H t s k]; ring

/-- A product of three arrays, regrouped. -/
theorem regroup {x y z : FVec Ideal S64x1024 .f32} {p q r : Fin 64 → Fin 1024 → ℝ} (h1 : R2 x p) (h2 : R2 y q) (h3 : R2 z r) {s : Fin 64 → Fin 1024 → ℝ}
    (h : R2 (mulf y z) s) : R2 (mulf (mulf x y) z) (fun t c => p t c * s t c) := ((h1.mul h2).mul h3).congr fun t c => by
  have e := h t c
  rw [(h2.mul h3) t c, EReal.coe_eq_coe_iff] at e
  rw [← e]; ring

theorem DK : R2 I.DK J.dk := (((H.DKD.mul H.ed).add H.Khi).add H.Klo).congr fun t c => by
  unfold Rin.dk; rw [← khl H]; ring
theorem x1110 : R2 I.x1110 (fun s c => J.k s c * J.khi s c) :=
  ((regroup H H.k ((R2.cat2 H.dka).upper _) H.ehi H.Khi).sel kc0 (rowLt 64#32) _ (rowLt_apply 64 (by omega))).congr fun s c => if_pos s.isLt
theorem klo_zero (s : Fin 64) (c : Fin 1024) (h : ¬ s.val < 32) : J.klo s c = 0 := by
  unfold Rin.klo
  refine Finset.sum_eq_zero fun t _ => ?_
  split_ifs with k
  · rw [dec_zero H t s (fun e => by have : s.val ≤ t.val := e; omega), mul_zero]
  · rfl
theorem x1121 : R2 I.x1121 (fun s c => J.k s c * J.klo s c) :=
  ((regroup H H.k ((R2.cat2 H.dka).lower _) H.elo H.Klo).sel kc0 (rowLt 32#32) _ (rowLt_apply 32 (by omega))).congr fun s c => by
    split_ifs with k
    · rfl
    · rw [klo_zero H s c k, mul_zero]
theorem DQT : R2 (mulf I.DQT I.eq) J.dqi := ((R2.cat H.dqt).mul H.eq).congr fun t c => by
  unfold Rin.dqi
  simp only [col_hof, ite_mul, zero_mul]
  rw [sumMask t _ (fun s => J.dA (hof c) t s * (J.k s c * Real.exp (J.mid t c - J.b t c) * J.dec t s c))]
  · rw [Finset.sum_mul]
    refine Finset.sum_congr rfl fun s _ => ?_
    by_cases k : s ≤ t
    · rw [if_pos k]
      have : Real.exp (J.mid t c - J.b t c) * Real.exp (J.b t c - J.mid t c) = 1 := by rw [← Real.exp_add]; simp
      linear_combination (J.dA (hof c) t s * J.k s c * J.dec t s c) * this
    · rw [if_neg k, dec_zero H t s k]; ring
  · intro s hl hs
    have : Real.exp (J.mid t c - J.b t c) * Real.exp (J.b t c - J.mid t c) = 1 := by rw [← Real.exp_add]; simp
    have e := kal_lo H t s hs c hl
    rw [dA_lo H]
    linear_combination (J.dA (hof c) t s * Real.exp (J.mid t c - J.b t c)) * e - J.dA (hof c) t s * J.kal ⟨s.val, by omega⟩ c * this
  · intro s hl hs
    have : Real.exp (J.mid t c - J.b t c) * Real.exp (J.b t c - J.mid t c) = 1 := by rw [← Real.exp_add]; simp
    have e := kal_hi H t s hs c hl
    rw [dA_hi H]
    linear_combination (J.dA (hof c) t s * Real.exp (J.mid t c - J.b t c)) * e - J.dA (hof c) t s * J.kal ⟨64 + s.val, by omega⟩ c * this
theorem DQS : R2 I.DQS J.dqs := (H.DQB.mul H.eb).add H.DQT
theorem x1130 : R2 I.x1130 (fun t c => J.qs t c * J.dqi t c) := regroup H H.qs (R2.cat H.dqt) H.eq H.DQT
theorem x1132 : R2 I.x1132 (fun t c => -(J.qs t c * J.dqi t c)) := (kc0.sub H.x1130).congr fun t c => zero_sub _
theorem x1086 : R2 I.x1086 (fun t c => J.k t c * J.dkd t c * J.ed t c) := (H.k.mul H.DKD).mul H.ed
theorem dbl : R2 I.dbl (fun _ c => J.dbl c) := (H.SD.mul H.et).add H.x1086.csum
theorem x1133 : R2 I.x1133 J.db :=
  ((((((kc0.sub H.x1086).add ((H.qs.mul H.DQB).mul H.eb)).add (kc0.sub H.x1110)).add (kc0.sub H.x1121)).add H.x1130)).congr fun t c => by
    unfold Rin.db; rw [← khl H]; ring

/-- What a half's keys lose its queries gain: the measure's own gradient is zero. -/
theorem hi_zero (c : Fin 1024) : (∑ s, J.k s c * J.khi s c) + (∑ t : Fin 64, if 32 ≤ t.val ∧ t.val < 64 then -(J.qs t c * J.dqi t c) else 0) = 0 := by
  unfold Rin.khi Rin.dqi
  simp only [Finset.mul_sum]
  rw [Finset.sum_comm, ← Finset.sum_add_distrib]
  refine Finset.sum_eq_zero fun t _ => ?_
  by_cases h : t.val < 32
  · rw [if_neg (by omega)]; simp only [h, if_true, mul_zero, Finset.sum_const_zero, add_zero]
  · rw [if_pos (by omega)]; simp only [h, if_false]
    rw [← Finset.sum_neg_distrib, ← Finset.sum_add_distrib]
    exact Finset.sum_eq_zero fun s _ => by ring
theorem lo_zero (c : Fin 1024) : (∑ s, J.k s c * J.klo s c) + (∑ t : Fin 64, if 0 ≤ t.val ∧ t.val < 32 then -(J.qs t c * J.dqi t c) else 0) = 0 := by
  unfold Rin.klo Rin.dqi
  simp only [Finset.mul_sum]
  rw [Finset.sum_comm, ← Finset.sum_add_distrib]
  refine Finset.sum_eq_zero fun t _ => ?_
  by_cases h : t.val < 32
  · rw [if_pos (by omega)]; simp only [h, if_true]
    rw [← Finset.sum_neg_distrib, ← Finset.sum_add_distrib]
    exact Finset.sum_eq_zero fun s _ => by ring
  · rw [if_neg (by omega)]; simp only [h, if_false, mul_zero, Finset.sum_const_zero, add_zero]

theorem x1138 : R2 I.x1138 (fun _ _ => 0) :=
  (H.x1110.csum.add ((H.x1132.sel kc0 (rowIn 32#32 64#32) _ (rowIn_apply 32 64 (by omega) (by omega))).csum)).congr fun _ c => hi_zero H c
theorem x1143 : R2 I.x1143 (fun _ _ => 0) :=
  (H.x1121.csum.add ((H.x1132.sel kc0 (rowIn 0#32 32#32) _ (rowIn_apply 0 32 (by omega) (by omega))).csum)).congr fun _ c => lo_zero H c

theorem DB : R2 I.DB J.db :=
  ((H.x1133.add (H.x1138.csum1.down.sel kc0 (rowEq 48#32) _ (rowEq_apply 48 (by omega)))).add
    (H.x1143.csum1.down.sel kc0 (rowEq 16#32) _ (rowEq_apply 16 (by omega)))).congr fun t c => by
      simp only [ite_self, add_zero]

theorem DLF : R2 I.DLF J.dlf := (H.dbl.csum1.down.add ((H.DB.csum.down.sub H.DB.scan).add H.DB)).congr fun t c => by
  unfold Rin.dlf
  congr 1
  rw [← Finset.sum_sub_distrib, ← pick H (fun s => J.db s c) t, ← Finset.sum_add_distrib]
  refine Finset.sum_congr rfl fun s _ => ?_
  rcases lt_trichotomy s.val t.val with h | h | h
  · rw [if_pos (show s ≤ t from le_of_lt h), if_neg (by omega), if_neg (fun e => by have : t.val ≤ s.val := e; omega)]; ring
  · rw [if_pos (show s ≤ t from le_of_eq (Fin.ext h)), if_pos h, if_pos (show t ≤ s from ge_of_eq (Fin.ext h))]; ring
  · rw [if_neg (fun e => by have : s.val ≤ t.val := e; omega), if_neg (by omega), if_pos (show t ≤ s from le_of_lt h)]; ring
theorem DFG : R2 I.DFG J.dfg := H.DLF.div H.fg fun t c => (J.fg_pos H.nn t c).ne'
theorem DQ : R2 I.DQ J.dq := (H.DQS.mul H.sq).add ((H.q.mul H.DQS).mul H.sq1)
theorem DF : R2 I.DF J.df := ((kc0.sub ((H.u12.down.mul H.DK).mul H.sn1)).add ((H.u12.down.mul H.DFG).mul H.sf1)).congr fun t c => by
  unfold Rin.df; rw [zero_sub]
theorem DLB : R2 I.DLB (fun _ c => J.dlb c) :=
  ((((kc0.sub (H.DK.mul H.sn).csum)).add H.DFG.csum).add (kc0.sub (H.DFG.mul H.sf).csum)).congr fun _ c => by
    unfold Rin.dlb; ring

end Rep
end Cert.HG
end
-- ==== Proof.RefReal.lean ====
/- One turn of the plain backward pass, over the real numbers: each named value of the turn holds the real numbers of `Spec`. -/
module

public import proofs.«01_k».proof.Proof.ROps
public import proofs.«01_k».proof.Proof.KReal
public import proofs.«01_k».proof.Proof.Gen.ReferenceIdeal.Run

@[expose] public section

set_option maxRecDepth 8192

noncomputable section

namespace Cert.HG

open Idealize.ShloMosaic Idealize.ShloMosaic.TcCoe Idealize.SL.Sem
open Cert.ReferenceIdeal Cert.ReferenceIdeal.Gen Cert.ReferenceIdeal.Value

abbrev W2 (x : FVec Ideal S64x1024 .f32) (r : Fin 64 → Fin 1024 → ℝ) : Prop := R2 x r
abbrev H3 (x : FVec Ideal S8x64x128 .f32) (r : Fin 8 → Fin 64 → Fin 128 → ℝ) : Prop := R3 x r
abbrev T3 (x : FVec Ideal S64x8x128 .f32) (r : Fin 64 → Fin 8 → Fin 128 → ℝ) : Prop := R3 x r
abbrev M3 (x : FVec Ideal S64x8x1 .f32) (r : Fin 64 → Fin 8 → Fin 1 → ℝ) : Prop := R3 x r
abbrev D4 (x : FVec Ideal S8x64x64x128 .f32) (r : Fin 8 → Fin 64 → Fin 64 → Fin 128 → ℝ) : Prop := R4 x r
abbrev G3 (x : FVec Ideal S8x128x128 .f32) (r : Fin 8 → Fin 128 → Fin 128 → ℝ) : Prop := R3 x r

/-- The turn that starts from `V` reads the real numbers of `J`. -/
structure RRep (V : Valuation τ sig (Elt Ideal)) (J : Rin) : Prop where
  q : W2 (res_main_while0b_v21 V) J.q
  f : W2 (res_main_while0b_v22 V) J.f
  v : W2 (extractStridedSlice S64x1024 ![0, 2048] (res_main_while0b_v19 V) slices_S64x4096_S64x1024_0_2048) J.v
  z : W2 (res_main_while0b_v24 V) J.z
  dp : W2 (res_main_while0b_v20 V) J.dp
  st : G3 (res_main_while0b_v18 V) (fun h d e => J.st (col h e) d)
  dS : G3 (V (Proc.devRef .tc main_v12_6)) (fun h d e => J.dS (col h e) d)
  lb : R2 (a := 1) (b := 1024) (φ := .f32) (V (Proc.devRef .tc main_v12_3)) (fun _ c => J.lb c)
  go : R2 (a := 1) (b := 128) (φ := .f32) (V (Proc.devRef .tc main_v12_4)) (fun _ e => J.go e)
  nn : ∀ c, 0 ≤ J.lb c

namespace RRep
variable {V : Valuation τ sig (Elt Ideal)} {J : Rin} (H : RRep V J)
include H

theorem u1 : R2 (a := 1) (b := 1024) (φ := .f32) (res_main_while0b_v26 V) (fun _ c => 1 - J.lb c) := (R2.splat _ ofBits_one).sub H.lb
theorem u2 : R2 (a := 1) (b := 1024) (φ := .f32) (res_main_while0b_v42 V) (fun _ c => 1 - J.lb c) := (R2.splat _ ofBits_one).sub H.lb
theorem sf : W2 (res_main_while0b_v32 V) (fun t c => sg (J.f t c)) := H.f.hsg _ _
theorem fg : W2 (res_main_while0b_v39 V) J.fg := (H.lb.bdown _).add ((H.u1.bdown _).mul H.sf)
theorem sn : W2 (res_main_while0b_v49 V) (fun t c => sg (-J.f t c)) := H.f.hneg.hsg _ _
theorem sq : W2 (res_main_while0b_v55_2 V) (fun t c => sg (J.q t c)) := H.q.hsg _ _
theorem qs : H3 (res_main_while0b_v57 V) (fun h t d => J.qs t (col h d)) := ((H.q.mul H.sq).split _).swap _
theorem k : H3 (res_main_while0b_v59 V) (fun h t d => J.k t (col h d)) := (((H.u2.bdown _).mul H.sn).split _).swap _
theorem vh : H3 (res_main_while0b_v61 V) (fun h t d => J.v t (col h d)) := (H.v.split _).swap _
theorem b : H3 (res_main_while0b_v66 V) (fun h t d => J.b t (col h d)) := (((H.fg.hlog (J.fg_pos H.nn)).split _).swap _).before _ _ _
theorem mask (h : Fin 8) (t s : Fin 64) (d : Fin 128) : (res_main_while0b_v73_1 V : IVec S8x64x64x128 1) (ix4 h t s d) = if s ≤ t then 1#1 else 0#1 :=
  causal _ _ _ _ _ h t s d
theorem dec : D4 (res_main_while0b_v74 V) (fun h t s d => J.dec t s (col h d)) :=
  ((H.b.bt _ _).sub (H.b.bs _ _)).expMask _ H.mask ofBits_bot
theorem qk : D4 (res_main_while0b_v79 V) (fun h t s d => J.qs t (col h d) * J.k s (col h d)) := (H.qs.bt _ _).mul (H.k.bs _ _)
theorem A : R3 (a := 8) (b := 64) (c := 64) (φ := .f32) (res_main_while0b_v81 V) J.A := (H.qk.mul H.dec).sumD _ _
theorem eb : H3 (res_main_while0b_v83 V) (fun h t d => Real.exp (J.b t (col h d))) := H.b.hexp
theorem qb : H3 (res_main_while0b_v84 V) (fun h t d => J.qs t (col h d) * Real.exp (J.b t (col h d))) := H.qs.mul H.eb

/-- The last running sum is the whole sum. -/
theorem last (c : Fin 1024) : J.b 63 c = J.bt c := by
  unfold Rin.b Rin.bt
  exact Finset.sum_congr rfl fun s _ => if_pos (Fin.le_last s)

theorem bl : R3 (a := 8) (b := 1) (c := 128) (φ := .f32) (res_main_while0b_v87 V) (fun h _ d => J.bt (col h d)) :=
  (H.b.row63 _).congr fun h _ d => last H (col h d)
theorem el : R3 (a := 8) (b := 1) (c := 128) (φ := .f32) (res_main_while0b_v88 V) (fun h _ d => Real.exp (J.bt (col h d))) := H.bl.hexp
theorem ed : H3 (res_main_while0b_v95 V) (fun h t d => J.ed t (col h d)) := ((H.bl.bdown _).sub H.b).hexp
theorem kd : H3 (res_main_while0b_v96 V) (fun h t d => J.k t (col h d) * J.ed t (col h d)) := H.k.mul H.ed
theorem o : T3 (res_main_while0b_v99 V) (fun t h e => J.o h t e) := ((H.A.dotAV H.vh).add (H.qb.dotQS H.st)).back _
theorem ms : M3 (res_main_while0b_v106 V) (fun t h _ => J.ms h t) :=
  (((H.o.mul H.o).sumE _ _ _).hdiv (R3.splat _ ofBits_128) (fun _ _ _ => by norm_num)).add (R3.splat _ ofBits_eps)
theorem r : M3 (res_main_while0b_v107 V) (fun t h _ => J.r h t) := H.ms.hrsqrt fun t h _ => J.ms_pos h t
theorem on : T3 (res_main_while0b_v112 V) (fun t h e => J.o h t e * J.r h t) := H.o.mul (H.r.along _)
theorem y : W2 (res_main_while0b_v116 V) (fun t c => J.y (hof c) t (dof c)) := (H.on.mul (H.go.gain _ _)).join _
theorem sz : W2 (res_main_while0b_v117_2 V) (fun t c => sg (J.z t c)) := H.z.hsg _ _
theorem silu : W2 (res_main_while0b_v117_0 V) (fun t c => J.z t c * sg (J.z t c)) := H.z.mul H.sz
theorem yp : W2 (res_main_while0b_v119 V) (fun t c => J.y (hof c) t (dof c) * J.dp t c) := H.y.mul H.dp
theorem dy : T3 (res_main_while0b_v122 V) (fun t h e => J.dy h t e) := (H.dp.mul H.silu).split _
theorem dn : T3 (res_main_while0b_v127 V) (fun t h e => J.dn h t e) := H.dy.mul (H.go.gain _ _)
theorem w : T3 (res_main_while0b_v139 V) (fun t h _ => J.w h t) :=
  ((((H.o.mul H.dn).sumE' _ _ _).mul ((R3.splat _ ofBits_half).mul (H.r.hdiv H.ms fun t h _ => (J.ms_pos h t).ne'))).hdiv
    (R3.splat _ ofBits_128) (fun _ _ _ => by norm_num)).spread _ _ _
theorem dO : H3 (res_main_while0b_v144 V) J.dO := (((H.dn.mul (H.r.along _)).add (H.o.mul H.w)).add (H.w.mul H.o)).swap _
theorem dkd : H3 (res_main_while0b_v148 V) (fun h t d => J.dkd t (col h d)) := (H.dS.dotSV H.vh _).congr fun h t d => by
  unfold Rin.dkd; rw [hof_col, dof_col]
theorem kk : H3 (res_main_while0b_v151 V) (fun h t d => J.k t (col h d) * J.dkd t (col h d) * J.ed t (col h d)) := (H.k.mul H.dkd).mul H.ed
theorem dqb : H3 (res_main_while0b_v169 V) (fun h t d => J.dqb t (col h d)) := (H.dO.dotOS H.st).congr fun h t d => by
  unfold Rin.dqb; rw [hof_col, dof_col]
theorem dA : D4 (res_main_while0b_v178 V) (fun h t s _ => J.dA h t s) := (H.dO.dotOV H.vh).bA _
theorem dAd : D4 (res_main_while0b_v180 V) (fun h t s d => J.dA h t s * J.dec t s (col h d)) := H.dA.mul H.dec
theorem D : D4 (res_main_while0b_v194 V) (fun h t s d => J.qs t (col h d) * J.k s (col h d) * J.dA h t s * J.dec t s (col h d)) :=
  (((H.qk.mul H.dA).mul H.dec).selMask _ H.mask).congr fun h t s d => by
    split_ifs with k
    · rfl
    · unfold Rin.dec; rw [if_neg k, mul_zero]
theorem dk : W2 (res_main_while0b_v210 V) J.dk :=
  ((((H.dkd.mul H.ed).add (((H.qs.bt _ _).mul H.dAd).sumT _ _ _ _ _)).back _).join _).congr fun t c => by
    unfold Rin.dk Rin.dki
    simp only [col_hof]
    congr 1
    exact Finset.sum_congr rfl fun s _ => by ring
theorem dqs : W2 (res_main_while0b_v212 V) J.dqs :=
  ((((H.dqb.mul H.eb).add ((H.dAd.mul (H.k.bs _ _)).sumS _ _ _ _ _)).back _).join _).congr fun t c => by
    unfold Rin.dqs Rin.dqi
    simp only [col_hof]
    congr 1
    exact Finset.sum_congr rfl fun s _ => by ring
theorem dfg : W2 (res_main_while0b_v222 V) J.dfg :=
  (((((((((H.kk.hneg.add (((H.kk.sumRows _ _ _).add (((H.dS.mul H.st).sumState _ _ _ _ _ _).mul H.el)).lastRow _ _)).add
    ((H.qs.mul H.dqb).mul H.eb)).add (H.D.hneg.sumT _ _ _ _ _)).add (H.D.sumS _ _ _ _ _)).after _ _ _).back _).join _)).hdiv H.fg
      (fun t c => (J.fg_pos H.nn t c).ne')).congr fun t c => by
    unfold Rin.dfg Rin.dlf
    congr 1
    simp only [col_hof]
    have e : J.dbl c = ∑ s : Fin 64, if t ≤ s then (if s.val = 63 then J.dbl c else 0) else 0 := by
      rw [Finset.sum_eq_single 63]
      · rw [if_pos (show t ≤ 63 from Fin.le_last t), if_pos (show ((63 : Fin 64)).val = 63 from rfl)]
      · intro s _ hs
        rw [if_neg (show ¬ s.val = 63 from fun h => hs (Fin.ext h)), ite_self]
      · intro h; exact absurd (Finset.mem_univ _) h
    rw [e, ← Finset.sum_add_distrib]
    refine Finset.sum_congr rfl fun s _ => ?_
    split_ifs with k1 k2
    · unfold Rin.dbl Rin.db Rin.dqi Rin.dki
      rw [Finset.mul_sum, Finset.mul_sum, Finset.sum_neg_distrib]
      rw [show (∑ i, J.qs i c * J.k s c * J.dA (hof c) i s * J.dec i s c) = ∑ i, J.k s c * (J.dA (hof c) i s * J.qs i c * J.dec i s c) from
          Finset.sum_congr rfl fun i _ => by ring,
        show (∑ i, J.qs s c * J.k i c * J.dA (hof c) s i * J.dec s i c) = ∑ i, J.qs s c * (J.dA (hof c) s i * J.k i c * J.dec s i c) from
          Finset.sum_congr rfl fun i _ => by ring]
      ring
    · unfold Rin.db Rin.dqi Rin.dki
      rw [Finset.mul_sum, Finset.mul_sum, Finset.sum_neg_distrib]
      rw [show (∑ i, J.qs i c * J.k s c * J.dA (hof c) i s * J.dec i s c) = ∑ i, J.k s c * (J.dA (hof c) i s * J.qs i c * J.dec i s c) from
          Finset.sum_congr rfl fun i _ => by ring,
        show (∑ i, J.qs s c * J.k i c * J.dA (hof c) s i * J.dec s i c) = ∑ i, J.qs s c * (J.dA (hof c) s i * J.k i c * J.dec s i c) from
          Finset.sum_congr rfl fun i _ => by ring]
      ring
    · ring

/-! ## What the turn carries on -/

theorem dSn : G3 (step_main_v12_6 V) (fun h d e => J.dSn (col h e) d) :=
  (((H.el.bstate _ _ _).mul H.dS).add (H.dO.dotOQ H.qb _)).congr fun h d e => by
    unfold Rin.dSn; rw [hof_col, dof_col]
theorem dlb {r : Fin 1024 → ℝ} (h0 : R2 (a := 1) (b := 1024) (φ := .f32) (V (Proc.devRef .tc main_v12_7)) (fun _ c => r c)) :
    R2 (a := 1) (b := 1024) (φ := .f32) (step_main_v12_7 V) (fun _ c => r c + J.dlb c) :=
  (h0.add (((((H.dk.mul H.sn).sumRows _ _ _).hneg).add (H.dfg.sumRows _ _ _)).add (((H.dfg.mul H.sf).sumRows _ _ _).hneg))).congr fun _ c => by
    unfold Rin.dlb; ring
theorem dgo {r : Fin 128 → ℝ} (h0 : R2 (a := 1) (b := 128) (φ := .f32) (V (Proc.devRef .tc main_v12_8)) (fun _ c => r c)) :
    R2 (a := 1) (b := 128) (φ := .f32) (step_main_v12_8 V) (fun _ e => r e + J.dgo e) :=
  h0.add ((H.on.mul H.dy).sumAll _ _ _ _ _ _)

/-! ## The gradients of the chunk's rows -/

theorem one : W2 (broadcastInDim S64x1024 ![] bcast_S_S64x1024 (constant (F := Ideal) S_ .f32 0x3F800000#32)) (fun _ _ => 1) := R2.splat _ ofBits_one
theorem dq : W2 (addf (mulf (res_main_while0b_v212 V) (res_main_while0b_v55_2 V)) (mulf (mulf (res_main_while0b_v21 V) (res_main_while0b_v212 V))
    (mulf (res_main_while0b_v55_2 V) (subf (broadcastInDim S64x1024 ![] bcast_S_S64x1024 (constant S_ .f32 0x3F800000#32)) (res_main_while0b_v55_2 V))))) J.dq :=
  (H.dqs.mul H.sq).add ((H.q.mul H.dqs).mul (H.sq.mul (H.one.sub H.sq)))
theorem df : W2 (addf (Host.negf (mulf (mulf (broadcastInDim S64x1024 ![0, 1] bcast_S1x1024_S64x1024_0_1 (res_main_while0b_v42 V)) (res_main_while0b_v210 V))
      (mulf (res_main_while0b_v49 V) (subf (broadcastInDim S64x1024 ![] bcast_S_S64x1024 (constant S_ .f32 0x3F800000#32)) (res_main_while0b_v49 V)))))
    (mulf (mulf (broadcastInDim S64x1024 ![0, 1] bcast_S1x1024_S64x1024_0_1 (res_main_while0b_v26 V)) (res_main_while0b_v222 V))
      (mulf (res_main_while0b_v32 V) (subf (broadcastInDim S64x1024 ![] bcast_S_S64x1024 (constant S_ .f32 0x3F800000#32)) (res_main_while0b_v32 V))))) J.df :=
  ((((H.u2.bdown _).mul H.dk).mul (H.sn.mul (H.one.sub H.sn))).hneg).add (((H.u1.bdown _).mul H.dfg).mul (H.sf.mul (H.one.sub H.sf)))
theorem dv : W2 (shapeCast S64x1024 (transpose S64x8x128 [1, 0, 2] (addf
      (transpose S8x64x128 [0, 2, 1] (Host.dotGeneral (φ₁ := .f32) (φ₂ := .f32) dot_S8x128x128_S8x64x128_S8x128x64_1_2_2_1_0_0 none
        ((V (Proc.devRef .tc main_v12_6) : (⟨S8x128x128, .f32⟩ : BufTy).Contents (Elt Ideal)) : FVec Ideal S8x128x128 .f32) (res_main_while0b_v96 V)) transposes_S8x128x64_S8x64x128_0_2_1)
      (transpose S8x64x128 [0, 2, 1] (Host.dotGeneral (φ₁ := .f32) (φ₂ := .f32) dot_S8x64x128_S8x64x64_S8x128x64_1_1_2_2_0_0 none (res_main_while0b_v144 V) (res_main_while0b_v81 V)) transposes_S8x128x64_S8x64x128_0_2_1))
      transposes_S8x64x128_S64x8x128_1_0_2) shapeCasts_S64x8x128_S64x1024) J.dv :=
  ((((H.dS.dotSK H.kd _).add (H.dO.dotOA H.A _)).back _).join _).congr fun t c => by
    unfold Rin.dv
    simp only [col_hof]
    congr 1
    exact Finset.sum_congr rfl fun s _ => mul_comm _ _
theorem dz : W2 (addf (mulf (res_main_while0b_v119 V) (res_main_while0b_v117_2 V)) (mulf (mulf (res_main_while0b_v24 V) (res_main_while0b_v119 V))
    (mulf (res_main_while0b_v117_2 V) (subf (broadcastInDim S64x1024 ![] bcast_S_S64x1024 (constant S_ .f32 0x3F800000#32)) (res_main_while0b_v117_2 V))))) J.dz :=
  (H.yp.mul H.sz).add ((H.z.mul H.yp).mul (H.sz.mul (H.one.sub H.sz)))

end RRep
end Cert.HG
end
-- ==== Proof.Seq.lean ====
/- The whole backward pass over the real numbers: the chunks one by one, the last chunk first. -/
module

public import proofs.«01_k».proof.Proof.Spec

@[expose] public section

noncomputable section

namespace Cert.HG

/-- Row `t` of chunk `i`; column `c` of part `g` of a row. -/
def row (i : Fin 256) (t : Fin 64) : Fin 16384 := ⟨i.val * 64 + t.val, by omega⟩
def wide (g : Fin 4) (c : Fin 1024) : Fin 4096 := ⟨1024 * g.val + c.val, by omega⟩
/-- The chunk that turn `k` of the pass visits. -/
def rev (k : ℕ) : Fin 256 := ⟨255 - k, by omega⟩

theorem rev_rev (i : Fin 256) : rev (255 - i.val) = i := Fin.ext (by show 255 - (255 - i.val) = i.val; omega)
theorem eq_rev {k : ℕ} (hk : k < 256) {i : Fin 256} (h : i = rev k) : 255 - i.val = k := by
  subst h; show 255 - (255 - k) = k; omega

/-- What the pass reads, as real numbers. -/
structure All where
  u : Fin 16384 → Fin 4096 → ℝ
  sts : Fin 256 → Fin 1024 → Fin 128 → ℝ
  dp : Fin 16384 → Fin 1024 → ℝ
  lb : Fin 1024 → ℝ
  go : Fin 128 → ℝ

namespace All
variable (A : All)

/-- Chunk `i`'s part of it, with a gradient of the state after the chunk. -/
def cut (i : Fin 256) (dS : Fin 1024 → Fin 128 → ℝ) : Rin where
  q t c := A.u (row i t) (wide 0 c)
  f t c := A.u (row i t) (wide 1 c)
  v t c := A.u (row i t) (wide 2 c)
  z t c := A.u (row i t) (wide 3 c)
  dp t c := A.dp (row i t) c
  st := A.sts i
  dS := dS
  lb := A.lb
  go := A.go

/-- The gradient of the state before turn `k`, the last chunk's being zero. -/
def dSs : ℕ → Fin 1024 → Fin 128 → ℝ
  | 0 => fun _ _ => 0
  | k + 1 => (A.cut (rev k) (dSs k)).dSn
/-- Turn `k`. -/
def turn (k : ℕ) : Rin := A.cut (rev k) (A.dSs k)
/-- The two sums over the turns before turn `k`. -/
def lbs : ℕ → Fin 1024 → ℝ
  | 0 => fun _ => 0
  | k + 1 => fun c => lbs k c + (A.turn k).dlb c
def gos : ℕ → Fin 128 → ℝ
  | 0 => fun _ => 0
  | k + 1 => fun e => gos k e + (A.turn k).dgo e

/-- The gradient of the rows of chunk `i`, part `g`. -/
def du (i : Fin 256) (t : Fin 64) (g : Fin 4) (c : Fin 1024) : ℝ :=
  match g with
  | 0 => (A.turn (255 - i.val)).dq t c
  | 1 => (A.turn (255 - i.val)).df t c
  | 2 => (A.turn (255 - i.val)).dv t c
  | 3 => (A.turn (255 - i.val)).dz t c

end All
end Cert.HG
end
-- ==== Proof.Slices.lean ====
/- How the plain backward pass reads one chunk out of its arrays, and writes one chunk into them. -/
module

public import proofs.«01_k».proof.Proof.ROps
public import proofs.«01_k».proof.Proof.Seq
public import proofs.«01_k».proof.ReferenceIdeal
public import Idealize.ShloMosaic.Lib.DynamicIndex
public import Idealize.ShloMosaic.Lib.Pipeline.Value

@[expose] public section

noncomputable section

namespace Cert.HG

open Idealize.ShloMosaic Idealize.ShloMosaic.TcCoe Idealize.SL.Sem
open Cert.ReferenceIdeal

variable {α : Type}

/-- Chunk `i` of an array of row blocks. -/
theorem chunk_u (x : S256x64x4096.Idx → α) (start : Fin 3 → Int) (h) (hc) (i : Fin 256) (hs : start = ![(i.val : Int), 0, 0]) (t : Fin 64) (c : Fin 4096) :
    shapeCast S64x4096 (Host.dynamicSlice S1x64x4096 x start h) hc (ix2 t c) = x (ix3 i t c) := by
  subst hs
  rw [Host.dynamicSlice_eq_extractStridedSlice S1x64x4096 x _ ![i.val, 0, 0] h
    ⟨rfl, fun a => by have := i.isLt; match a with | 0 => show i.val + 1 ≤ 256; omega | 1 => exact Nat.le_of_eq (Nat.zero_add _) | 2 => exact Nat.le_of_eq (Nat.zero_add _)⟩
    (fun a => by match a with | 0 => rfl | 1 => rfl | 2 => rfl)]
  pointwise
theorem chunk_dp (x : S256x64x1024.Idx → α) (start : Fin 3 → Int) (h) (hc) (i : Fin 256) (hs : start = ![(i.val : Int), 0, 0]) (t : Fin 64) (c : Fin 1024) :
    shapeCast S64x1024 (Host.dynamicSlice S1x64x1024 x start h) hc (ix2 t c) = x (ix3 i t c) := by
  subst hs
  rw [Host.dynamicSlice_eq_extractStridedSlice S1x64x1024 x _ ![i.val, 0, 0] h
    ⟨rfl, fun a => by have := i.isLt; match a with | 0 => show i.val + 1 ≤ 256; omega | 1 => exact Nat.le_of_eq (Nat.zero_add _) | 2 => exact Nat.le_of_eq (Nat.zero_add _)⟩
    (fun a => by match a with | 0 => rfl | 1 => rfl | 2 => rfl)]
  pointwise
theorem chunk_st (x : S256x8x128x128.Idx → α) (start : Fin 4 → Int) (h) (hc) (i : Fin 256) (hs : start = ![(i.val : Int), 0, 0, 0]) (g : Fin 8) (d e : Fin 128) :
    shapeCast S8x128x128 (Host.dynamicSlice S1x8x128x128 x start h) hc (ix3 g d e) = x (ix4 i g d e) := by
  subst hs
  rw [Host.dynamicSlice_eq_extractStridedSlice S1x8x128x128 x _ ![i.val, 0, 0, 0] h
    ⟨rfl, fun a => by have := i.isLt; match a with | 0 => show i.val + 1 ≤ 256; omega | 1 => exact Nat.le_of_eq (Nat.zero_add _) | 2 => exact Nat.le_of_eq (Nat.zero_add _) | 3 => exact Nat.le_of_eq (Nat.zero_add _)⟩
    (fun a => by match a with | 0 => rfl | 1 => rfl | 2 => rfl | 3 => rfl)]
  pointwise

/-- An array of row blocks with chunk `i` written over. -/
theorem chunk_put (x : S256x64x1024.Idx → α) (y : S64x1024.Idx → α) (hb) (start : Fin 3 → Int) (h) (i : Fin 256) (hs : start = ![(i.val : Int), 0, 0])
    (j : Fin 256) (t : Fin 64) (c : Fin 1024) :
    Host.dynamicUpdateSlice x (broadcastInDim S1x64x1024 ![1, 2] hb y) start h (ix3 j t c) = if j = i then y (ix2 t c) else x (ix3 j t c) := by
  subst hs
  have hk : S256x64x1024.Slices ![i.val, 0, 0] S1x64x1024 :=
    ⟨rfl, fun a => by have := i.isLt; match a with | 0 => show i.val + 1 ≤ 256; omega | 1 => exact Nat.le_of_eq (Nat.zero_add _) | 2 => exact Nat.le_of_eq (Nat.zero_add _)⟩
  rw [Host.dynamicUpdateSlice_eq_updateSlice x _ _ h ![i.val, 0, 0] (fun a => by
    have := i.isLt
    match a with
    | 0 => show (min (max (i.val : Int) 0) ((256 - 1 : Nat) : Int)).toNat = i.val; omega
    | 1 => rfl
    | 2 => rfl) hk]
  rw [updateSlice_apply]
  by_cases e : j = i
  · subst e
    rw [if_pos rfl, dif_pos (fun a => by
      match a with
      | 0 => exact ⟨Nat.le_refl _, Nat.lt_succ_self _⟩
      | 1 => exact ⟨Nat.zero_le _, by show t.val < 0 + 64; omega⟩
      | 2 => exact ⟨Nat.zero_le _, by show c.val < 0 + 1024; omega⟩)]
    unfold broadcastInDim
    refine congrArg y (funext fun a => Fin.ext ?_)
    match a with
    | 0 => rfl
    | 1 => rfl
  · rw [if_neg e, dif_neg (fun hh => e (Fin.ext (by
      have h0 : i.val ≤ j.val ∧ j.val < i.val + 1 := hh 0
      omega)))]

/-- Rows in blocks of 64; the states with the parts of a head apart, keys before values. -/
theorem R2.blocks {x : FVec Ideal S16384x4096 .f32} {r : Fin 16384 → Fin 4096 → ℝ} (h : R2 x r) (hs) :
    R3 (shapeCast S256x64x4096 x hs) (fun i t c => r (row i t) c) := fun i t c => by
  pointwise; exact h (row i t) c
theorem R2.blocks' {x : FVec Ideal S16384x1024 .f32} {r : Fin 16384 → Fin 1024 → ℝ} (h : R2 x r) (hs) :
    R3 (shapeCast S256x64x1024 x hs) (fun i t c => r (row i t) c) := fun i t c => by
  pointwise; exact h (row i t) c
theorem R3.heads {x : FVec Ideal S256x1024x128 .f32} {r : Fin 256 → Fin 1024 → Fin 128 → ℝ} (h : R3 x r) (hs ht) :
    R4 (transpose S256x8x128x128 [0, 1, 3, 2] (shapeCast S256x8x128x128 x hs) ht) (fun i g d e => r i (col g e) d) := fun i g d e => by
  pointwise
  have e' : (⟨g.val * 128 + e.val, by omega⟩ : Fin 1024) = col g e := Fin.ext (by show g.val * 128 + e.val = 128 * g.val + e.val; omega)
  rw [e']; exact h i (col g e) d

end Cert.HG
end
-- ==== Proof.RefLoop.lean ====
/- The plain backward pass, turn after turn: what its arrays hold before each turn, and at the end. -/
module

public import proofs.«01_k».proof.Proof.RefReal
public import proofs.«01_k».proof.Proof.Slices

@[expose] public section

set_option maxRecDepth 8192

noncomputable section

namespace Cert.HG

open Idealize.ShloMosaic Idealize.ShloMosaic.TcCoe Idealize.SL.Sem
open Cert.ReferenceIdeal Cert.ReferenceIdeal.Gen Cert.ReferenceIdeal.Value
open Idealize.ShloMosaic.Tactic Idealize.ShloMosaic.StableHlo

/-- One part of the gradient, filled from chunk `256 - k` on. -/
def Done (k : ℕ) (y : FVec Ideal S256x64x1024 .f32) (r : ℕ → Fin 64 → Fin 1024 → ℝ) : Prop :=
  ∀ i : Fin 256, 256 ≤ k + i.val → ∀ t c, y (ix3 i t c) = ((r (255 - i.val) t c : ℝ) : EReal)

/-- What the arrays of the pass hold before turn `k`. -/
structure Inv (A : All) (k : ℕ) (V : Valuation τ sig (Elt Ideal)) : Prop where
  sts : R4 (a := 256) (b := 8) (c := 128) (d := 128) (φ := .f32) (V (Proc.devRef .tc main_v12_0)) (fun i h d e => A.sts i (col h e) d)
  u : R3 (a := 256) (b := 64) (c := 4096) (φ := .f32) (V (Proc.devRef .tc main_v12_1)) (fun i t c => A.u (row i t) c)
  dp : R3 (a := 256) (b := 64) (c := 1024) (φ := .f32) (V (Proc.devRef .tc main_v12_2)) (fun i t c => A.dp (row i t) c)
  lb : R2 (a := 1) (b := 1024) (φ := .f32) (V (Proc.devRef .tc main_v12_3)) (fun _ c => A.lb c)
  go : R2 (a := 1) (b := 128) (φ := .f32) (V (Proc.devRef .tc main_v12_4)) (fun _ e => A.go e)
  ctr : V (Proc.devRef .tc main_v12_5) = fun _ => BitVec.ofNat 32 k
  dS : G3 (V (Proc.devRef .tc main_v12_6)) (fun h d e => A.dSs k (col h e) d)
  dlb : R2 (a := 1) (b := 1024) (φ := .f32) (V (Proc.devRef .tc main_v12_7)) (fun _ c => A.lbs k c)
  dgo : R2 (a := 1) (b := 128) (φ := .f32) (V (Proc.devRef .tc main_v12_8)) (fun _ e => A.gos k e)
  dq : Done k (V (Proc.devRef .tc main_v12_9)) (fun j => (A.turn j).dq)
  df : Done k (V (Proc.devRef .tc main_v12_10)) (fun j => (A.turn j).df)
  dv : Done k (V (Proc.devRef .tc main_v12_11)) (fun j => (A.turn j).dv)
  dz : Done k (V (Proc.devRef .tc main_v12_12)) (fun j => (A.turn j).dz)

/-- The chunk number a turn computes. -/
theorem number : ∀ k : Fin 256, (IntOp.subi (IntOp.subi 256#32 (BitVec.ofNat 32 k.val)) 1#32).toInt = ((255 - k.val : ℕ) : Int) := by decide +kernel

namespace Inv
variable {A : All} {k : ℕ} {V : Valuation τ sig (Elt Ideal)} (H : Inv A k V) (hk : k < 256)
include H hk

theorem v17 (i) : (res_main_while0b_v17 V i).toInt = ((rev k).val : Int) := by
  unfold res_main_while0b_v17
  rw [H.ctr]
  exact number ⟨k, hk⟩

theorem start3 : (fun a => (((![res_main_while0b_v17 V, constantI S_ 32 0#32, constantI S_ 32 0#32] : Fin 3 → (⟨S_, .i32⟩ : BufTy).Contents (Elt Ideal))) a
    (Shape.Idx.first h_S_)).toInt) = ![((rev k).val : Int), 0, 0] := funext fun a => by
  match a with
  | 0 => exact H.v17 hk _
  | 1 => rfl
  | 2 => rfl
theorem start4 : (fun a => (((![res_main_while0b_v17 V, constantI S_ 32 0#32, constantI S_ 32 0#32, constantI S_ 32 0#32] : Fin 4 → (⟨S_, .i32⟩ : BufTy).Contents (Elt Ideal))) a
    (Shape.Idx.first h_S_)).toInt) = ![((rev k).val : Int), 0, 0, 0] := funext fun a => by
  match a with
  | 0 => exact H.v17 hk _
  | 1 => rfl
  | 2 => rfl
  | 3 => rfl

theorem v19 (t : Fin 64) (c : Fin 4096) : (res_main_while0b_v19 V : FVec Ideal S64x4096 .f32) (ix2 t c) = ((A.u (row (rev k) t) c : ℝ) : EReal) :=
  (chunk_u _ _ _ _ (rev k) (H.start3 hk) t c).trans (H.u _ t c)

/-- The turn reads chunk `255 - k`. -/
theorem reads (nn : ∀ c, 0 ≤ A.lb c) : RRep V (A.turn k) where
  q t c := by
    unfold res_main_while0b_v21
    pointwise
    exact (congrArg (fun j => (res_main_while0b_v19 V : FVec Ideal S64x4096 .f32) (ix2 t j)) (Fin.ext (by show _ = 1024 * 0 + c.val; simp))).trans (H.v19 hk t (wide 0 c))
  f t c := by
    unfold res_main_while0b_v22
    pointwise
    exact H.v19 hk t (wide 1 c)
  v t c := by
    pointwise
    exact H.v19 hk t (wide 2 c)
  z t c := by
    unfold res_main_while0b_v24
    pointwise
    exact H.v19 hk t (wide 3 c)
  dp t c := (chunk_dp _ _ _ _ (rev k) (H.start3 hk) t c).trans (H.dp _ t c)
  st h d e := (chunk_st _ _ _ _ (rev k) (H.start4 hk) h d e).trans (H.sts _ h d e)
  dS := H.dS
  lb := H.lb
  go := H.go
  nn := nn

theorem put {x : FVec Ideal S256x64x1024 .f32} {y : FVec Ideal S64x1024 .f32} {r : ℕ → Fin 64 → Fin 1024 → ℝ} (hx : Done k x r) (hy : W2 y (r k)) (hb h) :
    Done (k + 1) (id (Host.dynamicUpdateSlice x (broadcastInDim S1x64x1024 ![1, 2] hb y)
      (fun a => (((![res_main_while0b_v17 V, constantI S_ 32 0#32, constantI S_ 32 0#32] : Fin 3 → (⟨S_, .i32⟩ : BufTy).Contents (Elt Ideal))) a
        (Shape.Idx.first h_S_)).toInt) h)) r := fun i hi t c => by
  refine (chunk_put x y hb _ h (rev k) (H.start3 hk) i t c).trans ?_
  split_ifs with e
  · rw [eq_rev hk e]; exact hy t c
  · refine hx i ?_ t c
    have : i.val ≠ 255 - k := fun q => e (Fin.ext q)
    omega

theorem step (nn : ∀ c, 0 ≤ A.lb c) : Inv A (k + 1) (STEP V) := by
  have R := H.reads hk nn
  refine ⟨?_, ?_, ?_, ?_, ?_, ?_, ?_, ?_, ?_, ?_, ?_, ?_, ?_⟩
  · rw [STEP_main_v12_0]; exact H.sts
  · rw [STEP_main_v12_1]; exact H.u
  · rw [STEP_main_v12_2]; exact H.dp
  · rw [STEP_main_v12_3]; exact H.lb
  · rw [STEP_main_v12_4]; exact H.go
  · rw [STEP_main_v12_5]
    unfold step_main_v12_5
    rw [H.ctr]
    funext i
    show BitVec.ofNat 32 k + 1#32 = BitVec.ofNat 32 (k + 1)
    rw [BitVec.ofNat_add]
  · rw [STEP_main_v12_6]; exact R.dSn
  · rw [STEP_main_v12_7]; exact R.dlb H.dlb
  · rw [STEP_main_v12_8]; exact R.dgo H.dgo
  · rw [STEP_main_v12_9]; unfold step_main_v12_9; exact H.put hk H.dq R.dq _ _
  · rw [STEP_main_v12_10]; unfold step_main_v12_10; exact H.put hk H.df R.df _ _
  · rw [STEP_main_v12_11]; unfold step_main_v12_11; exact H.put hk H.dv R.dv _ _
  · rw [STEP_main_v12_12]; unfold step_main_v12_12; exact H.put hk H.dz R.dz _ _

end Inv

/-- After 256 turns. -/
theorem Inv.all {A : All} {V : Valuation τ sig (Elt Ideal)} (H : Inv A 0 V) (nn : ∀ c, 0 ≤ A.lb c) : ∀ k, k ≤ 256 → Inv A k (STEP^[k] V)
  | 0, _ => H
  | k + 1, hk => by rw [Function.iterate_succ_apply']; exact (Inv.all H nn k (by omega)).step (by omega) nn

/-- The arguments hold the real numbers of `A`. -/
structure Args (A : All) (u : FVec Ideal S16384x4096 .f32) (sts : FVec Ideal S256x1024x128 .f32) (dp : FVec Ideal S16384x1024 .bf16)
    (lb : FVec Ideal S1x1024 .f32) (go : FVec Ideal S1x128 .f32) : Prop where
  u : R2 u A.u
  sts : R3 sts A.sts
  dp : R2 dp A.dp
  lb : R2 lb (fun _ c => A.lb c)
  go : R2 go (fun _ e => A.go e)
  nn : ∀ c, 0 ≤ A.lb c

variable (m : (ℓ : Loc nD τ sig) → Buf (Elt Ideal) ℓ) (c : Dev nD)

theorem entry_0 : entryContents preI m c (Proc.devRef .tc main_v12_0) =
    transpose S256x8x128x128 [0, 1, 3, 2] (shapeCast S256x8x128x128 (m ((c.tc : Thread nD τ).loc main_arg1)) shapeCasts_S256x1024x128_S256x8x128x128)
      transposes_S256x8x128x128_S256x8x128x128_0_1_3_2 := by
  simp only [entryContents, afterL_cons, afterL_nil]
  after_reads_simp
  rfl
theorem entry_1 : entryContents preI m c (Proc.devRef .tc main_v12_1) =
    shapeCast S256x64x4096 (m ((c.tc : Thread nD τ).loc main_arg0)) shapeCasts_S16384x4096_S256x64x4096 := by
  simp only [entryContents, afterL_cons, afterL_nil]
  after_reads_simp
  rfl
theorem entry_2 : entryContents preI m c (Proc.devRef .tc main_v12_2) =
    shapeCast S256x64x1024 (extf (F := Ideal) (φ := .bf16) .f32 (m ((c.tc : Thread nD τ).loc main_arg2)) bitsLt_bf16_f32) shapeCasts_S16384x1024_S256x64x1024 := by
  simp only [entryContents, afterL_cons, afterL_nil]
  after_reads_simp
  rfl
theorem entry_3 : entryContents preI m c (Proc.devRef .tc main_v12_3) = m ((c.tc : Thread nD τ).loc main_arg3) := by
  simp only [entryContents, afterL_cons, afterL_nil]
  after_reads_simp
  rfl
theorem entry_4 : entryContents preI m c (Proc.devRef .tc main_v12_4) = m ((c.tc : Thread nD τ).loc main_arg4) := by
  simp only [entryContents, afterL_cons, afterL_nil]
  after_reads_simp
  rfl
theorem entry_6 : entryContents preI m c (Proc.devRef .tc main_v12_6) =
    broadcastInDim S8x128x128 ![] bcast_S_S8x128x128 (constant (F := Ideal) S_ .f32 0x00000000#32) := by
  simp only [entryContents, afterL_cons, afterL_nil]
  after_reads_simp
  rfl
theorem entry_7 : entryContents preI m c (Proc.devRef .tc main_v12_7) =
    broadcastInDim S1x1024 ![] bcast_S_S1x1024 (constant (F := Ideal) S_ .f32 0x00000000#32) := by
  simp only [entryContents, afterL_cons, afterL_nil]
  after_reads_simp
  rfl
theorem entry_8 : entryContents preI m c (Proc.devRef .tc main_v12_8) =
    broadcastInDim S1x128 ![] bcast_S_S1x128 (constant (F := Ideal) S_ .f32 0x00000000#32) := by
  simp only [entryContents, afterL_cons, afterL_nil]
  after_reads_simp
  rfl

theorem Inv.start {A : All} (H : Args A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) : Inv A 0 (entryContents preI m c) := by
  refine ⟨?_, ?_, ?_, ?_, ?_, ?_, ?_, ?_, ?_, ?_, ?_, ?_, ?_⟩
  · rw [entry_0]; exact H.sts.heads _ _
  · rw [entry_1]; exact H.u.blocks _
  · rw [entry_2]; exact R2.blocks' (x := extf (F := Ideal) (φ := .bf16) .f32 (m ((c.tc : Thread nD τ).loc main_arg2)) bitsLt_bf16_f32) H.dp _
  · rw [entry_3]; exact H.lb
  · rw [entry_4]; exact H.go
  · rw [ctr_entry]
  · rw [entry_6]; exact R3.splat _ ofBits_zero
  · rw [entry_7]; exact R2.splat _ ofBits_zero
  · rw [entry_8]; exact R2.splat _ ofBits_zero
  all_goals exact fun i hi => absurd i.isLt (by omega)

end Cert.HG
end
-- ==== Proof.Inputs.lean ====
/- The condition on the arguments, read: every element is a real number, and the lower bound of the gate is not negative. -/
module

public import proofs.«01_k».proof.Pre_inputs_real
public import proofs.«01_k».proof.Proof.RefLoop
public import Idealize.ShloMosaic.Lib.ReduceAll

@[expose] public section

noncomputable section

namespace Cert.HG

open Idealize.ShloMosaic Idealize.ShloMosaic.TcCoe Idealize.SL.Sem
open Cert.Pre_inputs_real

instance preFacts : Cert.Pre_inputs_real.Facts where
  bcast_S_S16384x4096 := by decide
  reducesTo_S16384x4096_S_d0_1 := by decide
  h_S_ := by decide
  bcast_S_S256x1024x128 := by decide
  reducesTo_S256x1024x128_S_d0_1_2 := by decide
  bcast_S_S16384x1024 := by decide
  reducesTo_S16384x1024_S_d0_1 := by decide
  bcast_S_S1x128 := by decide
  reducesTo_S1x128_S_d0_1 := by decide
  bcast_S_S1x1024 := by decide
  reducesTo_S1x1024_S_d0_1 := by decide

instance : Subsingleton S_.Idx := ⟨fun a b => funext fun k => k.elim0⟩

theorem top32 : Ideal.ofBits .f32 0x7F800000#32 = ⊤ := by simp [Ideal.ofBits, Ideal.ieee]
theorem top16 : Ideal.ofBits .bf16 0x7F80#16 = ⊤ := by simp [Ideal.ofBits, Ideal.ieee]

/-- A number whose absolute value is below infinity is real. -/
theorem real_of_abs (x : EReal) (h : max x (-x) < ⊤) : x = ((x.toReal : ℝ) : EReal) := by
  refine (EReal.coe_toReal ?_ ?_).symm
  · rintro rfl; simp at h
  · rintro rfl; simp at h

/-- An array whose absolute values are all below infinity holds reals. -/
theorem finite_all {s : Shape} {axes} (x : FVec Ideal s .f32) (h : s.ReducesTo axes S_) (hb) (hu) (j : S_.Idx)
    (e : Host.reduce IntOp.andi (cmpf .olt (Host.absf x) (broadcastInDim s ![] hb (constant (F := Ideal) S_ .f32 0x7F800000#32))) (constantI S_ 1 1#1) h hu j = 1#1)
    (i : s.Idx) : x i = (((x i).toReal : ℝ) : EReal) := by
  have k := Host.reduce_andi_all _ _ h hu j e i
  refine real_of_abs _ ?_
  have k' : Ideal.cmp .olt (max (x i) (-(x i)) : EReal) (Ideal.ofBits .f32 0x7F800000#32) = 1#1 := k
  rw [top32] at k'
  by_contra hn
  simp [Ideal.cmp, hn] at k'
theorem finite_all' {s : Shape} {axes} (x : FVec Ideal s .bf16) (h : s.ReducesTo axes S_) (hb) (hu) (j : S_.Idx)
    (e : Host.reduce IntOp.andi (cmpf .olt (Host.absf x) (broadcastInDim s ![] hb (constant (F := Ideal) S_ .bf16 0x7F80#16))) (constantI S_ 1 1#1) h hu j = 1#1)
    (i : s.Idx) : x i = (((x i).toReal : ℝ) : EReal) := by
  have k := Host.reduce_andi_all _ _ h hu j e i
  refine real_of_abs _ ?_
  have k' : Ideal.cmp .olt (max (x i) (-(x i)) : EReal) (Ideal.ofBits .bf16 0x7F80#16) = 1#1 := k
  rw [top16] at k'
  by_contra hn
  simp [Ideal.cmp, hn] at k'
theorem nonneg_all {s : Shape} {axes} (x : FVec Ideal s .f32) (h : s.ReducesTo axes S_) (hb) (hu) (j : S_.Idx)
    (e : Host.reduce IntOp.andi (cmpf .oge x (broadcastInDim s ![] hb (constant (F := Ideal) S_ .f32 0x00000000#32))) (constantI S_ 1 1#1) h hu j = 1#1)
    (i : s.Idx) : (0 : EReal) ≤ x i := by
  have k := Host.reduce_andi_all _ _ h hu j e i
  have k' : Ideal.cmp .oge (x i : EReal) (Ideal.ofBits .f32 0x00000000#32) = 1#1 := k
  have z : Ideal.ofBits .f32 0x00000000#32 = ((0 : ℝ) : EReal) := ofBits_zero
  rw [z] at k'
  by_contra hn
  simp [Ideal.cmp, hn] at k'

variable (u : FVec Ideal S16384x4096 .f32) (sts : FVec Ideal S256x1024x128 .f32) (dp : FVec Ideal S16384x1024 .bf16)
  (lb : FVec Ideal S1x1024 .f32) (go : FVec Ideal S1x128 .f32)

/-- The arguments as real numbers. -/
def All.of : All where
  u i j := (u (ix2 i j) : EReal).toReal
  sts i j k := (sts (ix3 i j k) : EReal).toReal
  dp i j := (dp (ix2 i j) : EReal).toReal
  lb j := (lb (ix2 0 j) : EReal).toReal
  go j := (go (ix2 0 j) : EReal).toReal

theorem args_of (h : fn (F := Ideal) u sts dp lb go = fun _ => 1#1) : Args (All.of u sts dp lb go) u sts dp lb go := by
  have e := congrFun h ix0
  unfold fn fn_part1 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have l := finite_all lb _ _ _ _ e6
  refine ⟨fun i j => finite_all u _ _ _ _ e1 _, fun i j k => finite_all sts _ _ _ _ e2 _, fun i j => finite_all' dp _ _ _ _ e3 _, fun i j => ?_, fun i j => ?_, fun c => ?_⟩
  · rw [Subsingleton.elim i 0]; exact l _
  · rw [Subsingleton.elim i 0]; exact finite_all go _ _ _ _ e4 _
  · have z := nonneg_all lb _ _ _ _ e5 (ix2 0 c)
    exact EReal.toReal_nonneg z
theorem args_exist (h : fn (F := Ideal) u sts dp lb go = fun _ => 1#1) : ∃ A, Args A u sts dp lb go := ⟨_, args_of u sts dp lb go h⟩

end Cert.HG
end
-- ==== Proof.RefEnd.lean ====
/- The three results of the plain backward pass. -/
module

public import proofs.«01_k».proof.Proof.RefLoop

@[expose] public section

noncomputable section

namespace Cert.HG

open Idealize.ShloMosaic Idealize.ShloMosaic.TcCoe Idealize.SL.Sem
open Cert.ReferenceIdeal Cert.ReferenceIdeal.Value

variable {α : Type}

/-- Four arrays of row blocks side by side. -/
theorem four_at (x : Fin 4 → S256x64x1024.Idx → α) (hc) (i : Fin 256) (t : Fin 64) (g : Fin 4) (c : Fin 1024) :
    concatenate S256x64x4096 2 [⟨S256x64x1024, x 0⟩, ⟨S256x64x1024, x 1⟩, ⟨S256x64x1024, x 2⟩, ⟨S256x64x1024, x 3⟩] hc (ix3 i t (wide g c)) = x g (ix3 i t c) := by
  have hk : ∀ b : Fin S256x64x1024.rank, b.cast (rfl : S256x64x1024.rank = S256x64x4096.rank) ≠ (2 : Fin 3) →
      ((ix3 i t c : S256x64x1024.Idx) b).val = ((ix3 i t (wide g c) : S256x64x4096.Idx) (b.cast rfl)).val := fun b hb => by
    match b with
    | 0 => rfl
    | 1 => rfl
    | 2 => exact absurd rfl hb
  match g with
  | 0 => exact concatenate_apply_piece 2 _ hc _ 0 (by show 0 < 4; omega) S256x64x1024 (x 0) rfl rfl 0 rfl (ix3 i t c) hk (by show 0 + c.val = 1024 * 0 + c.val; omega)
  | 1 => exact concatenate_apply_piece 2 _ hc _ 1 (by show 1 < 4; omega) S256x64x1024 (x 1) rfl rfl 1024 rfl (ix3 i t c) hk (by show 1024 + c.val = 1024 * 1 + c.val; omega)
  | 2 => exact concatenate_apply_piece 2 _ hc _ 2 (by show 2 < 4; omega) S256x64x1024 (x 2) rfl rfl 2048 rfl (ix3 i t c) hk (by show 2048 + c.val = 1024 * 2 + c.val; omega)
  | 3 => exact concatenate_apply_piece 2 _ hc _ 3 (by show 3 < 4; omega) S256x64x1024 (x 3) rfl rfl 3072 rfl (ix3 i t c) hk (by show 3072 + c.val = 1024 * 3 + c.val; omega)

/-- Row blocks one after the other. -/
theorem rows_at (x : S256x64x4096.Idx → α) (hs) (i : Fin 256) (t : Fin 64) (k : Fin 4096) :
    shapeCast S16384x4096 x hs (ix2 (row i t) k) = x (ix3 i t k) := by
  pointwise
  refine congrArg x (congrArg₂ (fun a b => ix3 a b k) (Fin.ext ?_) (Fin.ext ?_))
  · show (i.val * 64 + t.val) / 64 = i.val; omega
  · show (i.val * 64 + t.val) % 64 = t.val; omega

theorem out_at {A : All} {V : Valuation τ sig (Elt Ideal)} (H : Inv A 256 V) (i : Fin 256) (t : Fin 64) (g : Fin 4) (c : Fin 1024) :
    out_main_v15 V (ix2 (row i t) (wide g c)) = ((A.du i t g c : ℝ) : EReal) := by
  have e (y : S256x64x4096.Idx → EReal) (hs) : truncf (F := Ideal) (φ := .f32) .bf16 (shapeCast S16384x4096 y hs) Gen.bitsLt_bf16_f32 (ix2 (row i t) (wide g c)) = y (ix3 i t (wide g c)) :=
    rows_at y hs i t (wide g c)
  unfold out_main_v15
  refine (e _ _).trans ?_
  refine (four_at ![(V (Proc.devRef .tc main_v12_9) : (⟨S256x64x1024, .f32⟩ : BufTy).Contents (Elt Ideal)), (V (Proc.devRef .tc main_v12_10) : (⟨S256x64x1024, .f32⟩ : BufTy).Contents (Elt Ideal)),
    (V (Proc.devRef .tc main_v12_11) : (⟨S256x64x1024, .f32⟩ : BufTy).Contents (Elt Ideal)), (V (Proc.devRef .tc main_v12_12) : (⟨S256x64x1024, .f32⟩ : BufTy).Contents (Elt Ideal))] _ i t g c).trans ?_
  match g with
  | 0 => exact H.dq i (by omega) t c
  | 1 => exact H.df i (by omega) t c
  | 2 => exact H.dv i (by omega) t c
  | 3 => exact H.dz i (by omega) t c

/-- The conditions on the arguments hold of equal arrays. -/
theorem Args.trans {A : All} {u u' sts sts' dp dp' lb lb' go go'} (H : Args A u sts dp lb go) (h0 : u' = u) (h1 : sts' = sts) (h2 : dp' = dp) (h3 : lb' = lb) (h4 : go' = go) :
    Args A u' sts' dp' lb' go' := by
  subst h0 h1 h2 h3 h4; exact H

/-- Two arrays of the same reals are one. -/
theorem R2.unique {a b : ℕ} {φ : FTy} {x y : FVec Ideal ⟨2, ![a, b]⟩ φ} {r : Fin a → Fin b → ℝ} (h : R2 x r) (k : R2 y r) : x = y := by
  funext i
  obtain ⟨p, q, rfl⟩ : ∃ (p : Fin a) (q : Fin b), i = ix2 p q := ⟨i 0, i 1, funext fun a => by match a with | 0 => rfl | 1 => rfl⟩
  exact (h p q).trans (k p q).symm

end Cert.HG
end
-- ==== Proof.Raw.lean ====
/- One visit of the kernel's body, at either kind of grid point, as the named values of the backward pass. -/
module

public import proofs.«01_k».proof.Proof.Gen.KernelIdeal.Value
public import proofs.«01_k».proof.Proof.Vocab

@[expose] public section

set_option maxRecDepth 100000

noncomputable section

namespace Cert.HG

open Idealize.ShloMosaic Idealize.ShloMosaic.TcCoe Idealize.SL.Sem
open Cert.KernelIdeal Cert.KernelIdeal.Gen

variable {F : FTy → Type} [FloatOps F]

/-- The values a visit reads from its buffers, before the reads are evaluated. -/
def raw (arg1 : Memref sig .tc .vmem S64x4096 .f32) (harg1 : arg1.IsWhole) (arg2 : Memref sig .tc .vmem S1x1024x128 .f32)
    (harg2 : arg2.IsWhole) (arg3 : Memref sig .tc .vmem S64x1024 .bf16) (harg3 : arg3.IsWhole) (arg4 : Memref sig .tc .vmem S1x1024 .f32)
    (harg4 : arg4.IsWhole) (arg5 : Memref sig .tc .vmem S1x128 .f32) (harg5 : arg5.IsWhole)
    (x0 : Vec F S64x4096 .f32) (x1 : Vec F S1x1024x128 .f32) (x2 : Vec F S64x1024 .bf16) (x3 : Vec F S1x1024 .f32) (x4 : Vec F S1x128 .f32)
    (dS : Vec F S1024x128 .f32) : Ins F where
  q := View.readAt (Elt F) arg1.view (Rect.unit (s := S64x4096) ![0, 0] S64x1024.size inb_S64x4096_S64x1024_0_0).toLoadRect (harg1.unread x0)
  f := View.readAt (Elt F) arg1.view (Rect.unit (s := S64x4096) ![0, 1024] S64x1024.size inb_S64x4096_S64x1024_0_1024).toLoadRect (harg1.unread x0)
  v := View.readAt (Elt F) arg1.view (Rect.unit (s := S64x4096) ![0, 2048] S64x1024.size inb_S64x4096_S64x1024_0_2048).toLoadRect (harg1.unread x0)
  z := View.readAt (Elt F) arg1.view (Rect.unit (s := S64x4096) ![0, 3072] S64x1024.size inb_S64x4096_S64x1024_0_3072).toLoadRect (harg1.unread x0)
  st3 := View.readAt (Elt F) arg2.view (Rect.unit (s := S1x1024x128) ![0, 0, 0] S1x1024x128.size inb_S1x1024x128_S1x1024x128_0_0_0).toLoadRect (harg2.unread x1)
  lb := View.readAt (Elt F) arg4.view (Rect.unit (s := S1x1024) ![0, 0] S1x1024.size inb_S1x1024_S1x1024_0_0).toLoadRect (harg4.unread x3)
  go := View.readAt (Elt F) arg5.view (Rect.unit (s := S1x128) ![0, 0] S1x128.size inb_S1x128_S1x128_0_0).toLoadRect (harg5.unread x4)
  dp := View.readAt (Elt F) arg3.view (Rect.unit (s := S64x1024) ![0, 0] S64x1024.size inb_S64x1024_S64x1024_0_0).toLoadRect (harg3.unread x2)
  dS := dS

/-- The four parts of the gradient block as they are stored, the newest first. -/
def pieces (I : Ins F) : List (View.Piece (Elt F) S64x4096 .bf16) :=
  [⟨Rect.unit (s := S64x4096) ![0, 3072] S64x1024.size inb_S64x4096_S64x1024_0_3072, tr I.DZ⟩,
   ⟨Rect.unit (s := S64x4096) ![0, 2048] S64x1024.size inb_S64x4096_S64x1024_0_2048, tr I.DV⟩,
   ⟨Rect.unit (s := S64x4096) ![0, 1024] S64x1024.size inb_S64x4096_S64x1024_0_1024, tr I.DF⟩,
   ⟨Rect.unit (s := S64x4096) ![0, 0] S64x1024.size inb_S64x4096_S64x1024_0_0, tr I.DQ⟩]

/-- Four parts stored, each the value it should be. -/
theorem canon4 {I : Ins F} {a b c d : FVec F S64x1024 .bf16} (ha : a = tr I.DZ) (hb : b = tr I.DV) (hc : c = tr I.DF) (hd : d = tr I.DQ) :
    View.canon ([⟨Rect.unit (s := S64x4096) ![0, 3072] S64x1024.size inb_S64x4096_S64x1024_0_3072, a⟩,
      ⟨Rect.unit (s := S64x4096) ![0, 2048] S64x1024.size inb_S64x4096_S64x1024_0_2048, b⟩,
      ⟨Rect.unit (s := S64x4096) ![0, 1024] S64x1024.size inb_S64x4096_S64x1024_0_1024, c⟩,
      ⟨Rect.unit (s := S64x4096) ![0, 0] S64x1024.size inb_S64x4096_S64x1024_0_0, d⟩] : List (View.Piece (Elt F) S64x4096 .bf16)) = View.canon (pieces I) := by
  subst ha hb hc hd; rfl

end Cert.HG
-- ==== Proof.Visit.lean ====
/- One visit over the real numbers: what its buffers hold is one chunk of the arrays, and what it stores is that chunk's gradient. -/
module

public import proofs.«01_k».proof.Proof.KReal
public import proofs.«01_k».proof.Proof.Raw
public import proofs.«01_k».proof.Proof.ROps
public import proofs.«01_k».proof.Proof.Seq
public import Idealize.ShloMosaic.Lib.Pipeline.ValueKit.Tiles

@[expose] public section

set_option maxRecDepth 100000

noncomputable section

namespace Cert.HG

open Idealize.ShloMosaic Idealize.ShloMosaic.TcCoe Idealize.SL.Sem
open Cert.KernelIdeal Cert.KernelIdeal.Gen

/-! ## What a visit reads -/

/-- A load of a whole buffer; a load of one part of a row. -/
theorem load_whole {S : Shape} {e : EltTy} {M : Memref sig .tc .vmem S e} (hM : M.IsWhole) (x : Vec Ideal S e) {off : Fin S.rank → ℕ} (ho : off = fun _ => 0) (inb) :
    View.readAt (Elt Ideal) M.view (Rect.unit (s := S) off S.size inb).toLoadRect (hM.unread x) = x := by
  rw [View.readAt_eq_ld, hM.read_unread]; exact View.ld_unit_zero ho inb x
theorem z2 : (![0, 0] : Fin 2 → ℕ) = fun _ => 0 := funext fun a => by fin_cases a <;> rfl
theorem z3 : (![0, 0, 0] : Fin 3 → ℕ) = fun _ => 0 := funext fun a => by fin_cases a <;> rfl
theorem R2.part {r : Fin 64 → Fin 4096 → ℝ} {M : Memref sig .tc .vmem S64x4096 .f32} (hM : M.IsWhole)
    {x : Vec Ideal S64x4096 .f32} (h : R2 (φ := .f32) x r) (g : Fin 4) (o : ℕ) (ho : o = 1024 * g.val) (inb) :
    R2 (φ := .f32) (View.readAt (Elt Ideal) M.view (Rect.unit (s := S64x4096) ![0, o] S64x1024.size inb).toLoadRect (hM.unread x)) (fun t c => r t (wide g c)) := fun t c => by
  subst ho
  rw [View.readAt_eq_ld, hM.read_unread]
  exact (View.ld_unit_apply_of _ _ _ _ _ (ix2 t (wide g c)) (fun a => by
    match a with
    | 0 => exact (Nat.zero_add _).symm
    | 1 => rfl)).trans (h t (wide g c))
theorem R3.flat {x : FVec Ideal S1x1024x128 .f32} {r : Fin 1024 → Fin 128 → ℝ} (h : R3 x (fun _ => r)) (hs) : R2 (shapeCast S1024x128 x hs) r := fun i j => by
  rw [shapeCast_dropUnit_apply ![1024, 128] x hs (ix2 i j)]
  exact (congrArg x (funext fun a => by fin_cases a <;> rfl)).trans (h 0 i j)
theorem state_load {r : Fin 1024 → Fin 128 → ℝ} {M : Memref sig .tc .vmem S1x1024x128 .f32} (hM : M.IsWhole)
    {x : Vec Ideal S1x1024x128 .f32} (h : R3 (φ := .f32) x (fun _ => r)) (inb) (hs) :
    R2 (φ := .f32) (shapeCast S1024x128 (View.readAt (Elt Ideal) M.view (Rect.unit (s := S1x1024x128) ![0, 0, 0] S1x1024x128.size inb).toLoadRect (hM.unread x)) hs) r := fun i j => by
  rw [load_whole hM x z3]
  exact R3.flat h hs i j

section
variable {A : All} {i : Fin 256} {d : Fin 1024 → Fin 128 → ℝ}
  {arg1 : Memref sig .tc .vmem S64x4096 .f32} {harg1 : arg1.IsWhole} {arg2 : Memref sig .tc .vmem S1x1024x128 .f32}
  {harg2 : arg2.IsWhole} {arg3 : Memref sig .tc .vmem S64x1024 .bf16} {harg3 : arg3.IsWhole} {arg4 : Memref sig .tc .vmem S1x1024 .f32}
  {harg4 : arg4.IsWhole} {arg5 : Memref sig .tc .vmem S1x128 .f32} {harg5 : arg5.IsWhole}
  {x0 : Vec Ideal S64x4096 .f32} {x1 : Vec Ideal S1x1024x128 .f32} {x2 : Vec Ideal S64x1024 .bf16} {x3 : Vec Ideal S1x1024 .f32} {x4 : Vec Ideal S1x128 .f32}
  {dS : Vec Ideal S1024x128 .f32}

/-- The buffers holding chunk `i`, the visit reads chunk `i`. -/
theorem raw_rep (h0 : R2 (φ := .f32) x0 (fun t c => A.u (row i t) c)) (h1 : R3 (φ := .f32) x1 (fun _ => A.sts i)) (h2 : R2 (φ := .bf16) x2 (fun t c => A.dp (row i t) c))
    (h3 : R2 (φ := .f32) x3 (fun _ c => A.lb c)) (h4 : R2 (φ := .f32) x4 (fun _ e => A.go e)) (hd : R2 (φ := .f32) dS d) (nn : ∀ c, 0 ≤ A.lb c) :
    Rep (raw arg1 harg1 arg2 harg2 arg3 harg3 arg4 harg4 arg5 harg5 x0 x1 x2 x3 x4 dS) (A.cut i d) where
  q := h0.part harg1 0 0 rfl _
  f := h0.part harg1 1 1024 rfl _
  v := h0.part harg1 2 2048 rfl _
  z := h0.part harg1 3 3072 rfl _
  dp := by rw [raw, load_whole harg3 x2 z2]; exact h2
  st := state_load harg2 h1 _ _
  dS := hd
  lb := by rw [raw, load_whole harg4 x3 z2]; exact h3
  go := by rw [raw, load_whole harg5 x4 z2]; exact h4
  nn := nn
end

/-! ## What a visit stores -/

theorem S2.zero : R2 (φ := .f32) (k0_pay4 (F := Ideal)) (fun _ _ => 0) := by
  unfold k0_pay4; dsimp only; rw [shapeCast_self]; exact kc0
theorem L2.zero : R2 (φ := .f32) (k0_pay5 (F := Ideal)) (fun _ _ => 0) := kc0
theorem G2.zero : R2 (φ := .f32) (k0_pay6 (F := Ideal)) (fun _ _ => 0) := kc0
theorem S2.kept {x : FVec Ideal S1024x128 .f32} {r} (h : R2 x r) : R2 (k0_pay1 x) r := by
  unfold k0_pay1; dsimp only; rw [shapeCast_self]; exact h
theorem L2.plus {x y : FVec Ideal S1x1024 .f32} {r s} (h : R2 x r) (k : R2 y s) : R2 (k0_pay2 x y) (fun i j => s i j + r i j) := by
  unfold k0_pay2; dsimp only; rw [shapeCast_self]; exact k.add h
theorem G2.plus {x y : FVec Ideal S1x128 .f32} {r s} (h : R2 x r) (k : R2 y s) : R2 (k0_pay3 x y) (fun i j => s i j + r i j) := by
  unfold k0_pay3; dsimp only; rw [shapeCast_self]; exact k.add h

/-- A part of a row block, where it holds an element. -/
theorem part_at (k : Fin 4) (o : ℕ) (ho : o = 1024 * k.val) {w : FVec Ideal S64x1024 .bf16} {r : Fin 64 → Fin 1024 → ℝ} (hw : R2 w r)
    (t : Fin 64) (g : Fin 4) (c : Fin 1024) (v : ℝ) (hv : g = k → v = r t c) :
    View.TileAt (Val := Elt Ideal) (e := .bf16) (S := S64x4096) (ix2 t (wide g c)) ![0, o] S64x1024.size w (v : EReal) := fun x hx => by
  subst ho
  have e0 : t.val = 0 + (x 0).val := hx 0
  have e1 : 1024 * g.val + c.val = 1024 * k.val + (x 1).val := hx 1
  have l1 : (x 1).val < 1024 := (x 1).isLt
  have eg : g = k := Fin.ext (by omega)
  have ex : x = ix2 t c := funext fun a => Fin.ext (by
    match a with
    | 0 => show (x 0).val = t.val; omega
    | 1 => show (x 1).val = c.val; have := congrArg Fin.val eg; omega)
  rw [hv eg, ex]; exact hw t c

/-- The four gradients of a chunk's rows. -/
def Rin.du (J : Rin) (t : Fin 64) (g : Fin 4) (c : Fin 1024) : ℝ :=
  match g with
  | 0 => J.dq t c
  | 1 => J.df t c
  | 2 => J.dv t c
  | 3 => J.dz t c

/-- The block a visit stores. -/
theorem grad_at {I : Ins Ideal} {J : Rin} (H : Rep I J) (t : Fin 64) (g : Fin 4) (c : Fin 1024) :
    View.canon (pieces I) (ix2 t (wide g c)) = ((J.du t g c : ℝ) : EReal) := by
  refine View.canon_eq_of_allAt (Val := Elt Ideal) (pieces I) (ix2 t (wide g c)) ((J.du t g c : ℝ) : EReal) ?_ ?_
  · exact View.cover_of_tiled_head _ _ _ (by rfl) _
  · unfold pieces
    refine View.allAt_cons_unit _ _ _ _ _ (part_at 3 3072 rfl (H.DZ.truncf _) t g c _ fun e => by subst e; rfl) ?_
    refine View.allAt_cons_unit _ _ _ _ _ (part_at 2 2048 rfl (H.DV.truncf _) t g c _ fun e => by subst e; rfl) ?_
    refine View.allAt_cons_unit _ _ _ _ _ (part_at 1 1024 rfl (H.DF.truncf _) t g c _ fun e => by subst e; rfl) ?_
    exact View.allAt_cons_unit _ _ _ _ _ (part_at 0 0 rfl (H.DQ.truncf _) t g c _ fun e => by subst e; rfl) (View.allAt_nil _ _)

theorem All.du_eq (A : All) (i : Fin 256) (t : Fin 64) (g : Fin 4) (c : Fin 1024) : A.du i t g c = (A.turn (255 - i.val)).du t g c := rfl

end Cert.HG
end
-- ==== Proof.BodyA.lean ====
/- One visit of the kernel's body, at either kind of grid point, as the named values of the backward pass. -/
module

public import proofs.«01_k».proof.Proof.Raw

@[expose] public section

set_option maxRecDepth 100000

noncomputable section

namespace Cert.HG

open Idealize.ShloMosaic Idealize.ShloMosaic.TcCoe Idealize.SL.Sem
open Cert.KernelIdeal Cert.KernelIdeal.Gen

variable {F : FTy → Type} [FloatOps F]

set_option maxHeartbeats 4000000 in
/-- What the first point leaves: state. -/
theorem stateA (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : cond0_0 i)
    (x0 : Vec F S64x4096 .f32) (x1 : Vec F S1x1024x128 .f32) (x2 : Vec F S64x1024 .bf16) (x3 : Vec F S1x1024 .f32) (x4 : Vec F S1x128 .f32) :
    sout0_A_0 c i arg1 harg1 arg2 harg2 arg3 harg3 arg4 harg4 arg5 harg5 arg6 harg6 arg7 harg7 arg8 harg8 arg9 harg9 hc0 x0 x1 x2 x3 x4 = k0_pay1 (raw arg1 harg1 arg2 harg2 arg3 harg3 arg4 harg4 arg5 harg5 x0 x1 x2 x3 x4 (arg9.view.readCov [⟨Rect.unit (s := S1024x128) ![0, 0] S1024x128.size inb_S1024x128_S1024x128_0_0, k0_pay4⟩] (Rect.unit (s := S1024x128) ![0, 0] S1024x128.size inb_S1024x128_S1024x128_0_0).toLoadRect)).DST := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4)]
  unfold kernelRun0_A
  dsimp only
  rw [View.canon_cons_unit_zero (by decide)]
  rfl

set_option maxHeartbeats 4000000 in
/-- What the first point leaves: low. -/
theorem lowA (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : cond0_0 i)
    (x0 : Vec F S64x4096 .f32) (x1 : Vec F S1x1024x128 .f32) (x2 : Vec F S64x1024 .bf16) (x3 : Vec F S1x1024 .f32) (x4 : Vec F S1x128 .f32) :
    out0_A_6 c i arg1 harg1 arg2 harg2 arg3 harg3 arg4 harg4 arg5 harg5 arg6 harg6 arg7 harg7 arg8 harg8 arg9 harg9 hc0 x0 x1 x2 x3 x4 = k0_pay2 (raw arg1 harg1 arg2 harg2 arg3 harg3 arg4 harg4 arg5 harg5 x0 x1 x2 x3 x4 (arg9.view.readCov [⟨Rect.unit (s := S1024x128) ![0, 0] S1024x128.size inb_S1024x128_S1024x128_0_0, k0_pay4⟩] (Rect.unit (s := S1024x128) ![0, 0] S1024x128.size inb_S1024x128_S1024x128_0_0).toLoadRect)).DLB (arg7.view.readCov [⟨Rect.unit (s := S1x1024) ![0, 0] S1x1024.size inb_S1x1024_S1x1024_0_0, k0_pay5⟩] (Rect.unit (s := S1x1024) ![0, 0] S1x1024.size inb_S1x1024_S1x1024_0_0).toLoadRect) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  rw [View.canon_cons_unit_zero (by decide)]
  rfl

set_option maxHeartbeats 4000000 in
/-- What the first point leaves: gain. -/
theorem gainA (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : cond0_0 i)
    (x0 : Vec F S64x4096 .f32) (x1 : Vec F S1x1024x128 .f32) (x2 : Vec F S64x1024 .bf16) (x3 : Vec F S1x1024 .f32) (x4 : Vec F S1x128 .f32) :
    out0_A_7 c i arg1 harg1 arg2 harg2 arg3 harg3 arg4 harg4 arg5 harg5 arg6 harg6 arg7 harg7 arg8 harg8 arg9 harg9 hc0 x0 x1 x2 x3 x4 = k0_pay3 (raw arg1 harg1 arg2 harg2 arg3 harg3 arg4 harg4 arg5 harg5 x0 x1 x2 x3 x4 (arg9.view.readCov [⟨Rect.unit (s := S1024x128) ![0, 0] S1024x128.size inb_S1024x128_S1024x128_0_0, k0_pay4⟩] (Rect.unit (s := S1024x128) ![0, 0] S1024x128.size inb_S1024x128_S1024x128_0_0).toLoadRect)).dgo (arg8.view.readCov [⟨Rect.unit (s := S1x128) ![0, 0] S1x128.size inb_S1x128_S1x128_0_0, k0_pay6⟩] (Rect.unit (s := S1x128) ![0, 0] S1x128.size inb_S1x128_S1x128_0_0).toLoadRect) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  rw [View.canon_cons_unit_zero (by decide)]
  rfl

end Cert.HG
-- ==== Proof.BodyB.lean ====
/- One visit of the kernel's body, at either kind of grid point, as the named values of the backward pass. -/
module

public import proofs.«01_k».proof.Proof.Raw

@[expose] public section

set_option maxRecDepth 100000

noncomputable section

namespace Cert.HG

open Idealize.ShloMosaic Idealize.ShloMosaic.TcCoe Idealize.SL.Sem
open Cert.KernelIdeal Cert.KernelIdeal.Gen

variable {F : FTy → Type} [FloatOps F]

set_option maxHeartbeats 4000000 in
/-- What a later point leaves: state. -/
theorem stateB (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : ¬cond0_0 i)
    (x0 : Vec F S64x4096 .f32) (x1 : Vec F S1x1024x128 .f32) (x2 : Vec F S64x1024 .bf16) (x3 : Vec F S1x1024 .f32) (x4 : Vec F S1x128 .f32)
    (xo6 : Vec F S1x1024 .f32) (xo7 : Vec F S1x128 .f32) (xs0 : Vec F S1024x128 .f32) :
    sout0_B_0 c i arg1 harg1 arg2 harg2 arg3 harg3 arg4 harg4 arg5 harg5 arg6 harg6 arg7 harg7 arg8 harg8 arg9 harg9 hc0 x0 x1 x2 x3 x4 xo6 xo7 xs0 = k0_pay1 (raw arg1 harg1 arg2 harg2 arg3 harg3 arg4 harg4 arg5 harg5 x0 x1 x2 x3 x4 (View.readAt (Elt F) arg9.view (Rect.unit (s := S1024x128) ![0, 0] S1024x128.size inb_S1024x128_S1024x128_0_0).toLoadRect (harg9.unread xs0))).DST := by
  unfold sout0_B_0
  rw [View.read_writes_eq_canon _ _ _ (scover0_B_0 c i arg1 harg1 arg2 harg2 arg3 harg3 arg4 harg4 arg5 harg5 arg6 harg6 arg7 harg7 arg8 harg8 arg9 harg9 hc0 x0 x1 x2 x3 x4 xo6 xo7 xs0)]
  unfold kernelRun0_B
  dsimp only
  rw [View.canon_unit_zero (by decide)]
  rfl

set_option maxHeartbeats 4000000 in
/-- What a later point leaves: low. -/
theorem lowB (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : ¬cond0_0 i)
    (x0 : Vec F S64x4096 .f32) (x1 : Vec F S1x1024x128 .f32) (x2 : Vec F S64x1024 .bf16) (x3 : Vec F S1x1024 .f32) (x4 : Vec F S1x128 .f32)
    (xo6 : Vec F S1x1024 .f32) (xo7 : Vec F S1x128 .f32) (xs0 : Vec F S1024x128 .f32) :
    out0_B_6 c i arg1 harg1 arg2 harg2 arg3 harg3 arg4 harg4 arg5 harg5 arg6 harg6 arg7 harg7 arg8 harg8 arg9 harg9 hc0 x0 x1 x2 x3 x4 xo6 xo7 xs0 = k0_pay2 (raw arg1 harg1 arg2 harg2 arg3 harg3 arg4 harg4 arg5 harg5 x0 x1 x2 x3 x4 (View.readAt (Elt F) arg9.view (Rect.unit (s := S1024x128) ![0, 0] S1024x128.size inb_S1024x128_S1024x128_0_0).toLoadRect (harg9.unread xs0))).DLB (View.readAt (Elt F) arg7.view (Rect.unit (s := S1x1024) ![0, 0] S1x1024.size inb_S1x1024_S1x1024_0_0).toLoadRect (harg7.unread xo6)) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo6 xo7 xs0)]
  unfold kernelRun0_B
  dsimp only
  rw [View.canon_unit_zero (by decide)]
  rfl

set_option maxHeartbeats 4000000 in
/-- What a later point leaves: gain. -/
theorem gainB (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : ¬cond0_0 i)
    (x0 : Vec F S64x4096 .f32) (x1 : Vec F S1x1024x128 .f32) (x2 : Vec F S64x1024 .bf16) (x3 : Vec F S1x1024 .f32) (x4 : Vec F S1x128 .f32)
    (xo6 : Vec F S1x1024 .f32) (xo7 : Vec F S1x128 .f32) (xs0 : Vec F S1024x128 .f32) :
    out0_B_7 c i arg1 harg1 arg2 harg2 arg3 harg3 arg4 harg4 arg5 harg5 arg6 harg6 arg7 harg7 arg8 harg8 arg9 harg9 hc0 x0 x1 x2 x3 x4 xo6 xo7 xs0 = k0_pay3 (raw arg1 harg1 arg2 harg2 arg3 harg3 arg4 harg4 arg5 harg5 x0 x1 x2 x3 x4 (View.readAt (Elt F) arg9.view (Rect.unit (s := S1024x128) ![0, 0] S1024x128.size inb_S1024x128_S1024x128_0_0).toLoadRect (harg9.unread xs0))).dgo (View.readAt (Elt F) arg8.view (Rect.unit (s := S1x128) ![0, 0] S1x128.size inb_S1x128_S1x128_0_0).toLoadRect (harg8.unread xo7)) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo6 xo7 xs0)]
  unfold kernelRun0_B
  dsimp only
  rw [View.canon_unit_zero (by decide)]
  rfl

end Cert.HG
-- ==== Proof.GradA.lean ====
/- One visit of the kernel's body, at either kind of grid point, as the named values of the backward pass. -/
module

public import proofs.«01_k».proof.Proof.Raw

@[expose] public section

set_option maxRecDepth 100000

noncomputable section

namespace Cert.HG

open Idealize.ShloMosaic Idealize.ShloMosaic.TcCoe Idealize.SL.Sem
open Cert.KernelIdeal Cert.KernelIdeal.Gen

variable {F : FTy → Type} [FloatOps F]

set_option maxHeartbeats 100000000 in
/-- What the first point leaves: grad. -/
theorem gradA (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : cond0_0 i)
    (x0 : Vec F S64x4096 .f32) (x1 : Vec F S1x1024x128 .f32) (x2 : Vec F S64x1024 .bf16) (x3 : Vec F S1x1024 .f32) (x4 : Vec F S1x128 .f32) :
    out0_A_5 c i arg1 harg1 arg2 harg2 arg3 harg3 arg4 harg4 arg5 harg5 arg6 harg6 arg7 harg7 arg8 harg8 arg9 harg9 hc0 x0 x1 x2 x3 x4 = View.canon (pieces (raw arg1 harg1 arg2 harg2 arg3 harg3 arg4 harg4 arg5 harg5 x0 x1 x2 x3 x4 (arg9.view.readCov [⟨Rect.unit (s := S1024x128) ![0, 0] S1024x128.size inb_S1024x128_S1024x128_0_0, k0_pay4⟩] (Rect.unit (s := S1024x128) ![0, 0] S1024x128.size inb_S1024x128_S1024x128_0_0).toLoadRect))) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  refine canon4 ?_ ?_ ?_ ?_
  · rfl
  · rfl
  · rfl
  · rfl

end Cert.HG
-- ==== Proof.GradB.lean ====
/- One visit of the kernel's body, at either kind of grid point, as the named values of the backward pass. -/
module

public import proofs.«01_k».proof.Proof.Raw

@[expose] public section

set_option maxRecDepth 100000

noncomputable section

namespace Cert.HG

open Idealize.ShloMosaic Idealize.ShloMosaic.TcCoe Idealize.SL.Sem
open Cert.KernelIdeal Cert.KernelIdeal.Gen

variable {F : FTy → Type} [FloatOps F]

set_option maxHeartbeats 100000000 in
/-- What a later point leaves: grad. -/
theorem gradB (c : Dev nD) (i : grid0.Coords) (arg1 : Memref sig .tc .vmem S64x4096 .f32) (harg1 : arg1.IsWhole) (arg2 : Memref sig .tc .vmem S1x1024x128 .f32) (harg2 : arg2.IsWhole) (arg3 : Memref sig .tc .vmem S64x1024 .bf16) (harg3 : arg3.IsWhole) (arg4 : Memref sig .tc .vmem S1x1024 .f32) (harg4 : arg4.IsWhole) (arg5 : Memref sig .tc .vmem S1x128 .f32) (harg5 : arg5.IsWhole) (arg6 : Memref sig .tc .vmem S64x4096 .bf16) (harg6 : arg6.IsWhole) (arg7 : Memref sig .tc .vmem S1x1024 .f32) (harg7 : arg7.IsWhole) (arg8 : Memref sig .tc .vmem S1x128 .f32) (harg8 : arg8.IsWhole) (arg9 : Memref sig .tc .vmem S1024x128 .f32) (harg9 : arg9.IsWhole) (hc0 : ¬cond0_0 i)
    (x0 : Vec F S64x4096 .f32) (x1 : Vec F S1x1024x128 .f32) (x2 : Vec F S64x1024 .bf16) (x3 : Vec F S1x1024 .f32) (x4 : Vec F S1x128 .f32)
    (xo6 : Vec F S1x1024 .f32) (xo7 : Vec F S1x128 .f32) (xs0 : Vec F S1024x128 .f32) :
    out0_B_5 c i arg1 harg1 arg2 harg2 arg3 harg3 arg4 harg4 arg5 harg5 arg6 harg6 arg7 harg7 arg8 harg8 arg9 harg9 hc0 x0 x1 x2 x3 x4 xo6 xo7 xs0 = View.canon (pieces (raw arg1 harg1 arg2 harg2 arg3 harg3 arg4 harg4 arg5 harg5 x0 x1 x2 x3 x4 (View.readAt (Elt F) arg9.view (Rect.unit (s := S1024x128) ![0, 0] S1024x128.size inb_S1024x128_S1024x128_0_0).toLoadRect (harg9.unread xs0)))) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo6 xo7 xs0)]
  unfold kernelRun0_B
  dsimp only
  refine canon4 ?_ ?_ ?_ ?_
  · rfl
  · rfl
  · rfl
  · rfl

end Cert.HG
-- ==== Proof.Grid.lean ====
/- The kernel's grid over the real numbers: after each point the carried arrays hold the gradient of the state and the two running sums,
   and the point's block of the first result holds the gradients of its rows. -/
module

public import proofs.«01_k».proof.Proof.Visit
public import proofs.«01_k».proof.Proof.RefLoop
public import proofs.«01_k».proof.Proof.BodyA
public import proofs.«01_k».proof.Proof.BodyB
public import proofs.«01_k».proof.Proof.GradA
public import proofs.«01_k».proof.Proof.GradB

@[expose] public section

set_option maxRecDepth 100000

noncomputable section

namespace Cert.HG.Grid

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem index0 : ∀ t : Fin cfg0.N, win0_0.index t 0 = 255 - t.val ∧ win0_0.index t 1 = 0 :=
  (by decide +kernel : ∀ t : Fin grid0.N, win0_0.index t 0 = 255 - t.val ∧ win0_0.index t 1 = 0)
theorem index1 : ∀ t : Fin cfg0.N, win0_1.index t 0 = 255 - t.val ∧ win0_1.index t 1 = 0 ∧ win0_1.index t 2 = 0 :=
  (by decide +kernel : ∀ t : Fin grid0.N, win0_1.index t 0 = 255 - t.val ∧ win0_1.index t 1 = 0 ∧ win0_1.index t 2 = 0)
theorem index2 : ∀ t : Fin cfg0.N, win0_2.index t 0 = 255 - t.val ∧ win0_2.index t 1 = 0 :=
  (by decide +kernel : ∀ t : Fin grid0.N, win0_2.index t 0 = 255 - t.val ∧ win0_2.index t 1 = 0)
theorem index5 : ∀ t : Fin cfg0.N, win0_5.index t 0 = 255 - t.val ∧ win0_5.index t 1 = 0 :=
  (by decide +kernel : ∀ t : Fin grid0.N, win0_5.index t 0 = 255 - t.val ∧ win0_5.index t 1 = 0)

/-- Point `t`'s blocks are chunk `255 - t` of the arrays. -/
theorem blk0 (c : Dev nD) (t : Fin cfg0.N) (r : Fin 64) (k : Fin 4096) :
    (iblk m c 0 t : Vec Ideal S64x4096 .f32) (ix2 r k) = m ((c : Thread nD τ).loc main_arg0) (ix2 (row (rev t.val) r) k) := by
  unfold iblk
  rw [View.read_apply]
  show V m c main_arg0 _ = m (c.tc.loc main_arg0) _
  unfold V
  refine congrArg _ (funext fun a => Fin.ext ?_)
  match a with
  | ⟨0, _⟩ => show win0_0.index t 0 * 64 + 1 * r.val = (255 - t.val) * 64 + r.val; rw [(index0 t).1]; omega
  | ⟨1, _⟩ => show win0_0.index t 1 * 4096 + 1 * k.val = k.val; rw [(index0 t).2]; omega
theorem blk1 (c : Dev nD) (t : Fin cfg0.N) (o : Fin 1) (r : Fin 1024) (k : Fin 128) :
    (iblk m c 1 t : Vec Ideal S1x1024x128 .f32) (ix3 o r k) = m ((c : Thread nD τ).loc main_arg1) (ix3 (rev t.val) r k) := by
  unfold iblk
  rw [View.read_apply]
  show V m c main_arg1 _ = m (c.tc.loc main_arg1) _
  unfold V
  refine congrArg _ (funext fun a => Fin.ext ?_)
  match a with
  | ⟨0, _⟩ => show win0_1.index t 0 * 1 + 1 * o.val = 255 - t.val; rw [(index1 t).1]; omega
  | ⟨1, _⟩ => show win0_1.index t 1 * 1024 + 1 * r.val = r.val; rw [(index1 t).2.1]; omega
  | ⟨2, _⟩ => show win0_1.index t 2 * 128 + 1 * k.val = k.val; rw [(index1 t).2.2]; omega
theorem blk2 (c : Dev nD) (t : Fin cfg0.N) (r : Fin 64) (k : Fin 1024) :
    (iblk m c 2 t : Vec Ideal S64x1024 .bf16) (ix2 r k) = m ((c : Thread nD τ).loc main_arg2) (ix2 (row (rev t.val) r) k) := by
  unfold iblk
  rw [View.read_apply]
  show V m c main_arg2 _ = m (c.tc.loc main_arg2) _
  unfold V
  refine congrArg _ (funext fun a => Fin.ext ?_)
  match a with
  | ⟨0, _⟩ => show win0_2.index t 0 * 64 + 1 * r.val = (255 - t.val) * 64 + r.val; rw [(index2 t).1]; omega
  | ⟨1, _⟩ => show win0_2.index t 1 * 1024 + 1 * k.val = k.val; rw [(index2 t).2]; omega
theorem blk3 (c : Dev nD) (t : Fin cfg0.N) (r : Fin 1) (k : Fin 1024) :
    (iblk m c 3 t : Vec Ideal S1x1024 .f32) (ix2 r k) = m ((c : Thread nD τ).loc main_arg3) (ix2 r k) := by
  unfold iblk
  rw [View.read_apply]
  show V m c main_arg3 _ = m (c.tc.loc main_arg3) _
  unfold V
  refine congrArg _ (funext fun a => Fin.ext ?_)
  match a with
  | ⟨0, _⟩ => show 0 * 1 + 1 * r.val = r.val; omega
  | ⟨1, _⟩ => show 0 * 1024 + 1 * k.val = k.val; omega
theorem blk4 (c : Dev nD) (t : Fin cfg0.N) (r : Fin 1) (k : Fin 128) :
    (iblk m c 4 t : Vec Ideal S1x128 .f32) (ix2 r k) = m ((c : Thread nD τ).loc main_arg4) (ix2 r k) := by
  unfold iblk
  rw [View.read_apply]
  show V m c main_arg4 _ = m (c.tc.loc main_arg4) _
  unfold V
  refine congrArg _ (funext fun a => Fin.ext ?_)
  match a with
  | ⟨0, _⟩ => show 0 * 1 + 1 * r.val = r.val; omega
  | ⟨1, _⟩ => show 0 * 128 + 1 * k.val = k.val; omega

/-- What the arrays hold after turn `n`. -/
structure After (A : All) (n : ℕ) (x : Vec Ideal S64x4096 .bf16 × Vec Ideal S1x1024 .f32 × Vec Ideal S1x128 .f32 × Vec Ideal S1024x128 .f32) : Prop where
  du : ∀ t g c, x.1 (ix2 t (wide g c)) = (((A.turn n).du t g c : ℝ) : EReal)
  lb : R2 (φ := .f32) x.2.1 (fun _ c => A.lbs (n + 1) c)
  go : R2 (φ := .f32) x.2.2.1 (fun _ e => A.gos (n + 1) e)
  dS : R2 (φ := .f32) x.2.2.2 (A.dSs (n + 1))

section
variable {A : All} {c : Dev nD}
  (H : Args A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
include H

/-- A visit at point `t`, the carried gradient of the state given. -/
theorem rep (t : Fin cfg0.N) (n : ℕ) (hn : t.val = n) {dS : Vec Ideal S1024x128 .f32} (hd : R2 (φ := .f32) dS (A.dSs n)) :
    Rep (raw (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (iblk m c 4 t) dS) (A.turn n) := by
  subst hn
  exact raw_rep (fun r k => (blk0 m c t r k).trans (H.u _ _)) (fun o r k => (blk1 m c t o r k).trans (H.sts _ _ _)) (fun r k => (blk2 m c t r k).trans (H.dp _ _))
    (fun r k => (blk3 m c t r k).trans (H.lb _ _)) (fun r k => (blk4 m c t r k).trans (H.go _ _)) hd H.nn

theorem after_zero (t : Fin cfg0.N) (h0 : t.val = 0) : After A 0 (outsAt0 m c t.val t.isLt) := by
  have hd : R2 (φ := .f32) (scM0_0.view.readCov (Val := Elt Ideal) [⟨Rect.unit (s := S1024x128) ![0, 0] S1024x128.size inb_S1024x128_S1024x128_0_0, k0_pay4 (F := Ideal)⟩] (Rect.unit (s := S1024x128) ![0, 0] S1024x128.size inb_S1024x128_S1024x128_0_0).toLoadRect) (A.dSs 0) := by
    rw [View.readCov_unit_zero (S := S1024x128) _ z2]; exact S2.zero
  have I := rep m H t 0 h0 hd
  have hm : t.val % 256 = 0 := by rw [h0]
  rw [outsAt0_A m c t hm]
  refine ⟨?_, ?_, ?_, ?_⟩
  · dsimp only; rw [gradA]; exact grad_at I
  · dsimp only; rw [lowA, View.readCov_unit_zero (S := S1x1024) _ z2]; exact L2.plus I.DLB L2.zero
  · dsimp only; rw [gainA, View.readCov_unit_zero (S := S1x128) _ z2]; exact G2.plus I.dgo G2.zero
  · dsimp only; rw [stateA]; exact S2.kept I.DST

theorem after_succ (t : Fin cfg0.N) (n : ℕ) (hn : t.val = n + 1) (P : After A n (outsAt0 m c (t.val - 1) (Nat.lt_of_le_of_lt (Nat.sub_le _ _) t.isLt))) :
    After A (n + 1) (outsAt0 m c t.val t.isLt) := by
  have ht : t.val < 256 := lt_of_lt_of_eq t.isLt N_0
  have hm : ¬t.val % 256 = 0 := by omega
  rw [outsAt0_B m c t hm]
  generalize outsAt0 m c (t.val - 1) (Nat.lt_of_le_of_lt (Nat.sub_le _ _) t.isLt) = y at P
  have hd : R2 (φ := .f32) (View.readAt (Elt Ideal) scM0_0.view (Rect.unit (s := S1024x128) ![0, 0] S1024x128.size inb_S1024x128_S1024x128_0_0).toLoadRect ((Memref.isWhole_whole _ : scM0_0.IsWhole).unread y.2.2.2)) (A.dSs (n + 1)) := by
    rw [load_whole _ _ z2]; exact P.dS
  have I := rep m H t (n + 1) hn hd
  refine ⟨?_, ?_, ?_, ?_⟩
  · dsimp only; rw [gradB]; exact grad_at I
  · dsimp only; rw [lowB, load_whole (hs0_6 t) _ z2]; exact L2.plus I.DLB P.lb
  · dsimp only; rw [gainB, load_whole (hs0_7 t) _ z2]; exact G2.plus I.dgo P.go
  · dsimp only; rw [stateB]; exact S2.kept I.DST

theorem after_all : ∀ (n : ℕ) (h : n < cfg0.N), After A n (outsAt0 m c n h)
  | 0, h => after_zero m H ⟨0, h⟩ rfl
  | n + 1, h => after_succ m H ⟨n + 1, h⟩ n rfl (after_all n (Nat.lt_of_succ_lt h))

end

/-! ## The three results -/

/-- The gradient of the rows, as contents of the first result. -/
def _root_.Cert.HG.All.out (A : All) : S16384x4096.Idx → EReal := fun i =>
  ((A.du ⟨(i 0).val / 64, by have : (i 0).val < 16384 := (i 0).isLt; omega⟩ ⟨(i 0).val % 64, by omega⟩
    ⟨(i 1).val / 1024, by have : (i 1).val < 4096 := (i 1).isLt; omega⟩ ⟨(i 1).val % 1024, by omega⟩ : ℝ) : EReal)
theorem _root_.Cert.HG.All.out_at (A : All) (i : Fin 256) (t : Fin 64) (g : Fin 4) (c : Fin 1024) :
    A.out (ix2 (row i t) (wide g c)) = ((A.du i t g c : ℝ) : EReal) := by
  have e0 : (i.val * 64 + t.val) / 64 = i.val := by omega
  have e1 : (i.val * 64 + t.val) % 64 = t.val := by omega
  have e2 : (1024 * g.val + c.val) / 1024 = g.val := by omega
  have e3 : (1024 * g.val + c.val) % 1024 = c.val := by omega
  show ((A.du ⟨(i.val * 64 + t.val) / 64, _⟩ ⟨(i.val * 64 + t.val) % 64, _⟩ ⟨(1024 * g.val + c.val) / 1024, _⟩ ⟨(1024 * g.val + c.val) % 1024, _⟩ : ℝ) : EReal) = _
  simp only [e0, e1, e2, e3]

/-- Every index of a row block is in one part. -/
theorem _root_.Cert.HG.wide_of (k : Fin 4096) : k = wide ⟨k.val / 1024, by omega⟩ ⟨k.val % 1024, by omega⟩ :=
  Fin.ext (by show k.val = 1024 * (k.val / 1024) + k.val % 1024; omega)
theorem _root_.Cert.HG.row_of (r : Fin 16384) : r = row ⟨r.val / 64, by omega⟩ ⟨r.val % 64, by omega⟩ :=
  Fin.ext (by show r.val = r.val / 64 * 64 + r.val % 64; omega)

section
variable {A : All} {c : Dev nD}
  (H : Args A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))

include H in
theorem final5 : (dats m 0 c).arrAt 5 cfg0.N = A.out := by
  refine (dats m 0 c).arrAt_eq_of_cover 5 A.out (fun t _ => ?_) fun i => ?_
  · have ht : t.val < 256 := lt_of_lt_of_eq t.isLt N_0
    have P := after_all m H t.val t.isLt
    rw [Value.flushed5]
    funext y
    obtain ⟨r, k, rfl⟩ : ∃ (r : Fin 64) (k : Fin 4096), y = ix2 r k := ⟨y 0, y 1, funext fun a => by match a with | 0 => rfl | 1 => rfl⟩
    rw [View.read_apply]
    have ei : ((cfg0.win 5).blk t).view.emb (ix2 r k) = (ix2 (row (rev t.val) r) k : S16384x4096.Idx) := funext fun a => Fin.ext (by
      match a with
      | ⟨0, _⟩ => show win0_5.index t 0 * 64 + 1 * r.val = (255 - t.val) * 64 + r.val; rw [(index5 t).1]; omega
      | ⟨1, _⟩ => show win0_5.index t 1 * 4096 + 1 * k.val = k.val; rw [(index5 t).2]; omega)
    show (outsAt0 m c t.val t.isLt).1 (ix2 r k) = A.out (((cfg0.win 5).blk t).view.emb (ix2 r k))
    rw [ei, wide_of k, P.du, A.out_at, A.du_eq]
    have et : 255 - (rev t.val).val = t.val := by show 255 - (255 - t.val) = t.val; omega
    rw [et]
  · have hN : cfg0.N = 256 := N_0
    have h0 : (i 0 : Nat) < 16384 := (i 0).isLt
    have h1 : (i 1 : Nat) < 4096 := (i 1).isLt
    obtain ⟨t, ht⟩ : ∃ t : Fin cfg0.N, t.val = 255 - (i 0 : Nat) / 64 := ⟨⟨255 - (i 0 : Nat) / 64, lt_of_lt_of_eq (by omega) N_0.symm⟩, rfl⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 64 ≤ (i 0 : Nat) ∧ (i 0 : Nat) < win0_5.index t 0 * 64 + 64
      rw [(index5 t).1]; omega
    | ⟨1, _⟩ =>
      show win0_5.index t 1 * 4096 ≤ (i 1 : Nat) ∧ (i 1 : Nat) < win0_5.index t 1 * 4096 + 4096
      rw [(index5 t).2]; omega

/-- The last point's block is the whole result. -/
theorem last6 (c : Dev nD) (t : Fin cfg0.N) (ht : t.val = 255) : (dats m 0 c).arrAt 6 cfg0.N = (outsAt0 m c t.val t.isLt).2.1 := by
  refine (dats m 0 c).arrAt_eq_of_cover 6 _ (fun t' hf => ?_) fun i => ?_
  · have ht' : t'.val < 256 := lt_of_lt_of_eq t'.isLt N_0
    have h5 := (flush0_6 t').mp hf
    obtain rfl : t' = t := Fin.ext (by omega)
    rw [Value.flushed6]
    generalize (outsAt0 m c t'.val t'.isLt).2.1 = x
    have hz : (fun a => win0_6.index t' a * main_v0_1.ty.shape.size a) = fun _ => 0 := funext fun a => by
      match a with
      | ⟨0, _⟩ => rfl
      | ⟨1, _⟩ => rfl
    exact (Memref.read_access_unit_zero (Elt Ideal) main_v0_1 hz (fun a => by rw [congrFun hz a]; simp) x).symm
  · refine ⟨t, (flush0_6 t).mpr (by rw [ht]), ?_⟩
    show i ∈ ((View.whole main_v0_1).slice (win0_6.rect t)).set
    rw [View.set_slice_whole, Rect.mem_set_unit]
    intro a
    have h0 : (i 0 : Nat) < 1 := (i 0).isLt
    have h1 : (i 1 : Nat) < 1024 := (i 1).isLt
    match a with
    | ⟨0, _⟩ => show 0 * 1 ≤ (i 0 : Nat) ∧ (i 0 : Nat) < 0 * 1 + 1; omega
    | ⟨1, _⟩ => show 0 * 1024 ≤ (i 1 : Nat) ∧ (i 1 : Nat) < 0 * 1024 + 1024; omega

include H in
theorem final6 : R2 (φ := .f32) ((dats m 0 c).arrAt 6 cfg0.N) (fun _ k => A.lbs 256 k) := by
  obtain ⟨t, ht⟩ : ∃ t : Fin cfg0.N, t.val = 255 := ⟨⟨255, lt_of_lt_of_eq (by decide) N_0.symm⟩, rfl⟩
  rw [last6 m c t ht]
  exact (after_all m H t.val t.isLt).lb.congr fun _ k => by rw [ht]

/-- The last point's block is the whole result. -/
theorem last7 (c : Dev nD) (t : Fin cfg0.N) (ht : t.val = 255) : (dats m 0 c).arrAt 7 cfg0.N = (outsAt0 m c t.val t.isLt).2.2.1 := by
  refine (dats m 0 c).arrAt_eq_of_cover 7 _ (fun t' hf => ?_) fun i => ?_
  · have ht' : t'.val < 256 := lt_of_lt_of_eq t'.isLt N_0
    have h5 := (flush0_7 t').mp hf
    obtain rfl : t' = t := Fin.ext (by omega)
    rw [Value.flushed7]
    generalize (outsAt0 m c t'.val t'.isLt).2.2.1 = x
    have hz : (fun a => win0_7.index t' a * main_v0_2.ty.shape.size a) = fun _ => 0 := funext fun a => by
      match a with
      | ⟨0, _⟩ => rfl
      | ⟨1, _⟩ => rfl
    exact (Memref.read_access_unit_zero (Elt Ideal) main_v0_2 hz (fun a => by rw [congrFun hz a]; simp) x).symm
  · refine ⟨t, (flush0_7 t).mpr (by rw [ht]), ?_⟩
    show i ∈ ((View.whole main_v0_2).slice (win0_7.rect t)).set
    rw [View.set_slice_whole, Rect.mem_set_unit]
    intro a
    have h0 : (i 0 : Nat) < 1 := (i 0).isLt
    have h1 : (i 1 : Nat) < 128 := (i 1).isLt
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

include H in
theorem final7 : R2 (φ := .f32) ((dats m 0 c).arrAt 7 cfg0.N) (fun _ k => A.gos 256 k) := by
  obtain ⟨t, ht⟩ : ∃ t : Fin cfg0.N, t.val = 255 := ⟨⟨255, lt_of_lt_of_eq (by decide) N_0.symm⟩, rfl⟩
  rw [last7 m c t ht]
  exact (after_all m H t.val t.isLt).go.congr fun _ k => by rw [ht]

end

end Cert.HG.Grid
end
-- ==== Proof.Blocks.lean ====
/- A sum over rows taken block by block is the sum over all rows. -/
module

public import Idealize.ShloMosaic.Lib.Pointwise

@[expose] public section

noncomputable section

namespace Cert

/-- Row `k` of block `t`, of `a` blocks of `b` rows. -/
def blockRow {a b N : ℕ} (h : a * b = N) (t : Fin a) (k : Fin b) : Fin N :=
  ⟨t.val * b + k.val, by
    have : (t.val + 1) * b ≤ a * b := Nat.mul_le_mul_right b t.isLt
    have := k.isLt
    rw [Nat.succ_mul] at *; omega⟩

/-- A place of a matrix is a row and a column. -/
theorem exists_ix2 {a b : ℕ} (y : Idealize.ShloMosaic.Shape.Idx ⟨2, ![a, b]⟩) : ∃ (i : Fin a) (j : Fin b), y = Idealize.ShloMosaic.ix2 i j :=
  ⟨y 0, y 1, funext fun k => by match k with | 0 => rfl | 1 => rfl⟩

/-- Every row is one of a block. -/
theorem exists_block {a b N : ℕ} (h : a * b = N) (r : Fin N) : ∃ (t : Fin a) (k : Fin b), r = blockRow h t k := by
  subst h
  obtain ⟨hb⟩ : Nonempty (0 < b) := ⟨Nat.pos_of_ne_zero fun e => by subst e; exact absurd r.isLt (Nat.not_lt_zero _)⟩
  refine ⟨⟨r.val / b, Nat.div_lt_of_lt_mul (lt_of_lt_of_eq r.isLt (Nat.mul_comm a b))⟩, ⟨r.val % b, Nat.mod_lt _ hb⟩, Fin.ext ?_⟩
  show r.val = r.val / b * b + r.val % b
  rw [Nat.div_add_mod']

theorem sum_blocks {a b N : ℕ} (h : a * b = N) (f : Fin N → EReal) : ∑ t : Fin a, ∑ k : Fin b, f (blockRow h t k) = ∑ r, f r := by
  subst h
  rw [← Fintype.sum_prod_type']
  exact Fintype.sum_equiv (finProdFinEquiv (m := a) (n := b)) _ _ fun p => congrArg f (Fin.ext (by
    show p.1.val * b + p.2.val = p.2.val + b * p.1.val
    rw [Nat.mul_comm, Nat.add_comm]))

/-- What is added up block after block, from the first to block `n`. -/
theorem sum_turns {n : ℕ} (f : Fin (n + 1) → EReal) (s : ℕ → EReal) (h0 : s 0 = f 0) (hs : ∀ (t : ℕ) (h : t < n), s (t + 1) = s t + f ⟨t + 1, Nat.succ_lt_succ h⟩) :
    s n = ∑ t, f t := by
  induction n with
  | zero => rw [h0, Fin.sum_univ_one]
  | succ n ih =>
    rw [hs n (Nat.lt_succ_self n), Fin.sum_univ_castSucc, ih (fun t => f t.castSucc) h0 fun t h => hs t (Nat.lt_succ_of_lt h)]
    rfl

end Cert
end
-- ==== Proof.NormSpec.lean ====
/- The scaled, shifted root-mean-square norm of a row, and what its gradient is, over the extended reals: the row functions that
   the kernel computes tile by tile and the plain backward pass computes on whole arrays. -/
module

public import proofs.«01_k».proof.Proof.Blocks

@[expose] public section

noncomputable section

namespace Cert.LN

open Idealize.ShloMosaic

/-- A row of the trunk, or of a gradient. -/
abbrev Row := Fin 1024 → EReal

def width : EReal := Ideal.ofBits .f32 0x44800000#32
def eps : EReal := Ideal.ofBits .f32 0x358637BD#32
def mhalf : EReal := Ideal.ofBits .f32 0xBF000000#32

/-- The mean of the squares, kept off zero; the scale it gives the row; the normalised row. -/
def ms (x : Row) : EReal := Ideal.div (∑ k, x k * x k) width + eps
def rs (x : Row) : EReal := Ideal.rsqrt (ms x)
def nrm (x : Row) (j : Fin 1024) : EReal := x j * rs x

/-- The gradient `dh` of the scaled, shifted row: past the scale, past the gain, and at the mean of the squares. -/
def dsc (sc dh : Row) (j : Fin 1024) : EReal := dh j * (1 + sc j)
def dy (g sc dh : Row) (j : Fin 1024) : EReal := dsc sc dh j * g j
def dms (x g sc dh : Row) : EReal := Ideal.div ((∑ k, x k * dy g sc dh k) * (mhalf * Ideal.div (rs x) (ms x))) width

/-- The gradient of the row, added to the one that passes by. -/
def dx (x g sc dh p : Row) (j : Fin 1024) : EReal := p j + (dy g sc dh j * rs x + x j * dms x g sc dh + dms x g sc dh * x j)

/-- The row's parts of the gradients of the gain, the scale and the shift. -/
def gain (x sc dh : Row) (j : Fin 1024) : EReal := nrm x j * dsc sc dh j
def scale (x g dh : Row) (j : Fin 1024) : EReal := nrm x j * g j * dh j

/-- Row `i` of a tile. -/
def rowOf {a : ℕ} {φ : FTy} (x : FVec Ideal ⟨2, ![a, 1024]⟩ φ) (i : Fin a) : Row := fun j => x (ix2 i j)

/-- What a visit adds to each row of the second result: the tile's gradients of the gain, of the scale and of the shift, and nothing. -/
def adds {n : ℕ} (x dh : Fin n → Row) (g sc : Row) (r : Fin 8) (j : Fin 1024) : EReal :=
  if r.val = 0 then ∑ k, gain (x k) sc (dh k) j else if r.val = 1 then ∑ k, scale (x k) g (dh k) j
  else if r.val = 2 then ∑ k, dh k j else 0

/-- What the call is given, its first two arrays as the gradient `d` of the scaled, shifted rows, which is their product. -/
structure Arrays where
  d : FVec Ideal ⟨2, ![16384, 1024]⟩ .f32
  x : FVec Ideal ⟨2, ![16384, 1024]⟩ .f32
  p : FVec Ideal ⟨2, ![16384, 1024]⟩ .f32
  g : FVec Ideal ⟨2, ![1, 1024]⟩ .f32
  sc : FVec Ideal ⟨2, ![1, 1024]⟩ .f32

/-- The two results. -/
def Arrays.rows (A : Arrays) (r : Fin 16384) (j : Fin 1024) : EReal := dx (rowOf A.x r) (rowOf A.g 0) (rowOf A.sc 0) (rowOf A.d r) (rowOf A.p r) j
def Arrays.sums (A : Arrays) (r : Fin 8) (j : Fin 1024) : EReal := adds (rowOf A.x) (rowOf A.d) (rowOf A.g 0) (rowOf A.sc 0) r j

/-- Block `t`'s share of the second result, of `n` blocks of `b` rows. -/
def Arrays.share (A : Arrays) {n b : ℕ} (h : n * b = 16384) (t : Fin n) (r : Fin 8) (j : Fin 1024) : EReal :=
  adds (fun k => rowOf A.x (blockRow h t k)) (fun k => rowOf A.d (blockRow h t k)) (rowOf A.g 0) (rowOf A.sc 0) r j
theorem Arrays.shares (A : Arrays) {n b : ℕ} (h : n * b = 16384) (r : Fin 8) (j : Fin 1024) : ∑ t, A.share h t r j = A.sums r j := by
  unfold Arrays.share Arrays.sums adds
  split_ifs
  · exact sum_blocks h fun i => gain (rowOf A.x i) (rowOf A.sc 0) (rowOf A.d i) j
  · exact sum_blocks h fun i => scale (rowOf A.x i) (rowOf A.g 0) (rowOf A.d i) j
  · exact sum_blocks h fun i => rowOf A.d i j
  · exact Finset.sum_const_zero

/-- What starts as the first block's share and takes each later block's share in turn ends as the second result. -/
theorem Arrays.sums_end (A : Arrays) {n b N : ℕ} (h : (n + 1) * b = 16384) (hN : N = n + 1) (s : (t : ℕ) → t < N → FVec Ideal ⟨2, ![8, 1024]⟩ .f32)
    (h0 : ∀ ht r j, s 0 ht (ix2 r j) = A.share h 0 r j)
    (hs : ∀ t (ht : t + 1 < N) r j, s (t + 1) ht (ix2 r j) = (s t (Nat.lt_of_succ_lt ht) (ix2 r j) : EReal) + A.share h ⟨t + 1, lt_of_lt_of_eq ht hN⟩ r j)
    (ht : n < N) (r : Fin 8) (j : Fin 1024) : s n ht (ix2 r j) = A.sums r j := by
  subst hN
  obtain ⟨f, hf⟩ : ∃ f : ℕ → EReal, ∀ t (ht : t < n + 1), f t = s t ht (ix2 r j) :=
    ⟨fun t => if ht : t < n + 1 then s t ht (ix2 r j) else 0, fun t ht => dif_pos ht⟩
  rw [← hf n ht, ← A.shares h]
  refine sum_turns (fun t => A.share h t r j) f ((hf 0 _).trans (h0 (Nat.succ_pos n) r j)) fun t ht => ?_
  rw [hf (t + 1) (Nat.succ_lt_succ ht), hf t (Nat.lt_succ_of_lt ht)]
  exact hs t _ r j

end Cert.LN
end
-- ==== Proof.NormPay.lean ====
/- What the kernel's payloads hold, element by element. -/
module

public import proofs.«01_k».proof.Proof.NormSpec
public import proofs.«01_k».proof.Proof.Gen.Kernel2Ideal.Skeleton

@[expose] public section

noncomputable section

namespace Cert.LN

open Idealize.ShloMosaic Idealize.ShloMosaic.TcCoe Idealize.SL.Sem
open Cert.Kernel2Ideal Cert.Kernel2Ideal.Gen

variable (x dh p acc : FVec Ideal S512x1024 .f32) (g sc o : FVec Ideal S1x1024 .f32)

theorem pay8_at (i : Fin 512) (j : Fin 1) : k0_pay8 (F := Ideal) x (ix2 i j) = ms (rowOf x i) := by
  unfold k0_pay8; dsimp only
  pointwise
  rfl
theorem pay9_at (i : Fin 512) (j : Fin 1) : k0_pay9 (F := Ideal) x (ix2 i j) = rs (rowOf x i) :=
  congrArg Ideal.rsqrt (pay8_at x i j)
theorem pay10_at (i : Fin 512) (j : Fin 1024) : k0_pay10 (F := Ideal) x (ix2 i j) = nrm (rowOf x i) j := by
  unfold k0_pay10
  pointwise
  rw [pay9_at]; rfl
theorem pay12_at (i : Fin 1) (j : Fin 1024) : k0_pay12 (F := Ideal) dh (ix2 i j) = ∑ k, rowOf dh k j := by
  unfold k0_pay12; dsimp only
  pointwise
  rfl
theorem pay11_at (i : Fin 512) (j : Fin 1024) : k0_pay11 (F := Ideal) dh (ix2 i j) = rowOf dh i j := by
  unfold k0_pay11
  rw [shapeCast_self]; rfl
theorem pay13_at (i : Fin 1) (j : Fin 1024) : k0_pay13 (F := Ideal) x g dh (ix2 i j) = ∑ k, scale (rowOf x k) (rowOf g 0) (rowOf dh k) j := by
  unfold k0_pay13; dsimp only
  pointwise
  simp only [pay10_at, pay11_at]; rfl
theorem pay14_at (i : Fin 512) (j : Fin 1024) : k0_pay14 (F := Ideal) sc dh (ix2 i j) = dsc (rowOf sc 0) (rowOf dh i) j := by
  unfold k0_pay14
  pointwise
  simp only [pay11_at]; rfl
theorem pay15_at (i : Fin 1) (j : Fin 1024) : k0_pay15 (F := Ideal) x sc dh (ix2 i j) = ∑ k, gain (rowOf x k) (rowOf sc 0) (rowOf dh k) j := by
  unfold k0_pay15; dsimp only
  pointwise
  simp only [pay10_at, pay14_at]; rfl
theorem pay16_at (i : Fin 512) (j : Fin 1024) : k0_pay16 (F := Ideal) g sc dh (ix2 i j) = dy (rowOf g 0) (rowOf sc 0) (rowOf dh i) j := by
  unfold k0_pay16
  pointwise
  simp only [pay14_at]; rfl
theorem pay17_at (i : Fin 512) (j : Fin 1024) :
    k0_pay17 (F := Ideal) x g sc dh (ix2 i j) = dy (rowOf g 0) (rowOf sc 0) (rowOf dh i) j * rs (rowOf x i) := by
  unfold k0_pay17
  pointwise
  simp only [pay9_at, pay16_at]
theorem pay18_at (i : Fin 512) (j : Fin 1) : k0_pay18 (F := Ideal) x g sc dh (ix2 i j) = dms (rowOf x i) (rowOf g 0) (rowOf sc 0) (rowOf dh i) := by
  unfold k0_pay18; dsimp only
  pointwise
  simp only [pay8_at, pay9_at, pay16_at]; rfl

/-- The tile of the first result. -/
theorem pay4_at (i : Fin 512) (j : Fin 1024) :
    k0_pay4 (F := Ideal) x (k0_pay17 x g sc dh) (k0_pay18 x g sc dh) p (ix2 i j) = dx (rowOf x i) (rowOf g 0) (rowOf sc 0) (rowOf dh i) (rowOf p i) j := by
  unfold k0_pay4; dsimp only
  pointwise
  simp only [pay17_at, pay18_at, Fin.sum_univ_one]; rfl

/-- The gradient of the tile's scaled, shifted rows: a product with the transposed weight. -/
theorem pay3_at (u : FVec Ideal S512x4096 .bf16) (w : FVec Ideal S4096x1024 .bf16) (i : Fin 512) (j : Fin 1024) :
    k0_pay3 (F := Ideal) (k0_pay2 (F := Ideal)) u w (ix2 i j) = ∑ k, u (ix2 i k) * w (ix2 k j) := by
  unfold k0_pay3 k0_pay2; dsimp only
  pointwise

/-- A row added to what it is given. -/
theorem pay5_at (i : Fin 1) (j : Fin 1024) : k0_pay5 (F := Ideal) g o (ix2 i j) = o (ix2 i j) + g (ix2 i j) := by
  unfold k0_pay5
  rw [shapeCast_self]; rfl
theorem pay6_at (i : Fin 1) (j : Fin 1024) : k0_pay6 (F := Ideal) g o (ix2 i j) = o (ix2 i j) + g (ix2 i j) := by
  unfold k0_pay6
  rw [shapeCast_self]; rfl
theorem pay7_at (i : Fin 1) (j : Fin 1024) : k0_pay7 (F := Ideal) g o (ix2 i j) = o (ix2 i j) + g (ix2 i j) := by
  unfold k0_pay7
  rw [shapeCast_self]; rfl
theorem pay1_at (i : Fin 8) (j : Fin 1024) : k0_pay1 (F := Ideal) (ix2 i j) = 0 := by
  unfold k0_pay1
  pointwise

end Cert.LN
end
-- ==== Proof.NormBody.lean ====
/- One visit of the kernel's body: the tile of the first result it leaves, and the rows it adds to the second. -/
module

public import proofs.«01_k».proof.Proof.NormPay
public import proofs.«01_k».proof.Proof.Gen.Kernel2Ideal.Value
public import Idealize.ShloMosaic.Lib.Pipeline.ValueKit.Tiles
public import Idealize.ShloMosaic.Lib.Pipeline.ReadBack
public import Idealize.ShloMosaic.Lib.WritesUnit
public import Idealize.ShloMosaic.Lib.VecWindow

@[expose] public section

set_option maxRecDepth 100000

noncomputable section

namespace Cert.LN

open Idealize.ShloMosaic Idealize.ShloMosaic.TcCoe Idealize.SL.Sem
open Cert.Kernel2Ideal Cert.Kernel2Ideal.Gen

theorem z2 : (![0, 0] : Fin 2 → ℕ) = fun _ => 0 := funext fun a => by fin_cases a <;> rfl

/-- What three stores of one row each leave of an eight-row buffer. -/
theorem rows_left {sig : RefSig} {κ : Kind} {sp : Space} (v : View sig κ sp S8x1024 .f32) (f) (inb2 inb1 inb0)
    (w2 w1 w0 : Vec Ideal S1x1024 .f32) (L) (r : Fin 8) (j : Fin 1024) :
    v.read (Elt Ideal) (v.writes (Elt Ideal) f (⟨Rect.unit (s := S8x1024) ![2, 0] ![1, 1024] inb2, w2⟩ :: ⟨Rect.unit (s := S8x1024) ![1, 0] ![1, 1024] inb1, w1⟩ ::
      ⟨Rect.unit (s := S8x1024) ![0, 0] ![1, 1024] inb0, w0⟩ :: L)) (ix2 r j)
      = if r.val = 0 then w0 (ix2 0 j) else if r.val = 1 then w1 (ix2 0 j) else if r.val = 2 then w2 (ix2 0 j)
        else v.read (Elt Ideal) (v.writes (Elt Ideal) f L) (ix2 r j) := by
  have at_row : ∀ (o : ℕ) (inb) (w : Vec Ideal S1x1024 .f32) (L'), r.val = o →
      v.read (Elt Ideal) (v.writes (Elt Ideal) f (⟨Rect.unit (s := S8x1024) ![o, 0] ![1, 1024] inb, w⟩ :: L')) (ix2 r j) = w (ix2 0 j) := fun o inb w L' h =>
    View.read_writes_cons_rows_of_mem v f inb w L' (ix2 r j) (ix2 (0 : Fin 1) j) rfl h rfl
  have off_row : ∀ (o : ℕ) (inb) (w : Vec Ideal S1x1024 .f32) (L'), r.val ≠ o →
      v.read (Elt Ideal) (v.writes (Elt Ideal) f (⟨Rect.unit (s := S8x1024) ![o, 0] ![1, 1024] inb, w⟩ :: L')) (ix2 r j)
        = v.read (Elt Ideal) (v.writes (Elt Ideal) f L') (ix2 r j) := fun o inb w L' h =>
    View.read_writes_cons_rows_of_not_mem v f inb w L' (ix2 r j) rfl (rfl : _ = 1) (show r.val < o ∨ o + 1 ≤ r.val by omega)
  split_ifs with h0 h1 h2
  · rw [off_row 2 _ _ _ (by omega), off_row 1 _ _ _ (by omega), at_row 0 _ _ _ h0]
  · rw [off_row 2 _ _ _ (by omega), at_row 1 _ _ _ h1]
  · exact at_row 2 _ _ _ h2
  · rw [off_row 2 _ _ _ h2, off_row 1 _ _ _ h1, off_row 0 _ _ _ h0]

/-- A row of an eight-row buffer, loaded. -/
theorem ld_row (X : Vec Ideal S8x1024 .f32) (r : Fin 8) (o : ℕ) (h : r.val = o) (inb) (j : Fin 1024) :
    View.ld X (Rect.unit (s := S8x1024) ![o, 0] ![1, 1024] inb) (ix2 (0 : Fin 1) j) = X (ix2 r j) :=
  View.ld_unit_apply_of X _ _ _ _ (ix2 r j) (Fin.forall_fin_two.mpr ⟨h, (Nat.zero_add _).symm⟩)

/-- A visit that clears the eight rows `z` and then adds a row to each of the first three leaves these rows. -/
theorem first_visit {sig : RefSig} {κ : Kind} {sp : Space} (v : View sig κ sp S8x1024 .f32) (z : Vec Ideal S8x1024 .f32) (hz : ∀ i j, z (ix2 i j) = (0 : EReal))
    (w0 w1 w2 : Vec Ideal S1x1024 .f32 → Vec Ideal S1x1024 .f32) (s0 s1 s2 : Fin 1024 → EReal) (h0 : ∀ o j, w0 o (ix2 0 j) = (o (ix2 0 j) + s0 j : EReal))
    (h1 : ∀ o j, w1 o (ix2 0 j) = (o (ix2 0 j) + s1 j : EReal)) (h2 : ∀ o j, w2 o (ix2 0 j) = (o (ix2 0 j) + s2 j : EReal)) (ia i0 i1 i2) (r : Fin 8) (j : Fin 1024) :
    View.canon (Val := Elt Ideal) (s := S8x1024) (e := .f32)
      [⟨Rect.unit (s := S8x1024) ![2, 0] ![1, 1024] i2, w2 (v.readCov
          [⟨Rect.unit (s := S8x1024) ![1, 0] ![1, 1024] i1, w1 (v.readCov
              [⟨Rect.unit (s := S8x1024) ![0, 0] ![1, 1024] i0, w0 (v.readCov [⟨Rect.unit (s := S8x1024) ![0, 0] ![8, 1024] ia, z⟩] (Rect.unit (s := S8x1024) ![0, 0] ![1, 1024] i0).toLoadRect)⟩,
                ⟨Rect.unit (s := S8x1024) ![0, 0] ![8, 1024] ia, z⟩] (Rect.unit (s := S8x1024) ![1, 0] ![1, 1024] i1).toLoadRect)⟩,
            ⟨Rect.unit (s := S8x1024) ![0, 0] ![1, 1024] i0, w0 (v.readCov [⟨Rect.unit (s := S8x1024) ![0, 0] ![8, 1024] ia, z⟩] (Rect.unit (s := S8x1024) ![0, 0] ![1, 1024] i0).toLoadRect)⟩,
            ⟨Rect.unit (s := S8x1024) ![0, 0] ![8, 1024] ia, z⟩] (Rect.unit (s := S8x1024) ![2, 0] ![1, 1024] i2).toLoadRect)⟩,
        ⟨Rect.unit (s := S8x1024) ![1, 0] ![1, 1024] i1, w1 (v.readCov
            [⟨Rect.unit (s := S8x1024) ![0, 0] ![1, 1024] i0, w0 (v.readCov [⟨Rect.unit (s := S8x1024) ![0, 0] ![8, 1024] ia, z⟩] (Rect.unit (s := S8x1024) ![0, 0] ![1, 1024] i0).toLoadRect)⟩,
              ⟨Rect.unit (s := S8x1024) ![0, 0] ![8, 1024] ia, z⟩] (Rect.unit (s := S8x1024) ![1, 0] ![1, 1024] i1).toLoadRect)⟩,
        ⟨Rect.unit (s := S8x1024) ![0, 0] ![1, 1024] i0, w0 (v.readCov [⟨Rect.unit (s := S8x1024) ![0, 0] ![8, 1024] ia, z⟩] (Rect.unit (s := S8x1024) ![0, 0] ![1, 1024] i0).toLoadRect)⟩,
        ⟨Rect.unit (s := S8x1024) ![0, 0] ![8, 1024] ia, z⟩] (ix2 r j)
      = if r.val = 0 then s0 j else if r.val = 1 then s1 j else if r.val = 2 then s2 j else 0 := by
  have hrow : ∀ (o : ℕ) (inb), View.ld (Val := Elt Ideal) (e' := .f32) z (Rect.unit (s := S8x1024) ![o, 0] ![1, 1024] inb) (ix2 (0 : Fin 1) j) = (0 : EReal) := fun o inb => by
    obtain ⟨h⟩ : Nonempty (o < 8) := ⟨by have := inb 0; change o + 1 ≤ 8 at this; omega⟩
    rw [ld_row _ ⟨o, h⟩ o rfl]; exact hz _ _
  rw [View.readCov_skip _ (Rect.unit (s := S8x1024) ![1, 0] ![1, 1024] i1) _ _ _ rfl,
    View.readCov_skip _ (Rect.unit (s := S8x1024) ![0, 0] ![1, 1024] i0) _ _ _ rfl,
    View.readCov_skip _ (Rect.unit (s := S8x1024) ![0, 0] ![1, 1024] i0) _ _ _ rfl,
    View.readCov_fill (s := S8x1024) _ _ _ _ _ (Fin.forall_fin_two.mpr ⟨rfl, rfl⟩),
    View.readCov_fill (s := S8x1024) _ _ _ _ _ (Fin.forall_fin_two.mpr ⟨rfl, rfl⟩),
    View.readCov_fill (s := S8x1024) _ _ _ _ _ (Fin.forall_fin_two.mpr ⟨rfl, rfl⟩),
    ← View.read_writes_junk_eq_canon v, rows_left]
  split_ifs
  · exact (h0 _ j).trans (by rw [hrow, zero_add])
  · exact (h1 _ j).trans (by rw [hrow, zero_add])
  · exact (h2 _ j).trans (by rw [hrow, zero_add])
  · erw [View.read_writes_full]; exact hz _ _

/-- A later visit, which finds the rows `X`. -/
theorem later_visit {sig : RefSig} {κ : Kind} {sp : Space} (v : View sig κ sp S8x1024 .f32) (f) (X : Vec Ideal S8x1024 .f32) (hX : v.read (Elt Ideal) f = X)
    (w0 w1 w2 : Vec Ideal S1x1024 .f32 → Vec Ideal S1x1024 .f32) (s0 s1 s2 : Fin 1024 → EReal) (h0 : ∀ o j, w0 o (ix2 0 j) = (o (ix2 0 j) + s0 j : EReal))
    (h1 : ∀ o j, w1 o (ix2 0 j) = (o (ix2 0 j) + s1 j : EReal)) (h2 : ∀ o j, w2 o (ix2 0 j) = (o (ix2 0 j) + s2 j : EReal)) (i0 i1 i2) (r : Fin 8) (j : Fin 1024) :
    v.read (Elt Ideal) (v.writes (Elt Ideal) f
      [⟨Rect.unit (s := S8x1024) ![2, 0] ![1, 1024] i2, w2 (View.ld X (Rect.unit (s := S8x1024) ![2, 0] ![1, 1024] i2))⟩,
        ⟨Rect.unit (s := S8x1024) ![1, 0] ![1, 1024] i1, w1 (View.ld X (Rect.unit (s := S8x1024) ![1, 0] ![1, 1024] i1))⟩,
        ⟨Rect.unit (s := S8x1024) ![0, 0] ![1, 1024] i0, w0 (View.ld X (Rect.unit (s := S8x1024) ![0, 0] ![1, 1024] i0))⟩]) (ix2 r j)
      = X (ix2 r j) + (if r.val = 0 then s0 j else if r.val = 1 then s1 j else if r.val = 2 then s2 j else 0 : EReal) := by
  rw [rows_left]
  split_ifs with e0 e1 e2
  · exact (h0 _ j).trans (by rw [ld_row _ r 0 e0])
  · exact (h1 _ j).trans (by rw [ld_row _ r 1 e1])
  · exact (h2 _ j).trans (by rw [ld_row _ r 2 e2])
  · rw [add_zero]; exact congrFun hX _

/-- A row of the cleared buffer. -/
theorem pay1_row (o : ℕ) (inb) (j : Fin 1024) :
    View.ld (Val := Elt Ideal) (e' := .f32) (k0_pay1 (F := Ideal)) (Rect.unit (s := S8x1024) ![o, 0] ![1, 1024] inb) (ix2 (0 : Fin 1) j) = 0 := by
  obtain ⟨h⟩ : Nonempty (o < 8) := ⟨by have := inb 0; change o + 1 ≤ 8 at this; omega⟩
  rw [ld_row _ ⟨o, h⟩ o rfl]; exact pay1_at _ _

section
variable {F : FTy → Type} [FloatOps F]

/-- The gradient of the tile's scaled, shifted rows. -/
abbrev dhT (u : Vec F S512x4096 .bf16) (w : Vec F S4096x1024 .bf16) : FVec F S512x1024 .f32 := k0_pay3 (k0_pay2 (F := F)) u w

/-- The tile of the first result, of the visit's buffers. -/
abbrev tile (x0 : Vec F S512x4096 .bf16) (x1 : Vec F S4096x1024 .bf16) (x2 : Vec F S512x1024 .f32) (x3 : Vec F S512x1024 .f32) (x4 : Vec F S1x1024 .f32) (x5 : Vec F S1x1024 .f32) : FVec F S512x1024 .f32 :=
  k0_pay4 x2 (k0_pay17 x2 x4 x5 (dhT x0 x1)) (k0_pay18 x2 x4 x5 (dhT x0 x1)) x3

set_option maxHeartbeats 1000000 in
/-- The first result at the first point. -/
theorem tileA (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : cond0_0 i) (hc1 : cond0_1 i) (hc2 : cond0_2 i)
    (x0 : Vec F S512x4096 .bf16) (x1 : Vec F S4096x1024 .bf16) (x2 : Vec F S512x1024 .f32) (x3 : Vec F S512x1024 .f32) (x4 : Vec F S1x1024 .f32) (x5 : Vec F S1x1024 .f32) (x6 : Vec F S1x1024 .f32) :
    out0_A_7 c i arg2 harg2 arg3 harg3 arg4 harg4 arg5 harg5 arg6 harg6 arg7 harg7 arg8 harg8 arg9 harg9 arg10 harg10 arg11 harg11 hc0 hc1 hc2 x0 x1 x2 x3 x4 x5 x6 = tile x0 x1 x2 x3 x4 x5 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  try sl_unfold_words
  rw [View.canon_unit_zero z2]
  simp only [View.readAt_eq_ld, harg2.read_unread, harg3.read_unread, harg4.read_unread, harg5.read_unread, harg6.read_unread, harg7.read_unread, harg8.read_unread, harg10.read_unread, View.ld_unit_zero (S := S512x4096) z2, View.ld_unit_zero (S := S4096x1024) z2, View.ld_unit_zero (S := S512x1024) z2, View.ld_unit_zero (S := S1x1024) z2, View.readCov_unit_zero (S := S512x1024) _ z2, shapeCast_self]
  rw [View.readCov_full]

set_option maxHeartbeats 1000000 in
/-- The first result at a later point. -/
theorem tileB (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : cond0_1 i) (hc2 : cond0_2 i)
    (x0 : Vec F S512x4096 .bf16) (x1 : Vec F S4096x1024 .bf16) (x2 : Vec F S512x1024 .f32) (x3 : Vec F S512x1024 .f32) (x4 : Vec F S1x1024 .f32) (x5 : Vec F S1x1024 .f32) (x6 : Vec F S1x1024 .f32) (xo8 : Vec F S8x1024 .f32) :
    out0_B_7 c i arg2 harg2 arg3 harg3 arg4 harg4 arg5 harg5 arg6 harg6 arg7 harg7 arg8 harg8 arg9 harg9 arg10 harg10 arg11 harg11 hc0 hc1 hc2 x0 x1 x2 x3 x4 x5 x6 xo8 = tile x0 x1 x2 x3 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 x0 x1 x2 x3 x4 x5 x6 xo8)]
  unfold kernelRun0_B
  dsimp only
  try sl_unfold_words
  rw [View.canon_unit_zero z2]
  simp only [View.readAt_eq_ld, harg2.read_unread, harg3.read_unread, harg4.read_unread, harg5.read_unread, harg6.read_unread, harg7.read_unread, harg8.read_unread, harg10.read_unread, View.ld_unit_zero (S := S512x4096) z2, View.ld_unit_zero (S := S4096x1024) z2, View.ld_unit_zero (S := S512x1024) z2, View.ld_unit_zero (S := S1x1024) z2, View.readCov_unit_zero (S := S512x1024) _ z2, shapeCast_self]
  rw [View.readCov_full]

end

set_option maxHeartbeats 1000000 in
/-- The second result at the first point. -/
theorem sumsA (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : cond0_0 i) (hc1 : cond0_1 i) (hc2 : cond0_2 i)
    (x0 : Vec Ideal S512x4096 .bf16) (x1 : Vec Ideal S4096x1024 .bf16) (x2 : Vec Ideal S512x1024 .f32) (x3 : Vec Ideal S512x1024 .f32) (x4 : Vec Ideal S1x1024 .f32) (x5 : Vec Ideal S1x1024 .f32) (x6 : Vec Ideal S1x1024 .f32) (r : Fin 8) (j : Fin 1024) :
    (out0_A_8 c i arg2 harg2 arg3 harg3 arg4 harg4 arg5 harg5 arg6 harg6 arg7 harg7 arg8 harg8 arg9 harg9 arg10 harg10 arg11 harg11 hc0 hc1 hc2 x0 x1 x2 x3 x4 x5 x6 : Vec Ideal S8x1024 .f32) (ix2 r j)
      = 0 + adds (rowOf (φ := .f32) x2) (rowOf (dhT (F := Ideal) x0 x1)) (rowOf (φ := .f32) x4 0) (rowOf (φ := .f32) x5 0) r j := by
  unfold out0_A_8
  unfold kernelRun0_A
  dsimp only
  try sl_unfold_words
  simp only [View.readAt_eq_ld, harg2.read_unread, harg3.read_unread, harg4.read_unread, harg5.read_unread, harg6.read_unread, harg7.read_unread, harg8.read_unread, harg10.read_unread, View.ld_unit_zero (S := S512x4096) z2, View.ld_unit_zero (S := S4096x1024) z2, View.ld_unit_zero (S := S512x1024) z2, View.ld_unit_zero (S := S1x1024) z2, View.readCov_unit_zero (S := S512x1024) _ z2, shapeCast_self]
  rw [View.readCov_full]
  rw [View.readCov_skip _ (Rect.unit (s := S8x1024) ![1, 0] ![1, 1024] inb_S8x1024_S1x1024_1_0) _ _ _ rfl,
    View.readCov_skip _ (Rect.unit (s := S8x1024) ![0, 0] ![1, 1024] inb_S8x1024_S1x1024_0_0) _ _ _ rfl,
    View.readCov_skip _ (Rect.unit (s := S8x1024) ![0, 0] ![1, 1024] inb_S8x1024_S1x1024_0_0) _ _ _ rfl,
    View.readCov_fill (s := S8x1024) _ _ _ _ _ (Fin.forall_fin_two.mpr ⟨rfl, rfl⟩),
    View.readCov_fill (s := S8x1024) _ _ _ _ _ (Fin.forall_fin_two.mpr ⟨rfl, rfl⟩),
    View.readCov_fill (s := S8x1024) _ _ _ _ _ (Fin.forall_fin_two.mpr ⟨rfl, rfl⟩)]
  rw [rows_left]
  unfold adds
  split_ifs with h0 h1 h2
  · rw [pay5_at, pay15_at, pay1_row]
  · rw [pay6_at, pay13_at, pay1_row]
  · rw [pay7_at, pay12_at, pay1_row]
  · rw [add_zero]; erw [View.read_writes_full]; exact pay1_at _ _

set_option maxHeartbeats 1000000 in
/-- The second result at a later point. -/
theorem sumsB (c : Dev nD) (i : grid0.Coords) (arg2 : Memref sig .tc .vmem S512x4096 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (hc0 : ¬cond0_0 i) (hc1 : cond0_1 i) (hc2 : cond0_2 i)
    (x0 : Vec Ideal S512x4096 .bf16) (x1 : Vec Ideal S4096x1024 .bf16) (x2 : Vec Ideal S512x1024 .f32) (x3 : Vec Ideal S512x1024 .f32) (x4 : Vec Ideal S1x1024 .f32) (x5 : Vec Ideal S1x1024 .f32) (x6 : Vec Ideal S1x1024 .f32) (xo8 : Vec Ideal S8x1024 .f32) (r : Fin 8) (j : Fin 1024) :
    (out0_B_8 c i arg2 harg2 arg3 harg3 arg4 harg4 arg5 harg5 arg6 harg6 arg7 harg7 arg8 harg8 arg9 harg9 arg10 harg10 arg11 harg11 hc0 hc1 hc2 x0 x1 x2 x3 x4 x5 x6 xo8 : Vec Ideal S8x1024 .f32) (ix2 r j)
      = xo8 (ix2 r j) + adds (rowOf (φ := .f32) x2) (rowOf (dhT (F := Ideal) x0 x1)) (rowOf (φ := .f32) x4 0) (rowOf (φ := .f32) x5 0) r j := by
  unfold out0_B_8
  unfold kernelRun0_B
  dsimp only
  try sl_unfold_words
  simp only [View.readAt_eq_ld, harg2.read_unread, harg3.read_unread, harg4.read_unread, harg5.read_unread, harg6.read_unread, harg7.read_unread, harg8.read_unread, harg10.read_unread, View.ld_unit_zero (S := S512x4096) z2, View.ld_unit_zero (S := S4096x1024) z2, View.ld_unit_zero (S := S512x1024) z2, View.ld_unit_zero (S := S1x1024) z2, View.readCov_unit_zero (S := S512x1024) _ z2, shapeCast_self]
  rw [View.readCov_full]
  rw [rows_left]
  unfold adds
  split_ifs with h0 h1 h2
  · rw [pay5_at, pay15_at, ld_row _ r 0 h0]
  · rw [pay6_at, pay13_at, ld_row _ r 1 h1]
  · rw [pay7_at, pay12_at, ld_row _ r 2 h2]
  · rw [add_zero]; exact congrFun (harg10.read_unread xo8) _

end Cert.LN
end
-- ==== Proof.NormDelta.lean ====
/- The gated DeltaNet layer's two gradients through norm and input projection. -/
module

public import proofs.«01_k».proof.Proof.NormBody
public import proofs.«01_k».proof.Proof.Gen.Kernel12Ideal.Value
public import proofs.«01_k».proof.Proof.Gen.Reference12Ideal.Run
public import Idealize.ShloMosaic.Lib.Pipeline.ValueKit.Point

@[expose] public section

set_option maxRecDepth 100000

noncomputable section

namespace Cert.LN.Delta

open Idealize.ShloMosaic Idealize.ShloMosaic.TcCoe Idealize.SL.Sem
open Cert.Kernel12Ideal Cert.Kernel12Ideal.Gen

variable (m : (ℓ : Loc nD τ sig) → Buf (Elt Ideal) ℓ) (c : Dev nD)

/-- Point `t` takes row block `t`; the weight and the vectors are read whole. -/
theorem index : ∀ t : Fin cfg0.N, win0_0.index t = ![t.val, 0] ∧ win0_1.index t = ![0, 0] ∧ win0_2.index t = ![t.val, 0] ∧ win0_3.index t = ![t.val, 0]
      ∧ win0_4.index t = ![0, 0] ∧ win0_5.index t = ![0, 0] ∧ win0_7.index t = ![t.val, 0] ∧ win0_8.index t = ![0, 0] :=
  (by decide +kernel : ∀ t : Fin grid0.N, win0_0.index t = ![t.val, 0] ∧ win0_1.index t = ![0, 0] ∧ win0_2.index t = ![t.val, 0] ∧ win0_3.index t = ![t.val, 0]
      ∧ win0_4.index t = ![0, 0] ∧ win0_5.index t = ![0, 0] ∧ win0_7.index t = ![t.val, 0] ∧ win0_8.index t = ![0, 0])

/-- The arrays in the memory at the start. -/
def given : Arrays where
  d := Host.dotGeneral (F := Ideal) Cert.Reference12Ideal.dot_S16384x6272_S1024x6272_S16384x1024_1_1_0_0_n_n none
    (extf (F := Ideal) (φ := .bf16) .f32 (m ((c : Thread nD τ).loc main_arg0)) Cert.Reference12Ideal.Gen.bitsLt_bf16_f32)
    (extf (F := Ideal) (φ := .bf16) .f32 (m ((c : Thread nD τ).loc main_arg1)) Cert.Reference12Ideal.Gen.bitsLt_bf16_f32)
  x := m ((c : Thread nD τ).loc main_arg2)
  p := m ((c : Thread nD τ).loc main_arg3)
  g := m ((c : Thread nD τ).loc main_arg4)
  sc := m ((c : Thread nD τ).loc main_arg5)

/-- A block's number, as one of the 64. -/
def turn (t : Fin cfg0.N) : Fin 64 := ⟨t.val, lt_of_lt_of_eq t.isLt N_0⟩

/-- The block of each array at point `t`. -/
theorem blk_row (t : Fin cfg0.N) (r : Fin 256) :
    rowOf (k0_pay3 (F := Ideal) (k0_pay2 (F := Ideal)) (iblk m c 0 t) (iblk m c 1 t)) r = rowOf (given m c).d (blockRow (rfl : 64 * 256 = 16384) (turn t) r)
      ∧ rowOf (φ := .f32) (iblk m c 2 t) r = rowOf (given m c).x (blockRow (rfl : 64 * 256 = 16384) (turn t) r)
      ∧ rowOf (φ := .f32) (iblk m c 3 t) r = rowOf (given m c).p (blockRow (rfl : 64 * 256 = 16384) (turn t) r)
      ∧ rowOf (φ := .f32) (iblk m c 4 t) (0 : Fin 1) = rowOf (given m c).g 0 ∧ rowOf (φ := .f32) (iblk m c 5 t) (0 : Fin 1) = rowOf (given m c).sc 0 := by
  refine ⟨funext fun k => ?_, funext fun k => ?_, funext fun k => ?_, funext fun k => ?_, funext fun k => ?_⟩
  · unfold rowOf k0_pay3 k0_pay2 given
    pointwise
    refine Finset.sum_congr rfl fun k _ => ?_
    congr 1 <;> blk_ext! [iblk, V, blockRow, turn, index t]
  all_goals unfold rowOf given; blk_ext [iblk, V, blockRow, turn, index t]

variable (x dh p : FVec Ideal S256x1024 .f32) (g sc o : FVec Ideal S1x1024 .f32)

/-- What the tile's payloads hold. -/
theorem pay4_at (i : Fin 256) (j : Fin 1024) :
    k0_pay4 (F := Ideal) x (k0_pay17 x g sc dh) (k0_pay18 x g sc dh) p (ix2 i j) = dx (rowOf x i) (rowOf g 0) (rowOf sc 0) (rowOf dh i) (rowOf p i) j := by
  pointwise [k0_pay4, k0_pay17, k0_pay18, k0_pay16, k0_pay14, k0_pay11, k0_pay9, k0_pay8]
  simp only [Fin.sum_univ_one]
  rfl
theorem pay12_at (i : Fin 1) (j : Fin 1024) : k0_pay12 (F := Ideal) dh (ix2 i j) = ∑ k, rowOf dh k j := by
  pointwise [k0_pay12]
  rfl
theorem pay13_at (i : Fin 1) (j : Fin 1024) : k0_pay13 (F := Ideal) x g dh (ix2 i j) = ∑ k, scale (rowOf x k) (rowOf g 0) (rowOf dh k) j := by
  pointwise [k0_pay13, k0_pay11, k0_pay10, k0_pay9, k0_pay8]
  rfl
theorem pay15_at (i : Fin 1) (j : Fin 1024) : k0_pay15 (F := Ideal) x sc dh (ix2 i j) = ∑ k, gain (rowOf x k) (rowOf sc 0) (rowOf dh k) j := by
  pointwise [k0_pay15, k0_pay14, k0_pay11, k0_pay10, k0_pay9, k0_pay8]
  rfl

theorem tile_after (t : Fin cfg0.N) (r : Fin 256) (j : Fin 1024) :
    (outsAt0 m c t.val t.isLt).1 (ix2 r j) = (given m c).rows (blockRow (rfl : 64 * 256 = 16384) (turn t) r) j := by
  obtain ⟨h0, h2, h3, h4, h5⟩ := blk_row m c t r
  rw [Arrays.rows, ← h0, ← h2, ← h3, ← h4, ← h5]
  by_cases h : t.val % 64 = 0
  · rw [outsAt0_A m c t h]; dsimp only; frame_out; exact pay4_at _ _ _ _ _ r j
  · rw [outsAt0_B m c t h]; dsimp only; frame_out; exact pay4_at _ _ _ _ _ r j

set_option maxHeartbeats 1000000 in
theorem sums_zero (t : Fin cfg0.N) (h : t.val % 64 = 0) (r : Fin 8) (j : Fin 1024) :
    (outsAt0 m c t.val t.isLt).2 (ix2 r j) = (given m c).share (rfl : 64 * 256 = 16384) (turn t) r j := by
  obtain ⟨-, -, -, h4, h5⟩ := blk_row m c t 0
  rw [Arrays.share, ← funext fun r => (blk_row m c t r).1, ← funext fun r => (blk_row m c t r).2.1, ← h4, ← h5]
  rw [outsAt0_A m c t h]; dsimp only; frame_out
  exact first_visit _ _ pay1_at _ _ _ _ _ _ (fun o j => (pay5_at _ o 0 j).trans (congrArg _ (pay15_at _ _ _ 0 j)))
    (fun o j => (pay6_at _ o 0 j).trans (congrArg _ (pay13_at _ _ _ 0 j))) (fun o j => (pay7_at _ o 0 j).trans (congrArg _ (pay12_at _ 0 j))) _ _ _ _ r j

set_option maxHeartbeats 1000000 in
theorem sums_succ (t : Fin cfg0.N) (h : t.val % 64 ≠ 0) (r : Fin 8) (j : Fin 1024) :
    (outsAt0 m c t.val t.isLt).2 (ix2 r j) = (outsAt0 m c (t.val - 1) (Nat.lt_of_le_of_lt (Nat.sub_le _ _) t.isLt)).2 (ix2 r j) + (given m c).share (rfl : 64 * 256 = 16384) (turn t) r j := by
  obtain ⟨-, -, -, h4, h5⟩ := blk_row m c t 0
  rw [Arrays.share, ← funext fun r => (blk_row m c t r).1, ← funext fun r => (blk_row m c t r).2.1, ← h4, ← h5]
  rw [outsAt0_B m c t h]; dsimp only; frame_out
  exact later_visit _ _ _ (Memref.IsWhole.read_unread _ _) _ _ _ _ _ _ (fun o j => (pay5_at _ o 0 j).trans (congrArg _ (pay15_at _ _ _ 0 j)))
    (fun o j => (pay6_at _ o 0 j).trans (congrArg _ (pay13_at _ _ _ 0 j))) (fun o j => (pay7_at _ o 0 j).trans (congrArg _ (pay12_at _ 0 j))) _ _ _ r j

/-- The two results. -/
theorem final7 (r : Fin 16384) (j : Fin 1024) : (dats m 0 c).arrAt 7 cfg0.N (ix2 r j : S16384x1024.Idx) = (given m c).rows r j := by
  refine congrFun ((dats m 0 c).arrAt_eq_of_covers 7 (fun i : S16384x1024.Idx => (given m c).rows (i 0) (i 1)) (by decide +kernel) fun t _ y => ?_) (ix2 r j)
  obtain ⟨r, k, rfl⟩ := exists_ix2 (a := 256) (b := 1024) y
  blk_simp
  refine (tile_after m c t r k).trans (congrArg₂ (given m c).rows (Fin.ext ?_) (Fin.ext ?_)) <;> blk_simp [blockRow, turn, index t] <;> omega
theorem final8 (r : Fin 8) (j : Fin 1024) : (dats m 0 c).arrAt 8 cfg0.N (ix2 r j : S8x1024.Idx) = (given m c).sums r j := by
  refine congrFun ((dats m 0 c).arrAt_eq_of_covers 8 (fun i : S8x1024.Idx => (given m c).sums (i 0) (i 1)) (by decide +kernel) fun t hf y => ?_) (ix2 r j)
  obtain ⟨r, k, rfl⟩ := exists_ix2 (a := 8) (b := 1024) y
  have ht : t.val = 63 := by
    have := (flush0_8 t).mp hf
    have : t.val < 64 := lt_of_lt_of_eq t.isLt N_0
    omega
  blk_simp
  refine Eq.trans ?_ (((given m c).sums_end (n := 63) (b := 256) rfl N_0 (fun t ht => (outsAt0 m c t ht).2) (fun ht r j => sums_zero m c ⟨0, ht⟩ rfl r j)
    (fun t ht r j => ?_) (lt_of_lt_of_eq (by decide) N_0.symm) r k).trans ?_)
  · have e : ∀ n hn, t.val = n → (outsAt0 m c t.val t.isLt).2 = (outsAt0 m c n hn).2 := by rintro _ _ rfl; rfl
    exact congrFun (e _ _ ht) _
  · have hN : t + 1 < 64 := lt_of_lt_of_eq ht N_0
    exact sums_succ m c ⟨t + 1, ht⟩ (by show (t + 1) % 64 ≠ 0; omega) r j
  · congr 1 <;> refine Fin.ext ?_ <;> blk_simp [index t] <;> omega

end Cert.LN.Delta
end
-- ==== Proof.NormWindow.lean ====
/- The sliding-window layer's two gradients through norm and input projection. -/
module

public import proofs.«01_k».proof.Proof.NormBody
public import proofs.«01_k».proof.Proof.Gen.Kernel13Ideal.Value
public import proofs.«01_k».proof.Proof.Gen.Reference13Ideal.Run
public import Idealize.ShloMosaic.Lib.Pipeline.ValueKit.Point

@[expose] public section

set_option maxRecDepth 100000

noncomputable section

namespace Cert.LN.Window

open Idealize.ShloMosaic Idealize.ShloMosaic.TcCoe Idealize.SL.Sem
open Cert.Kernel13Ideal Cert.Kernel13Ideal.Gen

variable (m : (ℓ : Loc nD τ sig) → Buf (Elt Ideal) ℓ) (c : Dev nD)

/-- Point `t` takes row block `t`; the weight and the vectors are read whole. -/
theorem index : ∀ t : Fin cfg0.N, win0_0.index t = ![t.val, 0] ∧ win0_1.index t = ![0, 0] ∧ win0_2.index t = ![t.val, 0] ∧ win0_3.index t = ![t.val, 0]
      ∧ win0_4.index t = ![0, 0] ∧ win0_5.index t = ![0, 0] ∧ win0_7.index t = ![t.val, 0] ∧ win0_8.index t = ![0, 0] :=
  (by decide +kernel : ∀ t : Fin grid0.N, win0_0.index t = ![t.val, 0] ∧ win0_1.index t = ![0, 0] ∧ win0_2.index t = ![t.val, 0] ∧ win0_3.index t = ![t.val, 0]
      ∧ win0_4.index t = ![0, 0] ∧ win0_5.index t = ![0, 0] ∧ win0_7.index t = ![t.val, 0] ∧ win0_8.index t = ![0, 0])

/-- The arrays in the memory at the start. -/
def given : Arrays where
  d := Host.dotGeneral (F := Ideal) Cert.Reference13Ideal.dot_S16384x2560_S1024x2560_S16384x1024_1_1_0_0_n_n none
    (extf (F := Ideal) (φ := .bf16) .f32 (m ((c : Thread nD τ).loc main_arg0)) Cert.Reference13Ideal.Gen.bitsLt_bf16_f32)
    (extf (F := Ideal) (φ := .bf16) .f32 (m ((c : Thread nD τ).loc main_arg1)) Cert.Reference13Ideal.Gen.bitsLt_bf16_f32)
  x := m ((c : Thread nD τ).loc main_arg2)
  p := m ((c : Thread nD τ).loc main_arg3)
  g := m ((c : Thread nD τ).loc main_arg4)
  sc := m ((c : Thread nD τ).loc main_arg5)

/-- A block's number, as one of the 32. -/
def turn (t : Fin cfg0.N) : Fin 32 := ⟨t.val, lt_of_lt_of_eq t.isLt N_0⟩

/-- The block of each array at point `t`. -/
theorem blk_row (t : Fin cfg0.N) (r : Fin 512) :
    rowOf (k0_pay3 (F := Ideal) (k0_pay2 (F := Ideal)) (iblk m c 0 t) (iblk m c 1 t)) r = rowOf (given m c).d (blockRow (rfl : 32 * 512 = 16384) (turn t) r)
      ∧ rowOf (φ := .f32) (iblk m c 2 t) r = rowOf (given m c).x (blockRow (rfl : 32 * 512 = 16384) (turn t) r)
      ∧ rowOf (φ := .f32) (iblk m c 3 t) r = rowOf (given m c).p (blockRow (rfl : 32 * 512 = 16384) (turn t) r)
      ∧ rowOf (φ := .f32) (iblk m c 4 t) (0 : Fin 1) = rowOf (given m c).g 0 ∧ rowOf (φ := .f32) (iblk m c 5 t) (0 : Fin 1) = rowOf (given m c).sc 0 := by
  refine ⟨funext fun k => ?_, funext fun k => ?_, funext fun k => ?_, funext fun k => ?_, funext fun k => ?_⟩
  · unfold rowOf k0_pay3 k0_pay2 given
    pointwise
    refine Finset.sum_congr rfl fun k _ => ?_
    congr 1 <;> blk_ext! [iblk, V, blockRow, turn, index t]
  all_goals unfold rowOf given; blk_ext [iblk, V, blockRow, turn, index t]

theorem tile_after (t : Fin cfg0.N) (r : Fin 512) (j : Fin 1024) :
    (outsAt0 m c t.val t.isLt).1 (ix2 r j) = (given m c).rows (blockRow (rfl : 32 * 512 = 16384) (turn t) r) j := by
  obtain ⟨h0, h2, h3, h4, h5⟩ := blk_row m c t r
  rw [Arrays.rows, ← h0, ← h2, ← h3, ← h4, ← h5]
  by_cases h : t.val % 32 = 0
  · rw [outsAt0_A m c t h]; dsimp only; frame_out; exact pay4_at _ _ _ _ _ r j
  · rw [outsAt0_B m c t h]; dsimp only; frame_out; exact pay4_at _ _ _ _ _ r j

set_option maxHeartbeats 1000000 in
theorem sums_zero (t : Fin cfg0.N) (h : t.val % 32 = 0) (r : Fin 8) (j : Fin 1024) :
    (outsAt0 m c t.val t.isLt).2 (ix2 r j) = (given m c).share (rfl : 32 * 512 = 16384) (turn t) r j := by
  obtain ⟨-, -, -, h4, h5⟩ := blk_row m c t 0
  rw [Arrays.share, ← funext fun r => (blk_row m c t r).1, ← funext fun r => (blk_row m c t r).2.1, ← h4, ← h5]
  rw [outsAt0_A m c t h]; dsimp only; frame_out
  exact first_visit _ _ pay1_at _ _ _ _ _ _ (fun o j => (pay5_at _ o 0 j).trans (congrArg _ (pay15_at _ _ _ 0 j)))
    (fun o j => (pay6_at _ o 0 j).trans (congrArg _ (pay13_at _ _ _ 0 j))) (fun o j => (pay7_at _ o 0 j).trans (congrArg _ (pay12_at _ 0 j))) _ _ _ _ r j

set_option maxHeartbeats 1000000 in
theorem sums_succ (t : Fin cfg0.N) (h : t.val % 32 ≠ 0) (r : Fin 8) (j : Fin 1024) :
    (outsAt0 m c t.val t.isLt).2 (ix2 r j) = (outsAt0 m c (t.val - 1) (Nat.lt_of_le_of_lt (Nat.sub_le _ _) t.isLt)).2 (ix2 r j) + (given m c).share (rfl : 32 * 512 = 16384) (turn t) r j := by
  obtain ⟨-, -, -, h4, h5⟩ := blk_row m c t 0
  rw [Arrays.share, ← funext fun r => (blk_row m c t r).1, ← funext fun r => (blk_row m c t r).2.1, ← h4, ← h5]
  rw [outsAt0_B m c t h]; dsimp only; frame_out
  exact later_visit _ _ _ (Memref.IsWhole.read_unread _ _) _ _ _ _ _ _ (fun o j => (pay5_at _ o 0 j).trans (congrArg _ (pay15_at _ _ _ 0 j)))
    (fun o j => (pay6_at _ o 0 j).trans (congrArg _ (pay13_at _ _ _ 0 j))) (fun o j => (pay7_at _ o 0 j).trans (congrArg _ (pay12_at _ 0 j))) _ _ _ r j

/-- The two results. -/
theorem final7 (r : Fin 16384) (j : Fin 1024) : (dats m 0 c).arrAt 7 cfg0.N (ix2 r j : S16384x1024.Idx) = (given m c).rows r j := by
  refine congrFun ((dats m 0 c).arrAt_eq_of_covers 7 (fun i : S16384x1024.Idx => (given m c).rows (i 0) (i 1)) (by decide +kernel) fun t _ y => ?_) (ix2 r j)
  obtain ⟨r, k, rfl⟩ := exists_ix2 (a := 512) (b := 1024) y
  blk_simp
  refine (tile_after m c t r k).trans (congrArg₂ (given m c).rows (Fin.ext ?_) (Fin.ext ?_)) <;> blk_simp [blockRow, turn, index t] <;> omega
theorem final8 (r : Fin 8) (j : Fin 1024) : (dats m 0 c).arrAt 8 cfg0.N (ix2 r j : S8x1024.Idx) = (given m c).sums r j := by
  refine congrFun ((dats m 0 c).arrAt_eq_of_covers 8 (fun i : S8x1024.Idx => (given m c).sums (i 0) (i 1)) (by decide +kernel) fun t hf y => ?_) (ix2 r j)
  obtain ⟨r, k, rfl⟩ := exists_ix2 (a := 8) (b := 1024) y
  have ht : t.val = 31 := by
    have := (flush0_8 t).mp hf
    have : t.val < 32 := lt_of_lt_of_eq t.isLt N_0
    omega
  blk_simp
  refine Eq.trans ?_ (((given m c).sums_end (n := 31) (b := 512) rfl N_0 (fun t ht => (outsAt0 m c t ht).2) (fun ht r j => sums_zero m c ⟨0, ht⟩ rfl r j)
    (fun t ht r j => ?_) (lt_of_lt_of_eq (by decide) N_0.symm) r k).trans ?_)
  · have e : ∀ n hn, t.val = n → (outsAt0 m c t.val t.isLt).2 = (outsAt0 m c n hn).2 := by rintro _ _ rfl; rfl
    exact congrFun (e _ _ ht) _
  · have hN : t + 1 < 32 := lt_of_lt_of_eq ht N_0
    exact sums_succ m c ⟨t + 1, ht⟩ (by show (t + 1) % 32 ≠ 0; omega) r j
  · congr 1 <;> refine Fin.ext ?_ <;> blk_simp [index t] <;> omega

end Cert.LN.Window
end
-- ==== Proof.NormGrid.lean ====
/- The kernel's two results: block by block the gradient of the rows, and the three gradients summed over all rows. -/
module

public import proofs.«01_k».proof.Proof.NormBody
public import proofs.«01_k».proof.Proof.Gen.Reference2Ideal.Run
public import Idealize.ShloMosaic.Lib.Pipeline.ValueKit.Point

@[expose] public section

set_option maxRecDepth 100000

noncomputable section

namespace Cert.LN

open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

/-- The arrays in the memory at the start. -/
def given (c : Dev nD) : Arrays where
  d := Host.dotGeneral (F := Ideal) Cert.Reference2Ideal.dot_S16384x4096_S1024x4096_S16384x1024_1_1_0_0_n_n none
    (extf (F := Ideal) (φ := .bf16) .f32 (m ((c : Thread nD τ).loc main_arg0)) Cert.Reference2Ideal.Gen.bitsLt_bf16_f32) (extf (F := Ideal) (φ := .bf16) .f32 (m ((c : Thread nD τ).loc main_arg1)) Cert.Reference2Ideal.Gen.bitsLt_bf16_f32)
  x := m ((c : Thread nD τ).loc main_arg2)
  p := m ((c : Thread nD τ).loc main_arg3)
  g := m ((c : Thread nD τ).loc main_arg4)
  sc := m ((c : Thread nD τ).loc main_arg5)

theorem index : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0] ∧ win0_4.index t = ![0, 0] ∧ win0_5.index t = ![0, 0])
theorem index7 : ∀ t : Fin cfg0.N, win0_7.index t 0 = t.val ∧ win0_7.index t 1 = 0 :=
  (by decide +kernel : ∀ t : Fin grid0.N, win0_7.index t 0 = t.val ∧ win0_7.index t 1 = 0)

/-- A block's number, as one of the 32. -/
def turn (t : Fin cfg0.N) : Fin 32 := ⟨t.val, lt_of_lt_of_eq t.isLt N_0⟩

/-- The visit at point `t`: its tile and its sums are those of block `t`. -/
theorem dh_at (c : Dev nD) (t : Fin cfg0.N) (r : Fin 512) :
    rowOf (dhT (F := Ideal) (iblk m c 0 t) (iblk m c 1 t)) r = rowOf (given m c).d (blockRow (rfl : 32 * 512 = 16384) (turn t) r) := funext fun j => by
  refine (pay3_at _ _ r j).trans ?_
  unfold rowOf given
  pointwise
  refine Finset.sum_congr rfl fun k _ => ?_
  congr 1 <;> blk_ext! [iblk, V, blockRow, turn, index t]
theorem blk_row (c : Dev nD) (t : Fin cfg0.N) (r : Fin 512) :
    rowOf (φ := .f32) (iblk m c 2 t) r = rowOf (given m c).x (blockRow (rfl : 32 * 512 = 16384) (turn t) r)
      ∧ rowOf (φ := .f32) (iblk m c 3 t) r = rowOf (given m c).p (blockRow (rfl : 32 * 512 = 16384) (turn t) r)
      ∧ rowOf (φ := .f32) (iblk m c 4 t) (0 : Fin 1) = rowOf (given m c).g 0 ∧ rowOf (φ := .f32) (iblk m c 5 t) (0 : Fin 1) = rowOf (given m c).sc 0 := by
  refine ⟨funext fun k => ?_, funext fun k => ?_, funext fun k => ?_, funext fun k => ?_⟩ <;> unfold rowOf given <;>
    blk_ext [iblk, V, blockRow, turn, index t]
theorem tile_at (c : Dev nD) (t : Fin cfg0.N) (r : Fin 512) (j : Fin 1024) :
    tile (F := Ideal) (iblk m c 0 t) (iblk m c 1 t) (iblk m c 2 t) (iblk m c 3 t) (iblk m c 4 t) (iblk m c 5 t) (ix2 r j) = (given m c).rows (blockRow (rfl : 32 * 512 = 16384) (turn t) r) j := by
  refine (pay4_at _ _ _ _ _ r j).trans ?_
  obtain ⟨h2, h3, h4, h5⟩ := blk_row m c t r
  rw [dh_at m c t r, h2, h3, h4, h5, Arrays.rows]
theorem adds_at (c : Dev nD) (t : Fin cfg0.N) (r : Fin 8) (j : Fin 1024) :
    adds (rowOf (φ := .f32) (iblk m c 2 t)) (rowOf (dhT (F := Ideal) (iblk m c 0 t) (iblk m c 1 t))) (rowOf (φ := .f32) (iblk m c 4 t) 0) (rowOf (φ := .f32) (iblk m c 5 t) 0) r j
      = (given m c).share (rfl : 32 * 512 = 16384) (turn t) r j := by
  obtain ⟨-, -, h4, h5⟩ := blk_row m c t 0
  rw [Arrays.share, funext (dh_at m c t), funext fun r => (blk_row m c t r).1, h4, h5]

theorem tile_after (c : Dev nD) (t : Fin cfg0.N) (r : Fin 512) (j : Fin 1024) : (outsAt0 m c t.val t.isLt).1 (ix2 r j) = (given m c).rows (blockRow (rfl : 32 * 512 = 16384) (turn t) r) j := by
  by_cases h : t.val % 32 = 0
  · rw [outsAt0_A m c t h]; dsimp only; rw [tileA]; exact tile_at m c t r j
  · rw [outsAt0_B m c t h]; dsimp only; rw [tileB]; exact tile_at m c t r j
theorem sums_zero (c : Dev nD) (t : Fin cfg0.N) (h0 : t.val = 0) (r : Fin 8) (j : Fin 1024) :
    (outsAt0 m c t.val t.isLt).2 (ix2 r j) = (given m c).share (rfl : 32 * 512 = 16384) (turn t) r j := by
  rw [outsAt0_A m c t (by rw [h0])]; dsimp only
  rw [sumsA, zero_add]; exact adds_at m c t r j
theorem sums_succ (c : Dev nD) (t : Fin cfg0.N) (h : t.val ≠ 0) (r : Fin 8) (j : Fin 1024) :
    (outsAt0 m c t.val t.isLt).2 (ix2 r j) = (outsAt0 m c (t.val - 1) (Nat.lt_of_le_of_lt (Nat.sub_le _ _) t.isLt)).2 (ix2 r j) + (given m c).share (rfl : 32 * 512 = 16384) (turn t) r j := by
  have ht : t.val < 32 := lt_of_lt_of_eq t.isLt N_0
  rw [outsAt0_B m c t (by omega)]; dsimp only
  rw [sumsB]; exact congrArg _ (adds_at m c t r j)
/-- After the last point the second result is summed up. -/
theorem sums_after (c : Dev nD) (t : Fin cfg0.N) (ht : t.val = 31) (r : Fin 8) (j : Fin 1024) : (outsAt0 m c t.val t.isLt).2 (ix2 r j) = (given m c).sums r j := by
  have hN : cfg0.N = 32 := N_0
  obtain ⟨s, hs⟩ : ∃ s : ℕ → EReal, ∀ t : Fin cfg0.N, s t.val = (outsAt0 m c t.val t.isLt).2 (ix2 r j) :=
    ⟨fun n => if h : n < cfg0.N then (outsAt0 m c n h).2 (ix2 r j) else 0, fun t => dif_pos t.isLt⟩
  rw [← Arrays.shares _ (rfl : 32 * 512 = 16384), ← hs t, ht]
  refine sum_turns (n := 31) (fun t => (given m c).share (rfl : 32 * 512 = 16384) t r j) s ?_ fun n h => ?_
  · have h0 : 0 < cfg0.N := by omega
    exact (hs ⟨0, h0⟩).trans (sums_zero m c ⟨0, h0⟩ rfl r j)
  · have h1 : n + 1 < cfg0.N := by omega
    have h0 : n < cfg0.N := by omega
    have e := sums_succ m c ⟨n + 1, h1⟩ (Nat.succ_ne_zero n) r j
    rw [← hs ⟨n + 1, h1⟩] at e
    exact e.trans (congrArg (· + _) (hs ⟨n, h0⟩).symm)

/-! ## The two results -/

theorem final7 (c : Dev nD) (r : Fin 16384) (j : Fin 1024) : (dats m 0 c).arrAt 7 cfg0.N (ix2 r j : S16384x1024.Idx) = (given m c).rows r j := by
  refine congrFun ((dats m 0 c).arrAt_eq_of_cover 7 (fun i : S16384x1024.Idx => (given m c).rows (i 0) (i 1)) (fun t _ => ?_) fun i => ?_) (ix2 r j)
  · rw [Value.flushed7]
    funext y
    obtain ⟨r, k, rfl⟩ : ∃ (r : Fin 512) (k : Fin 1024), y = ix2 r k := ⟨y 0, y 1, funext fun a => by match a with | 0 => rfl | 1 => rfl⟩
    rw [View.read_apply]
    have ei : ((cfg0.win 7).blk t).view.emb (ix2 r k) = (ix2 (blockRow (rfl : 32 * 512 = 16384) (turn t) r) k : S16384x1024.Idx) := funext fun a => Fin.ext (by
      match a with
      | ⟨0, _⟩ => show win0_7.index t 0 * 512 + 1 * r.val = t.val * 512 + r.val; rw [(index7 t).1]; omega
      | ⟨1, _⟩ => show win0_7.index t 1 * 1024 + 1 * k.val = k.val; rw [(index7 t).2]; omega)
    show (outsAt0 m c t.val t.isLt).1 (ix2 r k) = (fun i : S16384x1024.Idx => (given m c).rows (i 0) (i 1)) (((cfg0.win 7).blk t).view.emb (ix2 r k))
    rw [ei, tile_after]
    rfl
  · have h0 : (i 0 : Nat) < 16384 := (i 0).isLt
    have h1 : (i 1 : Nat) < 1024 := (i 1).isLt
    obtain ⟨t, ht⟩ : ∃ t : Fin cfg0.N, t.val = (i 0 : Nat) / 512 := ⟨⟨(i 0 : Nat) / 512, lt_of_lt_of_eq (by omega) N_0.symm⟩, rfl⟩
    refine ⟨t, flush0_7 t, ?_⟩
    show i ∈ ((View.whole main_v1_0).slice (win0_7.rect t)).set
    rw [View.set_slice_whole, Rect.mem_set_unit]
    intro a
    match a with
    | ⟨0, _⟩ =>
      show win0_7.index t 0 * 512 ≤ (i 0 : Nat) ∧ (i 0 : Nat) < win0_7.index t 0 * 512 + 512
      rw [(index7 t).1]; omega
    | ⟨1, _⟩ =>
      show win0_7.index t 1 * 1024 ≤ (i 1 : Nat) ∧ (i 1 : Nat) < win0_7.index t 1 * 1024 + 1024
      rw [(index7 t).2]; omega

/-- The last point's block is the whole second result. -/
theorem last8 (c : Dev nD) (t : Fin cfg0.N) (ht : t.val = 31) : (dats m 0 c).arrAt 8 cfg0.N = (outsAt0 m c t.val t.isLt).2 := by
  refine (dats m 0 c).arrAt_eq_of_cover 8 _ (fun t' hf => ?_) fun i => ?_
  · have ht' : t'.val < 32 := lt_of_lt_of_eq t'.isLt N_0
    have h5 := (flush0_8 t').mp hf
    obtain rfl : t' = t := Fin.ext (by omega)
    rw [Value.flushed8]
    generalize (outsAt0 m c t'.val t'.isLt).2 = x
    have hz : (fun a => win0_8.index t' a * main_v1_1.ty.shape.size a) = fun _ => 0 := funext fun a => by
      match a with
      | ⟨0, _⟩ => rfl
      | ⟨1, _⟩ => rfl
    exact (Memref.read_access_unit_zero (Elt Ideal) main_v1_1 hz (fun a => by rw [congrFun hz a]; simp) x).symm
  · refine ⟨t, (flush0_8 t).mpr (by rw [ht]), ?_⟩
    show i ∈ ((View.whole main_v1_1).slice (win0_8.rect t)).set
    rw [View.set_slice_whole, Rect.mem_set_unit]
    intro a
    have h0 : (i 0 : Nat) < 8 := (i 0).isLt
    have h1 : (i 1 : Nat) < 1024 := (i 1).isLt
    match a with
    | ⟨0, _⟩ => show 0 * 8 ≤ (i 0 : Nat) ∧ (i 0 : Nat) < 0 * 8 + 8; omega
    | ⟨1, _⟩ => show 0 * 1024 ≤ (i 1 : Nat) ∧ (i 1 : Nat) < 0 * 1024 + 1024; omega
theorem final8 (c : Dev nD) (r : Fin 8) (j : Fin 1024) : (dats m 0 c).arrAt 8 cfg0.N (ix2 r j : S8x1024.Idx) = (given m c).sums r j := by
  obtain ⟨t, ht⟩ : ∃ t : Fin cfg0.N, t.val = 31 := ⟨⟨31, lt_of_lt_of_eq (by decide) N_0.symm⟩, rfl⟩
  rw [last8 m c t ht]
  exact sums_after m c t ht r j

end Cert.LN
end
-- ==== Proof.NormRef.lean ====
/- The plain backward pass of the scaled, shifted norm, element by element. -/
module

public import proofs.«01_k».proof.Proof.NormGrid
public import proofs.«01_k».proof.Proof.Gen.Reference2Ideal.Run
public import proofs.«01_k».proof.Proof.Gen.Reference12Ideal.Run
public import proofs.«01_k».proof.Proof.Gen.Reference13Ideal.Run

@[expose] public section

set_option maxRecDepth 100000

noncomputable section

namespace Cert.LN

open Idealize.ShloMosaic Idealize.ShloMosaic.TcCoe Idealize.SL.Sem
open Cert.Reference2Ideal Cert.Reference2Ideal.Gen

namespace Arrays
variable (A : Arrays)

/-! ## The arrays on the way -/

def msA : FVec Ideal S16384x1 .f32 :=
  addf (Host.divf (broadcastInDim S16384x1 ![0] bcast_S16384_S16384x1_0 (Host.reduceAdd (mulf A.x A.x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rsA : FVec Ideal S16384x1 .f32 := Host.rsqrt A.msA
def nrmA : FVec Ideal S16384x1024 .f32 := mulf A.x (broadcastInDim S16384x1024 ![0, 1] bcast_S16384x1_S16384x1024_0_1 A.rsA)
def dscA : FVec Ideal S16384x1024 .f32 :=
  mulf A.d (broadcastInDim S16384x1024 ![0, 1] bcast_S1x1024_S16384x1024_0_1 (addf (broadcastInDim S1x1024 ![] bcast_S_S1x1024 (constant S_ .f32 0x3F800000#32)) A.sc))
def dyA : FVec Ideal S16384x1024 .f32 := mulf A.dscA (broadcastInDim S16384x1024 ![0, 1] bcast_S1x1024_S16384x1024_0_1 A.g)
def dmsA : FVec Ideal S16384x1 .f32 :=
  Host.divf (mulf (shapeCast _ (Host.reduceAdd (mulf A.x A.dyA) (constant S_ .f32 0x00000000#32) reducesTo_S16384x1024_S16384_d1 h_S_) shapeCasts_S16384_S16384x1) (mulf (broadcastInDim S16384x1 ![] bcast_S_S16384x1 (constant S_ .f32 0xBF000000#32)) (Host.divf A.rsA A.msA))) (broadcastInDim S16384x1 ![] bcast_S_S16384x1 (constant S_ .f32 0x44800000#32))
def dmsB : FVec Ideal S16384x1024 .f32 :=
  broadcastInDim S16384x1024 ![0] bcast_S16384_S16384x1024_0 (Host.reduceAdd A.dmsA (constant S_ .f32 0x00000000#32) reducesTo_S16384x1_S16384_d1 h_S_)
def rowsA : FVec Ideal S16384x1024 .f32 :=
  addf (addf (addf A.p (mulf A.dyA (broadcastInDim S16384x1024 ![0, 1] bcast_S16384x1_S16384x1024_0_1 A.rsA))) (mulf A.x A.dmsB)) (mulf A.dmsB A.x)
def gainA : FVec Ideal S1x1024 .f32 :=
  shapeCast _ (Host.reduceAdd (mulf A.nrmA A.dscA) (constant S_ .f32 0x00000000#32) reducesTo_S16384x1024_S1024_d0 h_S_) shapeCasts_S1024_S1x1024
def scaleA : FVec Ideal S1x1024 .f32 :=
  shapeCast _ (Host.reduceAdd (mulf (mulf A.nrmA (broadcastInDim S16384x1024 ![0, 1] bcast_S1x1024_S16384x1024_0_1 A.g)) A.d) (constant S_ .f32 0x00000000#32) reducesTo_S16384x1024_S1024_d0 h_S_) shapeCasts_S1024_S1x1024
def shiftA : FVec Ideal S1x1024 .f32 :=
  shapeCast _ (Host.reduceAdd A.d (constant S_ .f32 0x00000000#32) reducesTo_S16384x1024_S1024_d0 h_S_) shapeCasts_S1024_S1x1024
def sumsA : FVec Ideal S8x1024 .f32 :=
  concatenate S8x1024 0 [⟨S1x1024, A.gainA⟩, ⟨S1x1024, A.scaleA⟩, ⟨S1x1024, A.shiftA⟩, ⟨S5x1024, broadcastInDim S5x1024 ![] bcast_S_S5x1024 (constant (F := Ideal) S_ .f32 0x00000000#32)⟩]
    concatenates_S1x1024_S1x1024_S1x1024_S5x1024_S8x1024_d0

/-! ## What they hold -/

theorem msA_at (i : Fin 16384) (j : Fin 1) : A.msA (ix2 i j) = ms (rowOf A.x i) := by
  unfold msA
  pointwise
  rfl
theorem rsA_at (i : Fin 16384) (j : Fin 1) : A.rsA (ix2 i j) = rs (rowOf A.x i) := congrArg Ideal.rsqrt (A.msA_at i j)
theorem nrmA_at (i : Fin 16384) (j : Fin 1024) : A.nrmA (ix2 i j) = nrm (rowOf A.x i) j := by
  unfold nrmA
  pointwise
  rw [rsA_at]; rfl
theorem dscA_at (i : Fin 16384) (j : Fin 1024) : A.dscA (ix2 i j) = dsc (rowOf A.sc 0) (rowOf A.d i) j := by
  unfold dscA
  pointwise
  rfl
theorem dyA_at (i : Fin 16384) (j : Fin 1024) : A.dyA (ix2 i j) = dy (rowOf A.g 0) (rowOf A.sc 0) (rowOf A.d i) j := by
  unfold dyA
  pointwise
  simp only [dscA_at]; rfl
theorem dmsA_at (i : Fin 16384) (j : Fin 1) : A.dmsA (ix2 i j) = dms (rowOf A.x i) (rowOf A.g 0) (rowOf A.sc 0) (rowOf A.d i) := by
  unfold dmsA
  pointwise
  simp only [msA_at, rsA_at, dyA_at]; rfl
theorem dmsB_at (i : Fin 16384) (j : Fin 1024) : A.dmsB (ix2 i j) = dms (rowOf A.x i) (rowOf A.g 0) (rowOf A.sc 0) (rowOf A.d i) := by
  unfold dmsB
  pointwise
  simp only [dmsA_at, Fin.sum_univ_one]
theorem rowsA_at (i : Fin 16384) (j : Fin 1024) : A.rowsA (ix2 i j) = A.rows i j := by
  unfold rowsA
  pointwise
  simp only [dmsB_at, dyA_at, rsA_at]
  rw [rows, dx, add_assoc, add_assoc, add_assoc]; rfl
theorem gainA_at (i : Fin 1) (j : Fin 1024) : A.gainA (ix2 i j) = ∑ r, gain (rowOf A.x r) (rowOf A.sc 0) (rowOf A.d r) j := by
  unfold gainA
  pointwise
  simp only [nrmA_at, dscA_at]; rfl
theorem scaleA_at (i : Fin 1) (j : Fin 1024) : A.scaleA (ix2 i j) = ∑ r, scale (rowOf A.x r) (rowOf A.g 0) (rowOf A.d r) j := by
  unfold scaleA
  pointwise
  simp only [nrmA_at]; rfl
theorem shiftA_at (i : Fin 1) (j : Fin 1024) : A.shiftA (ix2 i j) = ∑ r, rowOf A.d r j := by
  unfold shiftA
  pointwise
  rfl

/-- The second result: the three sums and five rows of zeros, one under the other. -/
theorem sumsA_at (r : Fin 8) (j : Fin 1024) : A.sumsA (ix2 r j) = A.sums r j := by
  unfold sumsA
  pointwise
  simp only [gainA_at, scaleA_at, shiftA_at, sums, adds]
  split_ifs <;> first | rfl | omega

/-- An array that holds the row gradients, or the sums, is the plain one. -/
theorem rowsA_eq (X : FVec Ideal S16384x1024 .f32) (h : ∀ p q, X (ix2 p q) = A.rows p q) : A.rowsA = X := funext fun y => by
  obtain ⟨p, q, rfl⟩ := exists_ix2 (a := 16384) (b := 1024) y
  exact (A.rowsA_at p q).trans (h p q).symm
theorem sumsA_eq (X : FVec Ideal S8x1024 .f32) (h : ∀ p q, X (ix2 p q) = A.sums p q) : A.sumsA = X := funext fun y => by
  obtain ⟨p, q, rfl⟩ := exists_ix2 (a := 8) (b := 1024) y
  exact (A.sumsA_at p q).trans (h p q).symm

/-! ## The two results of the plain backward pass -/

variable (m : (ℓ : Loc nD τ sig) → Buf (Elt Ideal) ℓ) (c : Dev nD)

/-- The arrays in the memory at the start. -/
def read : Arrays where
  d := Host.dotGeneral dot_S16384x4096_S1024x4096_S16384x1024_1_1_0_0_n_n none
    (extf .f32 (m ((c.tc : Thread nD τ).loc main_arg0)) bitsLt_bf16_f32) (extf .f32 (m ((c.tc : Thread nD τ).loc main_arg1)) bitsLt_bf16_f32)
  x := m ((c.tc : Thread nD τ).loc main_arg2)
  p := m ((c.tc : Thread nD τ).loc main_arg3)
  g := m ((c.tc : Thread nD τ).loc main_arg4)
  sc := m ((c.tc : Thread nD τ).loc main_arg5)
theorem rows_eq : Value.res_main_v51 m c = (read m c).rowsA := rfl

end Arrays

/-- At the extended reals the plain backward pass ends with the two results, summed as the kernel sums them. -/
theorem plain (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51) = (Arrays.read m c).rowsA
      ∧ r.2.mem ((c.tc : Thread nD τ).loc main_v53) = (Arrays.read m c).sumsA
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (Arrays.rows_eq m c), (h c).2.1, (h c).2.2⟩) (Value.run m ρ)

end Cert.LN

/-! ## The same for the gated DeltaNet layer -/

namespace Cert.LN.Delta
open Idealize.ShloMosaic Idealize.ShloMosaic.TcCoe Cert.Reference12Ideal Cert.Reference12Ideal.Gen

variable (m : (ℓ : Loc nD τ sig) → Buf (Elt Ideal) ℓ) (c : Dev nD)

/-- The arrays in the memory at the start of the plain backward pass. -/
def read : Arrays where
  d := Host.dotGeneral dot_S16384x6272_S1024x6272_S16384x1024_1_1_0_0_n_n none
    (extf .f32 (m ((c.tc : Thread nD τ).loc main_arg0)) bitsLt_bf16_f32) (extf .f32 (m ((c.tc : Thread nD τ).loc main_arg1)) bitsLt_bf16_f32)
  x := m ((c.tc : Thread nD τ).loc main_arg2)
  p := m ((c.tc : Thread nD τ).loc main_arg3)
  g := m ((c.tc : Thread nD τ).loc main_arg4)
  sc := m ((c.tc : Thread nD τ).loc main_arg5)
theorem rows_eq : Value.res_main_v51 m c = (read m c).rowsA := rfl

end Cert.LN.Delta

/-! ## The same for the sliding-window layer -/

namespace Cert.LN.Window
open Idealize.ShloMosaic Idealize.ShloMosaic.TcCoe Cert.Reference13Ideal Cert.Reference13Ideal.Gen

variable (m : (ℓ : Loc nD τ sig) → Buf (Elt Ideal) ℓ) (c : Dev nD)

/-- The arrays in the memory at the start of the plain backward pass. -/
def read : Arrays where
  d := Host.dotGeneral dot_S16384x2560_S1024x2560_S16384x1024_1_1_0_0_n_n none
    (extf .f32 (m ((c.tc : Thread nD τ).loc main_arg0)) bitsLt_bf16_f32) (extf .f32 (m ((c.tc : Thread nD τ).loc main_arg1)) bitsLt_bf16_f32)
  x := m ((c.tc : Thread nD τ).loc main_arg2)
  p := m ((c.tc : Thread nD τ).loc main_arg3)
  g := m ((c.tc : Thread nD τ).loc main_arg4)
  sc := m ((c.tc : Thread nD τ).loc main_arg5)
theorem rows_eq : Value.res_main_v51 m c = (read m c).rowsA := rfl

end Cert.LN.Window

end
-- ==== Proof.Turns.lean ====
/- The gradient of a projection's weight, for any number of rows, of inputs and of outputs: what is added up from one block of rows to the
   next, for one block of columns, is the product over all rows. -/
module

public import proofs.«01_k».proof.Proof.Blocks
public import Idealize.ShloMosaic.Lib.Pipeline.Value

@[expose] public section

noncomputable section

namespace Cert.WG

open Idealize.ShloMosaic

/-- The product over all rows. -/
def weight {φ ψ : FTy} {T M C : ℕ} (h : FVec Ideal ⟨2, ![T, M]⟩ φ) (du : FVec Ideal ⟨2, ![T, C]⟩ ψ) (i : Fin M) (j : Fin C) : EReal :=
  ∑ r : Fin T, h (ix2 r i) * du (ix2 r j)

/-- The share of row block `p`, of `J` blocks of `b` rows. -/
def share {φ ψ : FTy} {J b T M C : ℕ} (hT : J * b = T) (h : FVec Ideal ⟨2, ![T, M]⟩ φ) (du : FVec Ideal ⟨2, ![T, C]⟩ ψ) (p : Fin J) (i : Fin M) (j : Fin C) : EReal :=
  ∑ k : Fin b, h (ix2 (blockRow hT p k) i) * du (ix2 (blockRow hT p k) j)

/-- The blocks' shares add up to it. -/
theorem shares {φ ψ : FTy} {J b T M C : ℕ} (hT : J * b = T) (h : FVec Ideal ⟨2, ![T, M]⟩ φ) (du : FVec Ideal ⟨2, ![T, C]⟩ ψ) (i : Fin M) (j : Fin C) :
    ∑ p, share hT h du p i j = weight h du i j :=
  sum_blocks hT fun r => h (ix2 r i) * du (ix2 r j)

/-- When the points `J q, …, J q + n` each add the share of one row block to column block `q`, of `W` columns, it ends as the product over all rows. -/
theorem turns {φ ψ : FTy} {J n b T M W Q C N : ℕ} (hJ : J = n + 1) (hT : J * b = T) (hC : Q * W = C)
    (h : FVec Ideal ⟨2, ![T, M]⟩ φ) (du : FVec Ideal ⟨2, ![T, C]⟩ ψ)
    (reset : (t : ℕ) → t < N → FVec Ideal ⟨2, ![M, W]⟩ .f32) (step : (t : ℕ) → t < N → FVec Ideal ⟨2, ![M, W]⟩ .f32 → FVec Ideal ⟨2, ![M, W]⟩ .f32)
    (hr : ∀ (q : Fin Q) (p : Fin J), p.val = 0 → ∀ (ht : J * q.val < N) (i j), reset (J * q.val) ht (ix2 i j) = share hT h du p i (blockRow hC q j))
    (hs : ∀ (q : Fin Q) (p : Fin J) (ht : J * q.val + p.val < N) (acc) (i j), step (J * q.val + p.val) ht acc (ix2 i j) = acc (ix2 i j) + share hT h du p i (blockRow hC q j))
    (q : Fin Q) (i : Fin M) (j : Fin W) (s : ℕ) (e : s = J * q.val) (hN : s + n < N) :
    Pipeline.accAt reset step s n hN (ix2 i j) = weight h du i (blockRow hC q j) := by
  subst e
  subst hJ
  obtain ⟨f, hf⟩ : ∃ f : ℕ → EReal, ∀ (t : ℕ) (ht : (n + 1) * q.val + t < N), f t = Pipeline.accAt reset step ((n + 1) * q.val) t ht (ix2 i j) :=
    ⟨fun t => if ht : (n + 1) * q.val + t < N then Pipeline.accAt reset step ((n + 1) * q.val) t ht (ix2 i j) else 0, fun t ht => dif_pos ht⟩
  rw [← hf n hN, ← shares hT]
  refine sum_turns (fun p => share hT h du p i (blockRow hC q j)) f ?_ fun t ht => ?_
  · rw [hf 0 (by omega), Pipeline.accAt_zero]
    exact hr q 0 rfl _ i j
  · rw [hf (t + 1) (by omega), hf t (by omega), Pipeline.accAt_succ]
    exact hs q ⟨t + 1, Nat.succ_lt_succ ht⟩ _ _ i j

/-- The factors may stand the other way round. -/
theorem weight_comm {φ ψ : FTy} {T M C : ℕ} (h : FVec Ideal ⟨2, ![T, M]⟩ φ) (du : FVec Ideal ⟨2, ![T, C]⟩ ψ) (i : Fin M) (j : Fin C) :
    (∑ r : Fin T, (du (ix2 r j) : EReal) * h (ix2 r i)) = weight h du i j :=
  Finset.sum_congr rfl fun r _ => mul_comm (du (ix2 r j) : EReal) (h (ix2 r i))

/-- The array such points leave: at `y` stands what the points of `y`'s column block end with, at `y`'s place in the block (`run` and `loc`), when
    they start from zero. -/
theorem whole {φ ψ : FTy} {J n b T M W Q C N : ℕ} (hJ : J = n + 1) (hT : J * b = T) (hC : Q * W = C) (hN : N = J * Q)
    (h : FVec Ideal ⟨2, ![T, M]⟩ φ) (du : FVec Ideal ⟨2, ![T, C]⟩ ψ) (z : FVec Ideal ⟨2, ![M, W]⟩ .f32) (V : FVec Ideal ⟨2, ![M, C]⟩ .f32)
    (reset : (t : ℕ) → t < N → FVec Ideal ⟨2, ![M, W]⟩ .f32) (step : (t : ℕ) → t < N → FVec Ideal ⟨2, ![M, W]⟩ .f32 → FVec Ideal ⟨2, ![M, W]⟩ .f32)
    (run : Shape.Idx ⟨2, ![M, C]⟩ → ℕ) (loc : Shape.Idx ⟨2, ![M, C]⟩ → Shape.Idx ⟨2, ![M, W]⟩)
    (hr : ∀ t ht, reset t ht = step t ht z) (hz : ∀ i j, z (ix2 i j) = (0 : EReal))
    (hrun : ∀ y, run y = Q * ((y 0).val / M - 0) + 1 * ((y 1).val / W - 0))
    (hloc : ∀ y, (loc y 0).val = (y 0).val % M ∧ (loc y 1).val = (y 1).val % W)
    (hs : ∀ (q : Fin Q) (p : Fin J) (t : Fin N), t.val = J * q.val + p.val → ∀ acc i j,
      step t.val t.isLt acc (ix2 i j) = acc (ix2 i j) + share hT h du p i (blockRow hC q j)) (i : Fin M) (j : Fin C) :
    (if hi : J * run (ix2 i j) + n < N then Pipeline.accAt reset step (J * run (ix2 i j)) n hi (loc (ix2 i j)) else V (ix2 i j)) = weight h du i j := by
  obtain ⟨q, k, rfl⟩ := exists_block hC j
  have e : run (ix2 i (blockRow hC q k)) = q.val := by
    rw [hrun]
    show Q * (i.val / M - 0) + 1 * ((q.val * W + k.val) / W - 0) = q.val
    rw [Nat.div_eq_of_lt i.isLt, Nat.mul_comm q.val W, Nat.mul_add_div (Nat.zero_lt_of_lt k.isLt), Nat.div_eq_of_lt k.isLt]
    simp
  have l : loc (ix2 i (blockRow hC q k)) = ix2 i k := funext fun a => Fin.ext (by
    match a with
    | ⟨0, _⟩ => exact (hloc _).1.trans (Nat.mod_eq_of_lt i.isLt)
    | ⟨1, _⟩ =>
      refine (hloc _).2.trans ?_
      show (q.val * W + k.val) % W = k.val
      rw [Nat.mul_comm q.val W, Nat.mul_add_mod, Nat.mod_eq_of_lt k.isLt])
  have hi : J * run (ix2 i (blockRow hC q k)) + n < N := by
    rw [e, hN, hJ]
    have := Nat.mul_le_mul_left (n + 1) (Nat.succ_le_of_lt q.isLt)
    rw [Nat.mul_succ] at this
    omega
  rw [dif_pos hi, l]
  refine turns hJ hT hC h du reset step (fun q p hp ht i j => ?_) (fun q p ht acc i j => hs q p ⟨_, ht⟩ rfl acc i j) q i k _ (by rw [e]) hi
  rw [hr, hs q p ⟨_, ht⟩ (by rw [hp]; rfl), hz, zero_add]

end Cert.WG
end
-- ==== Proof.Weight.lean ====
/- The gradients of the projections' weights: the input weights of the recurrent layers (`Recurrent`), of the gated DeltaNet layer
   (`Delta`) and of the sliding-window layer (`Window`), and the output weights (`Output`, and `WideOutput` with 2048 rows). For each:
   which blocks a point of the launch reads, that it adds their share, and so what the launch leaves. -/
module

public import proofs.«01_k».proof.Proof.Turns
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import Idealize.ShloMosaic.Lib.Pipeline.ValueKit.Point

@[expose] public section

noncomputable section

open Idealize.ShloMosaic Idealize.ShloMosaic.TcCoe Idealize.SL.Sem

namespace Cert.WG.Recurrent
open Cert.Kernel3Ideal Cert.Kernel3Ideal.Gen Cert.Reference3Ideal.Gen

variable (m : (ℓ : Loc nD τ sig) → Buf (Elt Ideal) ℓ) (c : Dev nD)

/-- Point `4 q + p` reads row block `p`, and of the second array column block `q`. -/
theorem index : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- It adds that block's share. -/
theorem step_at (q : Fin 8) (p : Fin 4) (t : Fin cfg0.N) (e : t.val = 4 * q.val + p.val) (acc : Vec Ideal S1024x512 .f32) (i : Fin 1024) (b : Fin 512) :
    Value.step2 m c t.val t.isLt acc (ix2 i b) = acc (ix2 i b)
      + share (φ := .bf16) (ψ := .bf16) (rfl : 4 * 4096 = 16384) (m ((c : Thread nD τ).loc main_arg0)) (m ((c : Thread nD τ).loc main_arg1)) p i (blockRow (rfl : 8 * 512 = 4096) q b) := by
  unfold Value.step2 k0_pay2 share
  pointwise
  refine congrArg _ (Finset.sum_congr rfl fun k _ => ?_)
  congr 1 <;> blk_ext [iblk, V, blockRow, index t]

/-- The plain backward pass. -/
def plain (h : FVec Ideal S16384x1024 .bf16) (du : FVec Ideal S16384x4096 .bf16) : FVec Ideal S1024x4096 .f32 :=
  transpose S1024x4096 [1, 0] (Host.dotGeneral Cert.Reference3Ideal.dot_S16384x4096_S16384x1024_S4096x1024_0_0_1_1_n_n none
    (extf (F := Ideal) .f32 du bitsLt_bf16_f32) (extf (F := Ideal) .f32 h bitsLt_bf16_f32)) transposes_S4096x1024_S1024x4096_1_0

/-- What the launch leaves. -/
theorem final : Value.G2 m c = plain (m ((c : Thread nD τ).loc main_arg0)) (m ((c : Thread nD τ).loc main_arg1)) := by
  funext y
  obtain ⟨i, j, rfl⟩ := exists_ix2 (a := 1024) (b := 4096) y
  refine (whole (n := 3) rfl rfl rfl N_0 _ _ (k0_pay1 (F := Ideal)) _ _ _ _ _ (fun _ _ => rfl) ?_ (fun _ => rfl) (fun _ => ⟨rfl, rfl⟩) (step_at m c) i j).trans ?_
  · intro i j; unfold k0_pay1; pointwise
  · pointwise [plain]; exact (weight_comm _ _ i j).symm

end Cert.WG.Recurrent

namespace Cert.WG.Delta
open Cert.Kernel4Ideal Cert.Kernel4Ideal.Gen Cert.Reference4Ideal.Gen

variable (m : (ℓ : Loc nD τ sig) → Buf (Elt Ideal) ℓ) (c : Dev nD)

/-- Point `8 q + p` reads row block `p`, and of the second array column block `q`. -/
theorem index : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

/-- It adds that block's share. -/
theorem step_at (q : Fin 7) (p : Fin 8) (t : Fin cfg0.N) (e : t.val = 8 * q.val + p.val) (acc : Vec Ideal S1024x896 .f32) (i : Fin 1024) (b : Fin 896) :
    Value.step2 m c t.val t.isLt acc (ix2 i b) = acc (ix2 i b)
      + share (φ := .bf16) (ψ := .bf16) (rfl : 8 * 2048 = 16384) (m ((c : Thread nD τ).loc main_arg0)) (m ((c : Thread nD τ).loc main_arg1)) p i (blockRow (rfl : 7 * 896 = 6272) q b) := by
  unfold Value.step2 k0_pay2 share
  pointwise
  refine congrArg _ (Finset.sum_congr rfl fun k _ => ?_)
  congr 1 <;> blk_ext [iblk, V, blockRow, index t]

/-- The plain backward pass. -/
def plain (h : FVec Ideal S16384x1024 .bf16) (du : FVec Ideal S16384x6272 .bf16) : FVec Ideal S1024x6272 .f32 :=
  transpose S1024x6272 [1, 0] (Host.dotGeneral Cert.Reference4Ideal.dot_S16384x6272_S16384x1024_S6272x1024_0_0_1_1_n_n none
    (extf (F := Ideal) .f32 du bitsLt_bf16_f32) (extf (F := Ideal) .f32 h bitsLt_bf16_f32)) transposes_S6272x1024_S1024x6272_1_0

/-- What the launch leaves. -/
theorem final : Value.G2 m c = plain (m ((c : Thread nD τ).loc main_arg0)) (m ((c : Thread nD τ).loc main_arg1)) := by
  funext y
  obtain ⟨i, j, rfl⟩ := exists_ix2 (a := 1024) (b := 6272) y
  refine (whole (n := 7) rfl rfl rfl N_0 _ _ (k0_pay1 (F := Ideal)) _ _ _ _ _ (fun _ _ => rfl) ?_ (fun _ => rfl) (fun _ => ⟨rfl, rfl⟩) (step_at m c) i j).trans ?_
  · intro i j; unfold k0_pay1; pointwise
  · pointwise [plain]; exact (weight_comm _ _ i j).symm

end Cert.WG.Delta

namespace Cert.WG.Window
open Cert.Kernel5Ideal Cert.Kernel5Ideal.Gen Cert.Reference5Ideal.Gen

variable (m : (ℓ : Loc nD τ sig) → Buf (Elt Ideal) ℓ) (c : Dev nD)

/-- Point `4 q + p` reads row block `p`, and of the second array column block `q`. -/
theorem index : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])

/-- It adds that block's share. -/
theorem step_at (q : Fin 5) (p : Fin 4) (t : Fin cfg0.N) (e : t.val = 4 * q.val + p.val) (acc : Vec Ideal S1024x512 .f32) (i : Fin 1024) (b : Fin 512) :
    Value.step2 m c t.val t.isLt acc (ix2 i b) = acc (ix2 i b)
      + share (φ := .bf16) (ψ := .bf16) (rfl : 4 * 4096 = 16384) (m ((c : Thread nD τ).loc main_arg0)) (m ((c : Thread nD τ).loc main_arg1)) p i (blockRow (rfl : 5 * 512 = 2560) q b) := by
  unfold Value.step2 k0_pay2 share
  pointwise
  refine congrArg _ (Finset.sum_congr rfl fun k _ => ?_)
  congr 1 <;> blk_ext [iblk, V, blockRow, index t]

/-- The plain backward pass. -/
def plain (h : FVec Ideal S16384x1024 .bf16) (du : FVec Ideal S16384x2560 .bf16) : FVec Ideal S1024x2560 .f32 :=
  transpose S1024x2560 [1, 0] (Host.dotGeneral Cert.Reference5Ideal.dot_S16384x2560_S16384x1024_S2560x1024_0_0_1_1_n_n none
    (extf (F := Ideal) .f32 du bitsLt_bf16_f32) (extf (F := Ideal) .f32 h bitsLt_bf16_f32)) transposes_S2560x1024_S1024x2560_1_0

/-- What the launch leaves. -/
theorem final : Value.G2 m c = plain (m ((c : Thread nD τ).loc main_arg0)) (m ((c : Thread nD τ).loc main_arg1)) := by
  funext y
  obtain ⟨i, j, rfl⟩ := exists_ix2 (a := 1024) (b := 2560) y
  refine (whole (n := 3) rfl rfl rfl N_0 _ _ (k0_pay1 (F := Ideal)) _ _ _ _ _ (fun _ _ => rfl) ?_ (fun _ => rfl) (fun _ => ⟨rfl, rfl⟩) (step_at m c) i j).trans ?_
  · intro i j; unfold k0_pay1; pointwise
  · pointwise [plain]; exact (weight_comm _ _ i j).symm

end Cert.WG.Window

namespace Cert.WG.Output
open Cert.Kernel6Ideal Cert.Kernel6Ideal.Gen Cert.Reference6Ideal.Gen

variable (m : (ℓ : Loc nD τ sig) → Buf (Elt Ideal) ℓ) (c : Dev nD)

/-- Point `p` reads row block `p`; all columns are one block. -/
theorem index : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

/-- It adds that block's share. -/
theorem step_at (q : Fin 1) (p : Fin 8) (t : Fin cfg0.N) (e : t.val = 8 * q.val + p.val) (acc : Vec Ideal S1024x1024 .f32) (i : Fin 1024) (b : Fin 1024) :
    Value.step2 m c t.val t.isLt acc (ix2 i b) = acc (ix2 i b)
      + share (φ := .bf16) (ψ := .f32) (rfl : 8 * 2048 = 16384) (m ((c : Thread nD τ).loc main_arg0)) (m ((c : Thread nD τ).loc main_arg1)) p i (blockRow (rfl : 1 * 1024 = 1024) q b) := by
  unfold Value.step2 k0_pay2 share
  pointwise
  refine congrArg _ (Finset.sum_congr rfl fun k _ => ?_)
  congr 1 <;> blk_ext [iblk, V, blockRow, index t]

/-- The plain backward pass. -/
def plain (p : FVec Ideal S16384x1024 .bf16) (dx : FVec Ideal S16384x1024 .f32) : FVec Ideal S1024x1024 .f32 :=
  transpose S1024x1024 [1, 0] (Host.dotGeneral Cert.Reference6Ideal.dot_S16384x1024_S16384x1024_S1024x1024_0_0_1_1_n_n none
    dx (extf (F := Ideal) .f32 p Cert.Reference6Ideal.Gen.bitsLt_bf16_f32)) transposes_S1024x1024_S1024x1024_1_0

/-- What the launch leaves. -/
theorem final : Value.G2 m c = plain (m ((c : Thread nD τ).loc main_arg0)) (m ((c : Thread nD τ).loc main_arg1)) := by
  funext y
  obtain ⟨i, j, rfl⟩ := exists_ix2 (a := 1024) (b := 1024) y
  refine (whole (n := 7) rfl rfl rfl N_0 _ _ (k0_pay1 (F := Ideal)) _ _ _ _ _ (fun _ _ => rfl) ?_ (fun _ => rfl) (fun _ => ⟨rfl, rfl⟩) (step_at m c) i j).trans ?_
  · intro i j; unfold k0_pay1; pointwise
  · pointwise [plain]; exact (weight_comm _ _ i j).symm

end Cert.WG.Output

namespace Cert.WG.WideOutput
open Cert.Kernel7Ideal Cert.Kernel7Ideal.Gen Cert.Reference7Ideal.Gen

variable (m : (ℓ : Loc nD τ sig) → Buf (Elt Ideal) ℓ) (c : Dev nD)

/-- Point `8 q + p` reads row block `p`, and of the second array column block `q`. -/
theorem index : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])

/-- It adds that block's share. -/
theorem step_at (q : Fin 2) (p : Fin 8) (t : Fin cfg0.N) (e : t.val = 8 * q.val + p.val) (acc : Vec Ideal S2048x512 .f32) (i : Fin 2048) (b : Fin 512) :
    Value.step2 m c t.val t.isLt acc (ix2 i b) = acc (ix2 i b)
      + share (φ := .bf16) (ψ := .f32) (rfl : 8 * 2048 = 16384) (m ((c : Thread nD τ).loc main_arg0)) (m ((c : Thread nD τ).loc main_arg1)) p i (blockRow (rfl : 2 * 512 = 1024) q b) := by
  unfold Value.step2 k0_pay2 share
  pointwise
  refine congrArg _ (Finset.sum_congr rfl fun k _ => ?_)
  congr 1 <;> blk_ext [iblk, V, blockRow, index t]

/-- The plain backward pass. -/
def plain (p : FVec Ideal S16384x2048 .bf16) (dx : FVec Ideal S16384x1024 .f32) : FVec Ideal S2048x1024 .f32 :=
  transpose S2048x1024 [1, 0] (Host.dotGeneral Cert.Reference7Ideal.dot_S16384x1024_S16384x2048_S1024x2048_0_0_1_1_n_n none
    dx (extf (F := Ideal) .f32 p Cert.Reference7Ideal.Gen.bitsLt_bf16_f32)) transposes_S1024x2048_S2048x1024_1_0

/-- What the launch leaves. -/
theorem final : Value.G2 m c = plain (m ((c : Thread nD τ).loc main_arg0)) (m ((c : Thread nD τ).loc main_arg1)) := by
  funext y
  obtain ⟨i, j, rfl⟩ := exists_ix2 (a := 2048) (b := 1024) y
  refine (whole (n := 7) rfl rfl rfl N_0 _ _ (k0_pay1 (F := Ideal)) _ _ _ _ _ (fun _ _ => rfl) ?_ (fun _ => rfl) (fun _ => ⟨rfl, rfl⟩) (step_at m c) i j).trans ?_
  · intro i j; unfold k0_pay1; pointwise
  · pointwise [plain]; exact (weight_comm _ _ i j).symm

end Cert.WG.WideOutput
end
-- ==== Proof.Branch.lean ====
/- The output projection of a layer: the kernel that adds the gated product to the trunk, and the kernel that takes a gradient of the trunk
   back through gate and weight, each block of rows by itself. At the extended reals they are the plain products, for the layers with
   1024 inputs (`Square`) and for the gated DeltaNet layer with 2048 (`Wide`). -/
module

public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Blocks
public import Idealize.ShloMosaic.Lib.Pipeline.ValueKit.Point

@[expose] public section

noncomputable section

open Idealize.ShloMosaic Idealize.ShloMosaic.TcCoe Idealize.SL.Sem

namespace Cert.Back.Square
open Cert.Kernel8Ideal Cert.Kernel8Ideal.Gen

/-- The gradient past the gate and the weight. -/
def plain (dx : FVec Ideal S16384x1024 .f32) (gate : FVec Ideal S1x1024 .f32) (w : FVec Ideal S1024x1024 .bf16) : FVec Ideal S16384x1024 .bf16 :=
  truncf .bf16 (Host.dotGeneral Cert.Reference8Ideal.dot_S16384x1024_S1024x1024_S16384x1024_1_1_0_0_n_n none
    (mulf (broadcastInDim S16384x1024 ![0, 1] Cert.Reference8Ideal.Gen.bcast_S1x1024_S16384x1024_0_1 gate) dx) (extf .f32 w Cert.Reference8Ideal.Gen.bitsLt_bf16_f32)) Cert.Reference8Ideal.Gen.bitsLt_bf16_f32

/-- Point `t` takes row block `t`; the gate and the weight are read whole. -/
theorem index : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- What the launch leaves. -/
theorem final (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ := exists_ix2 (a := 1024) (b := 1024) y
  pointwise [k0_pay1, plain]
  refine Finset.sum_congr (M := EReal) rfl fun x _ => congrArg₂ (α := EReal) (β := EReal) (· * ·) (Eq.trans ?_ (mul_comm _ _)) ?_ <;>
  blk_point [iblk, V, index t]

end Cert.Back.Square

namespace Cert.Back.Wide
open Cert.Kernel9Ideal Cert.Kernel9Ideal.Gen

/-- The gradient past the gate and the weight. -/
def plain (dx : FVec Ideal S16384x1024 .f32) (gate : FVec Ideal S1x1024 .f32) (w : FVec Ideal S2048x1024 .bf16) : FVec Ideal S16384x2048 .bf16 :=
  truncf .bf16 (Host.dotGeneral Cert.Reference9Ideal.dot_S16384x1024_S2048x1024_S16384x2048_1_1_0_0_n_n none
    (mulf (broadcastInDim S16384x1024 ![0, 1] Cert.Reference9Ideal.Gen.bcast_S1x1024_S16384x1024_0_1 gate) dx) (extf .f32 w Cert.Reference9Ideal.Gen.bitsLt_bf16_f32)) Cert.Reference9Ideal.Gen.bitsLt_bf16_f32

/-- Point `2 t + s` takes row block `t` and column block `s` of the weight. -/
theorem index : ∀ t : Fin cfg0.N, win0_0.index t = ![t.val / 2, 0] ∧ win0_1.index t = ![0, 0] ∧ win0_2.index t = ![0, t.val % 2] ∧ win0_3.index t = ![t.val / 2, t.val % 2] :=
  (by decide +kernel : ∀ t : Fin grid0.N, win0_0.index t = ![t.val / 2, 0] ∧ win0_1.index t = ![0, 0] ∧ win0_2.index t = ![0, t.val % 2] ∧ win0_3.index t = ![t.val / 2, t.val % 2])

/-- What the launch leaves. -/
theorem final (m : (ℓ : Loc nD τ sig) → Buf (Elt Ideal) ℓ) (c : Dev nD) :
    (dats m 0 c).arrAt 3 cfg0.N = plain (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ := exists_ix2 (a := 1024) (b := 1024) y
  pointwise [k0_pay1, plain]
  refine Finset.sum_congr (M := EReal) rfl fun x _ => congrArg₂ (α := EReal) (β := EReal) (· * ·) (Eq.trans ?_ (mul_comm _ _)) ?_ <;>
  blk_point [iblk, V, index t]

end Cert.Back.Wide

namespace Cert.Out.Square
open Cert.Kernel10Ideal Cert.Kernel10Ideal.Gen

/-- The trunk after the layer. -/
def plain (p : FVec Ideal S16384x1024 .bf16) (w : FVec Ideal S1024x1024 .bf16) (x : FVec Ideal S16384x1024 .f32) (gate : FVec Ideal S1x1024 .f32) : FVec Ideal S16384x1024 .f32 :=
  addf x (mulf (broadcastInDim S16384x1024 ![0, 1] Cert.Reference10Ideal.Gen.bcast_S1x1024_S16384x1024_0_1 gate)
    (Host.dotGeneral Cert.Reference10Ideal.dot_S16384x1024_S1024x1024_S16384x1024_1_0_0_1_n_n none (extf .f32 p Cert.Reference10Ideal.Gen.bitsLt_bf16_f32) (extf .f32 w Cert.Reference10Ideal.Gen.bitsLt_bf16_f32)))

/-- Point `t` takes row block `t`; the gate and the weight are read whole. -/
theorem index : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0])

/-- What the launch leaves. -/
theorem final (m : (ℓ : Loc nD τ sig) → Buf (Elt Ideal) ℓ) (c : Dev nD) :
    (dats m 0 c).arrAt 4 cfg0.N = plain (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ := exists_ix2 (a := 1024) (b := 1024) y
  pointwise [k0_pay1, plain]
  blk_point [iblk, V, index t]

end Cert.Out.Square

namespace Cert.Out.Wide
open Cert.Kernel11Ideal Cert.Kernel11Ideal.Gen

/-- The trunk after the layer. -/
def plain (p : FVec Ideal S16384x2048 .bf16) (w : FVec Ideal S2048x1024 .bf16) (x : FVec Ideal S16384x1024 .f32) (gate : FVec Ideal S1x1024 .f32) : FVec Ideal S16384x1024 .f32 :=
  addf x (mulf (broadcastInDim S16384x1024 ![0, 1] Cert.Reference11Ideal.Gen.bcast_S1x1024_S16384x1024_0_1 gate)
    (Host.dotGeneral Cert.Reference11Ideal.dot_S16384x2048_S2048x1024_S16384x1024_1_0_0_1_n_n none (extf .f32 p Cert.Reference11Ideal.Gen.bitsLt_bf16_f32) (extf .f32 w Cert.Reference11Ideal.Gen.bitsLt_bf16_f32)))

/-- Point `t` takes row block `t`; the gate and the weight are read whole. -/
theorem index : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0])

/-- What the launch leaves. -/
theorem final (m : (ℓ : Loc nD τ sig) → Buf (Elt Ideal) ℓ) (c : Dev nD) :
    (dats m 0 c).arrAt 4 cfg0.N = plain (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ := exists_ix2 (a := 1024) (b := 1024) y
  pointwise [k0_pay1, plain]
  blk_point [iblk, V, index t]

end Cert.Out.Wide
end
-- ==== Proof.Kept.lean ====
/- A result that a grid stores at some of its points and leaves alone at the points between: what its buffer holds there. And two
   rules by which a body's effect, stated of buffers, becomes what the launch asks of it at a point. -/
module

public import Idealize.ShloMosaic.Lib.Pipeline.Frame
public import proofs.«01_k».proof.Defs

@[expose] public section

noncomputable section

namespace Cert.Kept
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : Nat} {τ : Topo} {sig : RefSig} {Val : EltTy → Type} {Λ₀ : Labels} {Ix : Type} [DecidableEq Ix] {Name : Type} [DecidableEq Name]
  {U : Type} [URA U] {Lvl : Type} {cfg : Cfg sig Λ₀} {c : Dev nD} (dat : Dat τ Val Ix Name U Lvl cfg c)

/-- The point before. -/
abbrev prior (t : Fin cfg.N) : Fin cfg.N := ⟨t.val - 1, Nat.lt_of_le_of_lt (Nat.sub_le _ _) t.isLt⟩

/-- An uncut buffer, after the body, is as the body left it. -/
theorem kept_whole (w : Fin cfg.W) (t : Fin cfg.N) (d) (hc : ∀ (i : cfg.grid.Coords) a, (cfg.win w).clip i a = none) : dat.kept w t d = dat.after w t := by
  unfold Dat.kept
  rw [Pipeline.fill_of_clip_none w _ (hc _) d (dat.after w t), Pipeline.Window.fill_cut]

/-- An argument's block that is not fetched anew is the block of the point before. -/
theorem block_prior (w : Fin cfg.W) (ho : (cfg.win w).isOut = false) (hc : ∀ (i : cfg.grid.Coords) a, (cfg.win w).clip i a = none)
    (hl : ∀ i, cfg.idle w i = false) (X : (t : Fin cfg.N) → (cfg.win w).block.Idx → Val (cfg.win w).elt)
    (ha : ∀ t, dat.after w t = X t) (hb : ∀ t d, dat.before w t d = X t) (t : Fin cfg.N) (hf : (cfg.win w).fetch t = false) : X t = X (prior t) :=
  (hb t (X t)).symm.trans ((dat.before_unfetched_in w ho t hf hl _).trans ((kept_whole dat w _ _ hc).trans (ha _)))

/-- A result stored at the points that open a block, and no others: at the others its buffer holds what the opening point stored, if
    that is what they would store. -/
theorem rests (w : Fin cfg.W) (ho : (cfg.win w).isOut = true) (hc : ∀ (i : cfg.grid.Coords) a, (cfg.win w).clip i a = none)
    (opens : Fin cfg.N → Prop) (h0 : ∀ t : Fin cfg.N, t.val = 0 → opens t)
    (live : ∀ t, opens t → cfg.idle w (cfg.grid.coords t) = false) (idle : ∀ t, ¬ opens t → cfg.idle w (cfg.grid.coords t) = true)
    (hfl : ∀ t, ¬ opens t → (cfg.win w).flush (prior t) = false) (same : ∀ t, ¬ opens t → dat.after w t = dat.after w (prior t)) (d) :
    ∀ (n : ℕ) (t : Fin cfg.N), t.val = n → ¬ opens t → dat.before w t d = dat.after w t
  | 0, t, ht, h => absurd (h0 t ht) h
  | n + 1, t, ht, h => by
    rw [dat.before_of_pos w t (by omega) ((cfg.win w).fetch_out ho t), hfl t h, if_neg Bool.false_ne_true, same t h]
    by_cases hp : opens (prior t)
    · unfold Dat.left
      rw [live _ hp]
      exact kept_whole dat w _ _ hc
    · unfold Dat.left
      rw [idle _ hp]
      exact rests w ho hc opens h0 live idle hfl same d n (prior t) (by show t.val - 1 = n; omega) hp

/-- So its buffer is left as the launch asks at every point. -/
theorem leaves (w : Fin cfg.W) (opens : Fin cfg.N → Prop) (t : Fin cfg.N) (hl : cfg.loose w = false)
    (live : opens t → cfg.idle w (cfg.grid.coords t) = false)
    (hb : ¬ opens t → ∀ d, dat.before w t d = dat.after w t) :
    (owns (c : Thread nD τ) ((cfg.win w).stage (cfg.slots t w)) fullShare (dat.after w t) : sProp (MT nD τ sig Ix Val Name U Lvl)) ⊢ dat.leavesExact w t := by
  unfold Dat.leavesExact
  by_cases h : opens t
  · rw [live h]
  · cases hi : cfg.idle w (cfg.grid.coords t)
    · exact .rfl
    · cases hf : (cfg.win w).flush t
      · simp only [hb h]
        iintro H; iexists (dat.after w t); iexact H
      · exact .rfl

variable {M : Type} [URA M] {α₀ α₁ α₂ α₃ α₄ α₅ α₆ : Type} {Φ O A₀ A₁ A₂ A₃ A₄ C₅ C₆ B₅ B₆ L₆ K W : sProp M} {A₅ : α₅ → sProp M} {A₆ : α₆ → sProp M}

/-- A point whose body reads five arguments and stores two results. -/
theorem stores_both (h : iprop(A₀ ∗ A₁ ∗ A₂ ∗ A₃ ∗ A₄ ∗ C₅ ∗ C₆ ∗ (iprop(A₀ ∗ A₁ ∗ A₂ ∗ A₃ ∗ A₄ ∗ B₅ ∗ B₆) -∗ K)) ⊢ W)
    (h5 : ∀ d, A₅ d ⊢ C₅) (h6 : ∀ d, A₆ d ⊢ C₆) (hk : iprop(Φ ∗ O ∗ A₀ ∗ A₁ ∗ A₂ ∗ A₃ ∗ A₄ ∗ B₅ ∗ L₆) ⊢ K) (hl : B₆ ⊢ L₆) :
    iprop(Φ ∗ O ∗ (∃ _ : α₀, A₀) ∗ (∃ _ : α₁, A₁) ∗ (∃ _ : α₂, A₂) ∗ (∃ _ : α₃, A₃) ∗ (∃ _ : α₄, A₄) ∗ (∃ d, A₅ d) ∗ (∃ d, A₆ d)) ⊢ W := by
  iintro ⟨HΦ, HO, ⟨%d0, H0⟩, ⟨%d1, H1⟩, ⟨%d2, H2⟩, ⟨%d3, H3⟩, ⟨%d4, H4⟩, ⟨%d5, H5⟩, ⟨%d6, H6⟩⟩
  iapply h
  isplitl [H0]; · iexact H0
  isplitl [H1]; · iexact H1
  isplitl [H2]; · iexact H2
  isplitl [H3]; · iexact H3
  isplitl [H4]; · iexact H4
  isplitl [H5]; · iapply (h5 d5); iexact H5
  isplitl [H6]; · iapply (h6 d6); iexact H6
  iintro ⟨H0, H1, H2, H3, H4, H5, H6⟩
  iapply hk
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iapply hl; iexact H6

/-- A point whose body reads the fifth argument and the second result, and stores the first. -/
theorem stores_first (h : iprop(A₄ ∗ C₅ ∗ B₆ ∗ (iprop(A₄ ∗ B₅ ∗ B₆) -∗ K)) ⊢ W)
    (h5 : ∀ d, A₅ d ⊢ C₅) (h6 : ∀ d, A₆ d ⊢ B₆) (hk : iprop(Φ ∗ O ∗ A₀ ∗ A₁ ∗ A₂ ∗ A₃ ∗ A₄ ∗ B₅ ∗ L₆) ⊢ K) (hl : B₆ ⊢ L₆) :
    iprop(Φ ∗ O ∗ (∃ _ : α₀, A₀) ∗ (∃ _ : α₁, A₁) ∗ (∃ _ : α₂, A₂) ∗ (∃ _ : α₃, A₃) ∗ (∃ _ : α₄, A₄) ∗ (∃ d, A₅ d) ∗ (∃ d, A₆ d)) ⊢ W := by
  iintro ⟨HΦ, HO, ⟨%d0, H0⟩, ⟨%d1, H1⟩, ⟨%d2, H2⟩, ⟨%d3, H3⟩, ⟨%d4, H4⟩, ⟨%d5, H5⟩, ⟨%d6, H6⟩⟩
  iapply h
  isplitl [H4]; · iexact H4
  isplitl [H5]; · iapply (h5 d5); iexact H5
  isplitl [H6]; · iapply (h6 d6); iexact H6
  iintro ⟨H4, H5, H6⟩
  iapply hk
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iapply hl; iexact H6

end Cert.Kept
end
-- ==== Proof.ForwardFrame.lean ====
/- The forward norm and input projection of the layer with 4096 projected features: a run of the launch, block by block. A row block is
   normalized at its first column block, kept in the second result's buffer, and read back there at each later one. -/
module

public import proofs.«01_k».proof.Proof.Gen.Kernel14.Frame
public import proofs.«01_k».proof.Proof.Gen.Kernel14.Skeleton
public import proofs.«01_k».proof.Proof.Gen.Kernel14Ideal.Frame
public import proofs.«01_k».proof.Proof.Gen.Kernel14Ideal.Skeleton
public import proofs.«01_k».proof.Proof.Gen.Reference14Ideal.Run
public import proofs.«01_k».proof.Proof.Kept
public import Idealize.ShloMosaic.Lib.Claim
public import proofs.«01_k».proof.Defs

@[expose] public section

set_option maxRecDepth 16384

noncomputable section

namespace Cert.Forward.Recurrent
open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Assertions of a run of this launch. -/
abbrev Held (F : FTy → Type) [FloatOps F] := sProp (MT nD τ sig Unit (Elt F) ℕ (UR sig nD τ) ℕ)

/-- A whole square block, and a whole row of parameters. -/
abbrev square : Rect S1024x1024 := Rect.unit (s := S1024x1024) ![0, 0] S1024x1024.size inb_S1024x1024_S1024x1024_0_0
abbrev single : Rect S1x1024 := Rect.unit (s := S1x1024) ![0, 0] S1x1024.size inb_S1x1024_S1x1024_0_0

/-- The normalized rows, from the rows of the trunk and the three parameter rows. -/
def normed (x : Vec F S1024x1024 .f32) (g scale shift : Vec F S1x1024 .f32) : Vec F S1024x1024 .bf16 :=
  View.canon [⟨square, k0_pay1 (View.ld x square) (View.ld g single) (View.ld scale single) (View.ld shift single)⟩]

/-- The projected rows, from normalized ones and a column block of the weight. -/
def projected (h : Vec F S1024x1024 .bf16) (w : Vec F S1024x1024 .bf16) : Vec F S1024x1024 .f32 :=
  View.canon [⟨square, k0_pay2 (View.ld h square) (View.ld w square)⟩]

/-- One store of a whole block fills it. -/
theorem filled {e : EltTy} (p : Vec F S1024x1024 e) (y : S1024x1024.Idx) :
    ∃ pc ∈ ([⟨square, p⟩] : List (View.Piece (Elt F) S1024x1024 e)), y ∈ pc.1.set :=
  View.cover_of_tiled [⟨square, p⟩] S1024x1024.size (by rfl) y

set_option maxHeartbeats 1000000 in
/-- The body at a row block's first column block: it normalizes the rows, keeps them, and projects them. -/
theorem first (c : Dev nD) (E : Set ℕ) (i : grid0.Coords) (hc : k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x1024 .bf16) (hf : f.IsWhole) (u : Memref sig .tc .vmem S1024x1024 .f32) (hu : u.IsWhole)
    (h : Memref sig .tc .vmem S1024x1024 .bf16) (hh : h.IsWhole)
    (x : Vec F S1024x1024 .f32) (g scale shift : Vec F S1x1024 .f32) (w : Vec F S1024x1024 .bf16) (K : PUnit → Held F) :
    iprop(owns (c : Thread nD τ) a fullShare x ∗ owns (c : Thread nD τ) b fullShare g ∗ owns (c : Thread nD τ) d fullShare scale
        ∗ owns (c : Thread nD τ) e fullShare shift ∗ owns (c : Thread nD τ) f fullShare w
        ∗ (∃ z, owns (c : Thread nD τ) u fullShare z) ∗ (∃ z, owns (c : Thread nD τ) h fullShare z)
        ∗ (iprop(owns (c : Thread nD τ) a fullShare x ∗ owns (c : Thread nD τ) b fullShare g ∗ owns (c : Thread nD τ) d fullShare scale
            ∗ owns (c : Thread nD τ) e fullShare shift ∗ owns (c : Thread nD τ) f fullShare w
            ∗ owns (c : Thread nD τ) u fullShare (projected (normed x g scale shift) w)
            ∗ owns (c : Thread nD τ) h fullShare (normed x g scale shift)) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f0, %h0, H0⟩, ⟨%f1, %h1, H1⟩, ⟨%f2, %h2, H2⟩, ⟨%f3, %h3, H3⟩, ⟨%f4, %h4, H4⟩, ⟨%z5, %f5, -, H5⟩, ⟨%z6, %f6, -, H6⟩, Hk⟩
  subst h0 h1 h2 h3 h4
  sl_exec (disch := sl_exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (View.read_writes_eq_canon _ _ _ (filled _)).trans ?_
    unfold first.sl.v3 first.sl.H6_1
    rw [View.readCov_eq_canon']
    rfl
  · iexists _; isplitr
    swap; · iexact H6
    ipureintro
    exact View.read_writes_eq_canon _ _ _ (filled _)

set_option maxHeartbeats 1000000 in
/-- The body at a later column block: it projects the rows kept. -/
theorem later (c : Dev nD) (E : Set ℕ) (i : grid0.Coords) (hc : ¬ k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x1024 .bf16) (hf : f.IsWhole) (u : Memref sig .tc .vmem S1024x1024 .f32) (hu : u.IsWhole)
    (h : Memref sig .tc .vmem S1024x1024 .bf16) (hh : h.IsWhole)
    (w : Vec F S1024x1024 .bf16) (y : Vec F S1024x1024 .bf16) (K : PUnit → Held F) :
    iprop(owns (c : Thread nD τ) f fullShare w ∗ (∃ z, owns (c : Thread nD τ) u fullShare z) ∗ owns (c : Thread nD τ) h fullShare y
        ∗ (iprop(owns (c : Thread nD τ) f fullShare w ∗ owns (c : Thread nD τ) u fullShare (projected y w)
            ∗ owns (c : Thread nD τ) h fullShare y) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f4, %h4, H4⟩, ⟨%z5, %f5, -, H5⟩, ⟨%f6, %h6, H6⟩, Hk⟩
  subst h4 h6
  sl_exec (disch := sl_exact hc)
  sl_step
  iapply Hk
  isplitl [H4]; · iexists f4; isplitr; · ipureintro; rfl
                  iexact H4
  isplitl [H5]
  · iexists _; isplitr
    swap; · iexact H5
    ipureintro
    exact View.read_writes_eq_canon _ _ _ (filled _)
  · iexists f6; isplitr; · ipureintro; rfl
    iexact H6

variable (m : (ℓ : Loc nD τ sig) → Buf (Elt F) ℓ) (ρ : Dev nD → PrngReg)

/-- The normalized rows at point `t`. -/
abbrev kept (c : Dev nD) (t : Fin cfg0.N) : Vec F S1024x1024 .bf16 := normed (iblk m c 0 t) (iblk m c 1 t) (iblk m c 2 t) (iblk m c 3 t)

/-- What each buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => projected (kept m c t) (iblk m c 4 t)
    | ⟨6, _⟩ => kept m c t
  Φ _ := Pipeline.ΦA spec0 c
  q _ := fullShare
  owed _ := 0

theorem start (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = projected (kept m c t) (iblk m c 4 t) := by dsimp only [dats]
theorem after6 (c : Dev nD) (t : Fin cfg0.N) : (dats m 0 c).after 6 t = kept m c t := by dsimp only [dats]

theorem before0 (c : Dev nD) (t : Fin cfg0.N) (d) : (dats m 0 c).before 0 t d = iblk m c 0 t := before0_0_of m (dats m 0 c) (start m c 0) (after0 m c) t d
theorem before1 (c : Dev nD) (t : Fin cfg0.N) (d) : (dats m 0 c).before 1 t d = iblk m c 1 t := before0_1_of m (dats m 0 c) (start m c 1) (after1 m c) t d
theorem before2 (c : Dev nD) (t : Fin cfg0.N) (d) : (dats m 0 c).before 2 t d = iblk m c 2 t := before0_2_of m (dats m 0 c) (start m c 2) (after2 m c) t d
theorem before3 (c : Dev nD) (t : Fin cfg0.N) (d) : (dats m 0 c).before 3 t d = iblk m c 3 t := before0_3_of m (dats m 0 c) (start m c 3) (after3 m c) t d
theorem before4 (c : Dev nD) (t : Fin cfg0.N) (d) : (dats m 0 c).before 4 t d = iblk m c 4 t := before0_4_of m (dats m 0 c) (start m c 4) (after4 m c) t d

/-- Whether a point opens a row block: its second coordinate is zero. -/
theorem opens : ∀ t : Fin cfg0.N, k0_cond1 (grid0.coords t) = 1#1 ↔ (cfg0.win 0).fetch t = true :=
  (by decide +kernel : ∀ t : Fin grid0.N, k0_cond1 (grid0.coords t) = 1#1 ↔ win0_0.fetch t = true)
theorem closed (t : Fin cfg0.N) (h : ¬ k0_cond1 (grid0.coords t) = 1#1) : (cfg0.win 0).fetch t = false := Bool.eq_false_iff.mpr fun h' => h ((opens t).mpr h')

/-- At a point that opens none, no parameter row is fetched, and the point before did not write the normalized rows back. -/
theorem between : ∀ t : Fin cfg0.N, (cfg0.win 0).fetch t = false → (cfg0.win 1).fetch t = false ∧ (cfg0.win 2).fetch t = false ∧ (cfg0.win 3).fetch t = false
      ∧ (cfg0.win 6).flush (Kept.prior t) = false :=
  (by decide +kernel : ∀ t : Fin grid0.N, win0_0.fetch t = false → win0_1.fetch t = false ∧ win0_2.fetch t = false ∧ win0_3.fetch t = false
      ∧ win0_6.flush ⟨t.val - 1, Nat.lt_of_le_of_lt (Nat.sub_le _ _) t.isLt⟩ = false)

/-- So it would normalize to the same rows as the one before. -/
theorem kept_prior (c : Dev nD) (t : Fin cfg0.N) (h : (cfg0.win 0).fetch t = false) : kept m c t = kept m c (Kept.prior t) := by
  obtain ⟨k1, k2, k3, -⟩ := between t h
  have e0 := Kept.block_prior (dats m 0 c) 0 rfl (fun _ _ => rfl) (fun _ => rfl) (fun t => iblk m c 0 t) (after0 m c) (before0 m c) t h
  have e1 := Kept.block_prior (dats m 0 c) 1 rfl (fun _ _ => rfl) (fun _ => rfl) (fun t => iblk m c 1 t) (after1 m c) (before1 m c) t k1
  have e2 := Kept.block_prior (dats m 0 c) 2 rfl (fun _ _ => rfl) (fun _ => rfl) (fun t => iblk m c 2 t) (after2 m c) (before2 m c) t k2
  have e3 := Kept.block_prior (dats m 0 c) 3 rfl (fun _ _ => rfl) (fun _ => rfl) (fun t => iblk m c 3 t) (after3 m c) (before3 m c) t k3
  dsimp only at e0 e1 e2 e3
  unfold kept
  rw [e0, e1, e2, e3]

/-- The second result's buffer is written at the points that open a row block, and at no other. -/
theorem lives (t : Fin cfg0.N) (h : k0_cond1 (grid0.coords t) = 1#1) : cfg0.idle 6 (cfg0.grid.coords t) = false := by
  show (!(k0_cond1 (grid0.coords t) == 1#1)) = false
  rw [h]; rfl
theorem idles (t : Fin cfg0.N) (h : ¬ k0_cond1 (grid0.coords t) = 1#1) : cfg0.idle 6 (cfg0.grid.coords t) = true := by
  show (!(k0_cond1 (grid0.coords t) == 1#1)) = true
  rw [beq_false_of_ne h]; rfl

/-- At the others it holds the rows normalized when the block was opened. -/
theorem before6 (c : Dev nD) (t : Fin cfg0.N) (h : ¬ k0_cond1 (grid0.coords t) = 1#1) (d) : (dats m 0 c).before 6 t d = kept m c t :=
  (Kept.rests (dats m 0 c) 6 rfl (fun _ _ => rfl) (fun t => k0_cond1 (grid0.coords t) = 1#1)
    (fun t ht => by rw [Fin.ext (a := t) (b := ⟨0, by decide⟩) ht]; decide +kernel) lives idles (fun t h => (between t (closed t h)).2.2.2)
    (fun t h => by rw [after6, after6]; exact kept_prior m c t (closed t h)) d t.val t rfl h).trans (after6 m c t)

/-- What the body starts from at point `t`, buffer by buffer. -/
def given (c : Dev nD) (t : Fin cfg0.N) : Held F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves there. -/
def left (c : Dev nD) (t : Fin cfg0.N) : Held F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The second result's buffer at the normalized rows is what a point is to leave, whichever it is. -/
theorem leaves6 (c : Dev nD) (t : Fin cfg0.N) : (owns (c : Thread nD τ) (st0_6 t) fullShare (kept m c t) : Held F) ⊢ (dats m 0 c).leavesExact 6 t := by
  rw [← after6 m c t]
  exact Kept.leaves (dats m 0 c) 6 (fun t => k0_cond1 (grid0.coords t) = 1#1) t rfl (lives t) fun h d => (before6 m c t h d).trans (after6 m c t).symm

/-- The body at any point. -/
theorem at_point (c : Dev nD) (t : Fin cfg0.N) :
    given m c t ⊢ wp frame (wpE (defs₀ (F := F)) Variants.none c none) Set.univ (bodyAt0 t) (fun _ => left m c t) := by
  have hk : left m c t ⊢ left m c t := .rfl
  conv at hk => lhs; unfold left
  rw [show (dats m 0 c).Φ t.succ = (dats m 0 c).Φ t.castSucc from rfl,
    show (dats m 0 c).owesAt () t.succ = (dats m 0 c).owesAt () t.castSucc from rfl, after0, after1, after2, after3, after4, after5] at hk
  unfold given bodyAt0
  simp only [before0, before1, before2, before3, before4]
  by_cases h : k0_cond1 (grid0.coords t) = 1#1
  · exact Kept.stores_both (first c Set.univ (grid0.coords t) h _ _ _ _ _ _ _ _ _ _ _ _ _ _ (iblk m c 0 t) (iblk m c 1 t) (iblk m c 2 t) (iblk m c 3 t) (iblk m c 4 t) _)
      (fun d => by iintro H; iexists _; iexact H) (fun d => by iintro H; iexists _; iexact H) hk (leaves6 m c t)
  · exact Kept.stores_first (later c Set.univ (grid0.coords t) h _ _ _ _ _ _ _ _ _ _ _ _ _ _ (iblk m c 4 t) (kept m c t) _)
      (fun d => by iintro H; iexists _; iexact H) (fun d => by rw [before6 m c t h d]) hk (leaves6 m c t)

/-- The table's row at a point is the body there. -/
theorem row (t : Fin cfg0.N) : defs₀ (F := F) .tc cfg0.body (cfg0.bodyArgs t (cfg0.slots t)) = bodyAt0 t := by
  unfold defs₀; rw [Defs.onTc_tc]

/-- So the body does at every point what the launch asks of it. -/
theorem every_point (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
set_option maxHeartbeats 800000 in
/-- The run: each array ends as the points leave it, and every counter at zero. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := start m) (hΦ := fun _ _ => rfl)

/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (start m) ((θ_run defs _ _).mono (fun _ h => h.1) (runs m ρ))) ((θ_run defs _ _).mono (fun _ h => h.2) (runs m ρ))

end Cert.Forward.Recurrent

namespace Cert.Forward.Recurrent.Printed
open Cert.Kernel14
open Idealize.ShloMosaic Idealize.ShloMosaic.TcCoe Idealize.SL.Sem

variable {F : FTy → Type} [FloatOps F]

/-- The program as printed has the same body, -/
theorem same_body : cc0_ln_mm (F := F) = Cert.Kernel14Ideal.cc0_ln_mm (F := F) := rfl

/-- so the same table of bodies, -/
theorem same_bodies : defs₀ (F := F) = Cert.Kernel14Ideal.defs₀ (F := F) := by
  unfold defs₀ Cert.Kernel14Ideal.defs₀
  refine congrArg Defs.onTc ?_
  funext l a
  match l, a with
  | 0, (t, s) => dsimp only; rw [same_body]; rfl

/-- and the same table of calls. -/
theorem same_calls : defs (F := F) = Cert.Kernel14Ideal.defs (F := F) := congrArg (Pipeline.defs pcfgs) same_bodies

/-- So its run ends the same. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [same_calls]
  exact Cert.Forward.Recurrent.framed m ρ

end Cert.Forward.Recurrent.Printed
-- ==== Proof.Forward.lean ====
/- The scaled, shifted norm of the trunk and its first projection, for a recurrent layer: what the launch leaves, over the extended
   reals, is the plain norm and the plain product with the weight. -/
module

public import proofs.«01_k».proof.Proof.ForwardFrame
public import proofs.«01_k».proof.Proof.NormSpec
public import Idealize.ShloMosaic.Lib.Pipeline.ValueKit.Point

@[expose] public section

set_option maxRecDepth 100000

noncomputable section

open Idealize.ShloMosaic Idealize.ShloMosaic.TcCoe Idealize.SL.Sem

namespace Cert.Forward
open Cert.LN (Row nrm rs ms rowOf)

/-- A row of the trunk normalised, times the gain, scaled and shifted. -/
def sent (x g scale shift : Row) (j : Fin 1024) : EReal := nrm x j * g j * (1 + scale j) + shift j

end Cert.Forward

namespace Cert.Forward.Recurrent
open Cert.LN (Row nrm rs ms rowOf)

/-! ## The plain forward pass -/

open Cert.Reference14Ideal Cert.Reference14Ideal.Gen

/-- The normalized, scaled, shifted trunk, and its product with the weight. -/
def rows (x : FVec Ideal S16384x1024 .f32) (g scale shift : FVec Ideal S1x1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32)))))) (broadcastInDim S16384x1024 ![0, 1] bcast_S1x1024_S16384x1024_0_1 g))
    (broadcastInDim S16384x1024 ![0, 1] bcast_S1x1024_S16384x1024_0_1 (addf (broadcastInDim S1x1024 ![] bcast_S_S1x1024 (constant S_ .f32 0x3F800000#32)) scale)))
    (broadcastInDim S16384x1024 ![0, 1] bcast_S1x1024_S16384x1024_0_1 shift)
def product (x : FVec Ideal S16384x1024 .f32) (g scale shift : FVec Ideal S1x1024 .f32) (w : FVec Ideal S1024x4096 .bf16) : FVec Ideal S16384x4096 .f32 :=
  Host.dotGeneral dot_S16384x1024_S1024x4096_S16384x4096_1_0_0_1_n_n none (rows x g scale shift) (extf .f32 w bitsLt_bf16_f32)

variable (x : FVec Ideal S16384x1024 .f32) (g scale shift : FVec Ideal S1x1024 .f32) (w : FVec Ideal S1024x4096 .bf16)

theorem rows_at (i : Fin 16384) (j : Fin 1024) : rows x g scale shift (ix2 i j) = sent (rowOf x i) (rowOf g 0) (rowOf scale 0) (rowOf shift 0) j := by
  unfold rows
  pointwise
  rfl
theorem product_at (i : Fin 16384) (j : Fin 4096) :
    product x g scale shift w (ix2 i j) = ∑ k : Fin 1024, (sent (rowOf x i) (rowOf g 0) (rowOf scale 0) (rowOf shift 0) k * w (ix2 k j) : EReal) := by
  unfold product
  pointwise
  exact Finset.sum_congr (M := EReal) rfl fun k _ => congrArg₂ (α := EReal) (β := EReal) (· * ·) (rows_at x g scale shift i k) rfl

end Cert.Forward.Recurrent

namespace Cert.Forward.Recurrent
open Cert.Kernel14Ideal Cert.Kernel14Ideal.Gen
open Cert.LN (Row nrm rs ms rowOf)

/-! ## A visit -/

/-- The rows a visit normalizes. -/
theorem normed_at (x : FVec Ideal S1024x1024 .f32) (g scale shift : FVec Ideal S1x1024 .f32) (i j : Fin 1024) :
    normed (F := Ideal) x g scale shift (ix2 i j) = sent (rowOf x i) (rowOf g 0) (rowOf scale 0) (rowOf shift 0) j := by
  unfold normed
  frame_out
  unfold k0_pay1; dsimp only
  pointwise
  rfl

/-- The rows it projects. -/
theorem projected_at (h w : FVec Ideal S1024x1024 .bf16) (i j : Fin 1024) :
    projected (F := Ideal) h w (ix2 i j) = ∑ k : Fin 1024, (h (ix2 i k) * w (ix2 k j) : EReal) := by
  unfold projected
  frame_out
  pointwise [k0_pay2]

/-! ## What the launch leaves -/

variable (m : (ℓ : Loc nD τ sig) → Buf (Elt Ideal) ℓ)

/-- Point `4 t + s` takes row block `t` and column block `s` of the weight. -/
theorem index : ∀ t : Fin cfg0.N, win0_0.index t = ![t.val / 4, 0] ∧ win0_1.index t = ![0, 0] ∧ win0_2.index t = ![0, 0] ∧ win0_3.index t = ![0, 0]
      ∧ win0_4.index t = ![0, t.val % 4] ∧ win0_5.index t = ![t.val / 4, t.val % 4] ∧ win0_6.index t = ![t.val / 4, 0] :=
  (by decide +kernel : ∀ t : Fin grid0.N, win0_0.index t = ![t.val / 4, 0] ∧ win0_1.index t = ![0, 0] ∧ win0_2.index t = ![0, 0] ∧ win0_3.index t = ![0, 0]
      ∧ win0_4.index t = ![0, t.val % 4] ∧ win0_5.index t = ![t.val / 4, t.val % 4] ∧ win0_6.index t = ![t.val / 4, 0])

/-- The row block of a point, as one of the 16, and its column block, as one of the 4. -/
def rowTurn (t : Fin cfg0.N) : Fin 16 := ⟨t.val / 4, Nat.div_lt_of_lt_mul (lt_of_lt_of_eq t.isLt N_0)⟩
def colTurn (t : Fin cfg0.N) : Fin 4 := ⟨t.val % 4, Nat.mod_lt _ (by decide)⟩

/-- The normalized rows at a point are the plain ones of its row block. -/
theorem kept_at (c : Dev nD) (t : Fin cfg0.N) (i j : Fin 1024) :
    kept m c t (ix2 i j) = sent (rowOf (φ := .f32) (m ((c : Thread nD τ).loc main_arg0)) (blockRow (rfl : 16 * 1024 = 16384) (rowTurn t) i))
      (rowOf (φ := .f32) (m ((c : Thread nD τ).loc main_arg1)) (0 : Fin 1)) (rowOf (φ := .f32) (m ((c : Thread nD τ).loc main_arg2)) (0 : Fin 1))
      (rowOf (φ := .f32) (m ((c : Thread nD τ).loc main_arg3)) (0 : Fin 1)) j := by
  refine (normed_at _ _ _ _ i j).trans ?_
  congr 1 <;> funext k <;> unfold rowOf <;> blk_ext [iblk, V, blockRow, rowTurn, index t]

/-- So the second result is the plain one. -/
theorem final6 (c : Dev nD) : (dats m 0 c).arrAt 6 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after6]
  obtain ⟨r, j, rfl⟩ := exists_ix2 (a := 1024) (b := 1024) y
  refine (kept_at m c t r j).trans ((rows_at (m ((c : Thread nD τ).loc main_arg0)) (m ((c : Thread nD τ).loc main_arg1)) (m ((c : Thread nD τ).loc main_arg2)) (m ((c : Thread nD τ).loc main_arg3))
    (blockRow (rfl : 16 * 1024 = 16384) (rowTurn t) r) j).symm.trans ?_)
  congr 1
  blk_ext [blockRow, rowTurn, index t]

/-- And the first. -/
theorem final5 (c : Dev nD) : (dats m 0 c).arrAt 5 cfg0.N = product (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after5]
  obtain ⟨r, j, rfl⟩ := exists_ix2 (a := 1024) (b := 1024) y
  refine (projected_at _ _ r j).trans (Eq.trans ?_ ((product_at (m ((c : Thread nD τ).loc main_arg0)) (m ((c : Thread nD τ).loc main_arg1)) (m ((c : Thread nD τ).loc main_arg2)) (m ((c : Thread nD τ).loc main_arg3))
    (m ((c : Thread nD τ).loc main_arg4)) (blockRow (rfl : 16 * 1024 = 16384) (rowTurn t) r)
    (blockRow (rfl : 4 * 1024 = 4096) (colTurn t) j)).symm.trans ?_))
  · refine Finset.sum_congr (M := EReal) rfl fun k _ => congrArg₂ (α := EReal) (β := EReal) (· * ·) (kept_at m c t r k) ?_
    blk_ext [iblk, V, blockRow, colTurn, index t]
  · congr 1
    blk_ext [blockRow, rowTurn, colTurn, index t]

/-- The run, with the results it leaves. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 5, (h.1.1 c).1 6, h.2.1 c⟩) (θ_run_and (runs m ρ) (framed m ρ))

end Cert.Forward.Recurrent
end
-- ==== Proof.ForwardDelta.lean ====
/- The forward norm and input projection of the gated DeltaNet layer, with 6272 projected features in column blocks of 896: a run of the
   launch, and what it leaves. The normalized rows are those of the recurrent layers. -/
module

public import proofs.«01_k».proof.Proof.Gen.Kernel15.Frame
public import proofs.«01_k».proof.Proof.Gen.Kernel15.Skeleton
public import proofs.«01_k».proof.Proof.Gen.Kernel15Ideal.Frame
public import proofs.«01_k».proof.Proof.Gen.Kernel15Ideal.Skeleton
public import proofs.«01_k».proof.Proof.Gen.Reference15Ideal.Run
public import proofs.«01_k».proof.Proof.Forward

@[expose] public section

set_option maxRecDepth 100000

noncomputable section

namespace Cert.Forward.Delta
open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Forward.Recurrent (normed square filled)

variable {F : FTy → Type} [FloatOps F]

/-- Assertions of a run of this launch. -/
abbrev Held (F : FTy → Type) [FloatOps F] := sProp (MT nD τ sig Unit (Elt F) ℕ (UR sig nD τ) ℕ)

/-- A whole column block of the weight, or of the projected rows. -/
abbrev column : Rect S1024x896 := Rect.unit (s := S1024x896) ![0, 0] S1024x896.size inb_S1024x896_S1024x896_0_0

/-- The projected rows, from normalized ones and a column block of the weight. -/
def projected (h : Vec F S1024x1024 .bf16) (w : Vec F S1024x896 .bf16) : Vec F S1024x896 .f32 :=
  View.canon [⟨column, k0_pay2 (View.ld h square) (View.ld w column)⟩]

/-- One store of a whole column block fills it. -/
theorem filled_column {e : EltTy} (p : Vec F S1024x896 e) (y : S1024x896.Idx) :
    ∃ pc ∈ ([⟨column, p⟩] : List (View.Piece (Elt F) S1024x896 e)), y ∈ pc.1.set :=
  View.cover_of_tiled [⟨column, p⟩] S1024x896.size (by rfl) y

set_option maxHeartbeats 1000000 in
/-- The body at a row block's first column block: it normalizes the rows, keeps them, and projects them. -/
theorem first (c : Dev nD) (E : Set ℕ) (i : grid0.Coords) (hc : k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x896 .bf16) (hf : f.IsWhole) (u : Memref sig .tc .vmem S1024x896 .f32) (hu : u.IsWhole)
    (h : Memref sig .tc .vmem S1024x1024 .bf16) (hh : h.IsWhole)
    (x : Vec F S1024x1024 .f32) (g scale shift : Vec F S1x1024 .f32) (w : Vec F S1024x896 .bf16) (K : PUnit → Held F) :
    iprop(owns (c : Thread nD τ) a fullShare x ∗ owns (c : Thread nD τ) b fullShare g ∗ owns (c : Thread nD τ) d fullShare scale
        ∗ owns (c : Thread nD τ) e fullShare shift ∗ owns (c : Thread nD τ) f fullShare w
        ∗ (∃ z, owns (c : Thread nD τ) u fullShare z) ∗ (∃ z, owns (c : Thread nD τ) h fullShare z)
        ∗ (iprop(owns (c : Thread nD τ) a fullShare x ∗ owns (c : Thread nD τ) b fullShare g ∗ owns (c : Thread nD τ) d fullShare scale
            ∗ owns (c : Thread nD τ) e fullShare shift ∗ owns (c : Thread nD τ) f fullShare w
            ∗ owns (c : Thread nD τ) u fullShare (projected (normed x g scale shift) w)
            ∗ owns (c : Thread nD τ) h fullShare (normed x g scale shift)) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f0, %h0, H0⟩, ⟨%f1, %h1, H1⟩, ⟨%f2, %h2, H2⟩, ⟨%f3, %h3, H3⟩, ⟨%f4, %h4, H4⟩, ⟨%z5, %f5, -, H5⟩, ⟨%z6, %f6, -, H6⟩, Hk⟩
  subst h0 h1 h2 h3 h4
  sl_exec (disch := sl_exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (View.read_writes_eq_canon _ _ _ (filled_column _)).trans ?_
    unfold first.sl.v3 first.sl.H6_1
    rw [View.readCov_eq_canon']
    rfl
  · iexists _; isplitr
    swap; · iexact H6
    ipureintro
    exact View.read_writes_eq_canon _ _ _ (filled _)

set_option maxHeartbeats 1000000 in
/-- The body at a later column block: it projects the rows kept. -/
theorem later (c : Dev nD) (E : Set ℕ) (i : grid0.Coords) (hc : ¬ k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x896 .bf16) (hf : f.IsWhole) (u : Memref sig .tc .vmem S1024x896 .f32) (hu : u.IsWhole)
    (h : Memref sig .tc .vmem S1024x1024 .bf16) (hh : h.IsWhole)
    (w : Vec F S1024x896 .bf16) (y : Vec F S1024x1024 .bf16) (K : PUnit → Held F) :
    iprop(owns (c : Thread nD τ) f fullShare w ∗ (∃ z, owns (c : Thread nD τ) u fullShare z) ∗ owns (c : Thread nD τ) h fullShare y
        ∗ (iprop(owns (c : Thread nD τ) f fullShare w ∗ owns (c : Thread nD τ) u fullShare (projected y w)
            ∗ owns (c : Thread nD τ) h fullShare y) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f4, %h4, H4⟩, ⟨%z5, %f5, -, H5⟩, ⟨%f6, %h6, H6⟩, Hk⟩
  subst h4 h6
  sl_exec (disch := sl_exact hc)
  sl_step
  iapply Hk
  isplitl [H4]; · iexists f4; isplitr; · ipureintro; rfl
                  iexact H4
  isplitl [H5]
  · iexists _; isplitr
    swap; · iexact H5
    ipureintro
    exact View.read_writes_eq_canon _ _ _ (filled_column _)
  · iexists f6; isplitr; · ipureintro; rfl
    iexact H6

variable (m : (ℓ : Loc nD τ sig) → Buf (Elt F) ℓ) (ρ : Dev nD → PrngReg)

/-- The normalized rows at point `t`. -/
abbrev kept (c : Dev nD) (t : Fin cfg0.N) : Vec F S1024x1024 .bf16 := normed (iblk m c 0 t) (iblk m c 1 t) (iblk m c 2 t) (iblk m c 3 t)

/-- What each buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => projected (kept m c t) (iblk m c 4 t)
    | ⟨6, _⟩ => kept m c t
  Φ _ := Pipeline.ΦA spec0 c
  q _ := fullShare
  owed _ := 0

theorem start (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = projected (kept m c t) (iblk m c 4 t) := by dsimp only [dats]
theorem after6 (c : Dev nD) (t : Fin cfg0.N) : (dats m 0 c).after 6 t = kept m c t := by dsimp only [dats]

theorem before0 (c : Dev nD) (t : Fin cfg0.N) (d) : (dats m 0 c).before 0 t d = iblk m c 0 t := before0_0_of m (dats m 0 c) (start m c 0) (after0 m c) t d
theorem before1 (c : Dev nD) (t : Fin cfg0.N) (d) : (dats m 0 c).before 1 t d = iblk m c 1 t := before0_1_of m (dats m 0 c) (start m c 1) (after1 m c) t d
theorem before2 (c : Dev nD) (t : Fin cfg0.N) (d) : (dats m 0 c).before 2 t d = iblk m c 2 t := before0_2_of m (dats m 0 c) (start m c 2) (after2 m c) t d
theorem before3 (c : Dev nD) (t : Fin cfg0.N) (d) : (dats m 0 c).before 3 t d = iblk m c 3 t := before0_3_of m (dats m 0 c) (start m c 3) (after3 m c) t d
theorem before4 (c : Dev nD) (t : Fin cfg0.N) (d) : (dats m 0 c).before 4 t d = iblk m c 4 t := before0_4_of m (dats m 0 c) (start m c 4) (after4 m c) t d

/-- Whether a point opens a row block. -/
theorem opens : ∀ t : Fin cfg0.N, k0_cond1 (grid0.coords t) = 1#1 ↔ (cfg0.win 0).fetch t = true :=
  (by decide +kernel : ∀ t : Fin grid0.N, k0_cond1 (grid0.coords t) = 1#1 ↔ win0_0.fetch t = true)
theorem closed (t : Fin cfg0.N) (h : ¬ k0_cond1 (grid0.coords t) = 1#1) : (cfg0.win 0).fetch t = false := Bool.eq_false_iff.mpr fun h' => h ((opens t).mpr h')

/-- At a point that opens none, no parameter row is fetched, and the point before did not write the normalized rows back. -/
theorem between : ∀ t : Fin cfg0.N, (cfg0.win 0).fetch t = false → (cfg0.win 1).fetch t = false ∧ (cfg0.win 2).fetch t = false ∧ (cfg0.win 3).fetch t = false
      ∧ (cfg0.win 6).flush (Kept.prior t) = false :=
  (by decide +kernel : ∀ t : Fin grid0.N, win0_0.fetch t = false → win0_1.fetch t = false ∧ win0_2.fetch t = false ∧ win0_3.fetch t = false
      ∧ win0_6.flush ⟨t.val - 1, Nat.lt_of_le_of_lt (Nat.sub_le _ _) t.isLt⟩ = false)

/-- So it would normalize to the same rows as the one before. -/
theorem kept_prior (c : Dev nD) (t : Fin cfg0.N) (h : (cfg0.win 0).fetch t = false) : kept m c t = kept m c (Kept.prior t) := by
  obtain ⟨k1, k2, k3, -⟩ := between t h
  have e0 := Kept.block_prior (dats m 0 c) 0 rfl (fun _ _ => rfl) (fun _ => rfl) (fun t => iblk m c 0 t) (after0 m c) (before0 m c) t h
  have e1 := Kept.block_prior (dats m 0 c) 1 rfl (fun _ _ => rfl) (fun _ => rfl) (fun t => iblk m c 1 t) (after1 m c) (before1 m c) t k1
  have e2 := Kept.block_prior (dats m 0 c) 2 rfl (fun _ _ => rfl) (fun _ => rfl) (fun t => iblk m c 2 t) (after2 m c) (before2 m c) t k2
  have e3 := Kept.block_prior (dats m 0 c) 3 rfl (fun _ _ => rfl) (fun _ => rfl) (fun t => iblk m c 3 t) (after3 m c) (before3 m c) t k3
  dsimp only at e0 e1 e2 e3
  unfold kept
  rw [e0, e1, e2, e3]

/-- The second result's buffer is written at the points that open a row block, and at no other. -/
theorem lives (t : Fin cfg0.N) (h : k0_cond1 (grid0.coords t) = 1#1) : cfg0.idle 6 (cfg0.grid.coords t) = false := by
  show (!(k0_cond1 (grid0.coords t) == 1#1)) = false
  rw [h]; rfl
theorem idles (t : Fin cfg0.N) (h : ¬ k0_cond1 (grid0.coords t) = 1#1) : cfg0.idle 6 (cfg0.grid.coords t) = true := by
  show (!(k0_cond1 (grid0.coords t) == 1#1)) = true
  rw [beq_false_of_ne h]; rfl

/-- At the others it holds the rows normalized when the block was opened. -/
theorem before6 (c : Dev nD) (t : Fin cfg0.N) (h : ¬ k0_cond1 (grid0.coords t) = 1#1) (d) : (dats m 0 c).before 6 t d = kept m c t :=
  (Kept.rests (dats m 0 c) 6 rfl (fun _ _ => rfl) (fun t => k0_cond1 (grid0.coords t) = 1#1)
    (fun t ht => by rw [Fin.ext (a := t) (b := ⟨0, by decide⟩) ht]; decide +kernel) lives idles (fun t h => (between t (closed t h)).2.2.2)
    (fun t h => by rw [after6, after6]; exact kept_prior m c t (closed t h)) d t.val t rfl h).trans (after6 m c t)

/-- What the body starts from at point `t`, buffer by buffer. -/
def given (c : Dev nD) (t : Fin cfg0.N) : Held F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves there. -/
def left (c : Dev nD) (t : Fin cfg0.N) : Held F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The second result's buffer at the normalized rows is what a point is to leave, whichever it is. -/
theorem leaves6 (c : Dev nD) (t : Fin cfg0.N) : (owns (c : Thread nD τ) (st0_6 t) fullShare (kept m c t) : Held F) ⊢ (dats m 0 c).leavesExact 6 t := by
  rw [← after6 m c t]
  exact Kept.leaves (dats m 0 c) 6 (fun t => k0_cond1 (grid0.coords t) = 1#1) t rfl (lives t) fun h d => (before6 m c t h d).trans (after6 m c t).symm

/-- The body at any point. -/
theorem at_point (c : Dev nD) (t : Fin cfg0.N) :
    given m c t ⊢ wp frame (wpE (defs₀ (F := F)) Variants.none c none) Set.univ (bodyAt0 t) (fun _ => left m c t) := by
  have hk : left m c t ⊢ left m c t := .rfl
  conv at hk => lhs; unfold left
  rw [show (dats m 0 c).Φ t.succ = (dats m 0 c).Φ t.castSucc from rfl,
    show (dats m 0 c).owesAt () t.succ = (dats m 0 c).owesAt () t.castSucc from rfl, after0, after1, after2, after3, after4, after5] at hk
  unfold given bodyAt0
  simp only [before0, before1, before2, before3, before4]
  by_cases h : k0_cond1 (grid0.coords t) = 1#1
  · exact Kept.stores_both (first c Set.univ (grid0.coords t) h _ _ _ _ _ _ _ _ _ _ _ _ _ _ (iblk m c 0 t) (iblk m c 1 t) (iblk m c 2 t) (iblk m c 3 t) (iblk m c 4 t) _)
      (fun d => by iintro H; iexists _; iexact H) (fun d => by iintro H; iexists _; iexact H) hk (leaves6 m c t)
  · exact Kept.stores_first (later c Set.univ (grid0.coords t) h _ _ _ _ _ _ _ _ _ _ _ _ _ _ (iblk m c 4 t) (kept m c t) _)
      (fun d => by iintro H; iexists _; iexact H) (fun d => by rw [before6 m c t h d]) hk (leaves6 m c t)

/-- The table's row at a point is the body there. -/
theorem row (t : Fin cfg0.N) : defs₀ (F := F) .tc cfg0.body (cfg0.bodyArgs t (cfg0.slots t)) = bodyAt0 t := by
  unfold defs₀; rw [Defs.onTc_tc]

/-- So the body does at every point what the launch asks of it. -/
theorem every_point (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
set_option maxHeartbeats 800000 in
/-- The run: each array ends as the points leave it, and every counter at zero. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := start m) (hΦ := fun _ _ => rfl)

/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (start m) ((θ_run defs _ _).mono (fun _ h => h.1) (runs m ρ))) ((θ_run defs _ _).mono (fun _ h => h.2) (runs m ρ))

end Cert.Forward.Delta

namespace Cert.Forward.Delta.Printed
open Cert.Kernel15
open Idealize.ShloMosaic Idealize.ShloMosaic.TcCoe Idealize.SL.Sem

variable {F : FTy → Type} [FloatOps F]

/-- The program as printed has the same body, -/
theorem same_body : cc0_ln_mm (F := F) = Cert.Kernel15Ideal.cc0_ln_mm (F := F) := rfl

/-- so the same table of bodies, -/
theorem same_bodies : defs₀ (F := F) = Cert.Kernel15Ideal.defs₀ (F := F) := by
  unfold defs₀ Cert.Kernel15Ideal.defs₀
  refine congrArg Defs.onTc ?_
  funext l a
  match l, a with
  | 0, (t, s) => dsimp only; rw [same_body]; rfl

/-- and the same table of calls. -/
theorem same_calls : defs (F := F) = Cert.Kernel15Ideal.defs (F := F) := congrArg (Pipeline.defs pcfgs) same_bodies

/-- So its run ends the same. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [same_calls]
  exact Cert.Forward.Delta.framed m ρ

end Cert.Forward.Delta.Printed

namespace Cert.Forward.Delta
open Idealize.ShloMosaic Idealize.ShloMosaic.TcCoe Idealize.SL.Sem
open Cert.LN (rowOf)
open Cert.Forward.Recurrent (normed rows rows_at normed_at)

section Plain
open Cert.Reference15Ideal Cert.Reference15Ideal.Gen

/-- The plain product of the normalized rows with the weight. -/
def product (x : FVec Ideal S16384x1024 .f32) (g scale shift : FVec Ideal S1x1024 .f32) (w : FVec Ideal S1024x6272 .bf16) : FVec Ideal S16384x6272 .f32 :=
  Host.dotGeneral dot_S16384x1024_S1024x6272_S16384x6272_1_0_0_1_n_n none (rows x g scale shift) (extf .f32 w bitsLt_bf16_f32)

theorem product_at (x : FVec Ideal S16384x1024 .f32) (g scale shift : FVec Ideal S1x1024 .f32) (w : FVec Ideal S1024x6272 .bf16) (i : Fin 16384) (j : Fin 6272) :
    product x g scale shift w (ix2 i j) = ∑ k : Fin 1024, (sent (rowOf x i) (rowOf g 0) (rowOf scale 0) (rowOf shift 0) k * w (ix2 k j) : EReal) := by
  unfold product
  pointwise
  exact Finset.sum_congr (M := EReal) rfl fun k _ => congrArg₂ (α := EReal) (β := EReal) (· * ·) (rows_at x g scale shift i k) rfl

end Plain

open Cert.Kernel15Ideal Cert.Kernel15Ideal.Gen

/-- The rows a visit projects. -/
theorem projected_at (h : FVec Ideal S1024x1024 .bf16) (w : FVec Ideal S1024x896 .bf16) (i : Fin 1024) (j : Fin 896) :
    projected (F := Ideal) h w (ix2 i j) = ∑ k : Fin 1024, (h (ix2 i k) * w (ix2 k j) : EReal) := by
  unfold projected
  frame_out
  pointwise [k0_pay2]

variable (m : (ℓ : Loc nD τ sig) → Buf (Elt Ideal) ℓ)

/-- Point `7 t + s` takes row block `t` and column block `s` of the weight. -/
theorem index : ∀ t : Fin cfg0.N, win0_0.index t = ![t.val / 7, 0] ∧ win0_1.index t = ![0, 0] ∧ win0_2.index t = ![0, 0] ∧ win0_3.index t = ![0, 0]
      ∧ win0_4.index t = ![0, t.val % 7] ∧ win0_5.index t = ![t.val / 7, t.val % 7] ∧ win0_6.index t = ![t.val / 7, 0] :=
  (by decide +kernel : ∀ t : Fin grid0.N, win0_0.index t = ![t.val / 7, 0] ∧ win0_1.index t = ![0, 0] ∧ win0_2.index t = ![0, 0] ∧ win0_3.index t = ![0, 0]
      ∧ win0_4.index t = ![0, t.val % 7] ∧ win0_5.index t = ![t.val / 7, t.val % 7] ∧ win0_6.index t = ![t.val / 7, 0])

/-- The row block of a point, as one of the 16, and its column block, as one of the 7. -/
def rowTurn (t : Fin cfg0.N) : Fin 16 := ⟨t.val / 7, Nat.div_lt_of_lt_mul (lt_of_lt_of_eq t.isLt N_0)⟩
def colTurn (t : Fin cfg0.N) : Fin 7 := ⟨t.val % 7, Nat.mod_lt _ (by decide)⟩

/-- The normalized rows at a point are the plain ones of its row block. -/
theorem kept_at (c : Dev nD) (t : Fin cfg0.N) (i j : Fin 1024) :
    kept m c t (ix2 i j) = sent (rowOf (φ := .f32) (m ((c : Thread nD τ).loc main_arg0)) (blockRow (rfl : 16 * 1024 = 16384) (rowTurn t) i))
      (rowOf (φ := .f32) (m ((c : Thread nD τ).loc main_arg1)) (0 : Fin 1)) (rowOf (φ := .f32) (m ((c : Thread nD τ).loc main_arg2)) (0 : Fin 1))
      (rowOf (φ := .f32) (m ((c : Thread nD τ).loc main_arg3)) (0 : Fin 1)) j := by
  refine (normed_at _ _ _ _ i j).trans ?_
  congr 1 <;> funext k <;> unfold rowOf <;> blk_ext [iblk, V, blockRow, rowTurn, index t]

/-- So the second result is the plain one. -/
theorem final6 (c : Dev nD) : (dats m 0 c).arrAt 6 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after6]
  obtain ⟨r, j, rfl⟩ := exists_ix2 (a := 1024) (b := 1024) y
  refine (kept_at m c t r j).trans ((rows_at (m ((c : Thread nD τ).loc main_arg0)) (m ((c : Thread nD τ).loc main_arg1)) (m ((c : Thread nD τ).loc main_arg2)) (m ((c : Thread nD τ).loc main_arg3))
    (blockRow (rfl : 16 * 1024 = 16384) (rowTurn t) r) j).symm.trans ?_)
  congr 1
  blk_ext [blockRow, rowTurn, index t]

/-- And the first. -/
theorem final5 (c : Dev nD) : (dats m 0 c).arrAt 5 cfg0.N = product (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after5]
  obtain ⟨r, j, rfl⟩ := exists_ix2 (a := 1024) (b := 896) y
  refine (projected_at _ _ r j).trans (Eq.trans ?_ ((product_at (m ((c : Thread nD τ).loc main_arg0)) (m ((c : Thread nD τ).loc main_arg1)) (m ((c : Thread nD τ).loc main_arg2)) (m ((c : Thread nD τ).loc main_arg3))
    (m ((c : Thread nD τ).loc main_arg4)) (blockRow (rfl : 16 * 1024 = 16384) (rowTurn t) r) (blockRow (rfl : 7 * 896 = 6272) (colTurn t) j)).symm.trans ?_))
  · refine Finset.sum_congr (M := EReal) rfl fun k _ => congrArg₂ (α := EReal) (β := EReal) (· * ·) (kept_at m c t r k) ?_
    blk_ext [iblk, V, blockRow, colTurn, index t]
  · congr 1
    blk_ext [blockRow, rowTurn, colTurn, index t]

/-- The run, with the results it leaves. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 5, (h.1.1 c).1 6, h.2.1 c⟩) (θ_run_and (runs m ρ) (framed m ρ))

end Cert.Forward.Delta
end
-- ==== Proof.ForwardWindow.lean ====
/- The forward norm and input projection of the sliding-window layer, with 2560 projected features in two column blocks of 1280: a run of
   the launch, and what it leaves. The normalized rows are those of the recurrent layers. -/
module

public import proofs.«01_k».proof.Proof.Gen.Kernel16.Frame
public import proofs.«01_k».proof.Proof.Gen.Kernel16.Skeleton
public import proofs.«01_k».proof.Proof.Gen.Kernel16Ideal.Frame
public import proofs.«01_k».proof.Proof.Gen.Kernel16Ideal.Skeleton
public import proofs.«01_k».proof.Proof.Gen.Reference16Ideal.Run
public import proofs.«01_k».proof.Proof.Forward

@[expose] public section

set_option maxRecDepth 100000

noncomputable section

namespace Cert.Forward.Window
open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Forward.Recurrent (normed square filled)

variable {F : FTy → Type} [FloatOps F]

/-- Assertions of a run of this launch. -/
abbrev Held (F : FTy → Type) [FloatOps F] := sProp (MT nD τ sig Unit (Elt F) ℕ (UR sig nD τ) ℕ)

/-- A whole column block of the weight, or of the projected rows. -/
abbrev column : Rect S1024x1280 := Rect.unit (s := S1024x1280) ![0, 0] S1024x1280.size inb_S1024x1280_S1024x1280_0_0

/-- The projected rows, from normalized ones and a column block of the weight. -/
def projected (h : Vec F S1024x1024 .bf16) (w : Vec F S1024x1280 .bf16) : Vec F S1024x1280 .f32 :=
  View.canon [⟨column, k0_pay2 (View.ld h square) (View.ld w column)⟩]

/-- One store of a whole column block fills it. -/
theorem filled_column {e : EltTy} (p : Vec F S1024x1280 e) (y : S1024x1280.Idx) :
    ∃ pc ∈ ([⟨column, p⟩] : List (View.Piece (Elt F) S1024x1280 e)), y ∈ pc.1.set :=
  View.cover_of_tiled [⟨column, p⟩] S1024x1280.size (by rfl) y

set_option maxHeartbeats 1000000 in
/-- The body at a row block's first column block: it normalizes the rows, keeps them, and projects them. -/
theorem first (c : Dev nD) (E : Set ℕ) (i : grid0.Coords) (hc : k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x1280 .bf16) (hf : f.IsWhole) (u : Memref sig .tc .vmem S1024x1280 .f32) (hu : u.IsWhole)
    (h : Memref sig .tc .vmem S1024x1024 .bf16) (hh : h.IsWhole)
    (x : Vec F S1024x1024 .f32) (g scale shift : Vec F S1x1024 .f32) (w : Vec F S1024x1280 .bf16) (K : PUnit → Held F) :
    iprop(owns (c : Thread nD τ) a fullShare x ∗ owns (c : Thread nD τ) b fullShare g ∗ owns (c : Thread nD τ) d fullShare scale
        ∗ owns (c : Thread nD τ) e fullShare shift ∗ owns (c : Thread nD τ) f fullShare w
        ∗ (∃ z, owns (c : Thread nD τ) u fullShare z) ∗ (∃ z, owns (c : Thread nD τ) h fullShare z)
        ∗ (iprop(owns (c : Thread nD τ) a fullShare x ∗ owns (c : Thread nD τ) b fullShare g ∗ owns (c : Thread nD τ) d fullShare scale
            ∗ owns (c : Thread nD τ) e fullShare shift ∗ owns (c : Thread nD τ) f fullShare w
            ∗ owns (c : Thread nD τ) u fullShare (projected (normed x g scale shift) w)
            ∗ owns (c : Thread nD τ) h fullShare (normed x g scale shift)) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f0, %h0, H0⟩, ⟨%f1, %h1, H1⟩, ⟨%f2, %h2, H2⟩, ⟨%f3, %h3, H3⟩, ⟨%f4, %h4, H4⟩, ⟨%z5, %f5, -, H5⟩, ⟨%z6, %f6, -, H6⟩, Hk⟩
  subst h0 h1 h2 h3 h4
  sl_exec (disch := sl_exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    refine (View.read_writes_eq_canon _ _ _ (filled_column _)).trans ?_
    unfold first.sl.v3 first.sl.H6_1
    rw [View.readCov_eq_canon']
    rfl
  · iexists _; isplitr
    swap; · iexact H6
    ipureintro
    exact View.read_writes_eq_canon _ _ _ (filled _)

set_option maxHeartbeats 1000000 in
/-- The body at the second column block: it projects the rows kept. -/
theorem later (c : Dev nD) (E : Set ℕ) (i : grid0.Coords) (hc : ¬ k0_cond1 i = 1#1)
    (a : Memref sig .tc .vmem S1024x1024 .f32) (ha : a.IsWhole) (b : Memref sig .tc .vmem S1x1024 .f32) (hb : b.IsWhole)
    (d : Memref sig .tc .vmem S1x1024 .f32) (hd : d.IsWhole) (e : Memref sig .tc .vmem S1x1024 .f32) (he : e.IsWhole)
    (f : Memref sig .tc .vmem S1024x1280 .bf16) (hf : f.IsWhole) (u : Memref sig .tc .vmem S1024x1280 .f32) (hu : u.IsWhole)
    (h : Memref sig .tc .vmem S1024x1024 .bf16) (hh : h.IsWhole)
    (w : Vec F S1024x1280 .bf16) (y : Vec F S1024x1024 .bf16) (K : PUnit → Held F) :
    iprop(owns (c : Thread nD τ) f fullShare w ∗ (∃ z, owns (c : Thread nD τ) u fullShare z) ∗ owns (c : Thread nD τ) h fullShare y
        ∗ (iprop(owns (c : Thread nD τ) f fullShare w ∗ owns (c : Thread nD τ) u fullShare (projected y w)
            ∗ owns (c : Thread nD τ) h fullShare y) -∗ K ⟨⟩))
      ⊢ wp frame (wpE (defs₀ (F := F)) Variants.none c none) E (cc0_ln_mm i a ha b hb d hd e he f hf u hu h hh) K := by
  simp only [cc0_ln_mm_eq_skeleton]; unfold cc0_ln_mm_skel
  unfold owns
  iintro ⟨⟨%f4, %h4, H4⟩, ⟨%z5, %f5, -, H5⟩, ⟨%f6, %h6, H6⟩, Hk⟩
  subst h4 h6
  sl_exec (disch := sl_exact hc)
  sl_step
  iapply Hk
  isplitl [H4]; · iexists f4; isplitr; · ipureintro; rfl
                  iexact H4
  isplitl [H5]
  · iexists _; isplitr
    swap; · iexact H5
    ipureintro
    exact View.read_writes_eq_canon _ _ _ (filled_column _)
  · iexists f6; isplitr; · ipureintro; rfl
    iexact H6

variable (m : (ℓ : Loc nD τ sig) → Buf (Elt F) ℓ) (ρ : Dev nD → PrngReg)

/-- The normalized rows at point `t`. -/
abbrev kept (c : Dev nD) (t : Fin cfg0.N) : Vec F S1024x1024 .bf16 := normed (iblk m c 0 t) (iblk m c 1 t) (iblk m c 2 t) (iblk m c 3 t)

/-- What each buffer holds after point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => projected (kept m c t) (iblk m c 4 t)
    | ⟨6, _⟩ => kept m c t
  Φ _ := Pipeline.ΦA spec0 c
  q _ := fullShare
  owed _ := 0

theorem start (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = projected (kept m c t) (iblk m c 4 t) := by dsimp only [dats]
theorem after6 (c : Dev nD) (t : Fin cfg0.N) : (dats m 0 c).after 6 t = kept m c t := by dsimp only [dats]

theorem before0 (c : Dev nD) (t : Fin cfg0.N) (d) : (dats m 0 c).before 0 t d = iblk m c 0 t := before0_0_of m (dats m 0 c) (start m c 0) (after0 m c) t d
theorem before1 (c : Dev nD) (t : Fin cfg0.N) (d) : (dats m 0 c).before 1 t d = iblk m c 1 t := before0_1_of m (dats m 0 c) (start m c 1) (after1 m c) t d
theorem before2 (c : Dev nD) (t : Fin cfg0.N) (d) : (dats m 0 c).before 2 t d = iblk m c 2 t := before0_2_of m (dats m 0 c) (start m c 2) (after2 m c) t d
theorem before3 (c : Dev nD) (t : Fin cfg0.N) (d) : (dats m 0 c).before 3 t d = iblk m c 3 t := before0_3_of m (dats m 0 c) (start m c 3) (after3 m c) t d
theorem before4 (c : Dev nD) (t : Fin cfg0.N) (d) : (dats m 0 c).before 4 t d = iblk m c 4 t := before0_4_of m (dats m 0 c) (start m c 4) (after4 m c) t d

/-- A point opens a row block when its column block is the first; then and only then rows are fetched. -/
theorem opens : ∀ t : Fin cfg0.N, k0_cond1 (grid0.coords t) = 1#1 ↔ (cfg0.win 0).fetch t = true :=
  (by decide +kernel : ∀ t : Fin grid0.N, k0_cond1 (grid0.coords t) = 1#1 ↔ win0_0.fetch t = true)
theorem closed (t : Fin cfg0.N) (h : ¬ k0_cond1 (grid0.coords t) = 1#1) : (cfg0.win 0).fetch t = false := Bool.eq_false_iff.mpr fun h' => h ((opens t).mpr h')

/-- At the second column block no parameter row is fetched, and the first did not write the normalized rows back. -/
theorem between : ∀ t : Fin cfg0.N, (cfg0.win 0).fetch t = false → (cfg0.win 1).fetch t = false ∧ (cfg0.win 2).fetch t = false ∧ (cfg0.win 3).fetch t = false
      ∧ (cfg0.win 6).flush (Kept.prior t) = false :=
  (by decide +kernel : ∀ t : Fin grid0.N, win0_0.fetch t = false → win0_1.fetch t = false ∧ win0_2.fetch t = false ∧ win0_3.fetch t = false
      ∧ win0_6.flush ⟨t.val - 1, Nat.lt_of_le_of_lt (Nat.sub_le _ _) t.isLt⟩ = false)

/-- So it would normalize to the same rows. -/
theorem kept_prior (c : Dev nD) (t : Fin cfg0.N) (h : (cfg0.win 0).fetch t = false) : kept m c t = kept m c (Kept.prior t) := by
  obtain ⟨k1, k2, k3, -⟩ := between t h
  have e0 := Kept.block_prior (dats m 0 c) 0 rfl (fun _ _ => rfl) (fun _ => rfl) (fun t => iblk m c 0 t) (after0 m c) (before0 m c) t h
  have e1 := Kept.block_prior (dats m 0 c) 1 rfl (fun _ _ => rfl) (fun _ => rfl) (fun t => iblk m c 1 t) (after1 m c) (before1 m c) t k1
  have e2 := Kept.block_prior (dats m 0 c) 2 rfl (fun _ _ => rfl) (fun _ => rfl) (fun t => iblk m c 2 t) (after2 m c) (before2 m c) t k2
  have e3 := Kept.block_prior (dats m 0 c) 3 rfl (fun _ _ => rfl) (fun _ => rfl) (fun t => iblk m c 3 t) (after3 m c) (before3 m c) t k3
  dsimp only at e0 e1 e2 e3
  unfold kept
  rw [e0, e1, e2, e3]

/-- The second result's buffer is written at the points that open a row block, and at no other. -/
theorem lives (t : Fin cfg0.N) (h : k0_cond1 (grid0.coords t) = 1#1) : cfg0.idle 6 (cfg0.grid.coords t) = false := by
  show (!(k0_cond1 (grid0.coords t) == 1#1)) = false
  rw [h]; rfl
theorem idles (t : Fin cfg0.N) (h : ¬ k0_cond1 (grid0.coords t) = 1#1) : cfg0.idle 6 (cfg0.grid.coords t) = true := by
  show (!(k0_cond1 (grid0.coords t) == 1#1)) = true
  rw [beq_false_of_ne h]; rfl

/-- At the others it holds the rows normalized when the block was opened. -/
theorem before6 (c : Dev nD) (t : Fin cfg0.N) (h : ¬ k0_cond1 (grid0.coords t) = 1#1) (d) : (dats m 0 c).before 6 t d = kept m c t :=
  (Kept.rests (dats m 0 c) 6 rfl (fun _ _ => rfl) (fun t => k0_cond1 (grid0.coords t) = 1#1)
    (fun t ht => by rw [Fin.ext (a := t) (b := ⟨0, by decide⟩) ht]; decide +kernel) lives idles (fun t h => (between t (closed t h)).2.2.2)
    (fun t h => by rw [after6, after6]; exact kept_prior m c t (closed t h)) d t.val t rfl h).trans (after6 m c t)

/-- What the body starts from at point `t`, buffer by buffer. -/
def given (c : Dev nD) (t : Fin cfg0.N) : Held F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body leaves there. -/
def left (c : Dev nD) (t : Fin cfg0.N) : Held F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The second result's buffer at the normalized rows is what a point is to leave, whichever it is. -/
theorem leaves6 (c : Dev nD) (t : Fin cfg0.N) : (owns (c : Thread nD τ) (st0_6 t) fullShare (kept m c t) : Held F) ⊢ (dats m 0 c).leavesExact 6 t := by
  rw [← after6 m c t]
  exact Kept.leaves (dats m 0 c) 6 (fun t => k0_cond1 (grid0.coords t) = 1#1) t rfl (lives t) fun h d => (before6 m c t h d).trans (after6 m c t).symm

/-- The body at any point. -/
theorem at_point (c : Dev nD) (t : Fin cfg0.N) :
    given m c t ⊢ wp frame (wpE (defs₀ (F := F)) Variants.none c none) Set.univ (bodyAt0 t) (fun _ => left m c t) := by
  have hk : left m c t ⊢ left m c t := .rfl
  conv at hk => lhs; unfold left
  rw [show (dats m 0 c).Φ t.succ = (dats m 0 c).Φ t.castSucc from rfl,
    show (dats m 0 c).owesAt () t.succ = (dats m 0 c).owesAt () t.castSucc from rfl, after0, after1, after2, after3, after4, after5] at hk
  unfold given bodyAt0
  simp only [before0, before1, before2, before3, before4]
  by_cases h : k0_cond1 (grid0.coords t) = 1#1
  · exact Kept.stores_both (first c Set.univ (grid0.coords t) h _ _ _ _ _ _ _ _ _ _ _ _ _ _ (iblk m c 0 t) (iblk m c 1 t) (iblk m c 2 t) (iblk m c 3 t) (iblk m c 4 t) _)
      (fun d => by iintro H; iexists _; iexact H) (fun d => by iintro H; iexists _; iexact H) hk (leaves6 m c t)
  · exact Kept.stores_first (later c Set.univ (grid0.coords t) h _ _ _ _ _ _ _ _ _ _ _ _ _ _ (iblk m c 4 t) (kept m c t) _)
      (fun d => by iintro H; iexists _; iexact H) (fun d => by rw [before6 m c t h d]) hk (leaves6 m c t)

/-- The table's row at a point is the body there. -/
theorem row (t : Fin cfg0.N) : defs₀ (F := F) .tc cfg0.body (cfg0.bodyArgs t (cfg0.slots t)) = bodyAt0 t := by
  unfold defs₀; rw [Defs.onTc_tc]

/-- So the body does at every point what the launch asks of it. -/
theorem every_point (c : Dev nD) : BodyObligation (dats (F := F) m 0 c) (defs₀ (F := F)) Variants.none () Set.univ := fun t => by
  rw [bigSep_W0, bigSep_W0, row]
  exact triple_restated (at_point m c t) rfl .rfl fun _ => .rfl

set_option backward.isDefEq.respectTransparency.types false in
set_option maxHeartbeats 800000 in
/-- The run: each array ends as the points leave it, and every counter at zero. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (every_point m c).loose) (hshare := fun c => (dats m 0 c).share_full fun _ => rfl)
    (howed := fun _ _ => rfl) (V := V m) (hmain := hmain m Variants.none) (hA := start m) (hΦ := fun _ _ => rfl)

/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (start m) ((θ_run defs _ _).mono (fun _ h => h.1) (runs m ρ))) ((θ_run defs _ _).mono (fun _ h => h.2) (runs m ρ))

end Cert.Forward.Window

namespace Cert.Forward.Window.Printed
open Cert.Kernel16
open Idealize.ShloMosaic Idealize.ShloMosaic.TcCoe Idealize.SL.Sem

variable {F : FTy → Type} [FloatOps F]

/-- The program as printed has the same body, -/
theorem same_body : cc0_ln_mm (F := F) = Cert.Kernel16Ideal.cc0_ln_mm (F := F) := rfl

/-- so the same table of bodies, -/
theorem same_bodies : defs₀ (F := F) = Cert.Kernel16Ideal.defs₀ (F := F) := by
  unfold defs₀ Cert.Kernel16Ideal.defs₀
  refine congrArg Defs.onTc ?_
  funext l a
  match l, a with
  | 0, (t, s) => dsimp only; rw [same_body]; rfl

/-- and the same table of calls. -/
theorem same_calls : defs (F := F) = Cert.Kernel16Ideal.defs (F := F) := congrArg (Pipeline.defs pcfgs) same_bodies

/-- So its run ends the same. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  rw [same_calls]
  exact Cert.Forward.Window.framed m ρ

end Cert.Forward.Window.Printed

namespace Cert.Forward.Window
open Idealize.ShloMosaic Idealize.ShloMosaic.TcCoe Idealize.SL.Sem
open Cert.LN (rowOf)
open Cert.Forward.Recurrent (normed rows rows_at normed_at)

section Plain
open Cert.Reference16Ideal Cert.Reference16Ideal.Gen

/-- The plain product of the normalized rows with the weight. -/
def product (x : FVec Ideal S16384x1024 .f32) (g scale shift : FVec Ideal S1x1024 .f32) (w : FVec Ideal S1024x2560 .bf16) : FVec Ideal S16384x2560 .f32 :=
  Host.dotGeneral dot_S16384x1024_S1024x2560_S16384x2560_1_0_0_1_n_n none (rows x g scale shift) (extf .f32 w bitsLt_bf16_f32)

theorem product_at (x : FVec Ideal S16384x1024 .f32) (g scale shift : FVec Ideal S1x1024 .f32) (w : FVec Ideal S1024x2560 .bf16) (i : Fin 16384) (j : Fin 2560) :
    product x g scale shift w (ix2 i j) = ∑ k : Fin 1024, (sent (rowOf x i) (rowOf g 0) (rowOf scale 0) (rowOf shift 0) k * w (ix2 k j) : EReal) := by
  unfold product
  pointwise
  exact Finset.sum_congr (M := EReal) rfl fun k _ => congrArg₂ (α := EReal) (β := EReal) (· * ·) (rows_at x g scale shift i k) rfl

end Plain

open Cert.Kernel16Ideal Cert.Kernel16Ideal.Gen

/-- The rows a visit projects. -/
theorem projected_at (h : FVec Ideal S1024x1024 .bf16) (w : FVec Ideal S1024x1280 .bf16) (i : Fin 1024) (j : Fin 1280) :
    projected (F := Ideal) h w (ix2 i j) = ∑ k : Fin 1024, (h (ix2 i k) * w (ix2 k j) : EReal) := by
  unfold projected
  frame_out
  pointwise [k0_pay2]

variable (m : (ℓ : Loc nD τ sig) → Buf (Elt Ideal) ℓ)

/-- Point `2 t + s` takes row block `t` and column block `s` of the weight. -/
theorem index : ∀ t : Fin cfg0.N, win0_0.index t = ![t.val / 2, 0] ∧ win0_1.index t = ![0, 0] ∧ win0_2.index t = ![0, 0] ∧ win0_3.index t = ![0, 0]
      ∧ win0_4.index t = ![0, t.val % 2] ∧ win0_5.index t = ![t.val / 2, t.val % 2] ∧ win0_6.index t = ![t.val / 2, 0] :=
  (by decide +kernel : ∀ t : Fin grid0.N, win0_0.index t = ![t.val / 2, 0] ∧ win0_1.index t = ![0, 0] ∧ win0_2.index t = ![0, 0] ∧ win0_3.index t = ![0, 0]
      ∧ win0_4.index t = ![0, t.val % 2] ∧ win0_5.index t = ![t.val / 2, t.val % 2] ∧ win0_6.index t = ![t.val / 2, 0])

/-- The row block of a point, as one of the 16, and its column block, as one of the two. -/
def rowTurn (t : Fin cfg0.N) : Fin 16 := ⟨t.val / 2, Nat.div_lt_of_lt_mul (lt_of_lt_of_eq t.isLt N_0)⟩
def colTurn (t : Fin cfg0.N) : Fin 2 := ⟨t.val % 2, Nat.mod_lt _ (by decide)⟩

/-- The normalized rows at a point are the plain ones of its row block. -/
theorem kept_at (c : Dev nD) (t : Fin cfg0.N) (i j : Fin 1024) :
    kept m c t (ix2 i j) = sent (rowOf (φ := .f32) (m ((c : Thread nD τ).loc main_arg0)) (blockRow (rfl : 16 * 1024 = 16384) (rowTurn t) i))
      (rowOf (φ := .f32) (m ((c : Thread nD τ).loc main_arg1)) (0 : Fin 1)) (rowOf (φ := .f32) (m ((c : Thread nD τ).loc main_arg2)) (0 : Fin 1))
      (rowOf (φ := .f32) (m ((c : Thread nD τ).loc main_arg3)) (0 : Fin 1)) j := by
  refine (normed_at _ _ _ _ i j).trans ?_
  congr 1 <;> funext k <;> unfold rowOf <;> blk_ext [iblk, V, blockRow, rowTurn, index t]

/-- So the second result is the plain one. -/
theorem final6 (c : Dev nD) : (dats m 0 c).arrAt 6 cfg0.N = rows (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after6]
  obtain ⟨r, j, rfl⟩ := exists_ix2 (a := 1024) (b := 1024) y
  refine (kept_at m c t r j).trans ((rows_at (m ((c : Thread nD τ).loc main_arg0)) (m ((c : Thread nD τ).loc main_arg1)) (m ((c : Thread nD τ).loc main_arg2)) (m ((c : Thread nD τ).loc main_arg3))
    (blockRow (rfl : 16 * 1024 = 16384) (rowTurn t) r) j).symm.trans ?_)
  congr 1
  blk_ext [blockRow, rowTurn, index t]

/-- And the first. -/
theorem final5 (c : Dev nD) : (dats m 0 c).arrAt 5 cfg0.N = product (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after5]
  obtain ⟨r, j, rfl⟩ := exists_ix2 (a := 1024) (b := 1280) y
  refine (projected_at _ _ r j).trans (Eq.trans ?_ ((product_at (m ((c : Thread nD τ).loc main_arg0)) (m ((c : Thread nD τ).loc main_arg1)) (m ((c : Thread nD τ).loc main_arg2)) (m ((c : Thread nD τ).loc main_arg3))
    (m ((c : Thread nD τ).loc main_arg4)) (blockRow (rfl : 16 * 1024 = 16384) (rowTurn t) r) (blockRow (rfl : 2 * 1280 = 2560) (colTurn t) j)).symm.trans ?_))
  · refine Finset.sum_congr (M := EReal) rfl fun k _ => congrArg₂ (α := EReal) (β := EReal) (· * ·) (kept_at m c t r k) ?_
    blk_ext [iblk, V, blockRow, colTurn, index t]
  · congr 1
    blk_ext [blockRow, rowTurn, colTurn, index t]

/-- The run, with the results it leaves. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 5, (h.1.1 c).1 6, h.2.1 c⟩) (θ_run_and (runs m ρ) (framed m ρ))

end Cert.Forward.Window
end
-- ==== Proof.Projections.lean ====
/- The projections: backward, what goes to the rows through the norm, what goes to the weights, and what goes back past the gate; and the
   forward product that is added to the trunk. -/
module

public import proofs.«01_k».proof.Defs
public import proofs.«01_k».proof.Proof.NormDelta
public import proofs.«01_k».proof.Proof.NormWindow
public import proofs.«01_k».proof.Proof.NormRef
public import proofs.«01_k».proof.Proof.Weight
public import proofs.«01_k».proof.Proof.Branch
public import proofs.«01_k».proof.Proof.Forward
public import proofs.«01_k».proof.Proof.ForwardDelta
public import proofs.«01_k».proof.Proof.ForwardWindow
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import Idealize.ShloMosaic.Lib.Quiescent

@[expose] public section

noncomputable section

namespace Cert.Proof

open Idealize.ShloMosaic Idealize.SL.Sem

/-- The plain backward passes end with their arguments unchanged and every counter at zero. -/
theorem reference2_frame : quiescent_Reference2Ideal (hReference2Ideal := Cert.Reference2Ideal.Gen.facts) := fun m ρ _ =>
  (θ_run _ _ _).mono (fun r h => ⟨fun c => (h c).2.2, Idealize.ShloMosaic.sem_eq_zero_of_no_sems (by decide) r.2⟩)
    (Cert.Reference2Ideal.Value.run m ρ)
theorem reference12_frame : quiescent_Reference12Ideal (hReference12Ideal := Cert.Reference12Ideal.Gen.facts) := fun m ρ _ =>
  (θ_run _ _ _).mono (fun r h => ⟨fun c => (h c).2.2, Idealize.ShloMosaic.sem_eq_zero_of_no_sems (by decide) r.2⟩) (Cert.Reference12Ideal.Value.run m ρ)
theorem reference13_frame : quiescent_Reference13Ideal (hReference13Ideal := Cert.Reference13Ideal.Gen.facts) := fun m ρ _ =>
  (θ_run _ _ _).mono (fun r h => ⟨fun c => (h c).2.2, Idealize.ShloMosaic.sem_eq_zero_of_no_sems (by decide) r.2⟩) (Cert.Reference13Ideal.Value.run m ρ)
theorem reference14_frame : quiescent_Reference14Ideal (hReference14Ideal := Cert.Reference14Ideal.Gen.facts) := fun m ρ _ =>
  (θ_run _ _ _).mono (fun r h => ⟨fun c => (h c).2.2, Idealize.ShloMosaic.sem_eq_zero_of_no_sems (by decide) r.2⟩) (Cert.Reference14Ideal.Value.run m ρ)
theorem reference15_frame : quiescent_Reference15Ideal (hReference15Ideal := Cert.Reference15Ideal.Gen.facts) := fun m ρ _ =>
  (θ_run _ _ _).mono (fun r h => ⟨fun c => (h c).2.2, Idealize.ShloMosaic.sem_eq_zero_of_no_sems (by decide) r.2⟩) (Cert.Reference15Ideal.Value.run m ρ)
theorem reference16_frame : quiescent_Reference16Ideal (hReference16Ideal := Cert.Reference16Ideal.Gen.facts) := fun m ρ _ =>
  (θ_run _ _ _).mono (fun r h => ⟨fun c => (h c).2.2, Idealize.ShloMosaic.sem_eq_zero_of_no_sems (by decide) r.2⟩) (Cert.Reference16Ideal.Value.run m ρ)
theorem reference3_frame : quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩) (Cert.Reference3Ideal.Value.run m ρ)
theorem reference4_frame : quiescent_Reference4Ideal (hReference4Ideal := Cert.Reference4Ideal.Gen.facts) := fun m ρ _ =>
  (θ_run _ _ _).mono (fun r h => ⟨fun c => (h c).2, Idealize.ShloMosaic.sem_eq_zero_of_no_sems (by decide) r.2⟩) (Cert.Reference4Ideal.Value.run m ρ)
theorem reference5_frame : quiescent_Reference5Ideal (hReference5Ideal := Cert.Reference5Ideal.Gen.facts) := fun m ρ _ =>
  (θ_run _ _ _).mono (fun r h => ⟨fun c => (h c).2, Idealize.ShloMosaic.sem_eq_zero_of_no_sems (by decide) r.2⟩) (Cert.Reference5Ideal.Value.run m ρ)
theorem reference6_frame : quiescent_Reference6Ideal (hReference6Ideal := Cert.Reference6Ideal.Gen.facts) := fun m ρ _ =>
  (θ_run _ _ _).mono (fun r h => ⟨fun c => (h c).2, Idealize.ShloMosaic.sem_eq_zero_of_no_sems (by decide) r.2⟩) (Cert.Reference6Ideal.Value.run m ρ)
theorem reference7_frame : quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩) (Cert.Reference7Ideal.Value.run m ρ)
theorem reference8_frame : quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩) (Cert.Reference8Ideal.Value.run m ρ)
theorem reference9_frame : quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩) (Cert.Reference9Ideal.Value.run m ρ)
theorem reference10_frame : quiescent_Reference10Ideal (hReference10Ideal := Cert.Reference10Ideal.Gen.facts) := fun m ρ _ =>
  (θ_run _ _ _).mono (fun r h => ⟨fun c => (h c).2, Idealize.ShloMosaic.sem_eq_zero_of_no_sems (by decide) r.2⟩) (Cert.Reference10Ideal.Value.run m ρ)
theorem reference11_frame : quiescent_Reference11Ideal (hReference11Ideal := Cert.Reference11Ideal.Gen.facts) := fun m ρ _ =>
  (θ_run _ _ _).mono (fun r h => ⟨fun c => (h c).2, Idealize.ShloMosaic.sem_eq_zero_of_no_sems (by decide) r.2⟩) (Cert.Reference11Ideal.Value.run m ρ)

open Cert.LN in
/-- Through the norm: the gradient of the rows and of the norm's three vectors are the plain ones. -/
theorem same_rows : algebraic_Kernel2Ideal_Reference2Ideal (hKernel2Ideal := Cert.Kernel2Ideal.Gen.facts)
    (hReference2Ideal := Cert.Reference2Ideal.Gen.facts) := by
  intro m g m' g' _ hag
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N, Cert.Kernel2Ideal.Value.run_blocks m g, ?_⟩
  refine (θ_run _ _ _).mono (fun r h c => ?_) (plain m' g')
  obtain ⟨h0, h1, hr⟩ := h c
  have ea : Arrays.read m' c = given m c := by
    obtain ⟨a0, a1, a2, a3, a4, a5, _⟩ := hag c
    unfold Arrays.read given
    rw [a0, a1, a2, a3, a4, a5]
  refine ⟨h0.trans ?_, h1.trans ?_, hr⟩ <;> rw [ea]
  · exact (given m c).rowsA_eq _ (final7 m c)
  · exact (given m c).sumsA_eq _ (final8 m c)

open Cert.LN Cert.LN.Delta in
/-- The same for the gated DeltaNet layer. -/
theorem same_rows_delta : algebraic_Kernel12Ideal_Reference12Ideal (hKernel12Ideal := Cert.Kernel12Ideal.Gen.facts) (hReference12Ideal := Cert.Reference12Ideal.Gen.facts) := by
  intro m g m' g' _ hag
  refine ⟨fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks m g, ?_⟩
  refine (θ_run _ _ _).mono (fun r h c => ?_) (Cert.Reference12Ideal.Value.run m' g')
  obtain ⟨h0, h1, hr⟩ := h c
  have ea : Delta.read m' c = Delta.given m c := by
    obtain ⟨a0, a1, a2, a3, a4, a5, _⟩ := hag c
    unfold Delta.read Delta.given
    rw [a0, a1, a2, a3, a4, a5]
  refine ⟨(h0.trans (Delta.rows_eq m' c)).trans ?_, (h1.trans (rfl : _ = (Delta.read m' c).sumsA)).trans ?_, hr⟩ <;> rw [ea]
  · exact (Delta.given m c).rowsA_eq _ (Delta.final7 m c)
  · exact (Delta.given m c).sumsA_eq _ (Delta.final8 m c)

open Cert.LN Cert.LN.Window in
/-- The same for the sliding-window layer. -/
theorem same_rows_window : algebraic_Kernel13Ideal_Reference13Ideal (hKernel13Ideal := Cert.Kernel13Ideal.Gen.facts) (hReference13Ideal := Cert.Reference13Ideal.Gen.facts) := by
  intro m g m' g' _ hag
  refine ⟨fun c => (Cert.Kernel13Ideal.Gen.dats m 0 c).arrAt 7 Cert.Kernel13Ideal.cfg0.N,
    fun c => (Cert.Kernel13Ideal.Gen.dats m 0 c).arrAt 8 Cert.Kernel13Ideal.cfg0.N, Cert.Kernel13Ideal.Value.run_blocks m g, ?_⟩
  refine (θ_run _ _ _).mono (fun r h c => ?_) (Cert.Reference13Ideal.Value.run m' g')
  obtain ⟨h0, h1, hr⟩ := h c
  have ea : Window.read m' c = Window.given m c := by
    obtain ⟨a0, a1, a2, a3, a4, a5, _⟩ := hag c
    unfold Window.read Window.given
    rw [a0, a1, a2, a3, a4, a5]
  refine ⟨(h0.trans (Window.rows_eq m' c)).trans ?_, (h1.trans (rfl : _ = (Window.read m' c).sumsA)).trans ?_, hr⟩ <;> rw [ea]
  · exact (Window.given m c).rowsA_eq _ (Window.final7 m c)
  · exact (Window.given m c).sumsA_eq _ (Window.final8 m c)

/-- To the weight: the sum over row blocks is the plain product. -/
theorem same_weight : algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Value.G2 m c, Cert.Kernel3Ideal.Value.run m g, (θ_run _ _ _).mono (fun r h c => ⟨(h c).1.trans ?_, (h c).2⟩) (Cert.Reference3Ideal.Value.run m' g')⟩
  obtain ⟨a0, a1⟩ := hag c
  rw [a0, a1]
  exact (Cert.WG.Recurrent.final m c).symm

/-- The same for the gated DeltaNet layer. -/
theorem same_weight_delta : algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Value.G2 m c, Cert.Kernel4Ideal.Value.run m g, (θ_run _ _ _).mono (fun r h c => ⟨(h c).1.trans ?_, (h c).2⟩) (Cert.Reference4Ideal.Value.run m' g')⟩
  obtain ⟨a0, a1⟩ := hag c
  rw [a0, a1]
  exact (Cert.WG.Delta.final m c).symm

/-- The same for the sliding-window layer. -/
theorem same_weight_window : algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.Value.G2 m c, Cert.Kernel5Ideal.Value.run m g, (θ_run _ _ _).mono (fun r h c => ⟨(h c).1.trans ?_, (h c).2⟩) (Cert.Reference5Ideal.Value.run m' g')⟩
  obtain ⟨a0, a1⟩ := hag c
  rw [a0, a1]
  exact (Cert.WG.Window.final m c).symm

/-- The same for an output weight. -/
theorem same_weight_output : algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Value.G2 m c, Cert.Kernel6Ideal.Value.run m g, (θ_run _ _ _).mono (fun r h c => ⟨(h c).1.trans ?_, (h c).2⟩) (Cert.Reference6Ideal.Value.run m' g')⟩
  obtain ⟨a0, a1⟩ := hag c
  rw [a0, a1]
  exact (Cert.WG.Output.final m c).symm

/-- The same for the wider output weight. -/
theorem same_weight_wide : algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.Value.G2 m c, Cert.Kernel7Ideal.Value.run m g, (θ_run _ _ _).mono (fun r h c => ⟨(h c).1.trans ?_, (h c).2⟩) (Cert.Reference7Ideal.Value.run m' g')⟩
  obtain ⟨a0, a1⟩ := hag c
  rw [a0, a1]
  exact (Cert.WG.WideOutput.final m c).symm

/-- Past the gate and the output weight. -/
theorem same_back : algebraic_Kernel8Ideal_Reference8Ideal (hKernel8Ideal := Cert.Kernel8Ideal.Gen.facts) (hReference8Ideal := Cert.Reference8Ideal.Gen.facts) := by
  intro m g m' g' _ hag
  refine ⟨fun c => (Cert.Kernel8Ideal.Gen.dats m 0 c).arrAt 3 Cert.Kernel8Ideal.cfg0.N, Cert.Kernel8Ideal.Value.run_blocks m g, (θ_run _ _ _).mono (fun r h c => ⟨(h c).1.trans ?_, (h c).2⟩) (Cert.Reference8Ideal.Value.run m' g')⟩
  obtain ⟨a0, a1, a2⟩ := hag c
  rw [a0, a1, a2]
  exact (Cert.Back.Square.final m c).symm

/-- The same for the wider output weight. -/
theorem same_back_wide : algebraic_Kernel9Ideal_Reference9Ideal (hKernel9Ideal := Cert.Kernel9Ideal.Gen.facts) (hReference9Ideal := Cert.Reference9Ideal.Gen.facts) := by
  intro m g m' g' _ hag
  refine ⟨fun c => (Cert.Kernel9Ideal.Gen.dats m 0 c).arrAt 3 Cert.Kernel9Ideal.cfg0.N, Cert.Kernel9Ideal.Value.run_blocks m g, (θ_run _ _ _).mono (fun r h c => ⟨(h c).1.trans ?_, (h c).2⟩) (Cert.Reference9Ideal.Value.run m' g')⟩
  obtain ⟨a0, a1, a2⟩ := hag c
  rw [a0, a1, a2]
  exact (Cert.Back.Wide.final m c).symm

/-- The trunk after a layer. -/
theorem same_out : algebraic_Kernel10Ideal_Reference10Ideal (hKernel10Ideal := Cert.Kernel10Ideal.Gen.facts) (hReference10Ideal := Cert.Reference10Ideal.Gen.facts) := by
  intro m g m' g' _ hag
  refine ⟨fun c => (Cert.Kernel10Ideal.Gen.dats m 0 c).arrAt 4 Cert.Kernel10Ideal.cfg0.N, Cert.Kernel10Ideal.Value.run_blocks m g, (θ_run _ _ _).mono (fun r h c => ⟨(h c).1.trans ?_, (h c).2⟩) (Cert.Reference10Ideal.Value.run m' g')⟩
  obtain ⟨a0, a1, a2, a3⟩ := hag c
  rw [a0, a1, a2, a3]
  exact (Cert.Out.Square.final m c).symm

/-- The same for the wider layer. -/
theorem same_out_wide : algebraic_Kernel11Ideal_Reference11Ideal (hKernel11Ideal := Cert.Kernel11Ideal.Gen.facts) (hReference11Ideal := Cert.Reference11Ideal.Gen.facts) := by
  intro m g m' g' _ hag
  refine ⟨fun c => (Cert.Kernel11Ideal.Gen.dats m 0 c).arrAt 4 Cert.Kernel11Ideal.cfg0.N, Cert.Kernel11Ideal.Value.run_blocks m g, (θ_run _ _ _).mono (fun r h c => ⟨(h c).1.trans ?_, (h c).2⟩) (Cert.Reference11Ideal.Value.run m' g')⟩
  obtain ⟨a0, a1, a2, a3⟩ := hag c
  rw [a0, a1, a2, a3]
  exact (Cert.Out.Wide.final m c).symm

/-- The norm and the input projection of the forward pass, in a recurrent layer. -/
theorem same_forward : algebraic_Kernel14Ideal_Reference14Ideal (hKernel14Ideal := Cert.Kernel14Ideal.Gen.facts) (hReference14Ideal := Cert.Reference14Ideal.Gen.facts) := by
  intro m g m' g' _ hag
  refine ⟨fun c => (Cert.Forward.Recurrent.dats m 0 c).arrAt 5 Cert.Kernel14Ideal.cfg0.N,
    fun c => (Cert.Forward.Recurrent.dats m 0 c).arrAt 6 Cert.Kernel14Ideal.cfg0.N, Cert.Forward.Recurrent.run m g, ?_⟩
  refine (θ_run _ _ _).mono (fun r h c => ?_) (Cert.Reference14Ideal.Value.run m' g')
  obtain ⟨h0, h1, hr⟩ := h c
  obtain ⟨a0, a1, a2, a3, a4⟩ := hag c
  refine ⟨h0.trans ?_, h1.trans ?_, hr⟩
  · rw [a0, a1, a2, a3, a4]
    exact (Cert.Forward.Recurrent.final5 m c).symm
  · rw [a0, a1, a2, a3]
    exact (Cert.Forward.Recurrent.final6 m c).symm

/-- The same for the gated DeltaNet layer. -/
theorem same_forward_delta : algebraic_Kernel15Ideal_Reference15Ideal (hKernel15Ideal := Cert.Kernel15Ideal.Gen.facts) (hReference15Ideal := Cert.Reference15Ideal.Gen.facts) := by
  intro m g m' g' _ hag
  refine ⟨fun c => (Cert.Forward.Delta.dats m 0 c).arrAt 5 Cert.Kernel15Ideal.cfg0.N,
    fun c => (Cert.Forward.Delta.dats m 0 c).arrAt 6 Cert.Kernel15Ideal.cfg0.N, Cert.Forward.Delta.run m g, ?_⟩
  refine (θ_run _ _ _).mono (fun r h c => ?_) (Cert.Reference15Ideal.Value.run m' g')
  obtain ⟨h0, h1, hr⟩ := h c
  obtain ⟨a0, a1, a2, a3, a4⟩ := hag c
  refine ⟨h0.trans ?_, h1.trans ?_, hr⟩
  · rw [a0, a1, a2, a3, a4]
    exact (Cert.Forward.Delta.final5 m c).symm
  · rw [a0, a1, a2, a3]
    exact (Cert.Forward.Delta.final6 m c).symm

/-- The same for the sliding-window layer. -/
theorem same_forward_window : algebraic_Kernel16Ideal_Reference16Ideal (hKernel16Ideal := Cert.Kernel16Ideal.Gen.facts) (hReference16Ideal := Cert.Reference16Ideal.Gen.facts) := by
  intro m g m' g' _ hag
  refine ⟨fun c => (Cert.Forward.Window.dats m 0 c).arrAt 5 Cert.Kernel16Ideal.cfg0.N,
    fun c => (Cert.Forward.Window.dats m 0 c).arrAt 6 Cert.Kernel16Ideal.cfg0.N, Cert.Forward.Window.run m g, ?_⟩
  refine (θ_run _ _ _).mono (fun r h c => ?_) (Cert.Reference16Ideal.Value.run m' g')
  obtain ⟨h0, h1, hr⟩ := h c
  obtain ⟨a0, a1, a2, a3, a4⟩ := hag c
  refine ⟨h0.trans ?_, h1.trans ?_, hr⟩
  · rw [a0, a1, a2, a3, a4]
    exact (Cert.Forward.Window.final5 m c).symm
  · rw [a0, a1, a2, a3]
    exact (Cert.Forward.Window.final6 m c).symm

end Cert.Proof
end
-- ==== Proof.Optimizer.lean ====
/- The optimiser's step. Each element of the moments, and of the change to a weight, comes from the same elements of the arguments, so a
   block of the results comes from the same blocks of the arguments. `Step` says of four arrays that they are what the step gives; it is
   shown of what each launch leaves, and two programs that satisfy it on the same arguments end alike. -/
module

public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Blocks
public import Idealize.ShloMosaic.Lib.Pipeline.ValueKit.Point

@[expose] public section

noncomputable section

open Idealize.ShloMosaic Idealize.ShloMosaic.TcCoe Idealize.SL.Sem

namespace Cert.Adam
variable {s : Shape}

/-- The first moment after the step, from the gradient and the moment before. -/
def first (g m : FVec Ideal s .f32) : FVec Ideal s .f32 :=
  addf (mulf (broadcast s (Scalar.ofBits .f32 0x3F666666#32)) m) (mulf (broadcast s (Scalar.ofBits .f32 0x3DCCCCCD#32)) g)

/-- The second moment. -/
def second (g v : FVec Ideal s .f32) : FVec Ideal s .f32 :=
  addf (mulf (broadcast s (Scalar.ofBits .f32 0x3F7FBE77#32)) v) (mulf (broadcast s (Scalar.ofBits .f32 0x3A83126F#32)) (mulf g g))

/-- The change to the weight. -/
def change (w g m v : FVec Ideal s .f32) : FVec Ideal s .f32 :=
  mulf (broadcast s (Scalar.ofBits .f32 0xBA83126F#32)) (addf
    (divf (divf (first g m) (broadcast s (Scalar.ofBits .f32 0x3F26BD02#32)))
      (addf (sqrt (divf (second g v) (broadcast s (Scalar.ofBits .f32 0x3C231ACC#32)))) (broadcast s (Scalar.ofBits .f32 0x322BCC77#32))))
    (mulf (broadcast s (Scalar.ofBits .f32 0x3C23D70A#32)) w))

/-- The four results of a step: the gradient, the change to the weight and the two moments. -/
structure Step (w g m v a d p q : FVec Ideal s .f32) : Prop where
  grad : a = g
  delta : d = change w g m v
  mean : p = first g m
  square : q = second g v

/-- Two programs that make the same step end with the same four results, whatever else is known of the second. -/
theorem Step.close {w g m v a d p q w' g' m' v' x y z u x' y' z' u' : FVec Ideal s .f32} {K : Prop} (k : Step w g m v a d p q)
    (hw : w' = w) (hg : g' = g) (hm : m' = m) (hv : v' = v) (l : Step w' g' m' v' x y z u)
    (h : x' = x ∧ y' = y ∧ z' = z ∧ u' = u ∧ K) : x' = a ∧ y' = d ∧ z' = p ∧ u' = q ∧ K := by
  subst hw hg hm hv
  exact ⟨h.1.trans (l.grad.trans k.grad.symm), h.2.1.trans (l.delta.trans k.delta.symm), h.2.2.1.trans (l.mean.trans k.mean.symm),
    h.2.2.2.1.trans (l.square.trans k.square.symm), h.2.2.2.2⟩

end Cert.Adam

namespace Cert.Adam.Conditioning
open Cert.Kernel17Ideal Cert.Kernel17Ideal.Gen

/-- The conditioning's weights, in blocks of 256 rows. -/
theorem final (m : (ℓ : Loc nD τ sig) → Buf (Elt Ideal) ℓ) (c : Dev nD) :
    Step (s := S4096x768) (m ((c : Thread nD τ).loc main_arg0)) (m ((c : Thread nD τ).loc main_arg1)) (m ((c : Thread nD τ).loc main_arg2))
      (m ((c : Thread nD τ).loc main_arg3)) ((dats m 0 c).arrAt 4 cfg0.N) ((dats m 0 c).arrAt 5 cfg0.N) ((dats m 0 c).arrAt 6 cfg0.N)
      ((dats m 0 c).arrAt 7 cfg0.N) := by
  constructor <;> refine (dats m 0 c).arrAt_eq_of_covers _ _ (by decide +kernel) fun t hf y => ?_ <;> blk_simp
  · rw [after0_4]; frame_out; rfl
  all_goals obtain ⟨r, j, rfl⟩ := exists_ix2 (a := 256) (b := 768) y
  · rw [after0_5]; frame_out; pointwise [k0_pay1, k0_pay2, k0_pay3, change, first, second]; rfl
  · rw [after0_6]; frame_out; pointwise [k0_pay1, k0_pay2, k0_pay3, first]; rfl
  · rw [after0_7]; frame_out; pointwise [k0_pay1, k0_pay2, k0_pay3, second]; rfl

end Cert.Adam.Conditioning

namespace Cert.Adam.FirstSegment
open Cert.Kernel18Ideal Cert.Kernel18Ideal.Gen

/-- The projections' weights of layer 0: the gradient is the sum of two parts. -/
theorem final (m : (ℓ : Loc nD τ sig) → Buf (Elt Ideal) ℓ) (c : Dev nD) :
    Step (s := S1280x1024) (m ((c : Thread nD τ).loc main_arg0)) (addf (F := Ideal) (m ((c : Thread nD τ).loc main_arg1)) (m ((c : Thread nD τ).loc main_arg2)))
      (m ((c : Thread nD τ).loc main_arg3)) (m ((c : Thread nD τ).loc main_arg4)) ((dats m 0 c).arrAt 5 cfg0.N) ((dats m 0 c).arrAt 6 cfg0.N)
      ((dats m 0 c).arrAt 7 cfg0.N) ((dats m 0 c).arrAt 8 cfg0.N) := by
  constructor <;> refine (dats m 0 c).arrAt_eq_of_covers _ _ (by decide +kernel) fun t hf y => ?_ <;> blk_simp
  · rw [after0_5]; frame_out; rfl
  all_goals obtain ⟨r, j, rfl⟩ := exists_ix2 (a := 256) (b := 1024) y
  · rw [after0_6]; frame_out; pointwise [k0_pay1, k0_pay2, k0_pay3, k0_pay4, change, first, second]; rfl
  · rw [after0_7]; frame_out; pointwise [k0_pay1, k0_pay2, k0_pay3, k0_pay4, first]; rfl
  · rw [after0_8]; frame_out; pointwise [k0_pay1, k0_pay2, k0_pay3, k0_pay4, second]; rfl

end Cert.Adam.FirstSegment

namespace Cert.Adam.RestSegment
open Cert.Kernel19Ideal Cert.Kernel19Ideal.Gen

/-- The other layers' projections, in blocks of 80 rows. -/
theorem final (m : (ℓ : Loc nD τ sig) → Buf (Elt Ideal) ℓ) (c : Dev nD) :
    Step (s := S4240x1024) (m ((c : Thread nD τ).loc main_arg0)) (addf (F := Ideal) (m ((c : Thread nD τ).loc main_arg1)) (m ((c : Thread nD τ).loc main_arg2)))
      (m ((c : Thread nD τ).loc main_arg3)) (m ((c : Thread nD τ).loc main_arg4)) ((dats m 0 c).arrAt 5 cfg0.N) ((dats m 0 c).arrAt 6 cfg0.N)
      ((dats m 0 c).arrAt 7 cfg0.N) ((dats m 0 c).arrAt 8 cfg0.N) := by
  constructor <;> refine (dats m 0 c).arrAt_eq_of_covers _ _ (by decide +kernel) fun t hf y => ?_ <;> blk_simp
  · rw [after0_5]; frame_out; rfl
  all_goals obtain ⟨r, j, rfl⟩ := exists_ix2 (a := 80) (b := 1024) y
  · rw [after0_6]; frame_out; pointwise [k0_pay1, k0_pay2, k0_pay3, k0_pay4, change, first, second]; rfl
  · rw [after0_7]; frame_out; pointwise [k0_pay1, k0_pay2, k0_pay3, k0_pay4, first]; rfl
  · rw [after0_8]; frame_out; pointwise [k0_pay1, k0_pay2, k0_pay3, k0_pay4, second]; rfl

end Cert.Adam.RestSegment

namespace Cert.Adam.Biases
open Cert.Kernel20Ideal Cert.Kernel20Ideal.Gen

/-- The conditioning's biases, in one block. -/
theorem final (m : (ℓ : Loc nD τ sig) → Buf (Elt Ideal) ℓ) (c : Dev nD) :
    Step (s := S4x3072) (m ((c : Thread nD τ).loc main_arg0)) (m ((c : Thread nD τ).loc main_arg1)) (m ((c : Thread nD τ).loc main_arg2))
      (m ((c : Thread nD τ).loc main_arg3)) ((dats m 0 c).arrAt 4 cfg0.N) ((dats m 0 c).arrAt 5 cfg0.N) ((dats m 0 c).arrAt 6 cfg0.N)
      ((dats m 0 c).arrAt 7 cfg0.N) := by
  constructor <;> refine (dats m 0 c).arrAt_eq_of_covers _ _ (by decide +kernel) fun t hf y => ?_ <;> blk_simp
  · rw [after0_4]; frame_out; rfl
  all_goals obtain ⟨r, j, rfl⟩ := exists_ix2 (a := 4) (b := 3072) y
  · rw [after0_5]; frame_out; pointwise [k0_pay1, k0_pay2, k0_pay3, change, first, second]; rfl
  · rw [after0_6]; frame_out; pointwise [k0_pay1, k0_pay2, k0_pay3, first]; rfl
  · rw [after0_7]; frame_out; pointwise [k0_pay1, k0_pay2, k0_pay3, second]; rfl

end Cert.Adam.Biases

namespace Cert.Adam.Small
open Cert.Kernel21Ideal Cert.Kernel21Ideal.Gen

/-- The small weights, packed in one block. -/
theorem final (m : (ℓ : Loc nD τ sig) → Buf (Elt Ideal) ℓ) (c : Dev nD) :
    Step (s := S32x1024) (m ((c : Thread nD τ).loc main_arg0)) (m ((c : Thread nD τ).loc main_arg1)) (m ((c : Thread nD τ).loc main_arg2))
      (m ((c : Thread nD τ).loc main_arg3)) ((dats m 0 c).arrAt 4 cfg0.N) ((dats m 0 c).arrAt 5 cfg0.N) ((dats m 0 c).arrAt 6 cfg0.N)
      ((dats m 0 c).arrAt 7 cfg0.N) := by
  constructor <;> refine (dats m 0 c).arrAt_eq_of_covers _ _ (by decide +kernel) fun t hf y => ?_ <;> blk_simp
  · rw [after0_4]; frame_out; rfl
  all_goals obtain ⟨r, j, rfl⟩ := exists_ix2 (a := 32) (b := 1024) y
  · rw [after0_5]; frame_out; pointwise [k0_pay1, k0_pay2, k0_pay3, change, first, second]; rfl
  · rw [after0_6]; frame_out; pointwise [k0_pay1, k0_pay2, k0_pay3, first]; rfl
  · rw [after0_7]; frame_out; pointwise [k0_pay1, k0_pay2, k0_pay3, second]; rfl

end Cert.Adam.Small

namespace Cert.Adam.Convolution
open Cert.Kernel22Ideal Cert.Kernel22Ideal.Gen

/-- The convolution's weights, in one block. -/
theorem final (m : (ℓ : Loc nD τ sig) → Buf (Elt Ideal) ℓ) (c : Dev nD) :
    Step (s := S4x1024) (m ((c : Thread nD τ).loc main_arg0)) (m ((c : Thread nD τ).loc main_arg1)) (m ((c : Thread nD τ).loc main_arg2))
      (m ((c : Thread nD τ).loc main_arg3)) ((dats m 0 c).arrAt 4 cfg0.N) ((dats m 0 c).arrAt 5 cfg0.N) ((dats m 0 c).arrAt 6 cfg0.N)
      ((dats m 0 c).arrAt 7 cfg0.N) := by
  constructor <;> refine (dats m 0 c).arrAt_eq_of_covers _ _ (by decide +kernel) fun t hf y => ?_ <;> blk_simp
  · rw [after0_4]; frame_out; rfl
  all_goals obtain ⟨r, j, rfl⟩ := exists_ix2 (a := 4) (b := 1024) y
  · rw [after0_5]; frame_out; pointwise [k0_pay1, k0_pay2, k0_pay3, change, first, second]; rfl
  · rw [after0_6]; frame_out; pointwise [k0_pay1, k0_pay2, k0_pay3, first]; rfl
  · rw [after0_7]; frame_out; pointwise [k0_pay1, k0_pay2, k0_pay3, second]; rfl

end Cert.Adam.Convolution
-- ==== Proof.Update.lean ====
/- The optimiser's step of the kernel and of the plain formula agree, at the shapes of its six calls. -/
module

public import proofs.«01_k».proof.Defs
public import proofs.«01_k».proof.Proof.Optimizer
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import Idealize.ShloMosaic.Lib.Quiescent

@[expose] public section

noncomputable section

namespace Cert.Proof

open Idealize.ShloMosaic Idealize.SL.Sem

/-- The plain step ends with its arguments unchanged and every counter at zero. -/
theorem reference17_frame : quiescent_Reference17Ideal (hReference17Ideal := Cert.Reference17Ideal.Gen.facts) := fun m ρ _ =>
  (θ_run _ _ _).mono (fun r h => ⟨fun c => (h c).2.2.2.2, Idealize.ShloMosaic.sem_eq_zero_of_no_sems (by decide) r.2⟩) (Cert.Reference17Ideal.Value.run m ρ)

/-- The step of the conditioning's weights. -/
theorem same_conditioning : algebraic_Kernel17Ideal_Reference17Ideal (hKernel17Ideal := Cert.Kernel17Ideal.Gen.facts) (hReference17Ideal := Cert.Reference17Ideal.Gen.facts) := by
  intro m ρ m' ρ' _ hag
  refine ⟨_, _, _, _, Cert.Kernel17Ideal.Value.run_blocks m ρ, (θ_run _ _ _).mono (fun r h c => ?_) (Cert.Reference17Ideal.Value.run m' ρ')⟩
  obtain ⟨aw, ag, am, av⟩ := hag c
  exact (Cert.Adam.Conditioning.final m c).close aw ag am av ⟨rfl, rfl, rfl, rfl⟩ (h c)

theorem reference18_frame : quiescent_Reference18Ideal (hReference18Ideal := Cert.Reference18Ideal.Gen.facts) := fun m ρ _ =>
  (θ_run _ _ _).mono (fun r h => ⟨fun c => (h c).2.2.2.2, Idealize.ShloMosaic.sem_eq_zero_of_no_sems (by decide) r.2⟩) (Cert.Reference18Ideal.Value.run m ρ)

/-- The step of layer 0's projections, whose gradient comes in two parts. -/
theorem same_first_segment : algebraic_Kernel18Ideal_Reference18Ideal (hKernel18Ideal := Cert.Kernel18Ideal.Gen.facts) (hReference18Ideal := Cert.Reference18Ideal.Gen.facts) := by
  intro m ρ m' ρ' _ hag
  refine ⟨_, _, _, _, Cert.Kernel18Ideal.Value.run_blocks m ρ, (θ_run _ _ _).mono (fun r h c => ?_) (Cert.Reference18Ideal.Value.run m' ρ')⟩
  obtain ⟨aw, ag, ak, am, av⟩ := hag c
  exact (Cert.Adam.FirstSegment.final m c).close aw (congrArg₂ (addf (F := Ideal)) ag ak) am av ⟨rfl, rfl, rfl, rfl⟩ (h c)

theorem reference19_frame : quiescent_Reference19Ideal (hReference19Ideal := Cert.Reference19Ideal.Gen.facts) := fun m ρ _ =>
  (θ_run _ _ _).mono (fun r h => ⟨fun c => (h c).2.2.2.2, Idealize.ShloMosaic.sem_eq_zero_of_no_sems (by decide) r.2⟩) (Cert.Reference19Ideal.Value.run m ρ)

/-- The step of the other layers' projections. -/
theorem same_rest_segment : algebraic_Kernel19Ideal_Reference19Ideal (hKernel19Ideal := Cert.Kernel19Ideal.Gen.facts) (hReference19Ideal := Cert.Reference19Ideal.Gen.facts) := by
  intro m ρ m' ρ' _ hag
  refine ⟨_, _, _, _, Cert.Kernel19Ideal.Value.run_blocks m ρ, (θ_run _ _ _).mono (fun r h c => ?_) (Cert.Reference19Ideal.Value.run m' ρ')⟩
  obtain ⟨aw, ag, ak, am, av⟩ := hag c
  exact (Cert.Adam.RestSegment.final m c).close aw (congrArg₂ (addf (F := Ideal)) ag ak) am av ⟨rfl, rfl, rfl, rfl⟩ (h c)

theorem reference20_frame : quiescent_Reference20Ideal (hReference20Ideal := Cert.Reference20Ideal.Gen.facts) := fun m ρ _ =>
  (θ_run _ _ _).mono (fun r h => ⟨fun c => (h c).2.2.2.2, Idealize.ShloMosaic.sem_eq_zero_of_no_sems (by decide) r.2⟩) (Cert.Reference20Ideal.Value.run m ρ)

/-- The step of the conditioning's biases. -/
theorem same_biases : algebraic_Kernel20Ideal_Reference20Ideal (hKernel20Ideal := Cert.Kernel20Ideal.Gen.facts) (hReference20Ideal := Cert.Reference20Ideal.Gen.facts) := by
  intro m ρ m' ρ' _ hag
  refine ⟨_, _, _, _, Cert.Kernel20Ideal.Value.run_blocks m ρ, (θ_run _ _ _).mono (fun r h c => ?_) (Cert.Reference20Ideal.Value.run m' ρ')⟩
  obtain ⟨aw, ag, am, av⟩ := hag c
  exact (Cert.Adam.Biases.final m c).close aw ag am av ⟨rfl, rfl, rfl, rfl⟩ (h c)

theorem reference21_frame : quiescent_Reference21Ideal (hReference21Ideal := Cert.Reference21Ideal.Gen.facts) := fun m ρ _ =>
  (θ_run _ _ _).mono (fun r h => ⟨fun c => (h c).2.2.2.2, Idealize.ShloMosaic.sem_eq_zero_of_no_sems (by decide) r.2⟩) (Cert.Reference21Ideal.Value.run m ρ)

/-- The step of the packed small weights. -/
theorem same_small : algebraic_Kernel21Ideal_Reference21Ideal (hKernel21Ideal := Cert.Kernel21Ideal.Gen.facts) (hReference21Ideal := Cert.Reference21Ideal.Gen.facts) := by
  intro m ρ m' ρ' _ hag
  refine ⟨_, _, _, _, Cert.Kernel21Ideal.Value.run_blocks m ρ, (θ_run _ _ _).mono (fun r h c => ?_) (Cert.Reference21Ideal.Value.run m' ρ')⟩
  obtain ⟨aw, ag, am, av⟩ := hag c
  exact (Cert.Adam.Small.final m c).close aw ag am av ⟨rfl, rfl, rfl, rfl⟩ (h c)

theorem reference22_frame : quiescent_Reference22Ideal (hReference22Ideal := Cert.Reference22Ideal.Gen.facts) := fun m ρ _ =>
  (θ_run _ _ _).mono (fun r h => ⟨fun c => (h c).2.2.2.2, Idealize.ShloMosaic.sem_eq_zero_of_no_sems (by decide) r.2⟩) (Cert.Reference22Ideal.Value.run m ρ)

/-- The step of the convolution's weights. -/
theorem same_convolution : algebraic_Kernel22Ideal_Reference22Ideal (hKernel22Ideal := Cert.Kernel22Ideal.Gen.facts) (hReference22Ideal := Cert.Reference22Ideal.Gen.facts) := by
  intro m ρ m' ρ' _ hag
  refine ⟨_, _, _, _, Cert.Kernel22Ideal.Value.run_blocks m ρ, (θ_run _ _ _).mono (fun r h c => ?_) (Cert.Reference22Ideal.Value.run m' ρ')⟩
  obtain ⟨aw, ag, am, av⟩ := hag c
  exact (Cert.Adam.Convolution.final m c).close aw ag am av ⟨rfl, rfl, rfl, rfl⟩ (h c)

end Cert.Proof
end
-- ==== Proof.Loss.lean ====
/- The loss and its gradient at the trunk. The kernel adds up half of each block's mean squares in turn; the plain formula takes half of
   the sum over all rows. Half of a sum is the sum of the halves, for any extended reals. -/
module

public import proofs.«01_k».proof.Defs
public import proofs.«01_k».proof.Proof.Blocks
public import proofs.«01_k».proof.Proof.Reals
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit.Point
public import Idealize.ShloMosaic.Lib.Quiescent

@[expose] public section

noncomputable section

namespace Cert.Loss

open Idealize.ShloMosaic Idealize.ShloMosaic.TcCoe Idealize.SL.Sem
open Cert.Kernel23Ideal Cert.Kernel23Ideal.Gen

/-- A half, and the width of a row, as the programs write them. -/
def half : EReal := Ideal.ofBits .f32 0x3F000000#32
def width : EReal := Ideal.ofBits .f32 0x44800000#32

theorem half_eq : half = ((1 / 2 : ℝ) : EReal) := by
  unfold half; simp [Ideal.ofBits, Ideal.ieee, -EReal.coe_mul]; norm_num
theorem width_eq : width = ((1024 : ℝ) : EReal) := by
  unfold width; simp [Ideal.ofBits, Ideal.ieee, -EReal.coe_mul]; norm_num
theorem part_eq : Ideal.ofBits .f32 0x3A800000#32 = ((1 / 1024 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Half of a sum. -/
theorem half_add (a b : EReal) : half * (a + b) = half * a + half * b := by
  rw [half_eq]
  exact EReal.left_distrib_of_nonneg_of_ne_top (by exact_mod_cast (by norm_num : (0 : ℝ) ≤ 1 / 2)) (EReal.coe_ne_top _) a b
theorem half_sum {n : ℕ} (f : Fin n → EReal) : ∑ i, half * f i = half * ∑ i, f i := by
  induction n with
  | zero => simp
  | succ n ih => rw [Fin.sum_univ_castSucc, Fin.sum_univ_castSucc, half_add, ih]

/-- The mean of a row's squared differences. -/
def mean {a : ℕ} (x y : FVec Ideal ⟨2, ![a, 1024]⟩ .f32) (r : Fin a) : EReal :=
  Ideal.div (∑ k, ((x (ix2 r k) : EReal) - y (ix2 r k)) * ((x (ix2 r k) : EReal) - y (ix2 r k))) width

/-- What a block adds to what it is given. -/
theorem pay4_at (x y : FVec Ideal S1024x1024 .f32) (z : FVec Ideal S8x128 .f32) (r : Fin 8) (j : Fin 128) :
    k0_pay4 (F := Ideal) x y z (ix2 r j) = (z (ix2 r j) : EReal) + half * ∑ k : Fin 1024, mean x y k := by
  unfold k0_pay4; dsimp only
  pointwise [k0_pay2]
  rfl

variable (m : (ℓ : Loc nD τ sig) → Buf (Elt Ideal) ℓ) (c : Dev nD)

theorem index : ∀ t : Fin cfg0.N, win0_0.index t = ![t.val, 0] ∧ win0_1.index t = ![t.val, 0] :=
  (by decide +kernel : ∀ t : Fin grid0.N, win0_0.index t = ![t.val, 0] ∧ win0_1.index t = ![t.val, 0])

/-- A block's number, as one of the 16. -/
def turn (t : Fin cfg0.N) : Fin 16 := ⟨t.val, lt_of_lt_of_eq t.isLt N_0⟩

/-- The arguments. -/
abbrev trunk : FVec Ideal S16384x1024 .f32 := m ((c : Thread nD τ).loc main_arg0)
abbrev target : FVec Ideal S16384x1024 .f32 := m ((c : Thread nD τ).loc main_arg1)

/-- What block `t` adds to the loss. -/
def share (t : Fin 16) : EReal := half * ∑ k, mean (trunk m c) (target m c) (blockRow (rfl : 16 * 1024 = 16384) t k)

theorem share_at (t : Fin cfg0.N) : half * ∑ k : Fin 1024, mean (a := 1024) (iblk m c 0 t) (iblk m c 1 t) k = share m c (turn t) := by
  unfold share mean
  refine congrArg (half * ·) (Finset.sum_congr rfl fun r _ => congrArg (Ideal.div · width) (Finset.sum_congr rfl fun k _ => ?_))
  have e0 : iblk m c 0 t (ix2 r k) = trunk m c (ix2 (blockRow (rfl : 16 * 1024 = 16384) (turn t) r) k) := by blk_ext [iblk, V, blockRow, turn, index t]
  have e1 : iblk m c 1 t (ix2 r k) = target m c (ix2 (blockRow (rfl : 16 * 1024 = 16384) (turn t) r) k) := by blk_ext [iblk, V, blockRow, turn, index t]
  exact congrArg₂ (fun a b : EReal => (a - b) * (a - b)) e0 e1

/-- The first block's share starts the loss. -/
theorem zero_at (t : Fin cfg0.N) (h : t.val % 16 = 0) (r : Fin 8) (j : Fin 128) :
    (outsAt0 m c t.val t.isLt).1 (ix2 r j) = share m c (turn t) := by
  rw [outsAt0_A m c t h]; dsimp only
  frame_out
  refine (pay4_at _ _ _ r j).trans ?_
  rw [share_at]
  refine Eq.trans (congrArg (· + _) ?_) (zero_add _)
  exact Ideal.ofBits_zero .f32

/-- Each later block adds its own. -/
theorem succ_at (t : Fin cfg0.N) (h : ¬ t.val % 16 = 0) (r : Fin 8) (j : Fin 128) :
    (outsAt0 m c t.val t.isLt).1 (ix2 r j)
      = (outsAt0 m c (t.val - 1) (Nat.lt_of_le_of_lt (Nat.sub_le _ _) t.isLt)).1 (ix2 r j) + share m c (turn t) := by
  rw [outsAt0_B m c t h]; dsimp only
  frame_out
  exact (pay4_at _ _ _ r j).trans (congrArg _ (share_at m c t))

/-- The loss. -/
def loss : EReal := half * ∑ r, mean (trunk m c) (target m c) r

theorem loss_eq : ∑ t, share m c t = loss m c := by
  unfold share loss
  rw [half_sum, sum_blocks (rfl : 16 * 1024 = 16384) (mean (trunk m c) (target m c))]

/-- After the last point every element of the first result is the loss. -/
theorem loss_after (t : Fin cfg0.N) (ht : t.val = 15) (r : Fin 8) (j : Fin 128) : (outsAt0 m c t.val t.isLt).1 (ix2 r j) = loss m c := by
  have hN : cfg0.N = 16 := N_0
  obtain ⟨s, hs⟩ : ∃ s : ℕ → EReal, ∀ t : Fin cfg0.N, s t.val = (outsAt0 m c t.val t.isLt).1 (ix2 r j) :=
    ⟨fun n => if h : n < cfg0.N then (outsAt0 m c n h).1 (ix2 r j) else 0, fun t => dif_pos t.isLt⟩
  rw [← loss_eq, ← hs t, ht]
  refine sum_turns (n := 15) (share m c) s ?_ fun n h => ?_
  · have h0 : 0 < cfg0.N := by omega
    exact (hs ⟨0, h0⟩).trans (zero_at m c ⟨0, h0⟩ rfl r j)
  · have h1 : n + 1 < cfg0.N := by omega
    have h0 : n < cfg0.N := by omega
    exact (hs ⟨n + 1, h1⟩).trans ((succ_at m c ⟨n + 1, h1⟩ (by show ¬ (n + 1) % 16 = 0; omega) r j).trans (congrArg (· + _) (hs ⟨n, h0⟩).symm))

/-- So the first result holds the loss everywhere. -/
theorem final2 : (dats m 0 c).arrAt 2 cfg0.N = fun _ : S8x128.Idx => loss m c := by
  refine (dats m 0 c).arrAt_eq_of_covers 2 _ (by decide +kernel) fun t hf y => ?_
  have ht : t.val < 16 := lt_of_lt_of_eq t.isLt N_0
  have h5 := (flush0_2 t).mp hf
  obtain ⟨r, j, rfl⟩ := exists_ix2 (a := 8) (b := 128) y
  blk_simp
  rw [after0_2]
  exact loss_after m c t (by omega) r j

/-- The gradient at the trunk: a share of the difference. -/
def grad (x y : FVec Ideal S16384x1024 .f32) : FVec Ideal S16384x1024 .f32 := mulf (subf x y) (broadcast S16384x1024 (Scalar.ofBits .f32 0x3A800000#32))

/-- Block by block the second result is that gradient. -/
theorem final3 : (dats m 0 c).arrAt 3 cfg0.N = grad (trunk m c) (target m c) := by
  refine (dats m 0 c).arrAt_eq_of_covers 3 _ (by decide +kernel) fun t hf y => ?_
  blk_simp
  rw [after0_3]
  by_cases h : t.val % 16 = 0
  · rw [outsAt0_A m c t h]; dsimp only; frame_out; rfl
  · rw [outsAt0_B m c t h]; dsimp only; frame_out; rfl

/-- Half, taken to the mean and doubled, is the kernel's constant. -/
theorem scale_eq : Ideal.div half width * Ideal.ofBits .f32 0x40000000#32 = Ideal.ofBits .f32 0x3A800000#32 := by
  rw [half_eq, width_eq, part_eq, two_eq, Cert.HG.div_real _ _ (by norm_num), ← EReal.coe_mul]
  norm_num

end Cert.Loss

namespace Cert.Proof

open Idealize.ShloMosaic Idealize.SL.Sem Cert.Loss

/-- The plain loss ends with its arguments unchanged and every counter at zero. -/
theorem reference23_frame : quiescent_Reference23Ideal (hReference23Ideal := Cert.Reference23Ideal.Gen.facts) := fun m ρ _ =>
  (θ_run _ _ _).mono (fun r h => ⟨fun c => (h c).2.2, Idealize.ShloMosaic.sem_eq_zero_of_no_sems (by decide) r.2⟩) (Cert.Reference23Ideal.Value.run m ρ)

/-- The loss and its gradient. -/
theorem same_loss : algebraic_Kernel23Ideal_Reference23Ideal (hKernel23Ideal := Cert.Kernel23Ideal.Gen.facts) (hReference23Ideal := Cert.Reference23Ideal.Gen.facts) := by
  intro m ρ m' ρ' _ hag
  refine ⟨_, _, Cert.Kernel23Ideal.Value.run_blocks m ρ, (θ_run _ _ _).mono (fun r h c => ?_) (Cert.Reference23Ideal.Value.run m' ρ')⟩
  obtain ⟨h0, h1, hr⟩ := h c
  obtain ⟨a0, a1⟩ := hag c
  refine ⟨h0.trans ?_, h1.trans ?_, hr⟩
  · rw [a0, a1]
    refine Eq.trans (funext fun y => ?_) (final2 m c).symm
    obtain ⟨i, j, rfl⟩ := exists_ix2 (a := 8) (b := 128) y
    pointwise
    rfl
  · rw [a0, a1]
    refine Eq.trans (funext fun y => ?_) (final3 m c).symm
    obtain ⟨i, j, rfl⟩ := exists_ix2 (a := 16384) (b := 1024) y
    pointwise [grad]
    refine (mul_assoc _ _ _).symm.trans ((congrArg (· * _) scale_eq).trans (mul_comm _ _))

end Cert.Proof
end
-- ==== Proof.Outgrad.lean ====
/- The gradients of the output weights and of the gate, from the product behind them. The weights' gradient is taken row by row; the
   gate's is added up block after block in the first row of eight. -/
module

public import proofs.«01_k».proof.Defs
public import proofs.«01_k».proof.Proof.NormBody
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit.Point
public import Idealize.ShloMosaic.Lib.Quiescent

@[expose] public section

noncomputable section

open Idealize.ShloMosaic Idealize.ShloMosaic.TcCoe Idealize.SL.Sem

namespace Cert.Outgrad

/-- What a block of `n` rows adds to the gate's gradient. -/
def dot {n : ℕ} (g : FVec Ideal ⟨2, ![n, 1024]⟩ .f32) (w : FVec Ideal ⟨2, ![n, 1024]⟩ .bf16) (j : Fin 1024) : EReal :=
  ∑ k : Fin n, (g (ix2 k j) : EReal) * w (ix2 k j)

/-- Eight rows that hold a sum in the first and nothing in the others. -/
def top (s : Fin 1024 → EReal) (r : Fin 8) (j : Fin 1024) : EReal := if r.val = 0 then s j else 0

/-- The rows of block `t` alone. -/
def part {a N : ℕ} (h : a * 256 = N) (g : FVec Ideal ⟨2, ![N, 1024]⟩ .f32) (w : FVec Ideal ⟨2, ![N, 1024]⟩ .bf16) (t : Fin a) (j : Fin 1024) : EReal :=
  ∑ k : Fin 256, (g (ix2 (blockRow h t k) j) : EReal) * w (ix2 (blockRow h t k) j)

/-- What starts with the first block's rows and takes each later block's in turn ends with all rows. -/
theorem total {n N M : ℕ} (h : (n + 1) * 256 = M) (g : FVec Ideal ⟨2, ![M, 1024]⟩ .f32) (w : FVec Ideal ⟨2, ![M, 1024]⟩ .bf16) (hN : N = n + 1)
    (s : (t : ℕ) → t < N → FVec Ideal ⟨2, ![8, 1024]⟩ .f32) (h0 : ∀ ht r j, s 0 ht (ix2 r j) = top (part h g w 0) r j)
    (hs : ∀ t (ht : t + 1 < N) r j, s (t + 1) ht (ix2 r j) = (s t (Nat.lt_of_succ_lt ht) (ix2 r j) : EReal) + top (part h g w ⟨t + 1, lt_of_lt_of_eq ht hN⟩) r j)
    (ht : n < N) (r : Fin 8) (j : Fin 1024) : s n ht (ix2 r j) = top (dot g w) r j := by
  subst hN
  obtain ⟨f, hf⟩ : ∃ f : ℕ → EReal, ∀ t (ht : t < n + 1), f t = s t ht (ix2 r j) :=
    ⟨fun t => if ht : t < n + 1 then s t ht (ix2 r j) else 0, fun t ht => dif_pos ht⟩
  have e : f n = ∑ t, top (part h g w t) r j := sum_turns (fun t => top (part h g w t) r j) f ((hf 0 _).trans (h0 (Nat.succ_pos n) r j)) fun t ht => by
    rw [hf (t + 1) (Nat.succ_lt_succ ht), hf t (Nat.lt_succ_of_lt ht)]
    exact hs t _ r j
  rw [← hf n ht, e]
  unfold top
  split_ifs
  · exact sum_blocks h fun k => (g (ix2 k j) : EReal) * w (ix2 k j)
  · exact Finset.sum_const_zero

/-- A store of the first row alone, over what is there. -/
theorem row_left {sig : RefSig} {κ : Kind} {sp : Space} (v : View sig κ sp ⟨2, ![8, 1024]⟩ .f32) (f) (i0) (w : Vec Ideal ⟨2, ![1, 1024]⟩ .f32) (L) (r : Fin 8) (j : Fin 1024) :
    v.read (Elt Ideal) (v.writes (Elt Ideal) f (⟨Rect.unit (s := ⟨2, ![8, 1024]⟩) ![0, 0] ![1, 1024] i0, w⟩ :: L)) (ix2 r j)
      = if r.val = 0 then w (ix2 0 j) else v.read (Elt Ideal) (v.writes (Elt Ideal) f L) (ix2 r j) := by
  split_ifs with h
  · exact View.read_writes_cons_rows_of_mem v f i0 w L (ix2 r j) (ix2 (0 : Fin 1) j) rfl h rfl
  · exact View.read_writes_cons_rows_of_not_mem v f i0 w L (ix2 r j) rfl (rfl : _ = 1) (show r.val < 0 ∨ 0 + 1 ≤ r.val by omega)

/-- A visit that clears the eight rows and adds to the first. -/
theorem first_row {sig : RefSig} {κ : Kind} {sp : Space} (v : View sig κ sp ⟨2, ![8, 1024]⟩ .f32) (z : Vec Ideal ⟨2, ![8, 1024]⟩ .f32) (hz : ∀ i j, z (ix2 i j) = (0 : EReal))
    (w : Vec Ideal ⟨2, ![1, 1024]⟩ .f32 → Vec Ideal ⟨2, ![1, 1024]⟩ .f32) (s : Fin 1024 → EReal) (h : ∀ o j, w o (ix2 0 j) = (o (ix2 0 j) + s j : EReal)) (ia i0) (r : Fin 8) (j : Fin 1024) :
    View.canon (Val := Elt Ideal) (s := ⟨2, ![8, 1024]⟩) (e := .f32)
      [⟨Rect.unit (s := ⟨2, ![8, 1024]⟩) ![0, 0] ![1, 1024] i0,
          w (v.readCov [⟨Rect.unit (s := ⟨2, ![8, 1024]⟩) ![0, 0] ![8, 1024] ia, z⟩] (Rect.unit (s := ⟨2, ![8, 1024]⟩) ![0, 0] ![1, 1024] i0).toLoadRect)⟩,
        ⟨Rect.unit (s := ⟨2, ![8, 1024]⟩) ![0, 0] ![8, 1024] ia, z⟩] (ix2 r j) = top s r j := by
  rw [View.readCov_fill (s := ⟨2, ![8, 1024]⟩) _ _ _ _ _ (Fin.forall_fin_two.mpr ⟨rfl, rfl⟩), ← View.read_writes_junk_eq_canon v, row_left]
  unfold top
  split_ifs with h0
  · exact (h _ j).trans (by rw [LN.ld_row _ r 0 h0]; exact (congrArg (· + _) (hz _ _)).trans (zero_add _))
  · erw [View.read_writes_full]; exact hz _ _

/-- A later visit, which finds the rows `X`. -/
theorem later_row {sig : RefSig} {κ : Kind} {sp : Space} (v : View sig κ sp ⟨2, ![8, 1024]⟩ .f32) (f) (X : Vec Ideal ⟨2, ![8, 1024]⟩ .f32) (hX : v.read (Elt Ideal) f = X)
    (w : Vec Ideal ⟨2, ![1, 1024]⟩ .f32 → Vec Ideal ⟨2, ![1, 1024]⟩ .f32) (s : Fin 1024 → EReal) (h : ∀ o j, w o (ix2 0 j) = (o (ix2 0 j) + s j : EReal)) (i0) (r : Fin 8) (j : Fin 1024) :
    v.read (Elt Ideal) (v.writes (Elt Ideal) f
      [⟨Rect.unit (s := ⟨2, ![8, 1024]⟩) ![0, 0] ![1, 1024] i0, w (View.ld X (Rect.unit (s := ⟨2, ![8, 1024]⟩) ![0, 0] ![1, 1024] i0))⟩]) (ix2 r j)
      = (X (ix2 r j) : EReal) + top s r j := by
  rw [row_left]
  unfold top
  split_ifs with h0
  · exact (h _ j).trans (by rw [LN.ld_row _ r 0 h0])
  · rw [add_zero]; exact congrFun hX _

end Cert.Outgrad

namespace Cert.Outgrad.Narrow
open Cert.Kernel24Ideal Cert.Kernel24Ideal.Gen

/-- The payloads, element by element. -/
theorem pay2_at (x : FVec Ideal S256x1024 .f32) (y : FVec Ideal S1x1024 .f32) (r : Fin 256) (j : Fin 1024) :
    k0_pay2 (F := Ideal) x y (ix2 r j) = (y (ix2 0 j) : EReal) * x (ix2 r j) := by
  pointwise [k0_pay2]
  exact mul_comm _ _
theorem pay3_at (x : FVec Ideal S256x1024 .f32) (w : FVec Ideal S256x1024 .bf16) (y : FVec Ideal S1x1024 .f32) (j : Fin 1024) :
    k0_pay3 (F := Ideal) x y w (ix2 0 j) = (y (ix2 0 j) : EReal) + dot x w j := by
  unfold k0_pay3; dsimp only
  pointwise
  rfl

variable (m : (ℓ : Loc nD τ sig) → Buf (Elt Ideal) ℓ) (c : Dev nD)

theorem index : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, win0_0.index t = ![t.val, 0] ∧ win0_1.index t = ![t.val, 0] ∧ win0_2.index t = ![0, 0] ∧ win0_3.index t = ![t.val, 0] ∧ win0_4.index t = ![0, 0])

/-- The arguments. -/
abbrev given : FVec Ideal S1024x1024 .f32 := m ((c : Thread nD τ).loc main_arg0)
abbrev weight : FVec Ideal S1024x1024 .bf16 := m ((c : Thread nD τ).loc main_arg1)
abbrev gate : FVec Ideal S1x1024 .f32 := m ((c : Thread nD τ).loc main_arg2)

/-- A block's number, as one of the four. -/
def turn (t : Fin cfg0.N) : Fin 4 := ⟨t.val, lt_of_lt_of_eq t.isLt N_0⟩

theorem dot_at (t : Fin cfg0.N) : dot (n := 256) (iblk m c 0 t) (iblk m c 1 t) = part (rfl : 4 * 256 = 1024) (given m c) (weight m c) (turn t) := by
  funext j
  refine Finset.sum_congr rfl fun k _ => congrArg₂ (fun a b : EReal => a * b) ?_ ?_ <;> blk_ext [iblk, V, blockRow, turn, index t]

/-- The gate's row after the first visit, and after a later one. -/
theorem zero_at (t : Fin cfg0.N) (h : t.val % 4 = 0) (r : Fin 8) (j : Fin 1024) :
    (outsAt0 m c t.val t.isLt).2 (ix2 r j) = top (part (rfl : 4 * 256 = 1024) (given m c) (weight m c) (turn t)) r j := by
  rw [← dot_at, outsAt0_A m c t h]; dsimp only
  frame_out
  exact first_row _ _ (fun i j => Ideal.ofBits_zero .f32) (fun o => k0_pay3 (F := Ideal) (iblk m c 0 t) o (iblk m c 1 t)) _ (pay3_at _ _) _ _ r j
theorem succ_at (t : Fin cfg0.N) (h : ¬ t.val % 4 = 0) (r : Fin 8) (j : Fin 1024) :
    (outsAt0 m c t.val t.isLt).2 (ix2 r j)
      = (outsAt0 m c (t.val - 1) (Nat.lt_of_le_of_lt (Nat.sub_le _ _) t.isLt)).2 (ix2 r j) + top (part (rfl : 4 * 256 = 1024) (given m c) (weight m c) (turn t)) r j := by
  rw [← dot_at, outsAt0_B m c t h]; dsimp only
  frame_out
  exact later_row _ _ _ (Memref.IsWhole.read_unread _ _) (fun o => k0_pay3 (F := Ideal) (iblk m c 0 t) o (iblk m c 1 t)) _ (pay3_at _ _) _ r j

theorem sum_after (n : ℕ) (hn : n < cfg0.N) (e : n = 3) (r : Fin 8) (j : Fin 1024) : (outsAt0 m c n hn).2 (ix2 r j) = top (dot (given m c) (weight m c)) r j := by
  subst e
  exact total (n := 3) (rfl : 4 * 256 = 1024) (given m c) (weight m c) N_0 (fun t ht => (outsAt0 m c t ht).2) (fun ht r j => zero_at m c ⟨0, ht⟩ rfl r j)
    (fun t ht r j => succ_at m c ⟨t + 1, ht⟩ (by have : t + 1 < 4 := lt_of_lt_of_eq ht N_0; show ¬ (t + 1) % 4 = 0; omega) r j) hn r j

/-- The second result holds the gate's gradient in its first row. -/
theorem final4 (r : Fin 8) (j : Fin 1024) : (dats m 0 c).arrAt 4 cfg0.N (ix2 r j : S8x1024.Idx) = top (dot (given m c) (weight m c)) r j := by
  refine congrFun ((dats m 0 c).arrAt_eq_of_covers 4 (fun i : S8x1024.Idx => top (dot (given m c) (weight m c)) (i 0) (i 1)) (by decide +kernel) fun t hf y => ?_) (ix2 r j)
  have ht : t.val < 4 := lt_of_lt_of_eq t.isLt N_0
  have h5 := (flush0_4 t).mp hf
  have e : t.val = 3 := by omega
  obtain ⟨r, j, rfl⟩ := exists_ix2 (a := 8) (b := 1024) y
  blk_simp
  rw [after0_4]
  exact (sum_after m c t.val t.isLt e r j).trans (congrArg₂ (top (dot (given m c) (weight m c))) (Fin.ext (by blk_simp [index t])) (Fin.ext (by blk_simp [index t])))

/-- The first result is the gated product. -/
theorem final3 (r : Fin 1024) (j : Fin 1024) : (dats m 0 c).arrAt 3 cfg0.N (ix2 r j : S1024x1024.Idx) = (gate m c (ix2 0 j) : EReal) * given m c (ix2 r j) := by
  refine congrFun ((dats m 0 c).arrAt_eq_of_covers 3 (fun i : S1024x1024.Idx => (gate m c (ix2 0 (i 1)) : EReal) * given m c i) (by decide +kernel) fun t hf y => ?_) (ix2 r j)
  obtain ⟨r, j, rfl⟩ := exists_ix2 (a := 256) (b := 1024) y
  blk_simp
  rw [after0_3]
  have e := pay2_at (iblk m c 0 t) (iblk m c 2 t) r j
  by_cases h : t.val % 4 = 0
  · rw [outsAt0_A m c t h]; dsimp only; frame_out
    refine e.trans (congrArg₂ (fun a b : EReal => a * b) ?_ ?_) <;> blk_ext [iblk, V, index t]
  · rw [outsAt0_B m c t h]; dsimp only; frame_out
    refine e.trans (congrArg₂ (fun a b : EReal => a * b) ?_ ?_) <;> blk_ext [iblk, V, index t]

end Cert.Outgrad.Narrow

namespace Cert.Outgrad.Wide
open Cert.Kernel25Ideal Cert.Kernel25Ideal.Gen

variable (m : (ℓ : Loc nD τ sig) → Buf (Elt Ideal) ℓ) (c : Dev nD)

theorem index : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, win0_0.index t = ![t.val, 0] ∧ win0_1.index t = ![t.val, 0] ∧ win0_2.index t = ![0, 0] ∧ win0_3.index t = ![t.val, 0] ∧ win0_4.index t = ![0, 0])

/-- The arguments. -/
abbrev given : FVec Ideal S2048x1024 .f32 := m ((c : Thread nD τ).loc main_arg0)
abbrev weight : FVec Ideal S2048x1024 .bf16 := m ((c : Thread nD τ).loc main_arg1)
abbrev gate : FVec Ideal S1x1024 .f32 := m ((c : Thread nD τ).loc main_arg2)

/-- A block's number, as one of the eight. -/
def turn (t : Fin cfg0.N) : Fin 8 := ⟨t.val, lt_of_lt_of_eq t.isLt N_0⟩

theorem dot_at (t : Fin cfg0.N) : dot (n := 256) (iblk m c 0 t) (iblk m c 1 t) = part (rfl : 8 * 256 = 2048) (given m c) (weight m c) (turn t) := by
  funext j
  refine Finset.sum_congr rfl fun k _ => congrArg₂ (fun a b : EReal => a * b) ?_ ?_ <;> blk_ext [iblk, V, blockRow, turn, index t]

/-- The visits' bodies are those of the narrow call, so what its lemmas say of a visit holds here. -/
theorem sum_after (n : ℕ) (hn : n < cfg0.N) (e : n = 7) (r : Fin 8) (j : Fin 1024) : (outsAt0 m c n hn).2 (ix2 r j) = top (dot (given m c) (weight m c)) r j := by
  subst e
  refine total (n := 7) (rfl : 8 * 256 = 2048) (given m c) (weight m c) N_0 (fun t ht => (outsAt0 m c t ht).2) (fun ht r j => ?_) (fun t ht r j => ?_) hn r j
  · refine Eq.trans ?_ (congrArg (top · r j) (dot_at m c ⟨0, ht⟩))
    rw [outsAt0_A m c ⟨0, ht⟩ rfl]; dsimp only; frame_out
    exact first_row _ _ (fun i j => Ideal.ofBits_zero .f32) (fun o => k0_pay3 (F := Ideal) (iblk m c 0 ⟨0, ht⟩) o (iblk m c 1 ⟨0, ht⟩)) _ (Narrow.pay3_at _ _) _ _ r j
  · refine Eq.trans ?_ (congrArg (fun s => (_ : EReal) + top s r j) (dot_at m c ⟨t + 1, ht⟩))
    rw [outsAt0_B m c ⟨t + 1, ht⟩ (by have : t + 1 < 8 := lt_of_lt_of_eq ht N_0; show ¬ (t + 1) % 8 = 0; omega)]; dsimp only; frame_out
    exact later_row _ _ _ (Memref.IsWhole.read_unread _ _) (fun o => k0_pay3 (F := Ideal) (iblk m c 0 ⟨t + 1, ht⟩) o (iblk m c 1 ⟨t + 1, ht⟩)) _ (Narrow.pay3_at _ _) _ r j

/-- The second result holds the gate's gradient in its first row. -/
theorem final4 (r : Fin 8) (j : Fin 1024) : (dats m 0 c).arrAt 4 cfg0.N (ix2 r j : S8x1024.Idx) = top (dot (given m c) (weight m c)) r j := by
  refine congrFun ((dats m 0 c).arrAt_eq_of_covers 4 (fun i : S8x1024.Idx => top (dot (given m c) (weight m c)) (i 0) (i 1)) (by decide +kernel) fun t hf y => ?_) (ix2 r j)
  have ht : t.val < 8 := lt_of_lt_of_eq t.isLt N_0
  have h7 := (flush0_4 t).mp hf
  obtain ⟨r, j, rfl⟩ := exists_ix2 (a := 8) (b := 1024) y
  blk_simp
  rw [after0_4]
  exact (sum_after m c t.val t.isLt (by omega) r j).trans (congrArg₂ (top (dot (given m c) (weight m c))) (Fin.ext (by blk_simp [index t])) (Fin.ext (by blk_simp [index t])))

/-- The first result is the gated product. -/
theorem final3 (r : Fin 2048) (j : Fin 1024) : (dats m 0 c).arrAt 3 cfg0.N (ix2 r j : S2048x1024.Idx) = (gate m c (ix2 0 j) : EReal) * given m c (ix2 r j) := by
  refine congrFun ((dats m 0 c).arrAt_eq_of_covers 3 (fun i : S2048x1024.Idx => (gate m c (ix2 0 (i 1)) : EReal) * given m c i) (by decide +kernel) fun t hf y => ?_) (ix2 r j)
  obtain ⟨r, j, rfl⟩ := exists_ix2 (a := 256) (b := 1024) y
  blk_simp
  rw [after0_3]
  by_cases h : t.val % 8 = 0
  · rw [outsAt0_A m c t h]; dsimp only; frame_out
    refine (Narrow.pay2_at (iblk m c 0 t) (iblk m c 2 t) r j).trans (congrArg₂ (fun a b : EReal => a * b) ?_ ?_) <;> blk_ext [iblk, V, index t]
  · rw [outsAt0_B m c t h]; dsimp only; frame_out
    refine (Narrow.pay2_at (iblk m c 0 t) (iblk m c 2 t) r j).trans (congrArg₂ (fun a b : EReal => a * b) ?_ ?_) <;> blk_ext [iblk, V, index t]

end Cert.Outgrad.Wide

namespace Cert.Proof

open Cert.Outgrad

/-- The plain gradients end with their arguments unchanged and every counter at zero. -/
theorem reference24_frame : quiescent_Reference24Ideal (hReference24Ideal := Cert.Reference24Ideal.Gen.facts) := fun m ρ _ =>
  (θ_run _ _ _).mono (fun r h => ⟨fun c => (h c).2.2, Idealize.ShloMosaic.sem_eq_zero_of_no_sems (by decide) r.2⟩) (Cert.Reference24Ideal.Value.run m ρ)
theorem reference25_frame : quiescent_Reference25Ideal (hReference25Ideal := Cert.Reference25Ideal.Gen.facts) := fun m ρ _ =>
  (θ_run _ _ _).mono (fun r h => ⟨fun c => (h c).2.2, Idealize.ShloMosaic.sem_eq_zero_of_no_sems (by decide) r.2⟩) (Cert.Reference25Ideal.Value.run m ρ)

/-- The gradients of the output weights and gates of layers 0, 1 and 3. -/
theorem same_gate : algebraic_Kernel24Ideal_Reference24Ideal (hKernel24Ideal := Cert.Kernel24Ideal.Gen.facts) (hReference24Ideal := Cert.Reference24Ideal.Gen.facts) := by
  intro m ρ m' ρ' _ hag
  refine ⟨_, _, Cert.Kernel24Ideal.Value.run_blocks m ρ, (θ_run _ _ _).mono (fun r h c => ?_) (Cert.Reference24Ideal.Value.run m' ρ')⟩
  obtain ⟨h0, h1, hr⟩ := h c
  obtain ⟨a0, a1, a2⟩ := hag c
  refine ⟨h0.trans (funext fun y => ?_), h1.trans (funext fun y => ?_), hr⟩
  · obtain ⟨i, j, rfl⟩ := exists_ix2 (a := 1024) (b := 1024) y
    rw [a0, a2]; pointwise
    exact (Narrow.final3 m c i j).symm
  · obtain ⟨i, j, rfl⟩ := exists_ix2 (a := 8) (b := 1024) y
    rw [a0, a1]; refine Eq.trans ?_ (Narrow.final4 m c i j).symm
    pointwise [top, dot]
    split_ifs <;> first | rfl | omega

/-- Those of layer 2. -/
theorem same_gate_wide : algebraic_Kernel25Ideal_Reference25Ideal (hKernel25Ideal := Cert.Kernel25Ideal.Gen.facts) (hReference25Ideal := Cert.Reference25Ideal.Gen.facts) := by
  intro m ρ m' ρ' _ hag
  refine ⟨_, _, Cert.Kernel25Ideal.Value.run_blocks m ρ, (θ_run _ _ _).mono (fun r h c => ?_) (Cert.Reference25Ideal.Value.run m' ρ')⟩
  obtain ⟨h0, h1, hr⟩ := h c
  obtain ⟨a0, a1, a2⟩ := hag c
  refine ⟨h0.trans (funext fun y => ?_), h1.trans (funext fun y => ?_), hr⟩
  · obtain ⟨i, j, rfl⟩ := exists_ix2 (a := 2048) (b := 1024) y
    rw [a0, a2]; pointwise
    exact (Wide.final3 m c i j).symm
  · obtain ⟨i, j, rfl⟩ := exists_ix2 (a := 8) (b := 1024) y
    rw [a0, a1]; refine Eq.trans ?_ (Wide.final4 m c i j).symm
    pointwise [top, dot]
    split_ifs <;> first | rfl | omega

end Cert.Proof
end
-- ==== Proof.lean ====
/- The claims: the backward pass of the gated linear recurrence, run chunk by chunk by the kernel, is at the extended reals the
   gradient of the plain recurrence (`algebraic`); so are the gradients behind the layer's input projection, of the trunk and of the
   projection's weights (module Projections), the optimiser's step (module Update), the loss (module Loss) and the gradients of the output weights and gates (module Outgrad); and each program ends with its arguments unchanged and its counters at zero. -/
module

public import proofs.«01_k».proof.Defs
public import proofs.«01_k».proof.Proof.Inputs
public import proofs.«01_k».proof.Proof.RefEnd
public import proofs.«01_k».proof.Proof.Grid

public import proofs.«01_k».proof.Proof.Projections
public import proofs.«01_k».proof.Proof.Update
public import proofs.«01_k».proof.Proof.Loss
public import proofs.«01_k».proof.Proof.Outgrad
public import proofs.«01_k».proof.Proof.Gen.Kernel.Frame
public import Idealize.ShloMosaic.Lib.Quiescent

@[expose] public section

noncomputable section

namespace Cert.Proof

open Idealize.ShloMosaic Idealize.SL.Sem Cert.HG

/-- The plain backward pass ends with its arguments unchanged and every counter at zero. -/
theorem reference_frame : quiescent_ReferenceIdeal (hReferenceIdeal := Cert.ReferenceIdeal.Gen.facts) := fun m ρ _ =>
  (θ_run _ _ _).mono (fun r h => ⟨fun c => (h c).2.2.2, Idealize.ShloMosaic.sem_eq_zero_of_no_sems (by decide) r.2⟩)
    (Cert.ReferenceIdeal.Value.run m ρ)

/-- At the extended reals, on real arguments, the kernel and the plain backward pass end with the same three results. -/
theorem same_gradients : algebraic_KernelIdeal_ReferenceIdeal_pre_inputs_real (hKernelIdeal := Cert.KernelIdeal.Gen.facts)
    (hReferenceIdeal := Cert.ReferenceIdeal.Gen.facts) (hPre_inputs_real := preFacts) := by
  intro m g m' g' hpre hag
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run _ _ _).mono (fun r h c => ?_) (Cert.ReferenceIdeal.Value.run m' g')
  obtain ⟨h0, h1, h2, hr⟩ := h c
  obtain ⟨a0, a1, a2, a3, a4⟩ := hag c
  obtain ⟨A, HK⟩ := args_exist _ _ _ _ _ (hpre c)
  have HR := Inv.all (Inv.start m' c (HK.trans a0 a1 a2 a3 a4)) HK.nn 256 le_rfl
  refine ⟨h0.trans ?_, h1.trans (R2.unique (φ := .f32) HR.dlb (Grid.final6 m HK)), h2.trans (R2.unique (φ := .f32) HR.dgo (Grid.final7 m HK)), hr⟩
  refine Eq.trans ?_ (Grid.final5 m HK).symm
  funext i
  obtain ⟨p, q, rfl⟩ : ∃ (p : Fin 16384) (q : Fin 4096), i = ix2 p q := ⟨i 0, i 1, funext fun a => by match a with | 0 => rfl | 1 => rfl⟩
  rw [row_of p, wide_of q]
  exact (out_at HR _ _ _ _).trans (A.out_at _ _ _ _).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts, Cert.Kernel13.Gen.facts, Cert.Kernel13Ideal.Gen.facts, Cert.Reference13Ideal.Gen.facts,
    Cert.Kernel14.Gen.facts, Cert.Kernel14Ideal.Gen.facts, Cert.Reference14Ideal.Gen.facts, Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Forward.Recurrent.Printed.framed m ρ, fun m ρ _ => Cert.Forward.Recurrent.framed m ρ, reference14_frame,
    fun m ρ _ => Cert.Forward.Delta.Printed.framed m ρ, fun m ρ _ => Cert.Forward.Delta.framed m ρ, reference15_frame,
    fun m ρ _ => Cert.Forward.Window.Printed.framed m ρ, fun m ρ _ => Cert.Forward.Window.framed m ρ, reference16_frame,
    fun m ρ _ => Cert.Kernel17.Gen.frame m ρ, fun m ρ _ => Cert.Kernel17Ideal.Gen.frame m ρ, reference17_frame,
    fun m ρ _ => Cert.Kernel18.Gen.frame m ρ, fun m ρ _ => Cert.Kernel18Ideal.Gen.frame m ρ, reference18_frame,
    fun m ρ _ => Cert.Kernel19.Gen.frame m ρ, fun m ρ _ => Cert.Kernel19Ideal.Gen.frame m ρ, reference19_frame,
    fun m ρ _ => Cert.Kernel20.Gen.frame m ρ, fun m ρ _ => Cert.Kernel20Ideal.Gen.frame m ρ, reference20_frame,
    fun m ρ _ => Cert.Kernel21.Gen.frame m ρ, fun m ρ _ => Cert.Kernel21Ideal.Gen.frame m ρ, reference21_frame,
    fun m ρ _ => Cert.Kernel22.Gen.frame m ρ, fun m ρ _ => Cert.Kernel22Ideal.Gen.frame m ρ, reference22_frame,
    fun m ρ _ => Cert.Kernel23.Gen.frame m ρ, fun m ρ _ => Cert.Kernel23Ideal.Gen.frame m ρ, reference23_frame,
    fun m ρ _ => Cert.Kernel24.Gen.frame m ρ, fun m ρ _ => Cert.Kernel24Ideal.Gen.frame m ρ, reference24_frame,
    fun m ρ _ => Cert.Kernel25.Gen.frame m ρ, fun m ρ _ => Cert.Kernel25Ideal.Gen.frame m ρ, reference25_frame,
    trivial, same_gradients, trivial, same_rows, trivial, same_weight,
    trivial, same_weight_delta, trivial, same_weight_window, trivial, same_weight_output, trivial, same_weight_wide, trivial, same_back, trivial, same_back_wide, trivial, same_out, trivial, same_out_wide, trivial, same_rows_delta, trivial, same_rows_window, trivial, same_forward, trivial, same_forward_delta, trivial, same_forward_window,
    trivial, same_conditioning, trivial, same_first_segment, trivial, same_rest_segment, trivial, same_biases, trivial, same_small, trivial, same_convolution, trivial, same_loss, trivial, same_gate, trivial, same_gate_wide⟩

end Cert.Proof
end
